-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdBa (m : (ℓ : Loc Cert.FwdBa.nD Cert.FwdBa.τ Cert.FwdBa.sig) → Buf (Elt Bits) ℓ) : Prop :=
  True

def Pre_FwdBaIdeal (m : (ℓ : Loc Cert.FwdBaIdeal.nD Cert.FwdBaIdeal.τ Cert.FwdBaIdeal.sig) → Buf (Elt Ideal) ℓ) : Prop :=
  True

def Pre_FwdBaRefIdeal (m : (ℓ : Loc Cert.FwdBaRefIdeal.nD Cert.FwdBaRefIdeal.τ Cert.FwdBaRefIdeal.sig) → Buf (Elt Ideal) ℓ) : Prop :=
  True

def Pre_FwdBranch0 (m : (ℓ : Loc Cert.FwdBranch0.nD Cert.FwdBranch0.τ Cert.FwdBranch0.sig) → Buf (Elt Bits) ℓ) : Prop :=
  True

def Pre_FwdBranch0Ideal (m : (ℓ : Loc Cert.FwdBranch0Ideal.nD Cert.FwdBranch0Ideal.τ Cert.FwdBranch0Ideal.sig) → Buf (Elt Ideal) ℓ) : Prop :=
  True

def Pre_FwdBranch0RefIdeal (m : (ℓ : Loc Cert.FwdBranch0RefIdeal.nD Cert.FwdBranch0RefIdeal.τ Cert.FwdBranch0RefIdeal.sig) → Buf (Elt Ideal) ℓ) : Prop :=
  True

def Pre_FwdBranch1 (m : (ℓ : Loc Cert.FwdBranch1.nD Cert.FwdBranch1.τ Cert.FwdBranch1.sig) → Buf (Elt Bits) ℓ) : Prop :=
  True

def Pre_FwdBranch1Ideal (m : (ℓ : Loc Cert.FwdBranch1Ideal.nD Cert.FwdBranch1Ideal.τ Cert.FwdBranch1Ideal.sig) → Buf (Elt Ideal) ℓ) : Prop :=
  True

def Pre_FwdBranch1RefIdeal (m : (ℓ : Loc Cert.FwdBranch1RefIdeal.nD Cert.FwdBranch1RefIdeal.τ Cert.FwdBranch1RefIdeal.sig) → Buf (Elt Ideal) ℓ) : Prop :=
  True

def Pre_FwdBranch2 (m : (ℓ : Loc Cert.FwdBranch2.nD Cert.FwdBranch2.τ Cert.FwdBranch2.sig) → Buf (Elt Bits) ℓ) : Prop :=
  True

def Pre_FwdBranch2Ideal (m : (ℓ : Loc Cert.FwdBranch2Ideal.nD Cert.FwdBranch2Ideal.τ Cert.FwdBranch2Ideal.sig) → Buf (Elt Ideal) ℓ) : Prop :=
  True

def Pre_FwdBranch2RefIdeal (m : (ℓ : Loc Cert.FwdBranch2RefIdeal.nD Cert.FwdBranch2RefIdeal.τ Cert.FwdBranch2RefIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutRefIdeal (m : (ℓ : Loc Cert.FwdOutRefIdeal.nD Cert.FwdOutRefIdeal.τ Cert.FwdOutRefIdeal.sig) → Buf (Elt Ideal) ℓ) : Prop :=
  True

def Pre_FwdQ (m : (ℓ : Loc Cert.FwdQ.nD Cert.FwdQ.τ Cert.FwdQ.sig) → Buf (Elt Bits) ℓ) : Prop :=
  True

def Pre_FwdQIdeal (m : (ℓ : Loc Cert.FwdQIdeal.nD Cert.FwdQIdeal.τ Cert.FwdQIdeal.sig) → Buf (Elt Ideal) ℓ) : Prop :=
  True

def Pre_FwdQRefIdeal (m : (ℓ : Loc Cert.FwdQRefIdeal.nD Cert.FwdQRefIdeal.τ Cert.FwdQRefIdeal.sig) → Buf (Elt Ideal) ℓ) : Prop :=
  True

def Pre_FwdKv (m : (ℓ : Loc Cert.FwdKv.nD Cert.FwdKv.τ Cert.FwdKv.sig) → Buf (Elt Bits) ℓ) : Prop :=
  True

def Pre_FwdKvIdeal (m : (ℓ : Loc Cert.FwdKvIdeal.nD Cert.FwdKvIdeal.τ Cert.FwdKvIdeal.sig) → Buf (Elt Ideal) ℓ) : Prop :=
  True

def Pre_FwdKvRefIdeal (m : (ℓ : Loc Cert.FwdKvRefIdeal.nD Cert.FwdKvRefIdeal.τ Cert.FwdKvRefIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpRefIdeal (m : (ℓ : Loc Cert.FwdUpRefIdeal.nD Cert.FwdUpRefIdeal.τ Cert.FwdUpRefIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownRefIdeal (m : (ℓ : Loc Cert.FwdDownRefIdeal.nD Cert.FwdDownRefIdeal.τ Cert.FwdDownRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_QX (m : (ℓ : Loc Cert.QX.nD Cert.QX.τ Cert.QX.sig) → Buf (Elt Bits) ℓ) : Prop :=
  True

def Pre_QXIdeal (m : (ℓ : Loc Cert.QXIdeal.nD Cert.QXIdeal.τ Cert.QXIdeal.sig) → Buf (Elt Ideal) ℓ) : Prop :=
  True

def Pre_QXRefIdeal (m : (ℓ : Loc Cert.QXRefIdeal.nD Cert.QXRefIdeal.τ Cert.QXRefIdeal.sig) → Buf (Elt Ideal) ℓ) : Prop :=
  True

def Pre_QW (m : (ℓ : Loc Cert.QW.nD Cert.QW.τ Cert.QW.sig) → Buf (Elt Bits) ℓ) : Prop :=
  True

def Pre_QWIdeal (m : (ℓ : Loc Cert.QWIdeal.nD Cert.QWIdeal.τ Cert.QWIdeal.sig) → Buf (Elt Ideal) ℓ) : Prop :=
  True

def Pre_QWRefIdeal (m : (ℓ : Loc Cert.QWRefIdeal.nD Cert.QWRefIdeal.τ Cert.QWRefIdeal.sig) → Buf (Elt Ideal) ℓ) : Prop :=
  True

def Pre_KvX (m : (ℓ : Loc Cert.KvX.nD Cert.KvX.τ Cert.KvX.sig) → Buf (Elt Bits) ℓ) : Prop :=
  True

def Pre_KvXIdeal (m : (ℓ : Loc Cert.KvXIdeal.nD Cert.KvXIdeal.τ Cert.KvXIdeal.sig) → Buf (Elt Ideal) ℓ) : Prop :=
  True

def Pre_KvXRefIdeal (m : (ℓ : Loc Cert.KvXRefIdeal.nD Cert.KvXRefIdeal.τ Cert.KvXRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_BranchX (m : (ℓ : Loc Cert.BranchX.nD Cert.BranchX.τ Cert.BranchX.sig) → Buf (Elt Bits) ℓ) : Prop :=
  True

def Pre_BranchXIdeal (m : (ℓ : Loc Cert.BranchXIdeal.nD Cert.BranchXIdeal.τ Cert.BranchXIdeal.sig) → Buf (Elt Ideal) ℓ) : Prop :=
  True

def Pre_BranchXRefIdeal (m : (ℓ : Loc Cert.BranchXRefIdeal.nD Cert.BranchXRefIdeal.τ Cert.BranchXRefIdeal.sig) → Buf (Elt Ideal) ℓ) : Prop :=
  True

def Pre_BranchW0 (m : (ℓ : Loc Cert.BranchW0.nD Cert.BranchW0.τ Cert.BranchW0.sig) → Buf (Elt Bits) ℓ) : Prop :=
  True

def Pre_BranchW0Ideal (m : (ℓ : Loc Cert.BranchW0Ideal.nD Cert.BranchW0Ideal.τ Cert.BranchW0Ideal.sig) → Buf (Elt Ideal) ℓ) : Prop :=
  True

def Pre_BranchW0RefIdeal (m : (ℓ : Loc Cert.BranchW0RefIdeal.nD Cert.BranchW0RefIdeal.τ Cert.BranchW0RefIdeal.sig) → Buf (Elt Ideal) ℓ) : Prop :=
  True

def Pre_BranchW1 (m : (ℓ : Loc Cert.BranchW1.nD Cert.BranchW1.τ Cert.BranchW1.sig) → Buf (Elt Bits) ℓ) : Prop :=
  True

def Pre_BranchW1Ideal (m : (ℓ : Loc Cert.BranchW1Ideal.nD Cert.BranchW1Ideal.τ Cert.BranchW1Ideal.sig) → Buf (Elt Ideal) ℓ) : Prop :=
  True

def Pre_BranchW1RefIdeal (m : (ℓ : Loc Cert.BranchW1RefIdeal.nD Cert.BranchW1RefIdeal.τ Cert.BranchW1RefIdeal.sig) → Buf (Elt Ideal) ℓ) : Prop :=
  True

def Pre_BranchW2 (m : (ℓ : Loc Cert.BranchW2.nD Cert.BranchW2.τ Cert.BranchW2.sig) → Buf (Elt Bits) ℓ) : Prop :=
  True

def Pre_BranchW2Ideal (m : (ℓ : Loc Cert.BranchW2Ideal.nD Cert.BranchW2Ideal.τ Cert.BranchW2Ideal.sig) → Buf (Elt Ideal) ℓ) : Prop :=
  True

def Pre_BranchW2RefIdeal (m : (ℓ : Loc Cert.BranchW2RefIdeal.nD Cert.BranchW2RefIdeal.τ Cert.BranchW2RefIdeal.sig) → Buf (Elt Ideal) ℓ) : Prop :=
  True

def Pre_BaX (m : (ℓ : Loc Cert.BaX.nD Cert.BaX.τ Cert.BaX.sig) → Buf (Elt Bits) ℓ) : Prop :=
  True

def Pre_BaXIdeal (m : (ℓ : Loc Cert.BaXIdeal.nD Cert.BaXIdeal.τ Cert.BaXIdeal.sig) → Buf (Elt Ideal) ℓ) : Prop :=
  True

def Pre_BaXRefIdeal (m : (ℓ : Loc Cert.BaXRefIdeal.nD Cert.BaXRefIdeal.τ Cert.BaXRefIdeal.sig) → Buf (Elt Ideal) ℓ) : Prop :=
  True

def Pre_BaW (m : (ℓ : Loc Cert.BaW.nD Cert.BaW.τ Cert.BaW.sig) → Buf (Elt Bits) ℓ) : Prop :=
  True

def Pre_BaWIdeal (m : (ℓ : Loc Cert.BaWIdeal.nD Cert.BaWIdeal.τ Cert.BaWIdeal.sig) → Buf (Elt Ideal) ℓ) : Prop :=
  True

def Pre_BaWRefIdeal (m : (ℓ : Loc Cert.BaWRefIdeal.nD Cert.BaWRefIdeal.τ Cert.BaWRefIdeal.sig) → Buf (Elt Ideal) ℓ) : Prop :=
  True

def Pre_FwdGate (m : (ℓ : Loc Cert.FwdGate.nD Cert.FwdGate.τ Cert.FwdGate.sig) → Buf (Elt Bits) ℓ) : Prop :=
  True

def Pre_FwdGateIdeal (m : (ℓ : Loc Cert.FwdGateIdeal.nD Cert.FwdGateIdeal.τ Cert.FwdGateIdeal.sig) → Buf (Elt Ideal) ℓ) : Prop :=
  True

def Pre_FwdGateRefIdeal (m : (ℓ : Loc Cert.FwdGateRefIdeal.nD Cert.FwdGateRefIdeal.τ Cert.FwdGateRefIdeal.sig) → Buf (Elt Ideal) ℓ) : Prop :=
  True

def Pre_BwdGate (m : (ℓ : Loc Cert.BwdGate.nD Cert.BwdGate.τ Cert.BwdGate.sig) → Buf (Elt Bits) ℓ) : Prop :=
  True

def Pre_BwdGateIdeal (m : (ℓ : Loc Cert.BwdGateIdeal.nD Cert.BwdGateIdeal.τ Cert.BwdGateIdeal.sig) → Buf (Elt Ideal) ℓ) : Prop :=
  True

def Pre_BwdGateRefIdeal (m : (ℓ : Loc Cert.BwdGateRefIdeal.nD Cert.BwdGateRefIdeal.τ Cert.BwdGateRefIdeal.sig) → Buf (Elt Ideal) ℓ) : Prop :=
  True

def Pre_FwdNorm (m : (ℓ : Loc Cert.FwdNorm.nD Cert.FwdNorm.τ Cert.FwdNorm.sig) → Buf (Elt Bits) ℓ) : Prop :=
  True

def Pre_FwdNormIdeal (m : (ℓ : Loc Cert.FwdNormIdeal.nD Cert.FwdNormIdeal.τ Cert.FwdNormIdeal.sig) → Buf (Elt Ideal) ℓ) : Prop :=
  True

def Pre_FwdNormRefIdeal (m : (ℓ : Loc Cert.FwdNormRefIdeal.nD Cert.FwdNormRefIdeal.τ Cert.FwdNormRefIdeal.sig) → Buf (Elt Ideal) ℓ) : Prop :=
  True

def Pre_BwdNorm (m : (ℓ : Loc Cert.BwdNorm.nD Cert.BwdNorm.τ Cert.BwdNorm.sig) → Buf (Elt Bits) ℓ) : Prop :=
  True

def Pre_BwdNormIdeal (m : (ℓ : Loc Cert.BwdNormIdeal.nD Cert.BwdNormIdeal.τ Cert.BwdNormIdeal.sig) → Buf (Elt Ideal) ℓ) : Prop :=
  True

def Pre_BwdNormRefIdeal (m : (ℓ : Loc Cert.BwdNormRefIdeal.nD Cert.BwdNormRefIdeal.τ Cert.BwdNormRefIdeal.sig) → Buf (Elt Ideal) ℓ) : Prop :=
  True

def Pre_FwdAtt (m : (ℓ : Loc Cert.FwdAtt.nD Cert.FwdAtt.τ Cert.FwdAtt.sig) → Buf (Elt Bits) ℓ) : Prop :=
  True

def Pre_FwdAttIdeal (m : (ℓ : Loc Cert.FwdAttIdeal.nD Cert.FwdAttIdeal.τ Cert.FwdAttIdeal.sig) → Buf (Elt Ideal) ℓ) : Prop :=
  True

def Pre_FwdAttRefIdeal (m : (ℓ : Loc Cert.FwdAttRefIdeal.nD Cert.FwdAttRefIdeal.τ Cert.FwdAttRefIdeal.sig) → Buf (Elt Ideal) ℓ) : Prop :=
  True

def Pre_BwdAtt (m : (ℓ : Loc Cert.BwdAtt.nD Cert.BwdAtt.τ Cert.BwdAtt.sig) → Buf (Elt Bits) ℓ) : Prop :=
  True

def Pre_BwdAttIdeal (m : (ℓ : Loc Cert.BwdAttIdeal.nD Cert.BwdAttIdeal.τ Cert.BwdAttIdeal.sig) → Buf (Elt Ideal) ℓ) : Prop :=
  True

def Pre_BwdAttRefIdeal (m : (ℓ : Loc Cert.BwdAttRefIdeal.nD Cert.BwdAttRefIdeal.τ Cert.BwdAttRefIdeal.sig) → Buf (Elt Ideal) ℓ) : Prop :=
  True

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixRefIdeal (m : (ℓ : Loc Cert.FwdMixRefIdeal.nD Cert.FwdMixRefIdeal.τ Cert.FwdMixRefIdeal.sig) → Buf (Elt Ideal) ℓ) : Prop :=
  True

def Pre_BwdMix (m : (ℓ : Loc Cert.BwdMix.nD Cert.BwdMix.τ Cert.BwdMix.sig) → Buf (Elt Bits) ℓ) : Prop :=
  True

def Pre_BwdMixIdeal (m : (ℓ : Loc Cert.BwdMixIdeal.nD Cert.BwdMixIdeal.τ Cert.BwdMixIdeal.sig) → Buf (Elt Ideal) ℓ) : Prop :=
  True

def Pre_BwdMixRefIdeal (m : (ℓ : Loc Cert.BwdMixRefIdeal.nD Cert.BwdMixRefIdeal.τ Cert.BwdMixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1))
      ∧ r.2.sem = fun _ => 0)

def quiescent_FwdBa [hFwdBa : Cert.FwdBa.Facts] : Prop :=
  ∀ (m : (ℓ : Loc Cert.FwdBa.nD Cert.FwdBa.τ Cert.FwdBa.sig) → Buf (Elt Bits) ℓ) (g : Dev Cert.FwdBa.nD → PrngReg), Pre_FwdBa m →
    θ_run (Cert.FwdBa.defs (F := Bits)) (onTc (τ := Cert.FwdBa.τ) (Cert.FwdBa.main (F := Bits))) ⟨m, fun _ => 0, g⟩ (fun r => (∀ c : Dev Cert.FwdBa.nD,
      r.2.mem ((c.tc : Thread Cert.FwdBa.nD Cert.FwdBa.τ).loc Cert.FwdBa.main_arg0) = m ((c.tc : Thread Cert.FwdBa.nD Cert.FwdBa.τ).loc Cert.FwdBa.main_arg0)
      ∧ r.2.mem ((c.tc : Thread Cert.FwdBa.nD Cert.FwdBa.τ).loc Cert.FwdBa.main_arg1) = m ((c.tc : Thread Cert.FwdBa.nD Cert.FwdBa.τ).loc Cert.FwdBa.main_arg1))
      ∧ r.2.sem = fun _ => 0)

def quiescent_FwdBaIdeal [hFwdBaIdeal : Cert.FwdBaIdeal.Facts] : Prop :=
  ∀ (m : (ℓ : Loc Cert.FwdBaIdeal.nD Cert.FwdBaIdeal.τ Cert.FwdBaIdeal.sig) → Buf (Elt Ideal) ℓ) (g : Dev Cert.FwdBaIdeal.nD → PrngReg), Pre_FwdBaIdeal m →
    θ_run (Cert.FwdBaIdeal.defs (F := Ideal)) (onTc (τ := Cert.FwdBaIdeal.τ) (Cert.FwdBaIdeal.main (F := Ideal))) ⟨m, fun _ => 0, g⟩ (fun r => (∀ c : Dev Cert.FwdBaIdeal.nD,
      r.2.mem ((c.tc : Thread Cert.FwdBaIdeal.nD Cert.FwdBaIdeal.τ).loc Cert.FwdBaIdeal.main_arg0) = m ((c.tc : Thread Cert.FwdBaIdeal.nD Cert.FwdBaIdeal.τ).loc Cert.FwdBaIdeal.main_arg0)
      ∧ r.2.mem ((c.tc : Thread Cert.FwdBaIdeal.nD Cert.FwdBaIdeal.τ).loc Cert.FwdBaIdeal.main_arg1) = m ((c.tc : Thread Cert.FwdBaIdeal.nD Cert.FwdBaIdeal.τ).loc Cert.FwdBaIdeal.main_arg1))
      ∧ r.2.sem = fun _ => 0)

def quiescent_FwdBaRefIdeal [hFwdBaRefIdeal : Cert.FwdBaRefIdeal.Facts] : Prop :=
  ∀ (m : (ℓ : Loc Cert.FwdBaRefIdeal.nD Cert.FwdBaRefIdeal.τ Cert.FwdBaRefIdeal.sig) → Buf (Elt Ideal) ℓ) (g : Dev Cert.FwdBaRefIdeal.nD → PrngReg), Pre_FwdBaRefIdeal m →
    θ_run (Cert.FwdBaRefIdeal.defs (F := Ideal)) (onTc (τ := Cert.FwdBaRefIdeal.τ) (Cert.FwdBaRefIdeal.main (F := Ideal))) ⟨m, fun _ => 0, g⟩ (fun r => (∀ c : Dev Cert.FwdBaRefIdeal.nD,
      r.2.mem ((c.tc : Thread Cert.FwdBaRefIdeal.nD Cert.FwdBaRefIdeal.τ).loc Cert.FwdBaRefIdeal.main_arg0) = m ((c.tc : Thread Cert.FwdBaRefIdeal.nD Cert.FwdBaRefIdeal.τ).loc Cert.FwdBaRefIdeal.main_arg0)
      ∧ r.2.mem ((c.tc : Thread Cert.FwdBaRefIdeal.nD Cert.FwdBaRefIdeal.τ).loc Cert.FwdBaRefIdeal.main_arg1) = m ((c.tc : Thread Cert.FwdBaRefIdeal.nD Cert.FwdBaRefIdeal.τ).loc Cert.FwdBaRefIdeal.main_arg1))
      ∧ r.2.sem = fun _ => 0)

def quiescent_FwdBranch0 [hFwdBranch0 : Cert.FwdBranch0.Facts] : Prop :=
  ∀ (m : (ℓ : Loc Cert.FwdBranch0.nD Cert.FwdBranch0.τ Cert.FwdBranch0.sig) → Buf (Elt Bits) ℓ) (g : Dev Cert.FwdBranch0.nD → PrngReg), Pre_FwdBranch0 m →
    θ_run (Cert.FwdBranch0.defs (F := Bits)) (onTc (τ := Cert.FwdBranch0.τ) (Cert.FwdBranch0.main (F := Bits))) ⟨m, fun _ => 0, g⟩ (fun r => (∀ c : Dev Cert.FwdBranch0.nD,
      r.2.mem ((c.tc : Thread Cert.FwdBranch0.nD Cert.FwdBranch0.τ).loc Cert.FwdBranch0.main_arg0) = m ((c.tc : Thread Cert.FwdBranch0.nD Cert.FwdBranch0.τ).loc Cert.FwdBranch0.main_arg0)
      ∧ r.2.mem ((c.tc : Thread Cert.FwdBranch0.nD Cert.FwdBranch0.τ).loc Cert.FwdBranch0.main_arg1) = m ((c.tc : Thread Cert.FwdBranch0.nD Cert.FwdBranch0.τ).loc Cert.FwdBranch0.main_arg1))
      ∧ r.2.sem = fun _ => 0)

def quiescent_FwdBranch0Ideal [hFwdBranch0Ideal : Cert.FwdBranch0Ideal.Facts] : Prop :=
  ∀ (m : (ℓ : Loc Cert.FwdBranch0Ideal.nD Cert.FwdBranch0Ideal.τ Cert.FwdBranch0Ideal.sig) → Buf (Elt Ideal) ℓ) (g : Dev Cert.FwdBranch0Ideal.nD → PrngReg), Pre_FwdBranch0Ideal m →
    θ_run (Cert.FwdBranch0Ideal.defs (F := Ideal)) (onTc (τ := Cert.FwdBranch0Ideal.τ) (Cert.FwdBranch0Ideal.main (F := Ideal))) ⟨m, fun _ => 0, g⟩ (fun r => (∀ c : Dev Cert.FwdBranch0Ideal.nD,
      r.2.mem ((c.tc : Thread Cert.FwdBranch0Ideal.nD Cert.FwdBranch0Ideal.τ).loc Cert.FwdBranch0Ideal.main_arg0) = m ((c.tc : Thread Cert.FwdBranch0Ideal.nD Cert.FwdBranch0Ideal.τ).loc Cert.FwdBranch0Ideal.main_arg0)
      ∧ r.2.mem ((c.tc : Thread Cert.FwdBranch0Ideal.nD Cert.FwdBranch0Ideal.τ).loc Cert.FwdBranch0Ideal.main_arg1) = m ((c.tc : Thread Cert.FwdBranch0Ideal.nD Cert.FwdBranch0Ideal.τ).loc Cert.FwdBranch0Ideal.main_arg1))
      ∧ r.2.sem = fun _ => 0)

def quiescent_FwdBranch0RefIdeal [hFwdBranch0RefIdeal : Cert.FwdBranch0RefIdeal.Facts] : Prop :=
  ∀ (m : (ℓ : Loc Cert.FwdBranch0RefIdeal.nD Cert.FwdBranch0RefIdeal.τ Cert.FwdBranch0RefIdeal.sig) → Buf (Elt Ideal) ℓ) (g : Dev Cert.FwdBranch0RefIdeal.nD → PrngReg), Pre_FwdBranch0RefIdeal m →
    θ_run (Cert.FwdBranch0RefIdeal.defs (F := Ideal)) (onTc (τ := Cert.FwdBranch0RefIdeal.τ) (Cert.FwdBranch0RefIdeal.main (F := Ideal))) ⟨m, fun _ => 0, g⟩ (fun r => (∀ c : Dev Cert.FwdBranch0RefIdeal.nD,
      r.2.mem ((c.tc : Thread Cert.FwdBranch0RefIdeal.nD Cert.FwdBranch0RefIdeal.τ).loc Cert.FwdBranch0RefIdeal.main_arg0) = m ((c.tc : Thread Cert.FwdBranch0RefIdeal.nD Cert.FwdBranch0RefIdeal.τ).loc Cert.FwdBranch0RefIdeal.main_arg0)
      ∧ r.2.mem ((c.tc : Thread Cert.FwdBranch0RefIdeal.nD Cert.FwdBranch0RefIdeal.τ).loc Cert.FwdBranch0RefIdeal.main_arg1) = m ((c.tc : Thread Cert.FwdBranch0RefIdeal.nD Cert.FwdBranch0RefIdeal.τ).loc Cert.FwdBranch0RefIdeal.main_arg1))
      ∧ r.2.sem = fun _ => 0)

def quiescent_FwdBranch1 [hFwdBranch1 : Cert.FwdBranch1.Facts] : Prop :=
  ∀ (m : (ℓ : Loc Cert.FwdBranch1.nD Cert.FwdBranch1.τ Cert.FwdBranch1.sig) → Buf (Elt Bits) ℓ) (g : Dev Cert.FwdBranch1.nD → PrngReg), Pre_FwdBranch1 m →
    θ_run (Cert.FwdBranch1.defs (F := Bits)) (onTc (τ := Cert.FwdBranch1.τ) (Cert.FwdBranch1.main (F := Bits))) ⟨m, fun _ => 0, g⟩ (fun r => (∀ c : Dev Cert.FwdBranch1.nD,
      r.2.mem ((c.tc : Thread Cert.FwdBranch1.nD Cert.FwdBranch1.τ).loc Cert.FwdBranch1.main_arg0) = m ((c.tc : Thread Cert.FwdBranch1.nD Cert.FwdBranch1.τ).loc Cert.FwdBranch1.main_arg0)
      ∧ r.2.mem ((c.tc : Thread Cert.FwdBranch1.nD Cert.FwdBranch1.τ).loc Cert.FwdBranch1.main_arg1) = m ((c.tc : Thread Cert.FwdBranch1.nD Cert.FwdBranch1.τ).loc Cert.FwdBranch1.main_arg1))
      ∧ r.2.sem = fun _ => 0)

def quiescent_FwdBranch1Ideal [hFwdBranch1Ideal : Cert.FwdBranch1Ideal.Facts] : Prop :=
  ∀ (m : (ℓ : Loc Cert.FwdBranch1Ideal.nD Cert.FwdBranch1Ideal.τ Cert.FwdBranch1Ideal.sig) → Buf (Elt Ideal) ℓ) (g : Dev Cert.FwdBranch1Ideal.nD → PrngReg), Pre_FwdBranch1Ideal m →
    θ_run (Cert.FwdBranch1Ideal.defs (F := Ideal)) (onTc (τ := Cert.FwdBranch1Ideal.τ) (Cert.FwdBranch1Ideal.main (F := Ideal))) ⟨m, fun _ => 0, g⟩ (fun r => (∀ c : Dev Cert.FwdBranch1Ideal.nD,
      r.2.mem ((c.tc : Thread Cert.FwdBranch1Ideal.nD Cert.FwdBranch1Ideal.τ).loc Cert.FwdBranch1Ideal.main_arg0) = m ((c.tc : Thread Cert.FwdBranch1Ideal.nD Cert.FwdBranch1Ideal.τ).loc Cert.FwdBranch1Ideal.main_arg0)
      ∧ r.2.mem ((c.tc : Thread Cert.FwdBranch1Ideal.nD Cert.FwdBranch1Ideal.τ).loc Cert.FwdBranch1Ideal.main_arg1) = m ((c.tc : Thread Cert.FwdBranch1Ideal.nD Cert.FwdBranch1Ideal.τ).loc Cert.FwdBranch1Ideal.main_arg1))
      ∧ r.2.sem = fun _ => 0)

def quiescent_FwdBranch1RefIdeal [hFwdBranch1RefIdeal : Cert.FwdBranch1RefIdeal.Facts] : Prop :=
  ∀ (m : (ℓ : Loc Cert.FwdBranch1RefIdeal.nD Cert.FwdBranch1RefIdeal.τ Cert.FwdBranch1RefIdeal.sig) → Buf (Elt Ideal) ℓ) (g : Dev Cert.FwdBranch1RefIdeal.nD → PrngReg), Pre_FwdBranch1RefIdeal m →
    θ_run (Cert.FwdBranch1RefIdeal.defs (F := Ideal)) (onTc (τ := Cert.FwdBranch1RefIdeal.τ) (Cert.FwdBranch1RefIdeal.main (F := Ideal))) ⟨m, fun _ => 0, g⟩ (fun r => (∀ c : Dev Cert.FwdBranch1RefIdeal.nD,
      r.2.mem ((c.tc : Thread Cert.FwdBranch1RefIdeal.nD Cert.FwdBranch1RefIdeal.τ).loc Cert.FwdBranch1RefIdeal.main_arg0) = m ((c.tc : Thread Cert.FwdBranch1RefIdeal.nD Cert.FwdBranch1RefIdeal.τ).loc Cert.FwdBranch1RefIdeal.main_arg0)
      ∧ r.2.mem ((c.tc : Thread Cert.FwdBranch1RefIdeal.nD Cert.FwdBranch1RefIdeal.τ).loc Cert.FwdBranch1RefIdeal.main_arg1) = m ((c.tc : Thread Cert.FwdBranch1RefIdeal.nD Cert.FwdBranch1RefIdeal.τ).loc Cert.FwdBranch1RefIdeal.main_arg1))
      ∧ r.2.sem = fun _ => 0)

def quiescent_FwdBranch2 [hFwdBranch2 : Cert.FwdBranch2.Facts] : Prop :=
  ∀ (m : (ℓ : Loc Cert.FwdBranch2.nD Cert.FwdBranch2.τ Cert.FwdBranch2.sig) → Buf (Elt Bits) ℓ) (g : Dev Cert.FwdBranch2.nD → PrngReg), Pre_FwdBranch2 m →
    θ_run (Cert.FwdBranch2.defs (F := Bits)) (onTc (τ := Cert.FwdBranch2.τ) (Cert.FwdBranch2.main (F := Bits))) ⟨m, fun _ => 0, g⟩ (fun r => (∀ c : Dev Cert.FwdBranch2.nD,
      r.2.mem ((c.tc : Thread Cert.FwdBranch2.nD Cert.FwdBranch2.τ).loc Cert.FwdBranch2.main_arg0) = m ((c.tc : Thread Cert.FwdBranch2.nD Cert.FwdBranch2.τ).loc Cert.FwdBranch2.main_arg0)
      ∧ r.2.mem ((c.tc : Thread Cert.FwdBranch2.nD Cert.FwdBranch2.τ).loc Cert.FwdBranch2.main_arg1) = m ((c.tc : Thread Cert.FwdBranch2.nD Cert.FwdBranch2.τ).loc Cert.FwdBranch2.main_arg1))
      ∧ r.2.sem = fun _ => 0)

def quiescent_FwdBranch2Ideal [hFwdBranch2Ideal : Cert.FwdBranch2Ideal.Facts] : Prop :=
  ∀ (m : (ℓ : Loc Cert.FwdBranch2Ideal.nD Cert.FwdBranch2Ideal.τ Cert.FwdBranch2Ideal.sig) → Buf (Elt Ideal) ℓ) (g : Dev Cert.FwdBranch2Ideal.nD → PrngReg), Pre_FwdBranch2Ideal m →
    θ_run (Cert.FwdBranch2Ideal.defs (F := Ideal)) (onTc (τ := Cert.FwdBranch2Ideal.τ) (Cert.FwdBranch2Ideal.main (F := Ideal))) ⟨m, fun _ => 0, g⟩ (fun r => (∀ c : Dev Cert.FwdBranch2Ideal.nD,
      r.2.mem ((c.tc : Thread Cert.FwdBranch2Ideal.nD Cert.FwdBranch2Ideal.τ).loc Cert.FwdBranch2Ideal.main_arg0) = m ((c.tc : Thread Cert.FwdBranch2Ideal.nD Cert.FwdBranch2Ideal.τ).loc Cert.FwdBranch2Ideal.main_arg0)
      ∧ r.2.mem ((c.tc : Thread Cert.FwdBranch2Ideal.nD Cert.FwdBranch2Ideal.τ).loc Cert.FwdBranch2Ideal.main_arg1) = m ((c.tc : Thread Cert.FwdBranch2Ideal.nD Cert.FwdBranch2Ideal.τ).loc Cert.FwdBranch2Ideal.main_arg1))
      ∧ r.2.sem = fun _ => 0)

def quiescent_FwdBranch2RefIdeal [hFwdBranch2RefIdeal : Cert.FwdBranch2RefIdeal.Facts] : Prop :=
  ∀ (m : (ℓ : Loc Cert.FwdBranch2RefIdeal.nD Cert.FwdBranch2RefIdeal.τ Cert.FwdBranch2RefIdeal.sig) → Buf (Elt Ideal) ℓ) (g : Dev Cert.FwdBranch2RefIdeal.nD → PrngReg), Pre_FwdBranch2RefIdeal m →
    θ_run (Cert.FwdBranch2RefIdeal.defs (F := Ideal)) (onTc (τ := Cert.FwdBranch2RefIdeal.τ) (Cert.FwdBranch2RefIdeal.main (F := Ideal))) ⟨m, fun _ => 0, g⟩ (fun r => (∀ c : Dev Cert.FwdBranch2RefIdeal.nD,
      r.2.mem ((c.tc : Thread Cert.FwdBranch2RefIdeal.nD Cert.FwdBranch2RefIdeal.τ).loc Cert.FwdBranch2RefIdeal.main_arg0) = m ((c.tc : Thread Cert.FwdBranch2RefIdeal.nD Cert.FwdBranch2RefIdeal.τ).loc Cert.FwdBranch2RefIdeal.main_arg0)
      ∧ r.2.mem ((c.tc : Thread Cert.FwdBranch2RefIdeal.nD Cert.FwdBranch2RefIdeal.τ).loc Cert.FwdBranch2RefIdeal.main_arg1) = m ((c.tc : Thread Cert.FwdBranch2RefIdeal.nD Cert.FwdBranch2RefIdeal.τ).loc Cert.FwdBranch2RefIdeal.main_arg1))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2))
      ∧ r.2.sem = fun _ => 0)

def quiescent_FwdOutRefIdeal [hFwdOutRefIdeal : Cert.FwdOutRefIdeal.Facts] : Prop :=
  ∀ (m : (ℓ : Loc Cert.FwdOutRefIdeal.nD Cert.FwdOutRefIdeal.τ Cert.FwdOutRefIdeal.sig) → Buf (Elt Ideal) ℓ) (g : Dev Cert.FwdOutRefIdeal.nD → PrngReg), Pre_FwdOutRefIdeal m →
    θ_run (Cert.FwdOutRefIdeal.defs (F := Ideal)) (onTc (τ := Cert.FwdOutRefIdeal.τ) (Cert.FwdOutRefIdeal.main (F := Ideal))) ⟨m, fun _ => 0, g⟩ (fun r => (∀ c : Dev Cert.FwdOutRefIdeal.nD,
      r.2.mem ((c.tc : Thread Cert.FwdOutRefIdeal.nD Cert.FwdOutRefIdeal.τ).loc Cert.FwdOutRefIdeal.main_arg0) = m ((c.tc : Thread Cert.FwdOutRefIdeal.nD Cert.FwdOutRefIdeal.τ).loc Cert.FwdOutRefIdeal.main_arg0)
      ∧ r.2.mem ((c.tc : Thread Cert.FwdOutRefIdeal.nD Cert.FwdOutRefIdeal.τ).loc Cert.FwdOutRefIdeal.main_arg1) = m ((c.tc : Thread Cert.FwdOutRefIdeal.nD Cert.FwdOutRefIdeal.τ).loc Cert.FwdOutRefIdeal.main_arg1)
      ∧ r.2.mem ((c.tc : Thread Cert.FwdOutRefIdeal.nD Cert.FwdOutRefIdeal.τ).loc Cert.FwdOutRefIdeal.main_arg2) = m ((c.tc : Thread Cert.FwdOutRefIdeal.nD Cert.FwdOutRefIdeal.τ).loc Cert.FwdOutRefIdeal.main_arg2))
      ∧ r.2.sem = fun _ => 0)

def quiescent_FwdQ [hFwdQ : Cert.FwdQ.Facts] : Prop :=
  ∀ (m : (ℓ : Loc Cert.FwdQ.nD Cert.FwdQ.τ Cert.FwdQ.sig) → Buf (Elt Bits) ℓ) (g : Dev Cert.FwdQ.nD → PrngReg), Pre_FwdQ m →
    θ_run (Cert.FwdQ.defs (F := Bits)) (onTc (τ := Cert.FwdQ.τ) (Cert.FwdQ.main (F := Bits))) ⟨m, fun _ => 0, g⟩ (fun r => (∀ c : Dev Cert.FwdQ.nD,
      r.2.mem ((c.tc : Thread Cert.FwdQ.nD Cert.FwdQ.τ).loc Cert.FwdQ.main_arg0) = m ((c.tc : Thread Cert.FwdQ.nD Cert.FwdQ.τ).loc Cert.FwdQ.main_arg0)
      ∧ r.2.mem ((c.tc : Thread Cert.FwdQ.nD Cert.FwdQ.τ).loc Cert.FwdQ.main_arg1) = m ((c.tc : Thread Cert.FwdQ.nD Cert.FwdQ.τ).loc Cert.FwdQ.main_arg1))
      ∧ r.2.sem = fun _ => 0)

def quiescent_FwdQIdeal [hFwdQIdeal : Cert.FwdQIdeal.Facts] : Prop :=
  ∀ (m : (ℓ : Loc Cert.FwdQIdeal.nD Cert.FwdQIdeal.τ Cert.FwdQIdeal.sig) → Buf (Elt Ideal) ℓ) (g : Dev Cert.FwdQIdeal.nD → PrngReg), Pre_FwdQIdeal m →
    θ_run (Cert.FwdQIdeal.defs (F := Ideal)) (onTc (τ := Cert.FwdQIdeal.τ) (Cert.FwdQIdeal.main (F := Ideal))) ⟨m, fun _ => 0, g⟩ (fun r => (∀ c : Dev Cert.FwdQIdeal.nD,
      r.2.mem ((c.tc : Thread Cert.FwdQIdeal.nD Cert.FwdQIdeal.τ).loc Cert.FwdQIdeal.main_arg0) = m ((c.tc : Thread Cert.FwdQIdeal.nD Cert.FwdQIdeal.τ).loc Cert.FwdQIdeal.main_arg0)
      ∧ r.2.mem ((c.tc : Thread Cert.FwdQIdeal.nD Cert.FwdQIdeal.τ).loc Cert.FwdQIdeal.main_arg1) = m ((c.tc : Thread Cert.FwdQIdeal.nD Cert.FwdQIdeal.τ).loc Cert.FwdQIdeal.main_arg1))
      ∧ r.2.sem = fun _ => 0)

def quiescent_FwdQRefIdeal [hFwdQRefIdeal : Cert.FwdQRefIdeal.Facts] : Prop :=
  ∀ (m : (ℓ : Loc Cert.FwdQRefIdeal.nD Cert.FwdQRefIdeal.τ Cert.FwdQRefIdeal.sig) → Buf (Elt Ideal) ℓ) (g : Dev Cert.FwdQRefIdeal.nD → PrngReg), Pre_FwdQRefIdeal m →
    θ_run (Cert.FwdQRefIdeal.defs (F := Ideal)) (onTc (τ := Cert.FwdQRefIdeal.τ) (Cert.FwdQRefIdeal.main (F := Ideal))) ⟨m, fun _ => 0, g⟩ (fun r => (∀ c : Dev Cert.FwdQRefIdeal.nD,
      r.2.mem ((c.tc : Thread Cert.FwdQRefIdeal.nD Cert.FwdQRefIdeal.τ).loc Cert.FwdQRefIdeal.main_arg0) = m ((c.tc : Thread Cert.FwdQRefIdeal.nD Cert.FwdQRefIdeal.τ).loc Cert.FwdQRefIdeal.main_arg0)
      ∧ r.2.mem ((c.tc : Thread Cert.FwdQRefIdeal.nD Cert.FwdQRefIdeal.τ).loc Cert.FwdQRefIdeal.main_arg1) = m ((c.tc : Thread Cert.FwdQRefIdeal.nD Cert.FwdQRefIdeal.τ).loc Cert.FwdQRefIdeal.main_arg1))
      ∧ r.2.sem = fun _ => 0)

def quiescent_FwdKv [hFwdKv : Cert.FwdKv.Facts] : Prop :=
  ∀ (m : (ℓ : Loc Cert.FwdKv.nD Cert.FwdKv.τ Cert.FwdKv.sig) → Buf (Elt Bits) ℓ) (g : Dev Cert.FwdKv.nD → PrngReg), Pre_FwdKv m →
    θ_run (Cert.FwdKv.defs (F := Bits)) (onTc (τ := Cert.FwdKv.τ) (Cert.FwdKv.main (F := Bits))) ⟨m, fun _ => 0, g⟩ (fun r => (∀ c : Dev Cert.FwdKv.nD,
      r.2.mem ((c.tc : Thread Cert.FwdKv.nD Cert.FwdKv.τ).loc Cert.FwdKv.main_arg0) = m ((c.tc : Thread Cert.FwdKv.nD Cert.FwdKv.τ).loc Cert.FwdKv.main_arg0)
      ∧ r.2.mem ((c.tc : Thread Cert.FwdKv.nD Cert.FwdKv.τ).loc Cert.FwdKv.main_arg1) = m ((c.tc : Thread Cert.FwdKv.nD Cert.FwdKv.τ).loc Cert.FwdKv.main_arg1))
      ∧ r.2.sem = fun _ => 0)

def quiescent_FwdKvIdeal [hFwdKvIdeal : Cert.FwdKvIdeal.Facts] : Prop :=
  ∀ (m : (ℓ : Loc Cert.FwdKvIdeal.nD Cert.FwdKvIdeal.τ Cert.FwdKvIdeal.sig) → Buf (Elt Ideal) ℓ) (g : Dev Cert.FwdKvIdeal.nD → PrngReg), Pre_FwdKvIdeal m →
    θ_run (Cert.FwdKvIdeal.defs (F := Ideal)) (onTc (τ := Cert.FwdKvIdeal.τ) (Cert.FwdKvIdeal.main (F := Ideal))) ⟨m, fun _ => 0, g⟩ (fun r => (∀ c : Dev Cert.FwdKvIdeal.nD,
      r.2.mem ((c.tc : Thread Cert.FwdKvIdeal.nD Cert.FwdKvIdeal.τ).loc Cert.FwdKvIdeal.main_arg0) = m ((c.tc : Thread Cert.FwdKvIdeal.nD Cert.FwdKvIdeal.τ).loc Cert.FwdKvIdeal.main_arg0)
      ∧ r.2.mem ((c.tc : Thread Cert.FwdKvIdeal.nD Cert.FwdKvIdeal.τ).loc Cert.FwdKvIdeal.main_arg1) = m ((c.tc : Thread Cert.FwdKvIdeal.nD Cert.FwdKvIdeal.τ).loc Cert.FwdKvIdeal.main_arg1))
      ∧ r.2.sem = fun _ => 0)

def quiescent_FwdKvRefIdeal [hFwdKvRefIdeal : Cert.FwdKvRefIdeal.Facts] : Prop :=
  ∀ (m : (ℓ : Loc Cert.FwdKvRefIdeal.nD Cert.FwdKvRefIdeal.τ Cert.FwdKvRefIdeal.sig) → Buf (Elt Ideal) ℓ) (g : Dev Cert.FwdKvRefIdeal.nD → PrngReg), Pre_FwdKvRefIdeal m →
    θ_run (Cert.FwdKvRefIdeal.defs (F := Ideal)) (onTc (τ := Cert.FwdKvRefIdeal.τ) (Cert.FwdKvRefIdeal.main (F := Ideal))) ⟨m, fun _ => 0, g⟩ (fun r => (∀ c : Dev Cert.FwdKvRefIdeal.nD,
      r.2.mem ((c.tc : Thread Cert.FwdKvRefIdeal.nD Cert.FwdKvRefIdeal.τ).loc Cert.FwdKvRefIdeal.main_arg0) = m ((c.tc : Thread Cert.FwdKvRefIdeal.nD Cert.FwdKvRefIdeal.τ).loc Cert.FwdKvRefIdeal.main_arg0)
      ∧ r.2.mem ((c.tc : Thread Cert.FwdKvRefIdeal.nD Cert.FwdKvRefIdeal.τ).loc Cert.FwdKvRefIdeal.main_arg1) = m ((c.tc : Thread Cert.FwdKvRefIdeal.nD Cert.FwdKvRefIdeal.τ).loc Cert.FwdKvRefIdeal.main_arg1))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpRefIdeal [hFwdUpRefIdeal : Cert.FwdUpRefIdeal.Facts] : Prop :=
  ∀ (m : (ℓ : Loc Cert.FwdUpRefIdeal.nD Cert.FwdUpRefIdeal.τ Cert.FwdUpRefIdeal.sig) → Buf (Elt Ideal) ℓ) (g : Dev Cert.FwdUpRefIdeal.nD → PrngReg), Pre_FwdUpRefIdeal m →
    θ_run (Cert.FwdUpRefIdeal.defs (F := Ideal)) (onTc (τ := Cert.FwdUpRefIdeal.τ) (Cert.FwdUpRefIdeal.main (F := Ideal))) ⟨m, fun _ => 0, g⟩ (fun r => (∀ c : Dev Cert.FwdUpRefIdeal.nD,
      r.2.mem ((c.tc : Thread Cert.FwdUpRefIdeal.nD Cert.FwdUpRefIdeal.τ).loc Cert.FwdUpRefIdeal.main_arg0) = m ((c.tc : Thread Cert.FwdUpRefIdeal.nD Cert.FwdUpRefIdeal.τ).loc Cert.FwdUpRefIdeal.main_arg0)
      ∧ r.2.mem ((c.tc : Thread Cert.FwdUpRefIdeal.nD Cert.FwdUpRefIdeal.τ).loc Cert.FwdUpRefIdeal.main_arg1) = m ((c.tc : Thread Cert.FwdUpRefIdeal.nD Cert.FwdUpRefIdeal.τ).loc Cert.FwdUpRefIdeal.main_arg1))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1)
      ∧ r.2.mem ((c.tc : Thread Cert.FwdDown.nD Cert.FwdDown.τ).loc Cert.FwdDown.main_arg2) = m ((c.tc : Thread Cert.FwdDown.nD Cert.FwdDown.τ).loc Cert.FwdDown.main_arg2))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
      ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2))
      ∧ r.2.sem = fun _ => 0)

def quiescent_FwdDownRefIdeal [hFwdDownRefIdeal : Cert.FwdDownRefIdeal.Facts] : Prop :=
  ∀ (m : (ℓ : Loc Cert.FwdDownRefIdeal.nD Cert.FwdDownRefIdeal.τ Cert.FwdDownRefIdeal.sig) → Buf (Elt Ideal) ℓ) (g : Dev Cert.FwdDownRefIdeal.nD → PrngReg), Pre_FwdDownRefIdeal m →
    θ_run (Cert.FwdDownRefIdeal.defs (F := Ideal)) (onTc (τ := Cert.FwdDownRefIdeal.τ) (Cert.FwdDownRefIdeal.main (F := Ideal))) ⟨m, fun _ => 0, g⟩ (fun r => (∀ c : Dev Cert.FwdDownRefIdeal.nD,
      r.2.mem ((c.tc : Thread Cert.FwdDownRefIdeal.nD Cert.FwdDownRefIdeal.τ).loc Cert.FwdDownRefIdeal.main_arg0) = m ((c.tc : Thread Cert.FwdDownRefIdeal.nD Cert.FwdDownRefIdeal.τ).loc Cert.FwdDownRefIdeal.main_arg0)
      ∧ r.2.mem ((c.tc : Thread Cert.FwdDownRefIdeal.nD Cert.FwdDownRefIdeal.τ).loc Cert.FwdDownRefIdeal.main_arg1) = m ((c.tc : Thread Cert.FwdDownRefIdeal.nD Cert.FwdDownRefIdeal.τ).loc Cert.FwdDownRefIdeal.main_arg1)
      ∧ r.2.mem ((c.tc : Thread Cert.FwdDownRefIdeal.nD Cert.FwdDownRefIdeal.τ).loc Cert.FwdDownRefIdeal.main_arg2) = m ((c.tc : Thread Cert.FwdDownRefIdeal.nD Cert.FwdDownRefIdeal.τ).loc Cert.FwdDownRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_QX [hQX : Cert.QX.Facts] : Prop :=
  ∀ (m : (ℓ : Loc Cert.QX.nD Cert.QX.τ Cert.QX.sig) → Buf (Elt Bits) ℓ) (g : Dev Cert.QX.nD → PrngReg), Pre_QX m →
    θ_run (Cert.QX.defs (F := Bits)) (onTc (τ := Cert.QX.τ) (Cert.QX.main (F := Bits))) ⟨m, fun _ => 0, g⟩ (fun r => (∀ c : Dev Cert.QX.nD,
      r.2.mem ((c.tc : Thread Cert.QX.nD Cert.QX.τ).loc Cert.QX.main_arg0) = m ((c.tc : Thread Cert.QX.nD Cert.QX.τ).loc Cert.QX.main_arg0)
      ∧ r.2.mem ((c.tc : Thread Cert.QX.nD Cert.QX.τ).loc Cert.QX.main_arg1) = m ((c.tc : Thread Cert.QX.nD Cert.QX.τ).loc Cert.QX.main_arg1))
      ∧ r.2.sem = fun _ => 0)

def quiescent_QXIdeal [hQXIdeal : Cert.QXIdeal.Facts] : Prop :=
  ∀ (m : (ℓ : Loc Cert.QXIdeal.nD Cert.QXIdeal.τ Cert.QXIdeal.sig) → Buf (Elt Ideal) ℓ) (g : Dev Cert.QXIdeal.nD → PrngReg), Pre_QXIdeal m →
    θ_run (Cert.QXIdeal.defs (F := Ideal)) (onTc (τ := Cert.QXIdeal.τ) (Cert.QXIdeal.main (F := Ideal))) ⟨m, fun _ => 0, g⟩ (fun r => (∀ c : Dev Cert.QXIdeal.nD,
      r.2.mem ((c.tc : Thread Cert.QXIdeal.nD Cert.QXIdeal.τ).loc Cert.QXIdeal.main_arg0) = m ((c.tc : Thread Cert.QXIdeal.nD Cert.QXIdeal.τ).loc Cert.QXIdeal.main_arg0)
      ∧ r.2.mem ((c.tc : Thread Cert.QXIdeal.nD Cert.QXIdeal.τ).loc Cert.QXIdeal.main_arg1) = m ((c.tc : Thread Cert.QXIdeal.nD Cert.QXIdeal.τ).loc Cert.QXIdeal.main_arg1))
      ∧ r.2.sem = fun _ => 0)

def quiescent_QXRefIdeal [hQXRefIdeal : Cert.QXRefIdeal.Facts] : Prop :=
  ∀ (m : (ℓ : Loc Cert.QXRefIdeal.nD Cert.QXRefIdeal.τ Cert.QXRefIdeal.sig) → Buf (Elt Ideal) ℓ) (g : Dev Cert.QXRefIdeal.nD → PrngReg), Pre_QXRefIdeal m →
    θ_run (Cert.QXRefIdeal.defs (F := Ideal)) (onTc (τ := Cert.QXRefIdeal.τ) (Cert.QXRefIdeal.main (F := Ideal))) ⟨m, fun _ => 0, g⟩ (fun r => (∀ c : Dev Cert.QXRefIdeal.nD,
      r.2.mem ((c.tc : Thread Cert.QXRefIdeal.nD Cert.QXRefIdeal.τ).loc Cert.QXRefIdeal.main_arg0) = m ((c.tc : Thread Cert.QXRefIdeal.nD Cert.QXRefIdeal.τ).loc Cert.QXRefIdeal.main_arg0)
      ∧ r.2.mem ((c.tc : Thread Cert.QXRefIdeal.nD Cert.QXRefIdeal.τ).loc Cert.QXRefIdeal.main_arg1) = m ((c.tc : Thread Cert.QXRefIdeal.nD Cert.QXRefIdeal.τ).loc Cert.QXRefIdeal.main_arg1))
      ∧ r.2.sem = fun _ => 0)

def quiescent_QW [hQW : Cert.QW.Facts] : Prop :=
  ∀ (m : (ℓ : Loc Cert.QW.nD Cert.QW.τ Cert.QW.sig) → Buf (Elt Bits) ℓ) (g : Dev Cert.QW.nD → PrngReg), Pre_QW m →
    θ_run (Cert.QW.defs (F := Bits)) (onTc (τ := Cert.QW.τ) (Cert.QW.main (F := Bits))) ⟨m, fun _ => 0, g⟩ (fun r => (∀ c : Dev Cert.QW.nD,
      r.2.mem ((c.tc : Thread Cert.QW.nD Cert.QW.τ).loc Cert.QW.main_arg0) = m ((c.tc : Thread Cert.QW.nD Cert.QW.τ).loc Cert.QW.main_arg0)
      ∧ r.2.mem ((c.tc : Thread Cert.QW.nD Cert.QW.τ).loc Cert.QW.main_arg1) = m ((c.tc : Thread Cert.QW.nD Cert.QW.τ).loc Cert.QW.main_arg1))
      ∧ r.2.sem = fun _ => 0)

def quiescent_QWIdeal [hQWIdeal : Cert.QWIdeal.Facts] : Prop :=
  ∀ (m : (ℓ : Loc Cert.QWIdeal.nD Cert.QWIdeal.τ Cert.QWIdeal.sig) → Buf (Elt Ideal) ℓ) (g : Dev Cert.QWIdeal.nD → PrngReg), Pre_QWIdeal m →
    θ_run (Cert.QWIdeal.defs (F := Ideal)) (onTc (τ := Cert.QWIdeal.τ) (Cert.QWIdeal.main (F := Ideal))) ⟨m, fun _ => 0, g⟩ (fun r => (∀ c : Dev Cert.QWIdeal.nD,
      r.2.mem ((c.tc : Thread Cert.QWIdeal.nD Cert.QWIdeal.τ).loc Cert.QWIdeal.main_arg0) = m ((c.tc : Thread Cert.QWIdeal.nD Cert.QWIdeal.τ).loc Cert.QWIdeal.main_arg0)
      ∧ r.2.mem ((c.tc : Thread Cert.QWIdeal.nD Cert.QWIdeal.τ).loc Cert.QWIdeal.main_arg1) = m ((c.tc : Thread Cert.QWIdeal.nD Cert.QWIdeal.τ).loc Cert.QWIdeal.main_arg1))
      ∧ r.2.sem = fun _ => 0)

def quiescent_QWRefIdeal [hQWRefIdeal : Cert.QWRefIdeal.Facts] : Prop :=
  ∀ (m : (ℓ : Loc Cert.QWRefIdeal.nD Cert.QWRefIdeal.τ Cert.QWRefIdeal.sig) → Buf (Elt Ideal) ℓ) (g : Dev Cert.QWRefIdeal.nD → PrngReg), Pre_QWRefIdeal m →
    θ_run (Cert.QWRefIdeal.defs (F := Ideal)) (onTc (τ := Cert.QWRefIdeal.τ) (Cert.QWRefIdeal.main (F := Ideal))) ⟨m, fun _ => 0, g⟩ (fun r => (∀ c : Dev Cert.QWRefIdeal.nD,
      r.2.mem ((c.tc : Thread Cert.QWRefIdeal.nD Cert.QWRefIdeal.τ).loc Cert.QWRefIdeal.main_arg0) = m ((c.tc : Thread Cert.QWRefIdeal.nD Cert.QWRefIdeal.τ).loc Cert.QWRefIdeal.main_arg0)
      ∧ r.2.mem ((c.tc : Thread Cert.QWRefIdeal.nD Cert.QWRefIdeal.τ).loc Cert.QWRefIdeal.main_arg1) = m ((c.tc : Thread Cert.QWRefIdeal.nD Cert.QWRefIdeal.τ).loc Cert.QWRefIdeal.main_arg1))
      ∧ r.2.sem = fun _ => 0)

def quiescent_KvX [hKvX : Cert.KvX.Facts] : Prop :=
  ∀ (m : (ℓ : Loc Cert.KvX.nD Cert.KvX.τ Cert.KvX.sig) → Buf (Elt Bits) ℓ) (g : Dev Cert.KvX.nD → PrngReg), Pre_KvX m →
    θ_run (Cert.KvX.defs (F := Bits)) (onTc (τ := Cert.KvX.τ) (Cert.KvX.main (F := Bits))) ⟨m, fun _ => 0, g⟩ (fun r => (∀ c : Dev Cert.KvX.nD,
      r.2.mem ((c.tc : Thread Cert.KvX.nD Cert.KvX.τ).loc Cert.KvX.main_arg0) = m ((c.tc : Thread Cert.KvX.nD Cert.KvX.τ).loc Cert.KvX.main_arg0)
      ∧ r.2.mem ((c.tc : Thread Cert.KvX.nD Cert.KvX.τ).loc Cert.KvX.main_arg1) = m ((c.tc : Thread Cert.KvX.nD Cert.KvX.τ).loc Cert.KvX.main_arg1))
      ∧ r.2.sem = fun _ => 0)

def quiescent_KvXIdeal [hKvXIdeal : Cert.KvXIdeal.Facts] : Prop :=
  ∀ (m : (ℓ : Loc Cert.KvXIdeal.nD Cert.KvXIdeal.τ Cert.KvXIdeal.sig) → Buf (Elt Ideal) ℓ) (g : Dev Cert.KvXIdeal.nD → PrngReg), Pre_KvXIdeal m →
    θ_run (Cert.KvXIdeal.defs (F := Ideal)) (onTc (τ := Cert.KvXIdeal.τ) (Cert.KvXIdeal.main (F := Ideal))) ⟨m, fun _ => 0, g⟩ (fun r => (∀ c : Dev Cert.KvXIdeal.nD,
      r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
      ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ r.2.sem = fun _ => 0)

def quiescent_KvXRefIdeal [hKvXRefIdeal : Cert.KvXRefIdeal.Facts] : Prop :=
  ∀ (m : (ℓ : Loc Cert.KvXRefIdeal.nD Cert.KvXRefIdeal.τ Cert.KvXRefIdeal.sig) → Buf (Elt Ideal) ℓ) (g : Dev Cert.KvXRefIdeal.nD → PrngReg), Pre_KvXRefIdeal m →
    θ_run (Cert.KvXRefIdeal.defs (F := Ideal)) (onTc (τ := Cert.KvXRefIdeal.τ) (Cert.KvXRefIdeal.main (F := Ideal))) ⟨m, fun _ => 0, g⟩ (fun r => (∀ c : Dev Cert.KvXRefIdeal.nD,
      r.2.mem ((c.tc : Thread Cert.KvXRefIdeal.nD Cert.KvXRefIdeal.τ).loc Cert.KvXRefIdeal.main_arg0) = m ((c.tc : Thread Cert.KvXRefIdeal.nD Cert.KvXRefIdeal.τ).loc Cert.KvXRefIdeal.main_arg0)
      ∧ r.2.mem ((c.tc : Thread Cert.KvXRefIdeal.nD Cert.KvXRefIdeal.τ).loc Cert.KvXRefIdeal.main_arg1) = m ((c.tc : Thread Cert.KvXRefIdeal.nD Cert.KvXRefIdeal.τ).loc Cert.KvXRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_BranchX [hBranchX : Cert.BranchX.Facts] : Prop :=
  ∀ (m : (ℓ : Loc Cert.BranchX.nD Cert.BranchX.τ Cert.BranchX.sig) → Buf (Elt Bits) ℓ) (g : Dev Cert.BranchX.nD → PrngReg), Pre_BranchX m →
    θ_run (Cert.BranchX.defs (F := Bits)) (onTc (τ := Cert.BranchX.τ) (Cert.BranchX.main (F := Bits))) ⟨m, fun _ => 0, g⟩ (fun r => (∀ c : Dev Cert.BranchX.nD,
      r.2.mem ((c.tc : Thread Cert.BranchX.nD Cert.BranchX.τ).loc Cert.BranchX.main_arg0) = m ((c.tc : Thread Cert.BranchX.nD Cert.BranchX.τ).loc Cert.BranchX.main_arg0)
      ∧ r.2.mem ((c.tc : Thread Cert.BranchX.nD Cert.BranchX.τ).loc Cert.BranchX.main_arg1) = m ((c.tc : Thread Cert.BranchX.nD Cert.BranchX.τ).loc Cert.BranchX.main_arg1))
      ∧ r.2.sem = fun _ => 0)

def quiescent_BranchXIdeal [hBranchXIdeal : Cert.BranchXIdeal.Facts] : Prop :=
  ∀ (m : (ℓ : Loc Cert.BranchXIdeal.nD Cert.BranchXIdeal.τ Cert.BranchXIdeal.sig) → Buf (Elt Ideal) ℓ) (g : Dev Cert.BranchXIdeal.nD → PrngReg), Pre_BranchXIdeal m →
    θ_run (Cert.BranchXIdeal.defs (F := Ideal)) (onTc (τ := Cert.BranchXIdeal.τ) (Cert.BranchXIdeal.main (F := Ideal))) ⟨m, fun _ => 0, g⟩ (fun r => (∀ c : Dev Cert.BranchXIdeal.nD,
      r.2.mem ((c.tc : Thread Cert.BranchXIdeal.nD Cert.BranchXIdeal.τ).loc Cert.BranchXIdeal.main_arg0) = m ((c.tc : Thread Cert.BranchXIdeal.nD Cert.BranchXIdeal.τ).loc Cert.BranchXIdeal.main_arg0)
      ∧ r.2.mem ((c.tc : Thread Cert.BranchXIdeal.nD Cert.BranchXIdeal.τ).loc Cert.BranchXIdeal.main_arg1) = m ((c.tc : Thread Cert.BranchXIdeal.nD Cert.BranchXIdeal.τ).loc Cert.BranchXIdeal.main_arg1))
      ∧ r.2.sem = fun _ => 0)

def quiescent_BranchXRefIdeal [hBranchXRefIdeal : Cert.BranchXRefIdeal.Facts] : Prop :=
  ∀ (m : (ℓ : Loc Cert.BranchXRefIdeal.nD Cert.BranchXRefIdeal.τ Cert.BranchXRefIdeal.sig) → Buf (Elt Ideal) ℓ) (g : Dev Cert.BranchXRefIdeal.nD → PrngReg), Pre_BranchXRefIdeal m →
    θ_run (Cert.BranchXRefIdeal.defs (F := Ideal)) (onTc (τ := Cert.BranchXRefIdeal.τ) (Cert.BranchXRefIdeal.main (F := Ideal))) ⟨m, fun _ => 0, g⟩ (fun r => (∀ c : Dev Cert.BranchXRefIdeal.nD,
      r.2.mem ((c.tc : Thread Cert.BranchXRefIdeal.nD Cert.BranchXRefIdeal.τ).loc Cert.BranchXRefIdeal.main_arg0) = m ((c.tc : Thread Cert.BranchXRefIdeal.nD Cert.BranchXRefIdeal.τ).loc Cert.BranchXRefIdeal.main_arg0)
      ∧ r.2.mem ((c.tc : Thread Cert.BranchXRefIdeal.nD Cert.BranchXRefIdeal.τ).loc Cert.BranchXRefIdeal.main_arg1) = m ((c.tc : Thread Cert.BranchXRefIdeal.nD Cert.BranchXRefIdeal.τ).loc Cert.BranchXRefIdeal.main_arg1))
      ∧ r.2.sem = fun _ => 0)

def quiescent_BranchW0 [hBranchW0 : Cert.BranchW0.Facts] : Prop :=
  ∀ (m : (ℓ : Loc Cert.BranchW0.nD Cert.BranchW0.τ Cert.BranchW0.sig) → Buf (Elt Bits) ℓ) (g : Dev Cert.BranchW0.nD → PrngReg), Pre_BranchW0 m →
    θ_run (Cert.BranchW0.defs (F := Bits)) (onTc (τ := Cert.BranchW0.τ) (Cert.BranchW0.main (F := Bits))) ⟨m, fun _ => 0, g⟩ (fun r => (∀ c : Dev Cert.BranchW0.nD,
      r.2.mem ((c.tc : Thread Cert.BranchW0.nD Cert.BranchW0.τ).loc Cert.BranchW0.main_arg0) = m ((c.tc : Thread Cert.BranchW0.nD Cert.BranchW0.τ).loc Cert.BranchW0.main_arg0)
      ∧ r.2.mem ((c.tc : Thread Cert.BranchW0.nD Cert.BranchW0.τ).loc Cert.BranchW0.main_arg1) = m ((c.tc : Thread Cert.BranchW0.nD Cert.BranchW0.τ).loc Cert.BranchW0.main_arg1))
      ∧ r.2.sem = fun _ => 0)

def quiescent_BranchW0Ideal [hBranchW0Ideal : Cert.BranchW0Ideal.Facts] : Prop :=
  ∀ (m : (ℓ : Loc Cert.BranchW0Ideal.nD Cert.BranchW0Ideal.τ Cert.BranchW0Ideal.sig) → Buf (Elt Ideal) ℓ) (g : Dev Cert.BranchW0Ideal.nD → PrngReg), Pre_BranchW0Ideal m →
    θ_run (Cert.BranchW0Ideal.defs (F := Ideal)) (onTc (τ := Cert.BranchW0Ideal.τ) (Cert.BranchW0Ideal.main (F := Ideal))) ⟨m, fun _ => 0, g⟩ (fun r => (∀ c : Dev Cert.BranchW0Ideal.nD,
      r.2.mem ((c.tc : Thread Cert.BranchW0Ideal.nD Cert.BranchW0Ideal.τ).loc Cert.BranchW0Ideal.main_arg0) = m ((c.tc : Thread Cert.BranchW0Ideal.nD Cert.BranchW0Ideal.τ).loc Cert.BranchW0Ideal.main_arg0)
      ∧ r.2.mem ((c.tc : Thread Cert.BranchW0Ideal.nD Cert.BranchW0Ideal.τ).loc Cert.BranchW0Ideal.main_arg1) = m ((c.tc : Thread Cert.BranchW0Ideal.nD Cert.BranchW0Ideal.τ).loc Cert.BranchW0Ideal.main_arg1))
      ∧ r.2.sem = fun _ => 0)

def quiescent_BranchW0RefIdeal [hBranchW0RefIdeal : Cert.BranchW0RefIdeal.Facts] : Prop :=
  ∀ (m : (ℓ : Loc Cert.BranchW0RefIdeal.nD Cert.BranchW0RefIdeal.τ Cert.BranchW0RefIdeal.sig) → Buf (Elt Ideal) ℓ) (g : Dev Cert.BranchW0RefIdeal.nD → PrngReg), Pre_BranchW0RefIdeal m →
    θ_run (Cert.BranchW0RefIdeal.defs (F := Ideal)) (onTc (τ := Cert.BranchW0RefIdeal.τ) (Cert.BranchW0RefIdeal.main (F := Ideal))) ⟨m, fun _ => 0, g⟩ (fun r => (∀ c : Dev Cert.BranchW0RefIdeal.nD,
      r.2.mem ((c.tc : Thread Cert.BranchW0RefIdeal.nD Cert.BranchW0RefIdeal.τ).loc Cert.BranchW0RefIdeal.main_arg0) = m ((c.tc : Thread Cert.BranchW0RefIdeal.nD Cert.BranchW0RefIdeal.τ).loc Cert.BranchW0RefIdeal.main_arg0)
      ∧ r.2.mem ((c.tc : Thread Cert.BranchW0RefIdeal.nD Cert.BranchW0RefIdeal.τ).loc Cert.BranchW0RefIdeal.main_arg1) = m ((c.tc : Thread Cert.BranchW0RefIdeal.nD Cert.BranchW0RefIdeal.τ).loc Cert.BranchW0RefIdeal.main_arg1))
      ∧ r.2.sem = fun _ => 0)

def quiescent_BranchW1 [hBranchW1 : Cert.BranchW1.Facts] : Prop :=
  ∀ (m : (ℓ : Loc Cert.BranchW1.nD Cert.BranchW1.τ Cert.BranchW1.sig) → Buf (Elt Bits) ℓ) (g : Dev Cert.BranchW1.nD → PrngReg), Pre_BranchW1 m →
    θ_run (Cert.BranchW1.defs (F := Bits)) (onTc (τ := Cert.BranchW1.τ) (Cert.BranchW1.main (F := Bits))) ⟨m, fun _ => 0, g⟩ (fun r => (∀ c : Dev Cert.BranchW1.nD,
      r.2.mem ((c.tc : Thread Cert.BranchW1.nD Cert.BranchW1.τ).loc Cert.BranchW1.main_arg0) = m ((c.tc : Thread Cert.BranchW1.nD Cert.BranchW1.τ).loc Cert.BranchW1.main_arg0)
      ∧ r.2.mem ((c.tc : Thread Cert.BranchW1.nD Cert.BranchW1.τ).loc Cert.BranchW1.main_arg1) = m ((c.tc : Thread Cert.BranchW1.nD Cert.BranchW1.τ).loc Cert.BranchW1.main_arg1))
      ∧ r.2.sem = fun _ => 0)

def quiescent_BranchW1Ideal [hBranchW1Ideal : Cert.BranchW1Ideal.Facts] : Prop :=
  ∀ (m : (ℓ : Loc Cert.BranchW1Ideal.nD Cert.BranchW1Ideal.τ Cert.BranchW1Ideal.sig) → Buf (Elt Ideal) ℓ) (g : Dev Cert.BranchW1Ideal.nD → PrngReg), Pre_BranchW1Ideal m →
    θ_run (Cert.BranchW1Ideal.defs (F := Ideal)) (onTc (τ := Cert.BranchW1Ideal.τ) (Cert.BranchW1Ideal.main (F := Ideal))) ⟨m, fun _ => 0, g⟩ (fun r => (∀ c : Dev Cert.BranchW1Ideal.nD,
      r.2.mem ((c.tc : Thread Cert.BranchW1Ideal.nD Cert.BranchW1Ideal.τ).loc Cert.BranchW1Ideal.main_arg0) = m ((c.tc : Thread Cert.BranchW1Ideal.nD Cert.BranchW1Ideal.τ).loc Cert.BranchW1Ideal.main_arg0)
      ∧ r.2.mem ((c.tc : Thread Cert.BranchW1Ideal.nD Cert.BranchW1Ideal.τ).loc Cert.BranchW1Ideal.main_arg1) = m ((c.tc : Thread Cert.BranchW1Ideal.nD Cert.BranchW1Ideal.τ).loc Cert.BranchW1Ideal.main_arg1))
      ∧ r.2.sem = fun _ => 0)

def quiescent_BranchW1RefIdeal [hBranchW1RefIdeal : Cert.BranchW1RefIdeal.Facts] : Prop :=
  ∀ (m : (ℓ : Loc Cert.BranchW1RefIdeal.nD Cert.BranchW1RefIdeal.τ Cert.BranchW1RefIdeal.sig) → Buf (Elt Ideal) ℓ) (g : Dev Cert.BranchW1RefIdeal.nD → PrngReg), Pre_BranchW1RefIdeal m →
    θ_run (Cert.BranchW1RefIdeal.defs (F := Ideal)) (onTc (τ := Cert.BranchW1RefIdeal.τ) (Cert.BranchW1RefIdeal.main (F := Ideal))) ⟨m, fun _ => 0, g⟩ (fun r => (∀ c : Dev Cert.BranchW1RefIdeal.nD,
      r.2.mem ((c.tc : Thread Cert.BranchW1RefIdeal.nD Cert.BranchW1RefIdeal.τ).loc Cert.BranchW1RefIdeal.main_arg0) = m ((c.tc : Thread Cert.BranchW1RefIdeal.nD Cert.BranchW1RefIdeal.τ).loc Cert.BranchW1RefIdeal.main_arg0)
      ∧ r.2.mem ((c.tc : Thread Cert.BranchW1RefIdeal.nD Cert.BranchW1RefIdeal.τ).loc Cert.BranchW1RefIdeal.main_arg1) = m ((c.tc : Thread Cert.BranchW1RefIdeal.nD Cert.BranchW1RefIdeal.τ).loc Cert.BranchW1RefIdeal.main_arg1))
      ∧ r.2.sem = fun _ => 0)

def quiescent_BranchW2 [hBranchW2 : Cert.BranchW2.Facts] : Prop :=
  ∀ (m : (ℓ : Loc Cert.BranchW2.nD Cert.BranchW2.τ Cert.BranchW2.sig) → Buf (Elt Bits) ℓ) (g : Dev Cert.BranchW2.nD → PrngReg), Pre_BranchW2 m →
    θ_run (Cert.BranchW2.defs (F := Bits)) (onTc (τ := Cert.BranchW2.τ) (Cert.BranchW2.main (F := Bits))) ⟨m, fun _ => 0, g⟩ (fun r => (∀ c : Dev Cert.BranchW2.nD,
      r.2.mem ((c.tc : Thread Cert.BranchW2.nD Cert.BranchW2.τ).loc Cert.BranchW2.main_arg0) = m ((c.tc : Thread Cert.BranchW2.nD Cert.BranchW2.τ).loc Cert.BranchW2.main_arg0)
      ∧ r.2.mem ((c.tc : Thread Cert.BranchW2.nD Cert.BranchW2.τ).loc Cert.BranchW2.main_arg1) = m ((c.tc : Thread Cert.BranchW2.nD Cert.BranchW2.τ).loc Cert.BranchW2.main_arg1))
      ∧ r.2.sem = fun _ => 0)

def quiescent_BranchW2Ideal [hBranchW2Ideal : Cert.BranchW2Ideal.Facts] : Prop :=
  ∀ (m : (ℓ : Loc Cert.BranchW2Ideal.nD Cert.BranchW2Ideal.τ Cert.BranchW2Ideal.sig) → Buf (Elt Ideal) ℓ) (g : Dev Cert.BranchW2Ideal.nD → PrngReg), Pre_BranchW2Ideal m →
    θ_run (Cert.BranchW2Ideal.defs (F := Ideal)) (onTc (τ := Cert.BranchW2Ideal.τ) (Cert.BranchW2Ideal.main (F := Ideal))) ⟨m, fun _ => 0, g⟩ (fun r => (∀ c : Dev Cert.BranchW2Ideal.nD,
      r.2.mem ((c.tc : Thread Cert.BranchW2Ideal.nD Cert.BranchW2Ideal.τ).loc Cert.BranchW2Ideal.main_arg0) = m ((c.tc : Thread Cert.BranchW2Ideal.nD Cert.BranchW2Ideal.τ).loc Cert.BranchW2Ideal.main_arg0)
      ∧ r.2.mem ((c.tc : Thread Cert.BranchW2Ideal.nD Cert.BranchW2Ideal.τ).loc Cert.BranchW2Ideal.main_arg1) = m ((c.tc : Thread Cert.BranchW2Ideal.nD Cert.BranchW2Ideal.τ).loc Cert.BranchW2Ideal.main_arg1))
      ∧ r.2.sem = fun _ => 0)

def quiescent_BranchW2RefIdeal [hBranchW2RefIdeal : Cert.BranchW2RefIdeal.Facts] : Prop :=
  ∀ (m : (ℓ : Loc Cert.BranchW2RefIdeal.nD Cert.BranchW2RefIdeal.τ Cert.BranchW2RefIdeal.sig) → Buf (Elt Ideal) ℓ) (g : Dev Cert.BranchW2RefIdeal.nD → PrngReg), Pre_BranchW2RefIdeal m →
    θ_run (Cert.BranchW2RefIdeal.defs (F := Ideal)) (onTc (τ := Cert.BranchW2RefIdeal.τ) (Cert.BranchW2RefIdeal.main (F := Ideal))) ⟨m, fun _ => 0, g⟩ (fun r => (∀ c : Dev Cert.BranchW2RefIdeal.nD,
      r.2.mem ((c.tc : Thread Cert.BranchW2RefIdeal.nD Cert.BranchW2RefIdeal.τ).loc Cert.BranchW2RefIdeal.main_arg0) = m ((c.tc : Thread Cert.BranchW2RefIdeal.nD Cert.BranchW2RefIdeal.τ).loc Cert.BranchW2RefIdeal.main_arg0)
      ∧ r.2.mem ((c.tc : Thread Cert.BranchW2RefIdeal.nD Cert.BranchW2RefIdeal.τ).loc Cert.BranchW2RefIdeal.main_arg1) = m ((c.tc : Thread Cert.BranchW2RefIdeal.nD Cert.BranchW2RefIdeal.τ).loc Cert.BranchW2RefIdeal.main_arg1))
      ∧ r.2.sem = fun _ => 0)

def quiescent_BaX [hBaX : Cert.BaX.Facts] : Prop :=
  ∀ (m : (ℓ : Loc Cert.BaX.nD Cert.BaX.τ Cert.BaX.sig) → Buf (Elt Bits) ℓ) (g : Dev Cert.BaX.nD → PrngReg), Pre_BaX m →
    θ_run (Cert.BaX.defs (F := Bits)) (onTc (τ := Cert.BaX.τ) (Cert.BaX.main (F := Bits))) ⟨m, fun _ => 0, g⟩ (fun r => (∀ c : Dev Cert.BaX.nD,
      r.2.mem ((c.tc : Thread Cert.BaX.nD Cert.BaX.τ).loc Cert.BaX.main_arg0) = m ((c.tc : Thread Cert.BaX.nD Cert.BaX.τ).loc Cert.BaX.main_arg0)
      ∧ r.2.mem ((c.tc : Thread Cert.BaX.nD Cert.BaX.τ).loc Cert.BaX.main_arg1) = m ((c.tc : Thread Cert.BaX.nD Cert.BaX.τ).loc Cert.BaX.main_arg1))
      ∧ r.2.sem = fun _ => 0)

def quiescent_BaXIdeal [hBaXIdeal : Cert.BaXIdeal.Facts] : Prop :=
  ∀ (m : (ℓ : Loc Cert.BaXIdeal.nD Cert.BaXIdeal.τ Cert.BaXIdeal.sig) → Buf (Elt Ideal) ℓ) (g : Dev Cert.BaXIdeal.nD → PrngReg), Pre_BaXIdeal m →
    θ_run (Cert.BaXIdeal.defs (F := Ideal)) (onTc (τ := Cert.BaXIdeal.τ) (Cert.BaXIdeal.main (F := Ideal))) ⟨m, fun _ => 0, g⟩ (fun r => (∀ c : Dev Cert.BaXIdeal.nD,
      r.2.mem ((c.tc : Thread Cert.BaXIdeal.nD Cert.BaXIdeal.τ).loc Cert.BaXIdeal.main_arg0) = m ((c.tc : Thread Cert.BaXIdeal.nD Cert.BaXIdeal.τ).loc Cert.BaXIdeal.main_arg0)
      ∧ r.2.mem ((c.tc : Thread Cert.BaXIdeal.nD Cert.BaXIdeal.τ).loc Cert.BaXIdeal.main_arg1) = m ((c.tc : Thread Cert.BaXIdeal.nD Cert.BaXIdeal.τ).loc Cert.BaXIdeal.main_arg1))
      ∧ r.2.sem = fun _ => 0)

def quiescent_BaXRefIdeal [hBaXRefIdeal : Cert.BaXRefIdeal.Facts] : Prop :=
  ∀ (m : (ℓ : Loc Cert.BaXRefIdeal.nD Cert.BaXRefIdeal.τ Cert.BaXRefIdeal.sig) → Buf (Elt Ideal) ℓ) (g : Dev Cert.BaXRefIdeal.nD → PrngReg), Pre_BaXRefIdeal m →
    θ_run (Cert.BaXRefIdeal.defs (F := Ideal)) (onTc (τ := Cert.BaXRefIdeal.τ) (Cert.BaXRefIdeal.main (F := Ideal))) ⟨m, fun _ => 0, g⟩ (fun r => (∀ c : Dev Cert.BaXRefIdeal.nD,
      r.2.mem ((c.tc : Thread Cert.BaXRefIdeal.nD Cert.BaXRefIdeal.τ).loc Cert.BaXRefIdeal.main_arg0) = m ((c.tc : Thread Cert.BaXRefIdeal.nD Cert.BaXRefIdeal.τ).loc Cert.BaXRefIdeal.main_arg0)
      ∧ r.2.mem ((c.tc : Thread Cert.BaXRefIdeal.nD Cert.BaXRefIdeal.τ).loc Cert.BaXRefIdeal.main_arg1) = m ((c.tc : Thread Cert.BaXRefIdeal.nD Cert.BaXRefIdeal.τ).loc Cert.BaXRefIdeal.main_arg1))
      ∧ r.2.sem = fun _ => 0)

def quiescent_BaW [hBaW : Cert.BaW.Facts] : Prop :=
  ∀ (m : (ℓ : Loc Cert.BaW.nD Cert.BaW.τ Cert.BaW.sig) → Buf (Elt Bits) ℓ) (g : Dev Cert.BaW.nD → PrngReg), Pre_BaW m →
    θ_run (Cert.BaW.defs (F := Bits)) (onTc (τ := Cert.BaW.τ) (Cert.BaW.main (F := Bits))) ⟨m, fun _ => 0, g⟩ (fun r => (∀ c : Dev Cert.BaW.nD,
      r.2.mem ((c.tc : Thread Cert.BaW.nD Cert.BaW.τ).loc Cert.BaW.main_arg0) = m ((c.tc : Thread Cert.BaW.nD Cert.BaW.τ).loc Cert.BaW.main_arg0)
      ∧ r.2.mem ((c.tc : Thread Cert.BaW.nD Cert.BaW.τ).loc Cert.BaW.main_arg1) = m ((c.tc : Thread Cert.BaW.nD Cert.BaW.τ).loc Cert.BaW.main_arg1))
      ∧ r.2.sem = fun _ => 0)

def quiescent_BaWIdeal [hBaWIdeal : Cert.BaWIdeal.Facts] : Prop :=
  ∀ (m : (ℓ : Loc Cert.BaWIdeal.nD Cert.BaWIdeal.τ Cert.BaWIdeal.sig) → Buf (Elt Ideal) ℓ) (g : Dev Cert.BaWIdeal.nD → PrngReg), Pre_BaWIdeal m →
    θ_run (Cert.BaWIdeal.defs (F := Ideal)) (onTc (τ := Cert.BaWIdeal.τ) (Cert.BaWIdeal.main (F := Ideal))) ⟨m, fun _ => 0, g⟩ (fun r => (∀ c : Dev Cert.BaWIdeal.nD,
      r.2.mem ((c.tc : Thread Cert.BaWIdeal.nD Cert.BaWIdeal.τ).loc Cert.BaWIdeal.main_arg0) = m ((c.tc : Thread Cert.BaWIdeal.nD Cert.BaWIdeal.τ).loc Cert.BaWIdeal.main_arg0)
      ∧ r.2.mem ((c.tc : Thread Cert.BaWIdeal.nD Cert.BaWIdeal.τ).loc Cert.BaWIdeal.main_arg1) = m ((c.tc : Thread Cert.BaWIdeal.nD Cert.BaWIdeal.τ).loc Cert.BaWIdeal.main_arg1))
      ∧ r.2.sem = fun _ => 0)

def quiescent_BaWRefIdeal [hBaWRefIdeal : Cert.BaWRefIdeal.Facts] : Prop :=
  ∀ (m : (ℓ : Loc Cert.BaWRefIdeal.nD Cert.BaWRefIdeal.τ Cert.BaWRefIdeal.sig) → Buf (Elt Ideal) ℓ) (g : Dev Cert.BaWRefIdeal.nD → PrngReg), Pre_BaWRefIdeal m →
    θ_run (Cert.BaWRefIdeal.defs (F := Ideal)) (onTc (τ := Cert.BaWRefIdeal.τ) (Cert.BaWRefIdeal.main (F := Ideal))) ⟨m, fun _ => 0, g⟩ (fun r => (∀ c : Dev Cert.BaWRefIdeal.nD,
      r.2.mem ((c.tc : Thread Cert.BaWRefIdeal.nD Cert.BaWRefIdeal.τ).loc Cert.BaWRefIdeal.main_arg0) = m ((c.tc : Thread Cert.BaWRefIdeal.nD Cert.BaWRefIdeal.τ).loc Cert.BaWRefIdeal.main_arg0)
      ∧ r.2.mem ((c.tc : Thread Cert.BaWRefIdeal.nD Cert.BaWRefIdeal.τ).loc Cert.BaWRefIdeal.main_arg1) = m ((c.tc : Thread Cert.BaWRefIdeal.nD Cert.BaWRefIdeal.τ).loc Cert.BaWRefIdeal.main_arg1))
      ∧ r.2.sem = fun _ => 0)

def quiescent_FwdGate [hFwdGate : Cert.FwdGate.Facts] : Prop :=
  ∀ (m : (ℓ : Loc Cert.FwdGate.nD Cert.FwdGate.τ Cert.FwdGate.sig) → Buf (Elt Bits) ℓ) (g : Dev Cert.FwdGate.nD → PrngReg), Pre_FwdGate m →
    θ_run (Cert.FwdGate.defs (F := Bits)) (onTc (τ := Cert.FwdGate.τ) (Cert.FwdGate.main (F := Bits))) ⟨m, fun _ => 0, g⟩ (fun r => (∀ c : Dev Cert.FwdGate.nD,
      r.2.mem ((c.tc : Thread Cert.FwdGate.nD Cert.FwdGate.τ).loc Cert.FwdGate.main_arg0) = m ((c.tc : Thread Cert.FwdGate.nD Cert.FwdGate.τ).loc Cert.FwdGate.main_arg0)
      ∧ r.2.mem ((c.tc : Thread Cert.FwdGate.nD Cert.FwdGate.τ).loc Cert.FwdGate.main_arg1) = m ((c.tc : Thread Cert.FwdGate.nD Cert.FwdGate.τ).loc Cert.FwdGate.main_arg1)
      ∧ r.2.mem ((c.tc : Thread Cert.FwdGate.nD Cert.FwdGate.τ).loc Cert.FwdGate.main_arg2) = m ((c.tc : Thread Cert.FwdGate.nD Cert.FwdGate.τ).loc Cert.FwdGate.main_arg2)
      ∧ r.2.mem ((c.tc : Thread Cert.FwdGate.nD Cert.FwdGate.τ).loc Cert.FwdGate.main_arg3) = m ((c.tc : Thread Cert.FwdGate.nD Cert.FwdGate.τ).loc Cert.FwdGate.main_arg3)
      ∧ r.2.mem ((c.tc : Thread Cert.FwdGate.nD Cert.FwdGate.τ).loc Cert.FwdGate.main_arg4) = m ((c.tc : Thread Cert.FwdGate.nD Cert.FwdGate.τ).loc Cert.FwdGate.main_arg4))
      ∧ r.2.sem = fun _ => 0)

def quiescent_FwdGateIdeal [hFwdGateIdeal : Cert.FwdGateIdeal.Facts] : Prop :=
  ∀ (m : (ℓ : Loc Cert.FwdGateIdeal.nD Cert.FwdGateIdeal.τ Cert.FwdGateIdeal.sig) → Buf (Elt Ideal) ℓ) (g : Dev Cert.FwdGateIdeal.nD → PrngReg), Pre_FwdGateIdeal m →
    θ_run (Cert.FwdGateIdeal.defs (F := Ideal)) (onTc (τ := Cert.FwdGateIdeal.τ) (Cert.FwdGateIdeal.main (F := Ideal))) ⟨m, fun _ => 0, g⟩ (fun r => (∀ c : Dev Cert.FwdGateIdeal.nD,
      r.2.mem ((c.tc : Thread Cert.FwdGateIdeal.nD Cert.FwdGateIdeal.τ).loc Cert.FwdGateIdeal.main_arg0) = m ((c.tc : Thread Cert.FwdGateIdeal.nD Cert.FwdGateIdeal.τ).loc Cert.FwdGateIdeal.main_arg0)
      ∧ r.2.mem ((c.tc : Thread Cert.FwdGateIdeal.nD Cert.FwdGateIdeal.τ).loc Cert.FwdGateIdeal.main_arg1) = m ((c.tc : Thread Cert.FwdGateIdeal.nD Cert.FwdGateIdeal.τ).loc Cert.FwdGateIdeal.main_arg1)
      ∧ r.2.mem ((c.tc : Thread Cert.FwdGateIdeal.nD Cert.FwdGateIdeal.τ).loc Cert.FwdGateIdeal.main_arg2) = m ((c.tc : Thread Cert.FwdGateIdeal.nD Cert.FwdGateIdeal.τ).loc Cert.FwdGateIdeal.main_arg2)
      ∧ r.2.mem ((c.tc : Thread Cert.FwdGateIdeal.nD Cert.FwdGateIdeal.τ).loc Cert.FwdGateIdeal.main_arg3) = m ((c.tc : Thread Cert.FwdGateIdeal.nD Cert.FwdGateIdeal.τ).loc Cert.FwdGateIdeal.main_arg3)
      ∧ r.2.mem ((c.tc : Thread Cert.FwdGateIdeal.nD Cert.FwdGateIdeal.τ).loc Cert.FwdGateIdeal.main_arg4) = m ((c.tc : Thread Cert.FwdGateIdeal.nD Cert.FwdGateIdeal.τ).loc Cert.FwdGateIdeal.main_arg4))
      ∧ r.2.sem = fun _ => 0)

def quiescent_FwdGateRefIdeal [hFwdGateRefIdeal : Cert.FwdGateRefIdeal.Facts] : Prop :=
  ∀ (m : (ℓ : Loc Cert.FwdGateRefIdeal.nD Cert.FwdGateRefIdeal.τ Cert.FwdGateRefIdeal.sig) → Buf (Elt Ideal) ℓ) (g : Dev Cert.FwdGateRefIdeal.nD → PrngReg), Pre_FwdGateRefIdeal m →
    θ_run (Cert.FwdGateRefIdeal.defs (F := Ideal)) (onTc (τ := Cert.FwdGateRefIdeal.τ) (Cert.FwdGateRefIdeal.main (F := Ideal))) ⟨m, fun _ => 0, g⟩ (fun r => (∀ c : Dev Cert.FwdGateRefIdeal.nD,
      r.2.mem ((c.tc : Thread Cert.FwdGateRefIdeal.nD Cert.FwdGateRefIdeal.τ).loc Cert.FwdGateRefIdeal.main_arg0) = m ((c.tc : Thread Cert.FwdGateRefIdeal.nD Cert.FwdGateRefIdeal.τ).loc Cert.FwdGateRefIdeal.main_arg0)
      ∧ r.2.mem ((c.tc : Thread Cert.FwdGateRefIdeal.nD Cert.FwdGateRefIdeal.τ).loc Cert.FwdGateRefIdeal.main_arg1) = m ((c.tc : Thread Cert.FwdGateRefIdeal.nD Cert.FwdGateRefIdeal.τ).loc Cert.FwdGateRefIdeal.main_arg1)
      ∧ r.2.mem ((c.tc : Thread Cert.FwdGateRefIdeal.nD Cert.FwdGateRefIdeal.τ).loc Cert.FwdGateRefIdeal.main_arg2) = m ((c.tc : Thread Cert.FwdGateRefIdeal.nD Cert.FwdGateRefIdeal.τ).loc Cert.FwdGateRefIdeal.main_arg2)
      ∧ r.2.mem ((c.tc : Thread Cert.FwdGateRefIdeal.nD Cert.FwdGateRefIdeal.τ).loc Cert.FwdGateRefIdeal.main_arg3) = m ((c.tc : Thread Cert.FwdGateRefIdeal.nD Cert.FwdGateRefIdeal.τ).loc Cert.FwdGateRefIdeal.main_arg3)
      ∧ r.2.mem ((c.tc : Thread Cert.FwdGateRefIdeal.nD Cert.FwdGateRefIdeal.τ).loc Cert.FwdGateRefIdeal.main_arg4) = m ((c.tc : Thread Cert.FwdGateRefIdeal.nD Cert.FwdGateRefIdeal.τ).loc Cert.FwdGateRefIdeal.main_arg4))
      ∧ r.2.sem = fun _ => 0)

def quiescent_BwdGate [hBwdGate : Cert.BwdGate.Facts] : Prop :=
  ∀ (m : (ℓ : Loc Cert.BwdGate.nD Cert.BwdGate.τ Cert.BwdGate.sig) → Buf (Elt Bits) ℓ) (g : Dev Cert.BwdGate.nD → PrngReg), Pre_BwdGate m →
    θ_run (Cert.BwdGate.defs (F := Bits)) (onTc (τ := Cert.BwdGate.τ) (Cert.BwdGate.main (F := Bits))) ⟨m, fun _ => 0, g⟩ (fun r => (∀ c : Dev Cert.BwdGate.nD,
      r.2.mem ((c.tc : Thread Cert.BwdGate.nD Cert.BwdGate.τ).loc Cert.BwdGate.main_arg0) = m ((c.tc : Thread Cert.BwdGate.nD Cert.BwdGate.τ).loc Cert.BwdGate.main_arg0)
      ∧ r.2.mem ((c.tc : Thread Cert.BwdGate.nD Cert.BwdGate.τ).loc Cert.BwdGate.main_arg1) = m ((c.tc : Thread Cert.BwdGate.nD Cert.BwdGate.τ).loc Cert.BwdGate.main_arg1)
      ∧ r.2.mem ((c.tc : Thread Cert.BwdGate.nD Cert.BwdGate.τ).loc Cert.BwdGate.main_arg2) = m ((c.tc : Thread Cert.BwdGate.nD Cert.BwdGate.τ).loc Cert.BwdGate.main_arg2)
      ∧ r.2.mem ((c.tc : Thread Cert.BwdGate.nD Cert.BwdGate.τ).loc Cert.BwdGate.main_arg3) = m ((c.tc : Thread Cert.BwdGate.nD Cert.BwdGate.τ).loc Cert.BwdGate.main_arg3)
      ∧ r.2.mem ((c.tc : Thread Cert.BwdGate.nD Cert.BwdGate.τ).loc Cert.BwdGate.main_arg4) = m ((c.tc : Thread Cert.BwdGate.nD Cert.BwdGate.τ).loc Cert.BwdGate.main_arg4)
      ∧ r.2.mem ((c.tc : Thread Cert.BwdGate.nD Cert.BwdGate.τ).loc Cert.BwdGate.main_arg5) = m ((c.tc : Thread Cert.BwdGate.nD Cert.BwdGate.τ).loc Cert.BwdGate.main_arg5))
      ∧ r.2.sem = fun _ => 0)

def quiescent_BwdGateIdeal [hBwdGateIdeal : Cert.BwdGateIdeal.Facts] : Prop :=
  ∀ (m : (ℓ : Loc Cert.BwdGateIdeal.nD Cert.BwdGateIdeal.τ Cert.BwdGateIdeal.sig) → Buf (Elt Ideal) ℓ) (g : Dev Cert.BwdGateIdeal.nD → PrngReg), Pre_BwdGateIdeal m →
    θ_run (Cert.BwdGateIdeal.defs (F := Ideal)) (onTc (τ := Cert.BwdGateIdeal.τ) (Cert.BwdGateIdeal.main (F := Ideal))) ⟨m, fun _ => 0, g⟩ (fun r => (∀ c : Dev Cert.BwdGateIdeal.nD,
      r.2.mem ((c.tc : Thread Cert.BwdGateIdeal.nD Cert.BwdGateIdeal.τ).loc Cert.BwdGateIdeal.main_arg0) = m ((c.tc : Thread Cert.BwdGateIdeal.nD Cert.BwdGateIdeal.τ).loc Cert.BwdGateIdeal.main_arg0)
      ∧ r.2.mem ((c.tc : Thread Cert.BwdGateIdeal.nD Cert.BwdGateIdeal.τ).loc Cert.BwdGateIdeal.main_arg1) = m ((c.tc : Thread Cert.BwdGateIdeal.nD Cert.BwdGateIdeal.τ).loc Cert.BwdGateIdeal.main_arg1)
      ∧ r.2.mem ((c.tc : Thread Cert.BwdGateIdeal.nD Cert.BwdGateIdeal.τ).loc Cert.BwdGateIdeal.main_arg2) = m ((c.tc : Thread Cert.BwdGateIdeal.nD Cert.BwdGateIdeal.τ).loc Cert.BwdGateIdeal.main_arg2)
      ∧ r.2.mem ((c.tc : Thread Cert.BwdGateIdeal.nD Cert.BwdGateIdeal.τ).loc Cert.BwdGateIdeal.main_arg3) = m ((c.tc : Thread Cert.BwdGateIdeal.nD Cert.BwdGateIdeal.τ).loc Cert.BwdGateIdeal.main_arg3)
      ∧ r.2.mem ((c.tc : Thread Cert.BwdGateIdeal.nD Cert.BwdGateIdeal.τ).loc Cert.BwdGateIdeal.main_arg4) = m ((c.tc : Thread Cert.BwdGateIdeal.nD Cert.BwdGateIdeal.τ).loc Cert.BwdGateIdeal.main_arg4)
      ∧ r.2.mem ((c.tc : Thread Cert.BwdGateIdeal.nD Cert.BwdGateIdeal.τ).loc Cert.BwdGateIdeal.main_arg5) = m ((c.tc : Thread Cert.BwdGateIdeal.nD Cert.BwdGateIdeal.τ).loc Cert.BwdGateIdeal.main_arg5))
      ∧ r.2.sem = fun _ => 0)

def quiescent_BwdGateRefIdeal [hBwdGateRefIdeal : Cert.BwdGateRefIdeal.Facts] : Prop :=
  ∀ (m : (ℓ : Loc Cert.BwdGateRefIdeal.nD Cert.BwdGateRefIdeal.τ Cert.BwdGateRefIdeal.sig) → Buf (Elt Ideal) ℓ) (g : Dev Cert.BwdGateRefIdeal.nD → PrngReg), Pre_BwdGateRefIdeal m →
    θ_run (Cert.BwdGateRefIdeal.defs (F := Ideal)) (onTc (τ := Cert.BwdGateRefIdeal.τ) (Cert.BwdGateRefIdeal.main (F := Ideal))) ⟨m, fun _ => 0, g⟩ (fun r => (∀ c : Dev Cert.BwdGateRefIdeal.nD,
      r.2.mem ((c.tc : Thread Cert.BwdGateRefIdeal.nD Cert.BwdGateRefIdeal.τ).loc Cert.BwdGateRefIdeal.main_arg0) = m ((c.tc : Thread Cert.BwdGateRefIdeal.nD Cert.BwdGateRefIdeal.τ).loc Cert.BwdGateRefIdeal.main_arg0)
      ∧ r.2.mem ((c.tc : Thread Cert.BwdGateRefIdeal.nD Cert.BwdGateRefIdeal.τ).loc Cert.BwdGateRefIdeal.main_arg1) = m ((c.tc : Thread Cert.BwdGateRefIdeal.nD Cert.BwdGateRefIdeal.τ).loc Cert.BwdGateRefIdeal.main_arg1)
      ∧ r.2.mem ((c.tc : Thread Cert.BwdGateRefIdeal.nD Cert.BwdGateRefIdeal.τ).loc Cert.BwdGateRefIdeal.main_arg2) = m ((c.tc : Thread Cert.BwdGateRefIdeal.nD Cert.BwdGateRefIdeal.τ).loc Cert.BwdGateRefIdeal.main_arg2)
      ∧ r.2.mem ((c.tc : Thread Cert.BwdGateRefIdeal.nD Cert.BwdGateRefIdeal.τ).loc Cert.BwdGateRefIdeal.main_arg3) = m ((c.tc : Thread Cert.BwdGateRefIdeal.nD Cert.BwdGateRefIdeal.τ).loc Cert.BwdGateRefIdeal.main_arg3)
      ∧ r.2.mem ((c.tc : Thread Cert.BwdGateRefIdeal.nD Cert.BwdGateRefIdeal.τ).loc Cert.BwdGateRefIdeal.main_arg4) = m ((c.tc : Thread Cert.BwdGateRefIdeal.nD Cert.BwdGateRefIdeal.τ).loc Cert.BwdGateRefIdeal.main_arg4)
      ∧ r.2.mem ((c.tc : Thread Cert.BwdGateRefIdeal.nD Cert.BwdGateRefIdeal.τ).loc Cert.BwdGateRefIdeal.main_arg5) = m ((c.tc : Thread Cert.BwdGateRefIdeal.nD Cert.BwdGateRefIdeal.τ).loc Cert.BwdGateRefIdeal.main_arg5))
      ∧ r.2.sem = fun _ => 0)

def quiescent_FwdNorm [hFwdNorm : Cert.FwdNorm.Facts] : Prop :=
  ∀ (m : (ℓ : Loc Cert.FwdNorm.nD Cert.FwdNorm.τ Cert.FwdNorm.sig) → Buf (Elt Bits) ℓ) (g : Dev Cert.FwdNorm.nD → PrngReg), Pre_FwdNorm m →
    θ_run (Cert.FwdNorm.defs (F := Bits)) (onTc (τ := Cert.FwdNorm.τ) (Cert.FwdNorm.main (F := Bits))) ⟨m, fun _ => 0, g⟩ (fun r => (∀ c : Dev Cert.FwdNorm.nD,
      r.2.mem ((c.tc : Thread Cert.FwdNorm.nD Cert.FwdNorm.τ).loc Cert.FwdNorm.main_arg0) = m ((c.tc : Thread Cert.FwdNorm.nD Cert.FwdNorm.τ).loc Cert.FwdNorm.main_arg0)
      ∧ r.2.mem ((c.tc : Thread Cert.FwdNorm.nD Cert.FwdNorm.τ).loc Cert.FwdNorm.main_arg1) = m ((c.tc : Thread Cert.FwdNorm.nD Cert.FwdNorm.τ).loc Cert.FwdNorm.main_arg1))
      ∧ r.2.sem = fun _ => 0)

def quiescent_FwdNormIdeal [hFwdNormIdeal : Cert.FwdNormIdeal.Facts] : Prop :=
  ∀ (m : (ℓ : Loc Cert.FwdNormIdeal.nD Cert.FwdNormIdeal.τ Cert.FwdNormIdeal.sig) → Buf (Elt Ideal) ℓ) (g : Dev Cert.FwdNormIdeal.nD → PrngReg), Pre_FwdNormIdeal m →
    θ_run (Cert.FwdNormIdeal.defs (F := Ideal)) (onTc (τ := Cert.FwdNormIdeal.τ) (Cert.FwdNormIdeal.main (F := Ideal))) ⟨m, fun _ => 0, g⟩ (fun r => (∀ c : Dev Cert.FwdNormIdeal.nD,
      r.2.mem ((c.tc : Thread Cert.FwdNormIdeal.nD Cert.FwdNormIdeal.τ).loc Cert.FwdNormIdeal.main_arg0) = m ((c.tc : Thread Cert.FwdNormIdeal.nD Cert.FwdNormIdeal.τ).loc Cert.FwdNormIdeal.main_arg0)
      ∧ r.2.mem ((c.tc : Thread Cert.FwdNormIdeal.nD Cert.FwdNormIdeal.τ).loc Cert.FwdNormIdeal.main_arg1) = m ((c.tc : Thread Cert.FwdNormIdeal.nD Cert.FwdNormIdeal.τ).loc Cert.FwdNormIdeal.main_arg1))
      ∧ r.2.sem = fun _ => 0)

def quiescent_FwdNormRefIdeal [hFwdNormRefIdeal : Cert.FwdNormRefIdeal.Facts] : Prop :=
  ∀ (m : (ℓ : Loc Cert.FwdNormRefIdeal.nD Cert.FwdNormRefIdeal.τ Cert.FwdNormRefIdeal.sig) → Buf (Elt Ideal) ℓ) (g : Dev Cert.FwdNormRefIdeal.nD → PrngReg), Pre_FwdNormRefIdeal m →
    θ_run (Cert.FwdNormRefIdeal.defs (F := Ideal)) (onTc (τ := Cert.FwdNormRefIdeal.τ) (Cert.FwdNormRefIdeal.main (F := Ideal))) ⟨m, fun _ => 0, g⟩ (fun r => (∀ c : Dev Cert.FwdNormRefIdeal.nD,
      r.2.mem ((c.tc : Thread Cert.FwdNormRefIdeal.nD Cert.FwdNormRefIdeal.τ).loc Cert.FwdNormRefIdeal.main_arg0) = m ((c.tc : Thread Cert.FwdNormRefIdeal.nD Cert.FwdNormRefIdeal.τ).loc Cert.FwdNormRefIdeal.main_arg0)
      ∧ r.2.mem ((c.tc : Thread Cert.FwdNormRefIdeal.nD Cert.FwdNormRefIdeal.τ).loc Cert.FwdNormRefIdeal.main_arg1) = m ((c.tc : Thread Cert.FwdNormRefIdeal.nD Cert.FwdNormRefIdeal.τ).loc Cert.FwdNormRefIdeal.main_arg1))
      ∧ r.2.sem = fun _ => 0)

def quiescent_BwdNorm [hBwdNorm : Cert.BwdNorm.Facts] : Prop :=
  ∀ (m : (ℓ : Loc Cert.BwdNorm.nD Cert.BwdNorm.τ Cert.BwdNorm.sig) → Buf (Elt Bits) ℓ) (g : Dev Cert.BwdNorm.nD → PrngReg), Pre_BwdNorm m →
    θ_run (Cert.BwdNorm.defs (F := Bits)) (onTc (τ := Cert.BwdNorm.τ) (Cert.BwdNorm.main (F := Bits))) ⟨m, fun _ => 0, g⟩ (fun r => (∀ c : Dev Cert.BwdNorm.nD,
      r.2.mem ((c.tc : Thread Cert.BwdNorm.nD Cert.BwdNorm.τ).loc Cert.BwdNorm.main_arg0) = m ((c.tc : Thread Cert.BwdNorm.nD Cert.BwdNorm.τ).loc Cert.BwdNorm.main_arg0)
      ∧ r.2.mem ((c.tc : Thread Cert.BwdNorm.nD Cert.BwdNorm.τ).loc Cert.BwdNorm.main_arg1) = m ((c.tc : Thread Cert.BwdNorm.nD Cert.BwdNorm.τ).loc Cert.BwdNorm.main_arg1)
      ∧ r.2.mem ((c.tc : Thread Cert.BwdNorm.nD Cert.BwdNorm.τ).loc Cert.BwdNorm.main_arg2) = m ((c.tc : Thread Cert.BwdNorm.nD Cert.BwdNorm.τ).loc Cert.BwdNorm.main_arg2)
      ∧ r.2.mem ((c.tc : Thread Cert.BwdNorm.nD Cert.BwdNorm.τ).loc Cert.BwdNorm.main_arg3) = m ((c.tc : Thread Cert.BwdNorm.nD Cert.BwdNorm.τ).loc Cert.BwdNorm.main_arg3))
      ∧ r.2.sem = fun _ => 0)

def quiescent_BwdNormIdeal [hBwdNormIdeal : Cert.BwdNormIdeal.Facts] : Prop :=
  ∀ (m : (ℓ : Loc Cert.BwdNormIdeal.nD Cert.BwdNormIdeal.τ Cert.BwdNormIdeal.sig) → Buf (Elt Ideal) ℓ) (g : Dev Cert.BwdNormIdeal.nD → PrngReg), Pre_BwdNormIdeal m →
    θ_run (Cert.BwdNormIdeal.defs (F := Ideal)) (onTc (τ := Cert.BwdNormIdeal.τ) (Cert.BwdNormIdeal.main (F := Ideal))) ⟨m, fun _ => 0, g⟩ (fun r => (∀ c : Dev Cert.BwdNormIdeal.nD,
      r.2.mem ((c.tc : Thread Cert.BwdNormIdeal.nD Cert.BwdNormIdeal.τ).loc Cert.BwdNormIdeal.main_arg0) = m ((c.tc : Thread Cert.BwdNormIdeal.nD Cert.BwdNormIdeal.τ).loc Cert.BwdNormIdeal.main_arg0)
      ∧ r.2.mem ((c.tc : Thread Cert.BwdNormIdeal.nD Cert.BwdNormIdeal.τ).loc Cert.BwdNormIdeal.main_arg1) = m ((c.tc : Thread Cert.BwdNormIdeal.nD Cert.BwdNormIdeal.τ).loc Cert.BwdNormIdeal.main_arg1)
      ∧ r.2.mem ((c.tc : Thread Cert.BwdNormIdeal.nD Cert.BwdNormIdeal.τ).loc Cert.BwdNormIdeal.main_arg2) = m ((c.tc : Thread Cert.BwdNormIdeal.nD Cert.BwdNormIdeal.τ).loc Cert.BwdNormIdeal.main_arg2)
      ∧ r.2.mem ((c.tc : Thread Cert.BwdNormIdeal.nD Cert.BwdNormIdeal.τ).loc Cert.BwdNormIdeal.main_arg3) = m ((c.tc : Thread Cert.BwdNormIdeal.nD Cert.BwdNormIdeal.τ).loc Cert.BwdNormIdeal.main_arg3))
      ∧ r.2.sem = fun _ => 0)

def quiescent_BwdNormRefIdeal [hBwdNormRefIdeal : Cert.BwdNormRefIdeal.Facts] : Prop :=
  ∀ (m : (ℓ : Loc Cert.BwdNormRefIdeal.nD Cert.BwdNormRefIdeal.τ Cert.BwdNormRefIdeal.sig) → Buf (Elt Ideal) ℓ) (g : Dev Cert.BwdNormRefIdeal.nD → PrngReg), Pre_BwdNormRefIdeal m →
    θ_run (Cert.BwdNormRefIdeal.defs (F := Ideal)) (onTc (τ := Cert.BwdNormRefIdeal.τ) (Cert.BwdNormRefIdeal.main (F := Ideal))) ⟨m, fun _ => 0, g⟩ (fun r => (∀ c : Dev Cert.BwdNormRefIdeal.nD,
      r.2.mem ((c.tc : Thread Cert.BwdNormRefIdeal.nD Cert.BwdNormRefIdeal.τ).loc Cert.BwdNormRefIdeal.main_arg0) = m ((c.tc : Thread Cert.BwdNormRefIdeal.nD Cert.BwdNormRefIdeal.τ).loc Cert.BwdNormRefIdeal.main_arg0)
      ∧ r.2.mem ((c.tc : Thread Cert.BwdNormRefIdeal.nD Cert.BwdNormRefIdeal.τ).loc Cert.BwdNormRefIdeal.main_arg1) = m ((c.tc : Thread Cert.BwdNormRefIdeal.nD Cert.BwdNormRefIdeal.τ).loc Cert.BwdNormRefIdeal.main_arg1)
      ∧ r.2.mem ((c.tc : Thread Cert.BwdNormRefIdeal.nD Cert.BwdNormRefIdeal.τ).loc Cert.BwdNormRefIdeal.main_arg2) = m ((c.tc : Thread Cert.BwdNormRefIdeal.nD Cert.BwdNormRefIdeal.τ).loc Cert.BwdNormRefIdeal.main_arg2)
      ∧ r.2.mem ((c.tc : Thread Cert.BwdNormRefIdeal.nD Cert.BwdNormRefIdeal.τ).loc Cert.BwdNormRefIdeal.main_arg3) = m ((c.tc : Thread Cert.BwdNormRefIdeal.nD Cert.BwdNormRefIdeal.τ).loc Cert.BwdNormRefIdeal.main_arg3))
      ∧ r.2.sem = fun _ => 0)

def quiescent_FwdAtt [hFwdAtt : Cert.FwdAtt.Facts] : Prop :=
  ∀ (m : (ℓ : Loc Cert.FwdAtt.nD Cert.FwdAtt.τ Cert.FwdAtt.sig) → Buf (Elt Bits) ℓ) (g : Dev Cert.FwdAtt.nD → PrngReg), Pre_FwdAtt m →
    θ_run (Cert.FwdAtt.defs (F := Bits)) (onTc (τ := Cert.FwdAtt.τ) (Cert.FwdAtt.main (F := Bits))) ⟨m, fun _ => 0, g⟩ (fun r => (∀ c : Dev Cert.FwdAtt.nD,
      r.2.mem ((c.tc : Thread Cert.FwdAtt.nD Cert.FwdAtt.τ).loc Cert.FwdAtt.main_arg0) = m ((c.tc : Thread Cert.FwdAtt.nD Cert.FwdAtt.τ).loc Cert.FwdAtt.main_arg0)
      ∧ r.2.mem ((c.tc : Thread Cert.FwdAtt.nD Cert.FwdAtt.τ).loc Cert.FwdAtt.main_arg1) = m ((c.tc : Thread Cert.FwdAtt.nD Cert.FwdAtt.τ).loc Cert.FwdAtt.main_arg1))
      ∧ r.2.sem = fun _ => 0)

def quiescent_FwdAttIdeal [hFwdAttIdeal : Cert.FwdAttIdeal.Facts] : Prop :=
  ∀ (m : (ℓ : Loc Cert.FwdAttIdeal.nD Cert.FwdAttIdeal.τ Cert.FwdAttIdeal.sig) → Buf (Elt Ideal) ℓ) (g : Dev Cert.FwdAttIdeal.nD → PrngReg), Pre_FwdAttIdeal m →
    θ_run (Cert.FwdAttIdeal.defs (F := Ideal)) (onTc (τ := Cert.FwdAttIdeal.τ) (Cert.FwdAttIdeal.main (F := Ideal))) ⟨m, fun _ => 0, g⟩ (fun r => (∀ c : Dev Cert.FwdAttIdeal.nD,
      r.2.mem ((c.tc : Thread Cert.FwdAttIdeal.nD Cert.FwdAttIdeal.τ).loc Cert.FwdAttIdeal.main_arg0) = m ((c.tc : Thread Cert.FwdAttIdeal.nD Cert.FwdAttIdeal.τ).loc Cert.FwdAttIdeal.main_arg0)
      ∧ r.2.mem ((c.tc : Thread Cert.FwdAttIdeal.nD Cert.FwdAttIdeal.τ).loc Cert.FwdAttIdeal.main_arg1) = m ((c.tc : Thread Cert.FwdAttIdeal.nD Cert.FwdAttIdeal.τ).loc Cert.FwdAttIdeal.main_arg1))
      ∧ r.2.sem = fun _ => 0)

def quiescent_FwdAttRefIdeal [hFwdAttRefIdeal : Cert.FwdAttRefIdeal.Facts] : Prop :=
  ∀ (m : (ℓ : Loc Cert.FwdAttRefIdeal.nD Cert.FwdAttRefIdeal.τ Cert.FwdAttRefIdeal.sig) → Buf (Elt Ideal) ℓ) (g : Dev Cert.FwdAttRefIdeal.nD → PrngReg), Pre_FwdAttRefIdeal m →
    θ_run (Cert.FwdAttRefIdeal.defs (F := Ideal)) (onTc (τ := Cert.FwdAttRefIdeal.τ) (Cert.FwdAttRefIdeal.main (F := Ideal))) ⟨m, fun _ => 0, g⟩ (fun r => (∀ c : Dev Cert.FwdAttRefIdeal.nD,
      r.2.mem ((c.tc : Thread Cert.FwdAttRefIdeal.nD Cert.FwdAttRefIdeal.τ).loc Cert.FwdAttRefIdeal.main_arg0) = m ((c.tc : Thread Cert.FwdAttRefIdeal.nD Cert.FwdAttRefIdeal.τ).loc Cert.FwdAttRefIdeal.main_arg0)
      ∧ r.2.mem ((c.tc : Thread Cert.FwdAttRefIdeal.nD Cert.FwdAttRefIdeal.τ).loc Cert.FwdAttRefIdeal.main_arg1) = m ((c.tc : Thread Cert.FwdAttRefIdeal.nD Cert.FwdAttRefIdeal.τ).loc Cert.FwdAttRefIdeal.main_arg1))
      ∧ r.2.sem = fun _ => 0)

def quiescent_BwdAtt [hBwdAtt : Cert.BwdAtt.Facts] : Prop :=
  ∀ (m : (ℓ : Loc Cert.BwdAtt.nD Cert.BwdAtt.τ Cert.BwdAtt.sig) → Buf (Elt Bits) ℓ) (g : Dev Cert.BwdAtt.nD → PrngReg), Pre_BwdAtt m →
    θ_run (Cert.BwdAtt.defs (F := Bits)) (onTc (τ := Cert.BwdAtt.τ) (Cert.BwdAtt.main (F := Bits))) ⟨m, fun _ => 0, g⟩ (fun r => (∀ c : Dev Cert.BwdAtt.nD,
      r.2.mem ((c.tc : Thread Cert.BwdAtt.nD Cert.BwdAtt.τ).loc Cert.BwdAtt.main_arg0) = m ((c.tc : Thread Cert.BwdAtt.nD Cert.BwdAtt.τ).loc Cert.BwdAtt.main_arg0)
      ∧ r.2.mem ((c.tc : Thread Cert.BwdAtt.nD Cert.BwdAtt.τ).loc Cert.BwdAtt.main_arg1) = m ((c.tc : Thread Cert.BwdAtt.nD Cert.BwdAtt.τ).loc Cert.BwdAtt.main_arg1)
      ∧ r.2.mem ((c.tc : Thread Cert.BwdAtt.nD Cert.BwdAtt.τ).loc Cert.BwdAtt.main_arg2) = m ((c.tc : Thread Cert.BwdAtt.nD Cert.BwdAtt.τ).loc Cert.BwdAtt.main_arg2))
      ∧ r.2.sem = fun _ => 0)

def quiescent_BwdAttIdeal [hBwdAttIdeal : Cert.BwdAttIdeal.Facts] : Prop :=
  ∀ (m : (ℓ : Loc Cert.BwdAttIdeal.nD Cert.BwdAttIdeal.τ Cert.BwdAttIdeal.sig) → Buf (Elt Ideal) ℓ) (g : Dev Cert.BwdAttIdeal.nD → PrngReg), Pre_BwdAttIdeal m →
    θ_run (Cert.BwdAttIdeal.defs (F := Ideal)) (onTc (τ := Cert.BwdAttIdeal.τ) (Cert.BwdAttIdeal.main (F := Ideal))) ⟨m, fun _ => 0, g⟩ (fun r => (∀ c : Dev Cert.BwdAttIdeal.nD,
      r.2.mem ((c.tc : Thread Cert.BwdAttIdeal.nD Cert.BwdAttIdeal.τ).loc Cert.BwdAttIdeal.main_arg0) = m ((c.tc : Thread Cert.BwdAttIdeal.nD Cert.BwdAttIdeal.τ).loc Cert.BwdAttIdeal.main_arg0)
      ∧ r.2.mem ((c.tc : Thread Cert.BwdAttIdeal.nD Cert.BwdAttIdeal.τ).loc Cert.BwdAttIdeal.main_arg1) = m ((c.tc : Thread Cert.BwdAttIdeal.nD Cert.BwdAttIdeal.τ).loc Cert.BwdAttIdeal.main_arg1)
      ∧ r.2.mem ((c.tc : Thread Cert.BwdAttIdeal.nD Cert.BwdAttIdeal.τ).loc Cert.BwdAttIdeal.main_arg2) = m ((c.tc : Thread Cert.BwdAttIdeal.nD Cert.BwdAttIdeal.τ).loc Cert.BwdAttIdeal.main_arg2))
      ∧ r.2.sem = fun _ => 0)

def quiescent_BwdAttRefIdeal [hBwdAttRefIdeal : Cert.BwdAttRefIdeal.Facts] : Prop :=
  ∀ (m : (ℓ : Loc Cert.BwdAttRefIdeal.nD Cert.BwdAttRefIdeal.τ Cert.BwdAttRefIdeal.sig) → Buf (Elt Ideal) ℓ) (g : Dev Cert.BwdAttRefIdeal.nD → PrngReg), Pre_BwdAttRefIdeal m →
    θ_run (Cert.BwdAttRefIdeal.defs (F := Ideal)) (onTc (τ := Cert.BwdAttRefIdeal.τ) (Cert.BwdAttRefIdeal.main (F := Ideal))) ⟨m, fun _ => 0, g⟩ (fun r => (∀ c : Dev Cert.BwdAttRefIdeal.nD,
      r.2.mem ((c.tc : Thread Cert.BwdAttRefIdeal.nD Cert.BwdAttRefIdeal.τ).loc Cert.BwdAttRefIdeal.main_arg0) = m ((c.tc : Thread Cert.BwdAttRefIdeal.nD Cert.BwdAttRefIdeal.τ).loc Cert.BwdAttRefIdeal.main_arg0)
      ∧ r.2.mem ((c.tc : Thread Cert.BwdAttRefIdeal.nD Cert.BwdAttRefIdeal.τ).loc Cert.BwdAttRefIdeal.main_arg1) = m ((c.tc : Thread Cert.BwdAttRefIdeal.nD Cert.BwdAttRefIdeal.τ).loc Cert.BwdAttRefIdeal.main_arg1)
      ∧ r.2.mem ((c.tc : Thread Cert.BwdAttRefIdeal.nD Cert.BwdAttRefIdeal.τ).loc Cert.BwdAttRefIdeal.main_arg2) = m ((c.tc : Thread Cert.BwdAttRefIdeal.nD Cert.BwdAttRefIdeal.τ).loc Cert.BwdAttRefIdeal.main_arg2))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ r.2.sem = fun _ => 0)

def quiescent_FwdMixRefIdeal [hFwdMixRefIdeal : Cert.FwdMixRefIdeal.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7))
      ∧ r.2.sem = fun _ => 0)

def quiescent_BwdMix [hBwdMix : Cert.BwdMix.Facts] : Prop :=
  ∀ (m : (ℓ : Loc Cert.BwdMix.nD Cert.BwdMix.τ Cert.BwdMix.sig) → Buf (Elt Bits) ℓ) (g : Dev Cert.BwdMix.nD → PrngReg), Pre_BwdMix m →
    θ_run (Cert.BwdMix.defs (F := Bits)) (onTc (τ := Cert.BwdMix.τ) (Cert.BwdMix.main (F := Bits))) ⟨m, fun _ => 0, g⟩ (fun r => (∀ c : Dev Cert.BwdMix.nD,
      r.2.mem ((c.tc : Thread Cert.BwdMix.nD Cert.BwdMix.τ).loc Cert.BwdMix.main_arg0) = m ((c.tc : Thread Cert.BwdMix.nD Cert.BwdMix.τ).loc Cert.BwdMix.main_arg0)
      ∧ r.2.mem ((c.tc : Thread Cert.BwdMix.nD Cert.BwdMix.τ).loc Cert.BwdMix.main_arg1) = m ((c.tc : Thread Cert.BwdMix.nD Cert.BwdMix.τ).loc Cert.BwdMix.main_arg1)
      ∧ r.2.mem ((c.tc : Thread Cert.BwdMix.nD Cert.BwdMix.τ).loc Cert.BwdMix.main_arg2) = m ((c.tc : Thread Cert.BwdMix.nD Cert.BwdMix.τ).loc Cert.BwdMix.main_arg2)
      ∧ r.2.mem ((c.tc : Thread Cert.BwdMix.nD Cert.BwdMix.τ).loc Cert.BwdMix.main_arg3) = m ((c.tc : Thread Cert.BwdMix.nD Cert.BwdMix.τ).loc Cert.BwdMix.main_arg3)
      ∧ r.2.mem ((c.tc : Thread Cert.BwdMix.nD Cert.BwdMix.τ).loc Cert.BwdMix.main_arg4) = m ((c.tc : Thread Cert.BwdMix.nD Cert.BwdMix.τ).loc Cert.BwdMix.main_arg4)
      ∧ r.2.mem ((c.tc : Thread Cert.BwdMix.nD Cert.BwdMix.τ).loc Cert.BwdMix.main_arg5) = m ((c.tc : Thread Cert.BwdMix.nD Cert.BwdMix.τ).loc Cert.BwdMix.main_arg5)
      ∧ r.2.mem ((c.tc : Thread Cert.BwdMix.nD Cert.BwdMix.τ).loc Cert.BwdMix.main_arg6) = m ((c.tc : Thread Cert.BwdMix.nD Cert.BwdMix.τ).loc Cert.BwdMix.main_arg6)
      ∧ r.2.mem ((c.tc : Thread Cert.BwdMix.nD Cert.BwdMix.τ).loc Cert.BwdMix.main_arg7) = m ((c.tc : Thread Cert.BwdMix.nD Cert.BwdMix.τ).loc Cert.BwdMix.main_arg7)
      ∧ r.2.mem ((c.tc : Thread Cert.BwdMix.nD Cert.BwdMix.τ).loc Cert.BwdMix.main_arg8) = m ((c.tc : Thread Cert.BwdMix.nD Cert.BwdMix.τ).loc Cert.BwdMix.main_arg8)
      ∧ r.2.mem ((c.tc : Thread Cert.BwdMix.nD Cert.BwdMix.τ).loc Cert.BwdMix.main_arg9) = m ((c.tc : Thread Cert.BwdMix.nD Cert.BwdMix.τ).loc Cert.BwdMix.main_arg9)
      ∧ r.2.mem ((c.tc : Thread Cert.BwdMix.nD Cert.BwdMix.τ).loc Cert.BwdMix.main_arg10) = m ((c.tc : Thread Cert.BwdMix.nD Cert.BwdMix.τ).loc Cert.BwdMix.main_arg10))
      ∧ r.2.sem = fun _ => 0)

def quiescent_BwdMixIdeal [hBwdMixIdeal : Cert.BwdMixIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
      ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6)
      ∧ r.2.mem ((c.tc : Thread Cert.BwdMixIdeal.nD Cert.BwdMixIdeal.τ).loc Cert.BwdMixIdeal.main_arg7) = m ((c.tc : Thread Cert.BwdMixIdeal.nD Cert.BwdMixIdeal.τ).loc Cert.BwdMixIdeal.main_arg7)
      ∧ r.2.mem ((c.tc : Thread Cert.BwdMixIdeal.nD Cert.BwdMixIdeal.τ).loc Cert.BwdMixIdeal.main_arg8) = m ((c.tc : Thread Cert.BwdMixIdeal.nD Cert.BwdMixIdeal.τ).loc Cert.BwdMixIdeal.main_arg8)
      ∧ r.2.mem ((c.tc : Thread Cert.BwdMixIdeal.nD Cert.BwdMixIdeal.τ).loc Cert.BwdMixIdeal.main_arg9) = m ((c.tc : Thread Cert.BwdMixIdeal.nD Cert.BwdMixIdeal.τ).loc Cert.BwdMixIdeal.main_arg9)
      ∧ r.2.mem ((c.tc : Thread Cert.BwdMixIdeal.nD Cert.BwdMixIdeal.τ).loc Cert.BwdMixIdeal.main_arg10) = m ((c.tc : Thread Cert.BwdMixIdeal.nD Cert.BwdMixIdeal.τ).loc Cert.BwdMixIdeal.main_arg10))
      ∧ r.2.sem = fun _ => 0)

def quiescent_BwdMixRefIdeal [hBwdMixRefIdeal : Cert.BwdMixRefIdeal.Facts] : Prop :=
  ∀ (m : (ℓ : Loc Cert.BwdMixRefIdeal.nD Cert.BwdMixRefIdeal.τ Cert.BwdMixRefIdeal.sig) → Buf (Elt Ideal) ℓ) (g : Dev Cert.BwdMixRefIdeal.nD → PrngReg), Pre_BwdMixRefIdeal m →
    θ_run (Cert.BwdMixRefIdeal.defs (F := Ideal)) (onTc (τ := Cert.BwdMixRefIdeal.τ) (Cert.BwdMixRefIdeal.main (F := Ideal))) ⟨m, fun _ => 0, g⟩ (fun r => (∀ c : Dev Cert.BwdMixRefIdeal.nD,
      r.2.mem ((c.tc : Thread Cert.BwdMixRefIdeal.nD Cert.BwdMixRefIdeal.τ).loc Cert.BwdMixRefIdeal.main_arg0) = m ((c.tc : Thread Cert.BwdMixRefIdeal.nD Cert.BwdMixRefIdeal.τ).loc Cert.BwdMixRefIdeal.main_arg0)
      ∧ r.2.mem ((c.tc : Thread Cert.BwdMixRefIdeal.nD Cert.BwdMixRefIdeal.τ).loc Cert.BwdMixRefIdeal.main_arg1) = m ((c.tc : Thread Cert.BwdMixRefIdeal.nD Cert.BwdMixRefIdeal.τ).loc Cert.BwdMixRefIdeal.main_arg1)
      ∧ r.2.mem ((c.tc : Thread Cert.BwdMixRefIdeal.nD Cert.BwdMixRefIdeal.τ).loc Cert.BwdMixRefIdeal.main_arg2) = m ((c.tc : Thread Cert.BwdMixRefIdeal.nD Cert.BwdMixRefIdeal.τ).loc Cert.BwdMixRefIdeal.main_arg2)
      ∧ r.2.mem ((c.tc : Thread Cert.BwdMixRefIdeal.nD Cert.BwdMixRefIdeal.τ).loc Cert.BwdMixRefIdeal.main_arg3) = m ((c.tc : Thread Cert.BwdMixRefIdeal.nD Cert.BwdMixRefIdeal.τ).loc Cert.BwdMixRefIdeal.main_arg3)
      ∧ r.2.mem ((c.tc : Thread Cert.BwdMixRefIdeal.nD Cert.BwdMixRefIdeal.τ).loc Cert.BwdMixRefIdeal.main_arg4) = m ((c.tc : Thread Cert.BwdMixRefIdeal.nD Cert.BwdMixRefIdeal.τ).loc Cert.BwdMixRefIdeal.main_arg4)
      ∧ r.2.mem ((c.tc : Thread Cert.BwdMixRefIdeal.nD Cert.BwdMixRefIdeal.τ).loc Cert.BwdMixRefIdeal.main_arg5) = m ((c.tc : Thread Cert.BwdMixRefIdeal.nD Cert.BwdMixRefIdeal.τ).loc Cert.BwdMixRefIdeal.main_arg5)
      ∧ r.2.mem ((c.tc : Thread Cert.BwdMixRefIdeal.nD Cert.BwdMixRefIdeal.τ).loc Cert.BwdMixRefIdeal.main_arg6) = m ((c.tc : Thread Cert.BwdMixRefIdeal.nD Cert.BwdMixRefIdeal.τ).loc Cert.BwdMixRefIdeal.main_arg6)
      ∧ r.2.mem ((c.tc : Thread Cert.BwdMixRefIdeal.nD Cert.BwdMixRefIdeal.τ).loc Cert.BwdMixRefIdeal.main_arg7) = m ((c.tc : Thread Cert.BwdMixRefIdeal.nD Cert.BwdMixRefIdeal.τ).loc Cert.BwdMixRefIdeal.main_arg7)
      ∧ r.2.mem ((c.tc : Thread Cert.BwdMixRefIdeal.nD Cert.BwdMixRefIdeal.τ).loc Cert.BwdMixRefIdeal.main_arg8) = m ((c.tc : Thread Cert.BwdMixRefIdeal.nD Cert.BwdMixRefIdeal.τ).loc Cert.BwdMixRefIdeal.main_arg8)
      ∧ r.2.mem ((c.tc : Thread Cert.BwdMixRefIdeal.nD Cert.BwdMixRefIdeal.τ).loc Cert.BwdMixRefIdeal.main_arg9) = m ((c.tc : Thread Cert.BwdMixRefIdeal.nD Cert.BwdMixRefIdeal.τ).loc Cert.BwdMixRefIdeal.main_arg9)
      ∧ r.2.mem ((c.tc : Thread Cert.BwdMixRefIdeal.nD Cert.BwdMixRefIdeal.τ).loc Cert.BwdMixRefIdeal.main_arg10) = m ((c.tc : Thread Cert.BwdMixRefIdeal.nD Cert.BwdMixRefIdeal.τ).loc Cert.BwdMixRefIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v4) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v4) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v3) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v4) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v3) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v3) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1))

def preserves_FwdBa_FwdBaIdeal : Prop :=
  True

def algebraic_FwdBaIdeal_FwdBaRefIdeal [hFwdBaIdeal : Cert.FwdBaIdeal.Facts] [hFwdBaRefIdeal : Cert.FwdBaRefIdeal.Facts] : Prop :=
  ∀ (m : (ℓ : Loc Cert.FwdBaIdeal.nD Cert.FwdBaIdeal.τ Cert.FwdBaIdeal.sig) → Buf (Elt Ideal) ℓ) (g : Dev Cert.FwdBaIdeal.nD → PrngReg)
    (m' : (ℓ : Loc Cert.FwdBaRefIdeal.nD Cert.FwdBaRefIdeal.τ Cert.FwdBaRefIdeal.sig) → Buf (Elt Ideal) ℓ) (g' : Dev Cert.FwdBaRefIdeal.nD → PrngReg), Pre_FwdBaIdeal m →
    (∀ c : Dev Cert.FwdBaIdeal.nD,
      m' ((c.tc : Thread Cert.FwdBaRefIdeal.nD Cert.FwdBaRefIdeal.τ).loc Cert.FwdBaRefIdeal.main_arg0) = m ((c.tc : Thread Cert.FwdBaIdeal.nD Cert.FwdBaIdeal.τ).loc Cert.FwdBaIdeal.main_arg0)
      ∧ m' ((c.tc : Thread Cert.FwdBaRefIdeal.nD Cert.FwdBaRefIdeal.τ).loc Cert.FwdBaRefIdeal.main_arg1) = m ((c.tc : Thread Cert.FwdBaIdeal.nD Cert.FwdBaIdeal.τ).loc Cert.FwdBaIdeal.main_arg1)) →
    ∃ (v0 : (c : Dev Cert.FwdBaIdeal.nD) → Buf (Elt Ideal) ((c.tc : Thread Cert.FwdBaIdeal.nD Cert.FwdBaIdeal.τ).loc Cert.FwdBaIdeal.main_v0)),
      θ_run (Cert.FwdBaIdeal.defs (F := Ideal)) (onTc (τ := Cert.FwdBaIdeal.τ) (Cert.FwdBaIdeal.main (F := Ideal))) ⟨m, fun _ => 0, g⟩ (fun r => ∀ c : Dev Cert.FwdBaIdeal.nD,
          r.2.mem ((c.tc : Thread Cert.FwdBaIdeal.nD Cert.FwdBaIdeal.τ).loc Cert.FwdBaIdeal.main_v0) = v0 c
          ∧ r.2.mem ((c.tc : Thread Cert.FwdBaIdeal.nD Cert.FwdBaIdeal.τ).loc Cert.FwdBaIdeal.main_arg0) = m ((c.tc : Thread Cert.FwdBaIdeal.nD Cert.FwdBaIdeal.τ).loc Cert.FwdBaIdeal.main_arg0)
          ∧ r.2.mem ((c.tc : Thread Cert.FwdBaIdeal.nD Cert.FwdBaIdeal.τ).loc Cert.FwdBaIdeal.main_arg1) = m ((c.tc : Thread Cert.FwdBaIdeal.nD Cert.FwdBaIdeal.τ).loc Cert.FwdBaIdeal.main_arg1))
      ∧ θ_run (Cert.FwdBaRefIdeal.defs (F := Ideal)) (onTc (τ := Cert.FwdBaRefIdeal.τ) (Cert.FwdBaRefIdeal.main (F := Ideal))) ⟨m', fun _ => 0, g'⟩ (fun r => ∀ c : Dev Cert.FwdBaRefIdeal.nD,
          r.2.mem ((c.tc : Thread Cert.FwdBaRefIdeal.nD Cert.FwdBaRefIdeal.τ).loc Cert.FwdBaRefIdeal.main_v3) = v0 c
          ∧ r.2.mem ((c.tc : Thread Cert.FwdBaRefIdeal.nD Cert.FwdBaRefIdeal.τ).loc Cert.FwdBaRefIdeal.main_arg0) = m' ((c.tc : Thread Cert.FwdBaRefIdeal.nD Cert.FwdBaRefIdeal.τ).loc Cert.FwdBaRefIdeal.main_arg0)
          ∧ r.2.mem ((c.tc : Thread Cert.FwdBaRefIdeal.nD Cert.FwdBaRefIdeal.τ).loc Cert.FwdBaRefIdeal.main_arg1) = m' ((c.tc : Thread Cert.FwdBaRefIdeal.nD Cert.FwdBaRefIdeal.τ).loc Cert.FwdBaRefIdeal.main_arg1))

def preserves_FwdBranch0_FwdBranch0Ideal : Prop :=
  True

def algebraic_FwdBranch0Ideal_FwdBranch0RefIdeal [hFwdBranch0Ideal : Cert.FwdBranch0Ideal.Facts] [hFwdBranch0RefIdeal : Cert.FwdBranch0RefIdeal.Facts] : Prop :=
  ∀ (m : (ℓ : Loc Cert.FwdBranch0Ideal.nD Cert.FwdBranch0Ideal.τ Cert.FwdBranch0Ideal.sig) → Buf (Elt Ideal) ℓ) (g : Dev Cert.FwdBranch0Ideal.nD → PrngReg)
    (m' : (ℓ : Loc Cert.FwdBranch0RefIdeal.nD Cert.FwdBranch0RefIdeal.τ Cert.FwdBranch0RefIdeal.sig) → Buf (Elt Ideal) ℓ) (g' : Dev Cert.FwdBranch0RefIdeal.nD → PrngReg), Pre_FwdBranch0Ideal m →
    (∀ c : Dev Cert.FwdBranch0Ideal.nD,
      m' ((c.tc : Thread Cert.FwdBranch0RefIdeal.nD Cert.FwdBranch0RefIdeal.τ).loc Cert.FwdBranch0RefIdeal.main_arg0) = m ((c.tc : Thread Cert.FwdBranch0Ideal.nD Cert.FwdBranch0Ideal.τ).loc Cert.FwdBranch0Ideal.main_arg0)
      ∧ m' ((c.tc : Thread Cert.FwdBranch0RefIdeal.nD Cert.FwdBranch0RefIdeal.τ).loc Cert.FwdBranch0RefIdeal.main_arg1) = m ((c.tc : Thread Cert.FwdBranch0Ideal.nD Cert.FwdBranch0Ideal.τ).loc Cert.FwdBranch0Ideal.main_arg1)) →
    ∃ (v0 : (c : Dev Cert.FwdBranch0Ideal.nD) → Buf (Elt Ideal) ((c.tc : Thread Cert.FwdBranch0Ideal.nD Cert.FwdBranch0Ideal.τ).loc Cert.FwdBranch0Ideal.main_v0)),
      θ_run (Cert.FwdBranch0Ideal.defs (F := Ideal)) (onTc (τ := Cert.FwdBranch0Ideal.τ) (Cert.FwdBranch0Ideal.main (F := Ideal))) ⟨m, fun _ => 0, g⟩ (fun r => ∀ c : Dev Cert.FwdBranch0Ideal.nD,
          r.2.mem ((c.tc : Thread Cert.FwdBranch0Ideal.nD Cert.FwdBranch0Ideal.τ).loc Cert.FwdBranch0Ideal.main_v0) = v0 c
          ∧ r.2.mem ((c.tc : Thread Cert.FwdBranch0Ideal.nD Cert.FwdBranch0Ideal.τ).loc Cert.FwdBranch0Ideal.main_arg0) = m ((c.tc : Thread Cert.FwdBranch0Ideal.nD Cert.FwdBranch0Ideal.τ).loc Cert.FwdBranch0Ideal.main_arg0)
          ∧ r.2.mem ((c.tc : Thread Cert.FwdBranch0Ideal.nD Cert.FwdBranch0Ideal.τ).loc Cert.FwdBranch0Ideal.main_arg1) = m ((c.tc : Thread Cert.FwdBranch0Ideal.nD Cert.FwdBranch0Ideal.τ).loc Cert.FwdBranch0Ideal.main_arg1))
      ∧ θ_run (Cert.FwdBranch0RefIdeal.defs (F := Ideal)) (onTc (τ := Cert.FwdBranch0RefIdeal.τ) (Cert.FwdBranch0RefIdeal.main (F := Ideal))) ⟨m', fun _ => 0, g'⟩ (fun r => ∀ c : Dev Cert.FwdBranch0RefIdeal.nD,
          r.2.mem ((c.tc : Thread Cert.FwdBranch0RefIdeal.nD Cert.FwdBranch0RefIdeal.τ).loc Cert.FwdBranch0RefIdeal.main_v4) = v0 c
          ∧ r.2.mem ((c.tc : Thread Cert.FwdBranch0RefIdeal.nD Cert.FwdBranch0RefIdeal.τ).loc Cert.FwdBranch0RefIdeal.main_arg0) = m' ((c.tc : Thread Cert.FwdBranch0RefIdeal.nD Cert.FwdBranch0RefIdeal.τ).loc Cert.FwdBranch0RefIdeal.main_arg0)
          ∧ r.2.mem ((c.tc : Thread Cert.FwdBranch0RefIdeal.nD Cert.FwdBranch0RefIdeal.τ).loc Cert.FwdBranch0RefIdeal.main_arg1) = m' ((c.tc : Thread Cert.FwdBranch0RefIdeal.nD Cert.FwdBranch0RefIdeal.τ).loc Cert.FwdBranch0RefIdeal.main_arg1))

def preserves_FwdBranch1_FwdBranch1Ideal : Prop :=
  True

def algebraic_FwdBranch1Ideal_FwdBranch1RefIdeal [hFwdBranch1Ideal : Cert.FwdBranch1Ideal.Facts] [hFwdBranch1RefIdeal : Cert.FwdBranch1RefIdeal.Facts] : Prop :=
  ∀ (m : (ℓ : Loc Cert.FwdBranch1Ideal.nD Cert.FwdBranch1Ideal.τ Cert.FwdBranch1Ideal.sig) → Buf (Elt Ideal) ℓ) (g : Dev Cert.FwdBranch1Ideal.nD → PrngReg)
    (m' : (ℓ : Loc Cert.FwdBranch1RefIdeal.nD Cert.FwdBranch1RefIdeal.τ Cert.FwdBranch1RefIdeal.sig) → Buf (Elt Ideal) ℓ) (g' : Dev Cert.FwdBranch1RefIdeal.nD → PrngReg), Pre_FwdBranch1Ideal m →
    (∀ c : Dev Cert.FwdBranch1Ideal.nD,
      m' ((c.tc : Thread Cert.FwdBranch1RefIdeal.nD Cert.FwdBranch1RefIdeal.τ).loc Cert.FwdBranch1RefIdeal.main_arg0) = m ((c.tc : Thread Cert.FwdBranch1Ideal.nD Cert.FwdBranch1Ideal.τ).loc Cert.FwdBranch1Ideal.main_arg0)
      ∧ m' ((c.tc : Thread Cert.FwdBranch1RefIdeal.nD Cert.FwdBranch1RefIdeal.τ).loc Cert.FwdBranch1RefIdeal.main_arg1) = m ((c.tc : Thread Cert.FwdBranch1Ideal.nD Cert.FwdBranch1Ideal.τ).loc Cert.FwdBranch1Ideal.main_arg1)) →
    ∃ (v0 : (c : Dev Cert.FwdBranch1Ideal.nD) → Buf (Elt Ideal) ((c.tc : Thread Cert.FwdBranch1Ideal.nD Cert.FwdBranch1Ideal.τ).loc Cert.FwdBranch1Ideal.main_v0)),
      θ_run (Cert.FwdBranch1Ideal.defs (F := Ideal)) (onTc (τ := Cert.FwdBranch1Ideal.τ) (Cert.FwdBranch1Ideal.main (F := Ideal))) ⟨m, fun _ => 0, g⟩ (fun r => ∀ c : Dev Cert.FwdBranch1Ideal.nD,
          r.2.mem ((c.tc : Thread Cert.FwdBranch1Ideal.nD Cert.FwdBranch1Ideal.τ).loc Cert.FwdBranch1Ideal.main_v0) = v0 c
          ∧ r.2.mem ((c.tc : Thread Cert.FwdBranch1Ideal.nD Cert.FwdBranch1Ideal.τ).loc Cert.FwdBranch1Ideal.main_arg0) = m ((c.tc : Thread Cert.FwdBranch1Ideal.nD Cert.FwdBranch1Ideal.τ).loc Cert.FwdBranch1Ideal.main_arg0)
          ∧ r.2.mem ((c.tc : Thread Cert.FwdBranch1Ideal.nD Cert.FwdBranch1Ideal.τ).loc Cert.FwdBranch1Ideal.main_arg1) = m ((c.tc : Thread Cert.FwdBranch1Ideal.nD Cert.FwdBranch1Ideal.τ).loc Cert.FwdBranch1Ideal.main_arg1))
      ∧ θ_run (Cert.FwdBranch1RefIdeal.defs (F := Ideal)) (onTc (τ := Cert.FwdBranch1RefIdeal.τ) (Cert.FwdBranch1RefIdeal.main (F := Ideal))) ⟨m', fun _ => 0, g'⟩ (fun r => ∀ c : Dev Cert.FwdBranch1RefIdeal.nD,
          r.2.mem ((c.tc : Thread Cert.FwdBranch1RefIdeal.nD Cert.FwdBranch1RefIdeal.τ).loc Cert.FwdBranch1RefIdeal.main_v4) = v0 c
          ∧ r.2.mem ((c.tc : Thread Cert.FwdBranch1RefIdeal.nD Cert.FwdBranch1RefIdeal.τ).loc Cert.FwdBranch1RefIdeal.main_arg0) = m' ((c.tc : Thread Cert.FwdBranch1RefIdeal.nD Cert.FwdBranch1RefIdeal.τ).loc Cert.FwdBranch1RefIdeal.main_arg0)
          ∧ r.2.mem ((c.tc : Thread Cert.FwdBranch1RefIdeal.nD Cert.FwdBranch1RefIdeal.τ).loc Cert.FwdBranch1RefIdeal.main_arg1) = m' ((c.tc : Thread Cert.FwdBranch1RefIdeal.nD Cert.FwdBranch1RefIdeal.τ).loc Cert.FwdBranch1RefIdeal.main_arg1))

def preserves_FwdBranch2_FwdBranch2Ideal : Prop :=
  True

def algebraic_FwdBranch2Ideal_FwdBranch2RefIdeal [hFwdBranch2Ideal : Cert.FwdBranch2Ideal.Facts] [hFwdBranch2RefIdeal : Cert.FwdBranch2RefIdeal.Facts] : Prop :=
  ∀ (m : (ℓ : Loc Cert.FwdBranch2Ideal.nD Cert.FwdBranch2Ideal.τ Cert.FwdBranch2Ideal.sig) → Buf (Elt Ideal) ℓ) (g : Dev Cert.FwdBranch2Ideal.nD → PrngReg)
    (m' : (ℓ : Loc Cert.FwdBranch2RefIdeal.nD Cert.FwdBranch2RefIdeal.τ Cert.FwdBranch2RefIdeal.sig) → Buf (Elt Ideal) ℓ) (g' : Dev Cert.FwdBranch2RefIdeal.nD → PrngReg), Pre_FwdBranch2Ideal m →
    (∀ c : Dev Cert.FwdBranch2Ideal.nD,
      m' ((c.tc : Thread Cert.FwdBranch2RefIdeal.nD Cert.FwdBranch2RefIdeal.τ).loc Cert.FwdBranch2RefIdeal.main_arg0) = m ((c.tc : Thread Cert.FwdBranch2Ideal.nD Cert.FwdBranch2Ideal.τ).loc Cert.FwdBranch2Ideal.main_arg0)
      ∧ m' ((c.tc : Thread Cert.FwdBranch2RefIdeal.nD Cert.FwdBranch2RefIdeal.τ).loc Cert.FwdBranch2RefIdeal.main_arg1) = m ((c.tc : Thread Cert.FwdBranch2Ideal.nD Cert.FwdBranch2Ideal.τ).loc Cert.FwdBranch2Ideal.main_arg1)) →
    ∃ (v0 : (c : Dev Cert.FwdBranch2Ideal.nD) → Buf (Elt Ideal) ((c.tc : Thread Cert.FwdBranch2Ideal.nD Cert.FwdBranch2Ideal.τ).loc Cert.FwdBranch2Ideal.main_v0)),
      θ_run (Cert.FwdBranch2Ideal.defs (F := Ideal)) (onTc (τ := Cert.FwdBranch2Ideal.τ) (Cert.FwdBranch2Ideal.main (F := Ideal))) ⟨m, fun _ => 0, g⟩ (fun r => ∀ c : Dev Cert.FwdBranch2Ideal.nD,
          r.2.mem ((c.tc : Thread Cert.FwdBranch2Ideal.nD Cert.FwdBranch2Ideal.τ).loc Cert.FwdBranch2Ideal.main_v0) = v0 c
          ∧ r.2.mem ((c.tc : Thread Cert.FwdBranch2Ideal.nD Cert.FwdBranch2Ideal.τ).loc Cert.FwdBranch2Ideal.main_arg0) = m ((c.tc : Thread Cert.FwdBranch2Ideal.nD Cert.FwdBranch2Ideal.τ).loc Cert.FwdBranch2Ideal.main_arg0)
          ∧ r.2.mem ((c.tc : Thread Cert.FwdBranch2Ideal.nD Cert.FwdBranch2Ideal.τ).loc Cert.FwdBranch2Ideal.main_arg1) = m ((c.tc : Thread Cert.FwdBranch2Ideal.nD Cert.FwdBranch2Ideal.τ).loc Cert.FwdBranch2Ideal.main_arg1))
      ∧ θ_run (Cert.FwdBranch2RefIdeal.defs (F := Ideal)) (onTc (τ := Cert.FwdBranch2RefIdeal.τ) (Cert.FwdBranch2RefIdeal.main (F := Ideal))) ⟨m', fun _ => 0, g'⟩ (fun r => ∀ c : Dev Cert.FwdBranch2RefIdeal.nD,
          r.2.mem ((c.tc : Thread Cert.FwdBranch2RefIdeal.nD Cert.FwdBranch2RefIdeal.τ).loc Cert.FwdBranch2RefIdeal.main_v4) = v0 c
          ∧ r.2.mem ((c.tc : Thread Cert.FwdBranch2RefIdeal.nD Cert.FwdBranch2RefIdeal.τ).loc Cert.FwdBranch2RefIdeal.main_arg0) = m' ((c.tc : Thread Cert.FwdBranch2RefIdeal.nD Cert.FwdBranch2RefIdeal.τ).loc Cert.FwdBranch2RefIdeal.main_arg0)
          ∧ r.2.mem ((c.tc : Thread Cert.FwdBranch2RefIdeal.nD Cert.FwdBranch2RefIdeal.τ).loc Cert.FwdBranch2RefIdeal.main_arg1) = m' ((c.tc : Thread Cert.FwdBranch2RefIdeal.nD Cert.FwdBranch2RefIdeal.τ).loc Cert.FwdBranch2RefIdeal.main_arg1))

def preserves_FwdOut_FwdOutIdeal : Prop :=
  True

def algebraic_FwdOutIdeal_FwdOutRefIdeal [hFwdOutIdeal : Cert.FwdOutIdeal.Facts] [hFwdOutRefIdeal : Cert.FwdOutRefIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutRefIdeal.nD Cert.FwdOutRefIdeal.τ Cert.FwdOutRefIdeal.sig) → Buf (Elt Ideal) ℓ) (g' : Dev Cert.FwdOutRefIdeal.nD → PrngReg), Pre_FwdOutIdeal m →
    (∀ c : Dev Cert.FwdOutIdeal.nD,
      m' ((c.tc : Thread Cert.FwdOutRefIdeal.nD Cert.FwdOutRefIdeal.τ).loc Cert.FwdOutRefIdeal.main_arg0) = m ((c.tc : Thread Cert.FwdOutIdeal.nD Cert.FwdOutIdeal.τ).loc Cert.FwdOutIdeal.main_arg0)
      ∧ m' ((c.tc : Thread Cert.FwdOutRefIdeal.nD Cert.FwdOutRefIdeal.τ).loc Cert.FwdOutRefIdeal.main_arg1) = m ((c.tc : Thread Cert.FwdOutIdeal.nD Cert.FwdOutIdeal.τ).loc Cert.FwdOutIdeal.main_arg1)
      ∧ m' ((c.tc : Thread Cert.FwdOutRefIdeal.nD Cert.FwdOutRefIdeal.τ).loc Cert.FwdOutRefIdeal.main_arg2) = m ((c.tc : Thread Cert.FwdOutIdeal.nD Cert.FwdOutIdeal.τ).loc Cert.FwdOutIdeal.main_arg2)) →
    ∃ (v0 : (c : Dev Cert.FwdOutIdeal.nD) → Buf (Elt Ideal) ((c.tc : Thread Cert.FwdOutIdeal.nD Cert.FwdOutIdeal.τ).loc Cert.FwdOutIdeal.main_v0)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v0) = v0 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v3) = v0 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1)
          ∧ r.2.mem ((c.tc : Thread Cert.FwdOutRefIdeal.nD Cert.FwdOutRefIdeal.τ).loc Cert.FwdOutRefIdeal.main_arg2) = m' ((c.tc : Thread Cert.FwdOutRefIdeal.nD Cert.FwdOutRefIdeal.τ).loc Cert.FwdOutRefIdeal.main_arg2))

def preserves_FwdQ_FwdQIdeal : Prop :=
  True

def algebraic_FwdQIdeal_FwdQRefIdeal [hFwdQIdeal : Cert.FwdQIdeal.Facts] [hFwdQRefIdeal : Cert.FwdQRefIdeal.Facts] : Prop :=
  ∀ (m : (ℓ : Loc Cert.FwdQIdeal.nD Cert.FwdQIdeal.τ Cert.FwdQIdeal.sig) → Buf (Elt Ideal) ℓ) (g : Dev Cert.FwdQIdeal.nD → PrngReg)
    (m' : (ℓ : Loc Cert.FwdQRefIdeal.nD Cert.FwdQRefIdeal.τ Cert.FwdQRefIdeal.sig) → Buf (Elt Ideal) ℓ) (g' : Dev Cert.FwdQRefIdeal.nD → PrngReg), Pre_FwdQIdeal m →
    (∀ c : Dev Cert.FwdQIdeal.nD,
      m' ((c.tc : Thread Cert.FwdQRefIdeal.nD Cert.FwdQRefIdeal.τ).loc Cert.FwdQRefIdeal.main_arg0) = m ((c.tc : Thread Cert.FwdQIdeal.nD Cert.FwdQIdeal.τ).loc Cert.FwdQIdeal.main_arg0)
      ∧ m' ((c.tc : Thread Cert.FwdQRefIdeal.nD Cert.FwdQRefIdeal.τ).loc Cert.FwdQRefIdeal.main_arg1) = m ((c.tc : Thread Cert.FwdQIdeal.nD Cert.FwdQIdeal.τ).loc Cert.FwdQIdeal.main_arg1)) →
    ∃ (v0 : (c : Dev Cert.FwdQIdeal.nD) → Buf (Elt Ideal) ((c.tc : Thread Cert.FwdQIdeal.nD Cert.FwdQIdeal.τ).loc Cert.FwdQIdeal.main_v0)),
      θ_run (Cert.FwdQIdeal.defs (F := Ideal)) (onTc (τ := Cert.FwdQIdeal.τ) (Cert.FwdQIdeal.main (F := Ideal))) ⟨m, fun _ => 0, g⟩ (fun r => ∀ c : Dev Cert.FwdQIdeal.nD,
          r.2.mem ((c.tc : Thread Cert.FwdQIdeal.nD Cert.FwdQIdeal.τ).loc Cert.FwdQIdeal.main_v0) = v0 c
          ∧ r.2.mem ((c.tc : Thread Cert.FwdQIdeal.nD Cert.FwdQIdeal.τ).loc Cert.FwdQIdeal.main_arg0) = m ((c.tc : Thread Cert.FwdQIdeal.nD Cert.FwdQIdeal.τ).loc Cert.FwdQIdeal.main_arg0)
          ∧ r.2.mem ((c.tc : Thread Cert.FwdQIdeal.nD Cert.FwdQIdeal.τ).loc Cert.FwdQIdeal.main_arg1) = m ((c.tc : Thread Cert.FwdQIdeal.nD Cert.FwdQIdeal.τ).loc Cert.FwdQIdeal.main_arg1))
      ∧ θ_run (Cert.FwdQRefIdeal.defs (F := Ideal)) (onTc (τ := Cert.FwdQRefIdeal.τ) (Cert.FwdQRefIdeal.main (F := Ideal))) ⟨m', fun _ => 0, g'⟩ (fun r => ∀ c : Dev Cert.FwdQRefIdeal.nD,
          r.2.mem ((c.tc : Thread Cert.FwdQRefIdeal.nD Cert.FwdQRefIdeal.τ).loc Cert.FwdQRefIdeal.main_v2) = v0 c
          ∧ r.2.mem ((c.tc : Thread Cert.FwdQRefIdeal.nD Cert.FwdQRefIdeal.τ).loc Cert.FwdQRefIdeal.main_arg0) = m' ((c.tc : Thread Cert.FwdQRefIdeal.nD Cert.FwdQRefIdeal.τ).loc Cert.FwdQRefIdeal.main_arg0)
          ∧ r.2.mem ((c.tc : Thread Cert.FwdQRefIdeal.nD Cert.FwdQRefIdeal.τ).loc Cert.FwdQRefIdeal.main_arg1) = m' ((c.tc : Thread Cert.FwdQRefIdeal.nD Cert.FwdQRefIdeal.τ).loc Cert.FwdQRefIdeal.main_arg1))

def preserves_FwdKv_FwdKvIdeal : Prop :=
  True

def algebraic_FwdKvIdeal_FwdKvRefIdeal [hFwdKvIdeal : Cert.FwdKvIdeal.Facts] [hFwdKvRefIdeal : Cert.FwdKvRefIdeal.Facts] : Prop :=
  ∀ (m : (ℓ : Loc Cert.FwdKvIdeal.nD Cert.FwdKvIdeal.τ Cert.FwdKvIdeal.sig) → Buf (Elt Ideal) ℓ) (g : Dev Cert.FwdKvIdeal.nD → PrngReg)
    (m' : (ℓ : Loc Cert.FwdKvRefIdeal.nD Cert.FwdKvRefIdeal.τ Cert.FwdKvRefIdeal.sig) → Buf (Elt Ideal) ℓ) (g' : Dev Cert.FwdKvRefIdeal.nD → PrngReg), Pre_FwdKvIdeal m →
    (∀ c : Dev Cert.FwdKvIdeal.nD,
      m' ((c.tc : Thread Cert.FwdKvRefIdeal.nD Cert.FwdKvRefIdeal.τ).loc Cert.FwdKvRefIdeal.main_arg0) = m ((c.tc : Thread Cert.FwdKvIdeal.nD Cert.FwdKvIdeal.τ).loc Cert.FwdKvIdeal.main_arg0)
      ∧ m' ((c.tc : Thread Cert.FwdKvRefIdeal.nD Cert.FwdKvRefIdeal.τ).loc Cert.FwdKvRefIdeal.main_arg1) = m ((c.tc : Thread Cert.FwdKvIdeal.nD Cert.FwdKvIdeal.τ).loc Cert.FwdKvIdeal.main_arg1)) →
    ∃ (v0 : (c : Dev Cert.FwdKvIdeal.nD) → Buf (Elt Ideal) ((c.tc : Thread Cert.FwdKvIdeal.nD Cert.FwdKvIdeal.τ).loc Cert.FwdKvIdeal.main_v0)),
      θ_run (Cert.FwdKvIdeal.defs (F := Ideal)) (onTc (τ := Cert.FwdKvIdeal.τ) (Cert.FwdKvIdeal.main (F := Ideal))) ⟨m, fun _ => 0, g⟩ (fun r => ∀ c : Dev Cert.FwdKvIdeal.nD,
          r.2.mem ((c.tc : Thread Cert.FwdKvIdeal.nD Cert.FwdKvIdeal.τ).loc Cert.FwdKvIdeal.main_v0) = v0 c
          ∧ r.2.mem ((c.tc : Thread Cert.FwdKvIdeal.nD Cert.FwdKvIdeal.τ).loc Cert.FwdKvIdeal.main_arg0) = m ((c.tc : Thread Cert.FwdKvIdeal.nD Cert.FwdKvIdeal.τ).loc Cert.FwdKvIdeal.main_arg0)
          ∧ r.2.mem ((c.tc : Thread Cert.FwdKvIdeal.nD Cert.FwdKvIdeal.τ).loc Cert.FwdKvIdeal.main_arg1) = m ((c.tc : Thread Cert.FwdKvIdeal.nD Cert.FwdKvIdeal.τ).loc Cert.FwdKvIdeal.main_arg1))
      ∧ θ_run (Cert.FwdKvRefIdeal.defs (F := Ideal)) (onTc (τ := Cert.FwdKvRefIdeal.τ) (Cert.FwdKvRefIdeal.main (F := Ideal))) ⟨m', fun _ => 0, g'⟩ (fun r => ∀ c : Dev Cert.FwdKvRefIdeal.nD,
          r.2.mem ((c.tc : Thread Cert.FwdKvRefIdeal.nD Cert.FwdKvRefIdeal.τ).loc Cert.FwdKvRefIdeal.main_v3) = v0 c
          ∧ r.2.mem ((c.tc : Thread Cert.FwdKvRefIdeal.nD Cert.FwdKvRefIdeal.τ).loc Cert.FwdKvRefIdeal.main_arg0) = m' ((c.tc : Thread Cert.FwdKvRefIdeal.nD Cert.FwdKvRefIdeal.τ).loc Cert.FwdKvRefIdeal.main_arg0)
          ∧ r.2.mem ((c.tc : Thread Cert.FwdKvRefIdeal.nD Cert.FwdKvRefIdeal.τ).loc Cert.FwdKvRefIdeal.main_arg1) = m' ((c.tc : Thread Cert.FwdKvRefIdeal.nD Cert.FwdKvRefIdeal.τ).loc Cert.FwdKvRefIdeal.main_arg1))

def preserves_FwdUp_FwdUpIdeal : Prop :=
  True

def algebraic_FwdUpIdeal_FwdUpRefIdeal [hFwdUpIdeal : Cert.FwdUpIdeal.Facts] [hFwdUpRefIdeal : Cert.FwdUpRefIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpRefIdeal.nD Cert.FwdUpRefIdeal.τ Cert.FwdUpRefIdeal.sig) → Buf (Elt Ideal) ℓ) (g' : Dev Cert.FwdUpRefIdeal.nD → PrngReg), Pre_FwdUpIdeal m →
    (∀ c : Dev Cert.FwdUpIdeal.nD,
      m' ((c.tc : Thread Cert.FwdUpRefIdeal.nD Cert.FwdUpRefIdeal.τ).loc Cert.FwdUpRefIdeal.main_arg0) = m ((c.tc : Thread Cert.FwdUpIdeal.nD Cert.FwdUpIdeal.τ).loc Cert.FwdUpIdeal.main_arg0)
      ∧ m' ((c.tc : Thread Cert.FwdUpRefIdeal.nD Cert.FwdUpRefIdeal.τ).loc Cert.FwdUpRefIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v0)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v0) = v0 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.FwdUpRefIdeal.defs (F := Ideal)) (onTc (τ := Cert.FwdUpRefIdeal.τ) (Cert.FwdUpRefIdeal.main (F := Ideal))) ⟨m', fun _ => 0, g'⟩ (fun r => ∀ c : Dev Cert.FwdUpRefIdeal.nD,
          r.2.mem ((c.tc : Thread Cert.FwdUpRefIdeal.nD Cert.FwdUpRefIdeal.τ).loc Cert.FwdUpRefIdeal.main_v3) = v0 c
          ∧ r.2.mem ((c.tc : Thread Cert.FwdUpRefIdeal.nD Cert.FwdUpRefIdeal.τ).loc Cert.FwdUpRefIdeal.main_arg0) = m' ((c.tc : Thread Cert.FwdUpRefIdeal.nD Cert.FwdUpRefIdeal.τ).loc Cert.FwdUpRefIdeal.main_arg0)
          ∧ r.2.mem ((c.tc : Thread Cert.FwdUpRefIdeal.nD Cert.FwdUpRefIdeal.τ).loc Cert.FwdUpRefIdeal.main_arg1) = m' ((c.tc : Thread Cert.FwdUpRefIdeal.nD Cert.FwdUpRefIdeal.τ).loc Cert.FwdUpRefIdeal.main_arg1))

def preserves_FwdDown_FwdDownIdeal : Prop :=
  True

def algebraic_FwdDownIdeal_FwdDownRefIdeal [hFwdDownIdeal : Cert.FwdDownIdeal.Facts] [hFwdDownRefIdeal : Cert.FwdDownRefIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownRefIdeal.nD Cert.FwdDownRefIdeal.τ Cert.FwdDownRefIdeal.sig) → Buf (Elt Ideal) ℓ) (g' : Dev Cert.FwdDownRefIdeal.nD → PrngReg), Pre_FwdDownIdeal m →
    (∀ c : Dev Cert.FwdDownIdeal.nD,
      m' ((c.tc : Thread Cert.FwdDownRefIdeal.nD Cert.FwdDownRefIdeal.τ).loc Cert.FwdDownRefIdeal.main_arg0) = m ((c.tc : Thread Cert.FwdDownIdeal.nD Cert.FwdDownIdeal.τ).loc Cert.FwdDownIdeal.main_arg0)
      ∧ m' ((c.tc : Thread Cert.FwdDownRefIdeal.nD Cert.FwdDownRefIdeal.τ).loc Cert.FwdDownRefIdeal.main_arg1) = m ((c.tc : Thread Cert.FwdDownIdeal.nD Cert.FwdDownIdeal.τ).loc Cert.FwdDownIdeal.main_arg1)
      ∧ m' ((c.tc : Thread Cert.FwdDownRefIdeal.nD Cert.FwdDownRefIdeal.τ).loc Cert.FwdDownRefIdeal.main_arg2) = m ((c.tc : Thread Cert.FwdDownIdeal.nD Cert.FwdDownIdeal.τ).loc Cert.FwdDownIdeal.main_arg2)) →
    ∃ (v0 : (c : Dev Cert.FwdDownIdeal.nD) → Buf (Elt Ideal) ((c.tc : Thread Cert.FwdDownIdeal.nD Cert.FwdDownIdeal.τ).loc Cert.FwdDownIdeal.main_v0)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v0) = v0 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
          ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2))
      ∧ θ_run (Cert.FwdDownRefIdeal.defs (F := Ideal)) (onTc (τ := Cert.FwdDownRefIdeal.τ) (Cert.FwdDownRefIdeal.main (F := Ideal))) ⟨m', fun _ => 0, g'⟩ (fun r => ∀ c : Dev Cert.FwdDownRefIdeal.nD,
          r.2.mem ((c.tc : Thread Cert.FwdDownRefIdeal.nD Cert.FwdDownRefIdeal.τ).loc Cert.FwdDownRefIdeal.main_v3) = v0 c
          ∧ r.2.mem ((c.tc : Thread Cert.FwdDownRefIdeal.nD Cert.FwdDownRefIdeal.τ).loc Cert.FwdDownRefIdeal.main_arg0) = m' ((c.tc : Thread Cert.FwdDownRefIdeal.nD Cert.FwdDownRefIdeal.τ).loc Cert.FwdDownRefIdeal.main_arg0)
          ∧ r.2.mem ((c.tc : Thread Cert.FwdDownRefIdeal.nD Cert.FwdDownRefIdeal.τ).loc Cert.FwdDownRefIdeal.main_arg1) = m' ((c.tc : Thread Cert.FwdDownRefIdeal.nD Cert.FwdDownRefIdeal.τ).loc Cert.FwdDownRefIdeal.main_arg1)
          ∧ r.2.mem ((c.tc : Thread Cert.FwdDownRefIdeal.nD Cert.FwdDownRefIdeal.τ).loc Cert.FwdDownRefIdeal.main_arg2) = m' ((c.tc : Thread Cert.FwdDownRefIdeal.nD Cert.FwdDownRefIdeal.τ).loc Cert.FwdDownRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_QX_QXIdeal : Prop :=
  True

def algebraic_QXIdeal_QXRefIdeal [hQXIdeal : Cert.QXIdeal.Facts] [hQXRefIdeal : Cert.QXRefIdeal.Facts] : Prop :=
  ∀ (m : (ℓ : Loc Cert.QXIdeal.nD Cert.QXIdeal.τ Cert.QXIdeal.sig) → Buf (Elt Ideal) ℓ) (g : Dev Cert.QXIdeal.nD → PrngReg)
    (m' : (ℓ : Loc Cert.QXRefIdeal.nD Cert.QXRefIdeal.τ Cert.QXRefIdeal.sig) → Buf (Elt Ideal) ℓ) (g' : Dev Cert.QXRefIdeal.nD → PrngReg), Pre_QXIdeal m →
    (∀ c : Dev Cert.QXIdeal.nD,
      m' ((c.tc : Thread Cert.QXRefIdeal.nD Cert.QXRefIdeal.τ).loc Cert.QXRefIdeal.main_arg0) = m ((c.tc : Thread Cert.QXIdeal.nD Cert.QXIdeal.τ).loc Cert.QXIdeal.main_arg0)
      ∧ m' ((c.tc : Thread Cert.QXRefIdeal.nD Cert.QXRefIdeal.τ).loc Cert.QXRefIdeal.main_arg1) = m ((c.tc : Thread Cert.QXIdeal.nD Cert.QXIdeal.τ).loc Cert.QXIdeal.main_arg1)) →
    ∃ (v0 : (c : Dev Cert.QXIdeal.nD) → Buf (Elt Ideal) ((c.tc : Thread Cert.QXIdeal.nD Cert.QXIdeal.τ).loc Cert.QXIdeal.main_v0)),
      θ_run (Cert.QXIdeal.defs (F := Ideal)) (onTc (τ := Cert.QXIdeal.τ) (Cert.QXIdeal.main (F := Ideal))) ⟨m, fun _ => 0, g⟩ (fun r => ∀ c : Dev Cert.QXIdeal.nD,
          r.2.mem ((c.tc : Thread Cert.QXIdeal.nD Cert.QXIdeal.τ).loc Cert.QXIdeal.main_v0) = v0 c
          ∧ r.2.mem ((c.tc : Thread Cert.QXIdeal.nD Cert.QXIdeal.τ).loc Cert.QXIdeal.main_arg0) = m ((c.tc : Thread Cert.QXIdeal.nD Cert.QXIdeal.τ).loc Cert.QXIdeal.main_arg0)
          ∧ r.2.mem ((c.tc : Thread Cert.QXIdeal.nD Cert.QXIdeal.τ).loc Cert.QXIdeal.main_arg1) = m ((c.tc : Thread Cert.QXIdeal.nD Cert.QXIdeal.τ).loc Cert.QXIdeal.main_arg1))
      ∧ θ_run (Cert.QXRefIdeal.defs (F := Ideal)) (onTc (τ := Cert.QXRefIdeal.τ) (Cert.QXRefIdeal.main (F := Ideal))) ⟨m', fun _ => 0, g'⟩ (fun r => ∀ c : Dev Cert.QXRefIdeal.nD,
          r.2.mem ((c.tc : Thread Cert.QXRefIdeal.nD Cert.QXRefIdeal.τ).loc Cert.QXRefIdeal.main_v4) = v0 c
          ∧ r.2.mem ((c.tc : Thread Cert.QXRefIdeal.nD Cert.QXRefIdeal.τ).loc Cert.QXRefIdeal.main_arg0) = m' ((c.tc : Thread Cert.QXRefIdeal.nD Cert.QXRefIdeal.τ).loc Cert.QXRefIdeal.main_arg0)
          ∧ r.2.mem ((c.tc : Thread Cert.QXRefIdeal.nD Cert.QXRefIdeal.τ).loc Cert.QXRefIdeal.main_arg1) = m' ((c.tc : Thread Cert.QXRefIdeal.nD Cert.QXRefIdeal.τ).loc Cert.QXRefIdeal.main_arg1))

def preserves_QW_QWIdeal : Prop :=
  True

def algebraic_QWIdeal_QWRefIdeal [hQWIdeal : Cert.QWIdeal.Facts] [hQWRefIdeal : Cert.QWRefIdeal.Facts] : Prop :=
  ∀ (m : (ℓ : Loc Cert.QWIdeal.nD Cert.QWIdeal.τ Cert.QWIdeal.sig) → Buf (Elt Ideal) ℓ) (g : Dev Cert.QWIdeal.nD → PrngReg)
    (m' : (ℓ : Loc Cert.QWRefIdeal.nD Cert.QWRefIdeal.τ Cert.QWRefIdeal.sig) → Buf (Elt Ideal) ℓ) (g' : Dev Cert.QWRefIdeal.nD → PrngReg), Pre_QWIdeal m →
    (∀ c : Dev Cert.QWIdeal.nD,
      m' ((c.tc : Thread Cert.QWRefIdeal.nD Cert.QWRefIdeal.τ).loc Cert.QWRefIdeal.main_arg0) = m ((c.tc : Thread Cert.QWIdeal.nD Cert.QWIdeal.τ).loc Cert.QWIdeal.main_arg0)
      ∧ m' ((c.tc : Thread Cert.QWRefIdeal.nD Cert.QWRefIdeal.τ).loc Cert.QWRefIdeal.main_arg1) = m ((c.tc : Thread Cert.QWIdeal.nD Cert.QWIdeal.τ).loc Cert.QWIdeal.main_arg1)) →
    ∃ (v0 : (c : Dev Cert.QWIdeal.nD) → Buf (Elt Ideal) ((c.tc : Thread Cert.QWIdeal.nD Cert.QWIdeal.τ).loc Cert.QWIdeal.main_v0)),
      θ_run (Cert.QWIdeal.defs (F := Ideal)) (onTc (τ := Cert.QWIdeal.τ) (Cert.QWIdeal.main (F := Ideal))) ⟨m, fun _ => 0, g⟩ (fun r => ∀ c : Dev Cert.QWIdeal.nD,
          r.2.mem ((c.tc : Thread Cert.QWIdeal.nD Cert.QWIdeal.τ).loc Cert.QWIdeal.main_v0) = v0 c
          ∧ r.2.mem ((c.tc : Thread Cert.QWIdeal.nD Cert.QWIdeal.τ).loc Cert.QWIdeal.main_arg0) = m ((c.tc : Thread Cert.QWIdeal.nD Cert.QWIdeal.τ).loc Cert.QWIdeal.main_arg0)
          ∧ r.2.mem ((c.tc : Thread Cert.QWIdeal.nD Cert.QWIdeal.τ).loc Cert.QWIdeal.main_arg1) = m ((c.tc : Thread Cert.QWIdeal.nD Cert.QWIdeal.τ).loc Cert.QWIdeal.main_arg1))
      ∧ θ_run (Cert.QWRefIdeal.defs (F := Ideal)) (onTc (τ := Cert.QWRefIdeal.τ) (Cert.QWRefIdeal.main (F := Ideal))) ⟨m', fun _ => 0, g'⟩ (fun r => ∀ c : Dev Cert.QWRefIdeal.nD,
          r.2.mem ((c.tc : Thread Cert.QWRefIdeal.nD Cert.QWRefIdeal.τ).loc Cert.QWRefIdeal.main_v5) = v0 c
          ∧ r.2.mem ((c.tc : Thread Cert.QWRefIdeal.nD Cert.QWRefIdeal.τ).loc Cert.QWRefIdeal.main_arg0) = m' ((c.tc : Thread Cert.QWRefIdeal.nD Cert.QWRefIdeal.τ).loc Cert.QWRefIdeal.main_arg0)
          ∧ r.2.mem ((c.tc : Thread Cert.QWRefIdeal.nD Cert.QWRefIdeal.τ).loc Cert.QWRefIdeal.main_arg1) = m' ((c.tc : Thread Cert.QWRefIdeal.nD Cert.QWRefIdeal.τ).loc Cert.QWRefIdeal.main_arg1))

def preserves_KvX_KvXIdeal : Prop :=
  True

def algebraic_KvXIdeal_KvXRefIdeal [hKvXIdeal : Cert.KvXIdeal.Facts] [hKvXRefIdeal : Cert.KvXRefIdeal.Facts] : Prop :=
  ∀ (m : (ℓ : Loc Cert.KvXIdeal.nD Cert.KvXIdeal.τ Cert.KvXIdeal.sig) → Buf (Elt Ideal) ℓ) (g : Dev Cert.KvXIdeal.nD → PrngReg)
    (m' : (ℓ : Loc Cert.KvXRefIdeal.nD Cert.KvXRefIdeal.τ Cert.KvXRefIdeal.sig) → Buf (Elt Ideal) ℓ) (g' : Dev Cert.KvXRefIdeal.nD → PrngReg), Pre_KvXIdeal m →
    (∀ c : Dev Cert.KvXIdeal.nD,
      m' ((c.tc : Thread Cert.KvXRefIdeal.nD Cert.KvXRefIdeal.τ).loc Cert.KvXRefIdeal.main_arg0) = m ((c.tc : Thread Cert.KvXIdeal.nD Cert.KvXIdeal.τ).loc Cert.KvXIdeal.main_arg0)
      ∧ m' ((c.tc : Thread Cert.KvXRefIdeal.nD Cert.KvXRefIdeal.τ).loc Cert.KvXRefIdeal.main_arg1) = m ((c.tc : Thread Cert.KvXIdeal.nD Cert.KvXIdeal.τ).loc Cert.KvXIdeal.main_arg1)) →
    ∃ (v0 : (c : Dev Cert.KvXIdeal.nD) → Buf (Elt Ideal) ((c.tc : Thread Cert.KvXIdeal.nD Cert.KvXIdeal.τ).loc Cert.KvXIdeal.main_v0)),
      θ_run (Cert.KvXIdeal.defs (F := Ideal)) (onTc (τ := Cert.KvXIdeal.τ) (Cert.KvXIdeal.main (F := Ideal))) ⟨m, fun _ => 0, g⟩ (fun r => ∀ c : Dev Cert.KvXIdeal.nD,
          r.2.mem ((c.tc : Thread Cert.KvXIdeal.nD Cert.KvXIdeal.τ).loc Cert.KvXIdeal.main_v0) = v0 c
          ∧ r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
          ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ θ_run (Cert.KvXRefIdeal.defs (F := Ideal)) (onTc (τ := Cert.KvXRefIdeal.τ) (Cert.KvXRefIdeal.main (F := Ideal))) ⟨m', fun _ => 0, g'⟩ (fun r => ∀ c : Dev Cert.KvXRefIdeal.nD,
          r.2.mem ((c.tc : Thread Cert.KvXRefIdeal.nD Cert.KvXRefIdeal.τ).loc Cert.KvXRefIdeal.main_v2) = v0 c
          ∧ r.2.mem ((c.tc : Thread Cert.KvXRefIdeal.nD Cert.KvXRefIdeal.τ).loc Cert.KvXRefIdeal.main_arg0) = m' ((c.tc : Thread Cert.KvXRefIdeal.nD Cert.KvXRefIdeal.τ).loc Cert.KvXRefIdeal.main_arg0)
          ∧ r.2.mem ((c.tc : Thread Cert.KvXRefIdeal.nD Cert.KvXRefIdeal.τ).loc Cert.KvXRefIdeal.main_arg1) = m' ((c.tc : Thread Cert.KvXRefIdeal.nD Cert.KvXRefIdeal.τ).loc Cert.KvXRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v3) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_BranchX_BranchXIdeal : Prop :=
  True

def algebraic_BranchXIdeal_BranchXRefIdeal [hBranchXIdeal : Cert.BranchXIdeal.Facts] [hBranchXRefIdeal : Cert.BranchXRefIdeal.Facts] : Prop :=
  ∀ (m : (ℓ : Loc Cert.BranchXIdeal.nD Cert.BranchXIdeal.τ Cert.BranchXIdeal.sig) → Buf (Elt Ideal) ℓ) (g : Dev Cert.BranchXIdeal.nD → PrngReg)
    (m' : (ℓ : Loc Cert.BranchXRefIdeal.nD Cert.BranchXRefIdeal.τ Cert.BranchXRefIdeal.sig) → Buf (Elt Ideal) ℓ) (g' : Dev Cert.BranchXRefIdeal.nD → PrngReg), Pre_BranchXIdeal m →
    (∀ c : Dev Cert.BranchXIdeal.nD,
      m' ((c.tc : Thread Cert.BranchXRefIdeal.nD Cert.BranchXRefIdeal.τ).loc Cert.BranchXRefIdeal.main_arg0) = m ((c.tc : Thread Cert.BranchXIdeal.nD Cert.BranchXIdeal.τ).loc Cert.BranchXIdeal.main_arg0)
      ∧ m' ((c.tc : Thread Cert.BranchXRefIdeal.nD Cert.BranchXRefIdeal.τ).loc Cert.BranchXRefIdeal.main_arg1) = m ((c.tc : Thread Cert.BranchXIdeal.nD Cert.BranchXIdeal.τ).loc Cert.BranchXIdeal.main_arg1)) →
    ∃ (v0 : (c : Dev Cert.BranchXIdeal.nD) → Buf (Elt Ideal) ((c.tc : Thread Cert.BranchXIdeal.nD Cert.BranchXIdeal.τ).loc Cert.BranchXIdeal.main_v0)),
      θ_run (Cert.BranchXIdeal.defs (F := Ideal)) (onTc (τ := Cert.BranchXIdeal.τ) (Cert.BranchXIdeal.main (F := Ideal))) ⟨m, fun _ => 0, g⟩ (fun r => ∀ c : Dev Cert.BranchXIdeal.nD,
          r.2.mem ((c.tc : Thread Cert.BranchXIdeal.nD Cert.BranchXIdeal.τ).loc Cert.BranchXIdeal.main_v0) = v0 c
          ∧ r.2.mem ((c.tc : Thread Cert.BranchXIdeal.nD Cert.BranchXIdeal.τ).loc Cert.BranchXIdeal.main_arg0) = m ((c.tc : Thread Cert.BranchXIdeal.nD Cert.BranchXIdeal.τ).loc Cert.BranchXIdeal.main_arg0)
          ∧ r.2.mem ((c.tc : Thread Cert.BranchXIdeal.nD Cert.BranchXIdeal.τ).loc Cert.BranchXIdeal.main_arg1) = m ((c.tc : Thread Cert.BranchXIdeal.nD Cert.BranchXIdeal.τ).loc Cert.BranchXIdeal.main_arg1))
      ∧ θ_run (Cert.BranchXRefIdeal.defs (F := Ideal)) (onTc (τ := Cert.BranchXRefIdeal.τ) (Cert.BranchXRefIdeal.main (F := Ideal))) ⟨m', fun _ => 0, g'⟩ (fun r => ∀ c : Dev Cert.BranchXRefIdeal.nD,
          r.2.mem ((c.tc : Thread Cert.BranchXRefIdeal.nD Cert.BranchXRefIdeal.τ).loc Cert.BranchXRefIdeal.main_v3) = v0 c
          ∧ r.2.mem ((c.tc : Thread Cert.BranchXRefIdeal.nD Cert.BranchXRefIdeal.τ).loc Cert.BranchXRefIdeal.main_arg0) = m' ((c.tc : Thread Cert.BranchXRefIdeal.nD Cert.BranchXRefIdeal.τ).loc Cert.BranchXRefIdeal.main_arg0)
          ∧ r.2.mem ((c.tc : Thread Cert.BranchXRefIdeal.nD Cert.BranchXRefIdeal.τ).loc Cert.BranchXRefIdeal.main_arg1) = m' ((c.tc : Thread Cert.BranchXRefIdeal.nD Cert.BranchXRefIdeal.τ).loc Cert.BranchXRefIdeal.main_arg1))

def preserves_BranchW0_BranchW0Ideal : Prop :=
  True

def algebraic_BranchW0Ideal_BranchW0RefIdeal [hBranchW0Ideal : Cert.BranchW0Ideal.Facts] [hBranchW0RefIdeal : Cert.BranchW0RefIdeal.Facts] : Prop :=
  ∀ (m : (ℓ : Loc Cert.BranchW0Ideal.nD Cert.BranchW0Ideal.τ Cert.BranchW0Ideal.sig) → Buf (Elt Ideal) ℓ) (g : Dev Cert.BranchW0Ideal.nD → PrngReg)
    (m' : (ℓ : Loc Cert.BranchW0RefIdeal.nD Cert.BranchW0RefIdeal.τ Cert.BranchW0RefIdeal.sig) → Buf (Elt Ideal) ℓ) (g' : Dev Cert.BranchW0RefIdeal.nD → PrngReg), Pre_BranchW0Ideal m →
    (∀ c : Dev Cert.BranchW0Ideal.nD,
      m' ((c.tc : Thread Cert.BranchW0RefIdeal.nD Cert.BranchW0RefIdeal.τ).loc Cert.BranchW0RefIdeal.main_arg0) = m ((c.tc : Thread Cert.BranchW0Ideal.nD Cert.BranchW0Ideal.τ).loc Cert.BranchW0Ideal.main_arg0)
      ∧ m' ((c.tc : Thread Cert.BranchW0RefIdeal.nD Cert.BranchW0RefIdeal.τ).loc Cert.BranchW0RefIdeal.main_arg1) = m ((c.tc : Thread Cert.BranchW0Ideal.nD Cert.BranchW0Ideal.τ).loc Cert.BranchW0Ideal.main_arg1)) →
    ∃ (v0 : (c : Dev Cert.BranchW0Ideal.nD) → Buf (Elt Ideal) ((c.tc : Thread Cert.BranchW0Ideal.nD Cert.BranchW0Ideal.τ).loc Cert.BranchW0Ideal.main_v0)),
      θ_run (Cert.BranchW0Ideal.defs (F := Ideal)) (onTc (τ := Cert.BranchW0Ideal.τ) (Cert.BranchW0Ideal.main (F := Ideal))) ⟨m, fun _ => 0, g⟩ (fun r => ∀ c : Dev Cert.BranchW0Ideal.nD,
          r.2.mem ((c.tc : Thread Cert.BranchW0Ideal.nD Cert.BranchW0Ideal.τ).loc Cert.BranchW0Ideal.main_v0) = v0 c
          ∧ r.2.mem ((c.tc : Thread Cert.BranchW0Ideal.nD Cert.BranchW0Ideal.τ).loc Cert.BranchW0Ideal.main_arg0) = m ((c.tc : Thread Cert.BranchW0Ideal.nD Cert.BranchW0Ideal.τ).loc Cert.BranchW0Ideal.main_arg0)
          ∧ r.2.mem ((c.tc : Thread Cert.BranchW0Ideal.nD Cert.BranchW0Ideal.τ).loc Cert.BranchW0Ideal.main_arg1) = m ((c.tc : Thread Cert.BranchW0Ideal.nD Cert.BranchW0Ideal.τ).loc Cert.BranchW0Ideal.main_arg1))
      ∧ θ_run (Cert.BranchW0RefIdeal.defs (F := Ideal)) (onTc (τ := Cert.BranchW0RefIdeal.τ) (Cert.BranchW0RefIdeal.main (F := Ideal))) ⟨m', fun _ => 0, g'⟩ (fun r => ∀ c : Dev Cert.BranchW0RefIdeal.nD,
          r.2.mem ((c.tc : Thread Cert.BranchW0RefIdeal.nD Cert.BranchW0RefIdeal.τ).loc Cert.BranchW0RefIdeal.main_v5) = v0 c
          ∧ r.2.mem ((c.tc : Thread Cert.BranchW0RefIdeal.nD Cert.BranchW0RefIdeal.τ).loc Cert.BranchW0RefIdeal.main_arg0) = m' ((c.tc : Thread Cert.BranchW0RefIdeal.nD Cert.BranchW0RefIdeal.τ).loc Cert.BranchW0RefIdeal.main_arg0)
          ∧ r.2.mem ((c.tc : Thread Cert.BranchW0RefIdeal.nD Cert.BranchW0RefIdeal.τ).loc Cert.BranchW0RefIdeal.main_arg1) = m' ((c.tc : Thread Cert.BranchW0RefIdeal.nD Cert.BranchW0RefIdeal.τ).loc Cert.BranchW0RefIdeal.main_arg1))

def preserves_BranchW1_BranchW1Ideal : Prop :=
  True

def algebraic_BranchW1Ideal_BranchW1RefIdeal [hBranchW1Ideal : Cert.BranchW1Ideal.Facts] [hBranchW1RefIdeal : Cert.BranchW1RefIdeal.Facts] : Prop :=
  ∀ (m : (ℓ : Loc Cert.BranchW1Ideal.nD Cert.BranchW1Ideal.τ Cert.BranchW1Ideal.sig) → Buf (Elt Ideal) ℓ) (g : Dev Cert.BranchW1Ideal.nD → PrngReg)
    (m' : (ℓ : Loc Cert.BranchW1RefIdeal.nD Cert.BranchW1RefIdeal.τ Cert.BranchW1RefIdeal.sig) → Buf (Elt Ideal) ℓ) (g' : Dev Cert.BranchW1RefIdeal.nD → PrngReg), Pre_BranchW1Ideal m →
    (∀ c : Dev Cert.BranchW1Ideal.nD,
      m' ((c.tc : Thread Cert.BranchW1RefIdeal.nD Cert.BranchW1RefIdeal.τ).loc Cert.BranchW1RefIdeal.main_arg0) = m ((c.tc : Thread Cert.BranchW1Ideal.nD Cert.BranchW1Ideal.τ).loc Cert.BranchW1Ideal.main_arg0)
      ∧ m' ((c.tc : Thread Cert.BranchW1RefIdeal.nD Cert.BranchW1RefIdeal.τ).loc Cert.BranchW1RefIdeal.main_arg1) = m ((c.tc : Thread Cert.BranchW1Ideal.nD Cert.BranchW1Ideal.τ).loc Cert.BranchW1Ideal.main_arg1)) →
    ∃ (v0 : (c : Dev Cert.BranchW1Ideal.nD) → Buf (Elt Ideal) ((c.tc : Thread Cert.BranchW1Ideal.nD Cert.BranchW1Ideal.τ).loc Cert.BranchW1Ideal.main_v0)),
      θ_run (Cert.BranchW1Ideal.defs (F := Ideal)) (onTc (τ := Cert.BranchW1Ideal.τ) (Cert.BranchW1Ideal.main (F := Ideal))) ⟨m, fun _ => 0, g⟩ (fun r => ∀ c : Dev Cert.BranchW1Ideal.nD,
          r.2.mem ((c.tc : Thread Cert.BranchW1Ideal.nD Cert.BranchW1Ideal.τ).loc Cert.BranchW1Ideal.main_v0) = v0 c
          ∧ r.2.mem ((c.tc : Thread Cert.BranchW1Ideal.nD Cert.BranchW1Ideal.τ).loc Cert.BranchW1Ideal.main_arg0) = m ((c.tc : Thread Cert.BranchW1Ideal.nD Cert.BranchW1Ideal.τ).loc Cert.BranchW1Ideal.main_arg0)
          ∧ r.2.mem ((c.tc : Thread Cert.BranchW1Ideal.nD Cert.BranchW1Ideal.τ).loc Cert.BranchW1Ideal.main_arg1) = m ((c.tc : Thread Cert.BranchW1Ideal.nD Cert.BranchW1Ideal.τ).loc Cert.BranchW1Ideal.main_arg1))
      ∧ θ_run (Cert.BranchW1RefIdeal.defs (F := Ideal)) (onTc (τ := Cert.BranchW1RefIdeal.τ) (Cert.BranchW1RefIdeal.main (F := Ideal))) ⟨m', fun _ => 0, g'⟩ (fun r => ∀ c : Dev Cert.BranchW1RefIdeal.nD,
          r.2.mem ((c.tc : Thread Cert.BranchW1RefIdeal.nD Cert.BranchW1RefIdeal.τ).loc Cert.BranchW1RefIdeal.main_v5) = v0 c
          ∧ r.2.mem ((c.tc : Thread Cert.BranchW1RefIdeal.nD Cert.BranchW1RefIdeal.τ).loc Cert.BranchW1RefIdeal.main_arg0) = m' ((c.tc : Thread Cert.BranchW1RefIdeal.nD Cert.BranchW1RefIdeal.τ).loc Cert.BranchW1RefIdeal.main_arg0)
          ∧ r.2.mem ((c.tc : Thread Cert.BranchW1RefIdeal.nD Cert.BranchW1RefIdeal.τ).loc Cert.BranchW1RefIdeal.main_arg1) = m' ((c.tc : Thread Cert.BranchW1RefIdeal.nD Cert.BranchW1RefIdeal.τ).loc Cert.BranchW1RefIdeal.main_arg1))

def preserves_BranchW2_BranchW2Ideal : Prop :=
  True

def algebraic_BranchW2Ideal_BranchW2RefIdeal [hBranchW2Ideal : Cert.BranchW2Ideal.Facts] [hBranchW2RefIdeal : Cert.BranchW2RefIdeal.Facts] : Prop :=
  ∀ (m : (ℓ : Loc Cert.BranchW2Ideal.nD Cert.BranchW2Ideal.τ Cert.BranchW2Ideal.sig) → Buf (Elt Ideal) ℓ) (g : Dev Cert.BranchW2Ideal.nD → PrngReg)
    (m' : (ℓ : Loc Cert.BranchW2RefIdeal.nD Cert.BranchW2RefIdeal.τ Cert.BranchW2RefIdeal.sig) → Buf (Elt Ideal) ℓ) (g' : Dev Cert.BranchW2RefIdeal.nD → PrngReg), Pre_BranchW2Ideal m →
    (∀ c : Dev Cert.BranchW2Ideal.nD,
      m' ((c.tc : Thread Cert.BranchW2RefIdeal.nD Cert.BranchW2RefIdeal.τ).loc Cert.BranchW2RefIdeal.main_arg0) = m ((c.tc : Thread Cert.BranchW2Ideal.nD Cert.BranchW2Ideal.τ).loc Cert.BranchW2Ideal.main_arg0)
      ∧ m' ((c.tc : Thread Cert.BranchW2RefIdeal.nD Cert.BranchW2RefIdeal.τ).loc Cert.BranchW2RefIdeal.main_arg1) = m ((c.tc : Thread Cert.BranchW2Ideal.nD Cert.BranchW2Ideal.τ).loc Cert.BranchW2Ideal.main_arg1)) →
    ∃ (v0 : (c : Dev Cert.BranchW2Ideal.nD) → Buf (Elt Ideal) ((c.tc : Thread Cert.BranchW2Ideal.nD Cert.BranchW2Ideal.τ).loc Cert.BranchW2Ideal.main_v0)),
      θ_run (Cert.BranchW2Ideal.defs (F := Ideal)) (onTc (τ := Cert.BranchW2Ideal.τ) (Cert.BranchW2Ideal.main (F := Ideal))) ⟨m, fun _ => 0, g⟩ (fun r => ∀ c : Dev Cert.BranchW2Ideal.nD,
          r.2.mem ((c.tc : Thread Cert.BranchW2Ideal.nD Cert.BranchW2Ideal.τ).loc Cert.BranchW2Ideal.main_v0) = v0 c
          ∧ r.2.mem ((c.tc : Thread Cert.BranchW2Ideal.nD Cert.BranchW2Ideal.τ).loc Cert.BranchW2Ideal.main_arg0) = m ((c.tc : Thread Cert.BranchW2Ideal.nD Cert.BranchW2Ideal.τ).loc Cert.BranchW2Ideal.main_arg0)
          ∧ r.2.mem ((c.tc : Thread Cert.BranchW2Ideal.nD Cert.BranchW2Ideal.τ).loc Cert.BranchW2Ideal.main_arg1) = m ((c.tc : Thread Cert.BranchW2Ideal.nD Cert.BranchW2Ideal.τ).loc Cert.BranchW2Ideal.main_arg1))
      ∧ θ_run (Cert.BranchW2RefIdeal.defs (F := Ideal)) (onTc (τ := Cert.BranchW2RefIdeal.τ) (Cert.BranchW2RefIdeal.main (F := Ideal))) ⟨m', fun _ => 0, g'⟩ (fun r => ∀ c : Dev Cert.BranchW2RefIdeal.nD,
          r.2.mem ((c.tc : Thread Cert.BranchW2RefIdeal.nD Cert.BranchW2RefIdeal.τ).loc Cert.BranchW2RefIdeal.main_v5) = v0 c
          ∧ r.2.mem ((c.tc : Thread Cert.BranchW2RefIdeal.nD Cert.BranchW2RefIdeal.τ).loc Cert.BranchW2RefIdeal.main_arg0) = m' ((c.tc : Thread Cert.BranchW2RefIdeal.nD Cert.BranchW2RefIdeal.τ).loc Cert.BranchW2RefIdeal.main_arg0)
          ∧ r.2.mem ((c.tc : Thread Cert.BranchW2RefIdeal.nD Cert.BranchW2RefIdeal.τ).loc Cert.BranchW2RefIdeal.main_arg1) = m' ((c.tc : Thread Cert.BranchW2RefIdeal.nD Cert.BranchW2RefIdeal.τ).loc Cert.BranchW2RefIdeal.main_arg1))

def preserves_BaX_BaXIdeal : Prop :=
  True

def algebraic_BaXIdeal_BaXRefIdeal [hBaXIdeal : Cert.BaXIdeal.Facts] [hBaXRefIdeal : Cert.BaXRefIdeal.Facts] : Prop :=
  ∀ (m : (ℓ : Loc Cert.BaXIdeal.nD Cert.BaXIdeal.τ Cert.BaXIdeal.sig) → Buf (Elt Ideal) ℓ) (g : Dev Cert.BaXIdeal.nD → PrngReg)
    (m' : (ℓ : Loc Cert.BaXRefIdeal.nD Cert.BaXRefIdeal.τ Cert.BaXRefIdeal.sig) → Buf (Elt Ideal) ℓ) (g' : Dev Cert.BaXRefIdeal.nD → PrngReg), Pre_BaXIdeal m →
    (∀ c : Dev Cert.BaXIdeal.nD,
      m' ((c.tc : Thread Cert.BaXRefIdeal.nD Cert.BaXRefIdeal.τ).loc Cert.BaXRefIdeal.main_arg0) = m ((c.tc : Thread Cert.BaXIdeal.nD Cert.BaXIdeal.τ).loc Cert.BaXIdeal.main_arg0)
      ∧ m' ((c.tc : Thread Cert.BaXRefIdeal.nD Cert.BaXRefIdeal.τ).loc Cert.BaXRefIdeal.main_arg1) = m ((c.tc : Thread Cert.BaXIdeal.nD Cert.BaXIdeal.τ).loc Cert.BaXIdeal.main_arg1)) →
    ∃ (v0 : (c : Dev Cert.BaXIdeal.nD) → Buf (Elt Ideal) ((c.tc : Thread Cert.BaXIdeal.nD Cert.BaXIdeal.τ).loc Cert.BaXIdeal.main_v0)),
      θ_run (Cert.BaXIdeal.defs (F := Ideal)) (onTc (τ := Cert.BaXIdeal.τ) (Cert.BaXIdeal.main (F := Ideal))) ⟨m, fun _ => 0, g⟩ (fun r => ∀ c : Dev Cert.BaXIdeal.nD,
          r.2.mem ((c.tc : Thread Cert.BaXIdeal.nD Cert.BaXIdeal.τ).loc Cert.BaXIdeal.main_v0) = v0 c
          ∧ r.2.mem ((c.tc : Thread Cert.BaXIdeal.nD Cert.BaXIdeal.τ).loc Cert.BaXIdeal.main_arg0) = m ((c.tc : Thread Cert.BaXIdeal.nD Cert.BaXIdeal.τ).loc Cert.BaXIdeal.main_arg0)
          ∧ r.2.mem ((c.tc : Thread Cert.BaXIdeal.nD Cert.BaXIdeal.τ).loc Cert.BaXIdeal.main_arg1) = m ((c.tc : Thread Cert.BaXIdeal.nD Cert.BaXIdeal.τ).loc Cert.BaXIdeal.main_arg1))
      ∧ θ_run (Cert.BaXRefIdeal.defs (F := Ideal)) (onTc (τ := Cert.BaXRefIdeal.τ) (Cert.BaXRefIdeal.main (F := Ideal))) ⟨m', fun _ => 0, g'⟩ (fun r => ∀ c : Dev Cert.BaXRefIdeal.nD,
          r.2.mem ((c.tc : Thread Cert.BaXRefIdeal.nD Cert.BaXRefIdeal.τ).loc Cert.BaXRefIdeal.main_v3) = v0 c
          ∧ r.2.mem ((c.tc : Thread Cert.BaXRefIdeal.nD Cert.BaXRefIdeal.τ).loc Cert.BaXRefIdeal.main_arg0) = m' ((c.tc : Thread Cert.BaXRefIdeal.nD Cert.BaXRefIdeal.τ).loc Cert.BaXRefIdeal.main_arg0)
          ∧ r.2.mem ((c.tc : Thread Cert.BaXRefIdeal.nD Cert.BaXRefIdeal.τ).loc Cert.BaXRefIdeal.main_arg1) = m' ((c.tc : Thread Cert.BaXRefIdeal.nD Cert.BaXRefIdeal.τ).loc Cert.BaXRefIdeal.main_arg1))

def preserves_BaW_BaWIdeal : Prop :=
  True

def algebraic_BaWIdeal_BaWRefIdeal [hBaWIdeal : Cert.BaWIdeal.Facts] [hBaWRefIdeal : Cert.BaWRefIdeal.Facts] : Prop :=
  ∀ (m : (ℓ : Loc Cert.BaWIdeal.nD Cert.BaWIdeal.τ Cert.BaWIdeal.sig) → Buf (Elt Ideal) ℓ) (g : Dev Cert.BaWIdeal.nD → PrngReg)
    (m' : (ℓ : Loc Cert.BaWRefIdeal.nD Cert.BaWRefIdeal.τ Cert.BaWRefIdeal.sig) → Buf (Elt Ideal) ℓ) (g' : Dev Cert.BaWRefIdeal.nD → PrngReg), Pre_BaWIdeal m →
    (∀ c : Dev Cert.BaWIdeal.nD,
      m' ((c.tc : Thread Cert.BaWRefIdeal.nD Cert.BaWRefIdeal.τ).loc Cert.BaWRefIdeal.main_arg0) = m ((c.tc : Thread Cert.BaWIdeal.nD Cert.BaWIdeal.τ).loc Cert.BaWIdeal.main_arg0)
      ∧ m' ((c.tc : Thread Cert.BaWRefIdeal.nD Cert.BaWRefIdeal.τ).loc Cert.BaWRefIdeal.main_arg1) = m ((c.tc : Thread Cert.BaWIdeal.nD Cert.BaWIdeal.τ).loc Cert.BaWIdeal.main_arg1)) →
    ∃ (v0 : (c : Dev Cert.BaWIdeal.nD) → Buf (Elt Ideal) ((c.tc : Thread Cert.BaWIdeal.nD Cert.BaWIdeal.τ).loc Cert.BaWIdeal.main_v0)),
      θ_run (Cert.BaWIdeal.defs (F := Ideal)) (onTc (τ := Cert.BaWIdeal.τ) (Cert.BaWIdeal.main (F := Ideal))) ⟨m, fun _ => 0, g⟩ (fun r => ∀ c : Dev Cert.BaWIdeal.nD,
          r.2.mem ((c.tc : Thread Cert.BaWIdeal.nD Cert.BaWIdeal.τ).loc Cert.BaWIdeal.main_v0) = v0 c
          ∧ r.2.mem ((c.tc : Thread Cert.BaWIdeal.nD Cert.BaWIdeal.τ).loc Cert.BaWIdeal.main_arg0) = m ((c.tc : Thread Cert.BaWIdeal.nD Cert.BaWIdeal.τ).loc Cert.BaWIdeal.main_arg0)
          ∧ r.2.mem ((c.tc : Thread Cert.BaWIdeal.nD Cert.BaWIdeal.τ).loc Cert.BaWIdeal.main_arg1) = m ((c.tc : Thread Cert.BaWIdeal.nD Cert.BaWIdeal.τ).loc Cert.BaWIdeal.main_arg1))
      ∧ θ_run (Cert.BaWRefIdeal.defs (F := Ideal)) (onTc (τ := Cert.BaWRefIdeal.τ) (Cert.BaWRefIdeal.main (F := Ideal))) ⟨m', fun _ => 0, g'⟩ (fun r => ∀ c : Dev Cert.BaWRefIdeal.nD,
          r.2.mem ((c.tc : Thread Cert.BaWRefIdeal.nD Cert.BaWRefIdeal.τ).loc Cert.BaWRefIdeal.main_v4) = v0 c
          ∧ r.2.mem ((c.tc : Thread Cert.BaWRefIdeal.nD Cert.BaWRefIdeal.τ).loc Cert.BaWRefIdeal.main_arg0) = m' ((c.tc : Thread Cert.BaWRefIdeal.nD Cert.BaWRefIdeal.τ).loc Cert.BaWRefIdeal.main_arg0)
          ∧ r.2.mem ((c.tc : Thread Cert.BaWRefIdeal.nD Cert.BaWRefIdeal.τ).loc Cert.BaWRefIdeal.main_arg1) = m' ((c.tc : Thread Cert.BaWRefIdeal.nD Cert.BaWRefIdeal.τ).loc Cert.BaWRefIdeal.main_arg1))

def preserves_FwdGate_FwdGateIdeal : Prop :=
  True

def algebraic_FwdGateIdeal_FwdGateRefIdeal [hFwdGateIdeal : Cert.FwdGateIdeal.Facts] [hFwdGateRefIdeal : Cert.FwdGateRefIdeal.Facts] : Prop :=
  ∀ (m : (ℓ : Loc Cert.FwdGateIdeal.nD Cert.FwdGateIdeal.τ Cert.FwdGateIdeal.sig) → Buf (Elt Ideal) ℓ) (g : Dev Cert.FwdGateIdeal.nD → PrngReg)
    (m' : (ℓ : Loc Cert.FwdGateRefIdeal.nD Cert.FwdGateRefIdeal.τ Cert.FwdGateRefIdeal.sig) → Buf (Elt Ideal) ℓ) (g' : Dev Cert.FwdGateRefIdeal.nD → PrngReg), Pre_FwdGateIdeal m →
    (∀ c : Dev Cert.FwdGateIdeal.nD,
      m' ((c.tc : Thread Cert.FwdGateRefIdeal.nD Cert.FwdGateRefIdeal.τ).loc Cert.FwdGateRefIdeal.main_arg0) = m ((c.tc : Thread Cert.FwdGateIdeal.nD Cert.FwdGateIdeal.τ).loc Cert.FwdGateIdeal.main_arg0)
      ∧ m' ((c.tc : Thread Cert.FwdGateRefIdeal.nD Cert.FwdGateRefIdeal.τ).loc Cert.FwdGateRefIdeal.main_arg1) = m ((c.tc : Thread Cert.FwdGateIdeal.nD Cert.FwdGateIdeal.τ).loc Cert.FwdGateIdeal.main_arg1)
      ∧ m' ((c.tc : Thread Cert.FwdGateRefIdeal.nD Cert.FwdGateRefIdeal.τ).loc Cert.FwdGateRefIdeal.main_arg2) = m ((c.tc : Thread Cert.FwdGateIdeal.nD Cert.FwdGateIdeal.τ).loc Cert.FwdGateIdeal.main_arg2)
      ∧ m' ((c.tc : Thread Cert.FwdGateRefIdeal.nD Cert.FwdGateRefIdeal.τ).loc Cert.FwdGateRefIdeal.main_arg3) = m ((c.tc : Thread Cert.FwdGateIdeal.nD Cert.FwdGateIdeal.τ).loc Cert.FwdGateIdeal.main_arg3)
      ∧ m' ((c.tc : Thread Cert.FwdGateRefIdeal.nD Cert.FwdGateRefIdeal.τ).loc Cert.FwdGateRefIdeal.main_arg4) = m ((c.tc : Thread Cert.FwdGateIdeal.nD Cert.FwdGateIdeal.τ).loc Cert.FwdGateIdeal.main_arg4)) →
    ∃ (v0 : (c : Dev Cert.FwdGateIdeal.nD) → Buf (Elt Ideal) ((c.tc : Thread Cert.FwdGateIdeal.nD Cert.FwdGateIdeal.τ).loc Cert.FwdGateIdeal.main_v0)),
      θ_run (Cert.FwdGateIdeal.defs (F := Ideal)) (onTc (τ := Cert.FwdGateIdeal.τ) (Cert.FwdGateIdeal.main (F := Ideal))) ⟨m, fun _ => 0, g⟩ (fun r => ∀ c : Dev Cert.FwdGateIdeal.nD,
          r.2.mem ((c.tc : Thread Cert.FwdGateIdeal.nD Cert.FwdGateIdeal.τ).loc Cert.FwdGateIdeal.main_v0) = v0 c
          ∧ r.2.mem ((c.tc : Thread Cert.FwdGateIdeal.nD Cert.FwdGateIdeal.τ).loc Cert.FwdGateIdeal.main_arg0) = m ((c.tc : Thread Cert.FwdGateIdeal.nD Cert.FwdGateIdeal.τ).loc Cert.FwdGateIdeal.main_arg0)
          ∧ r.2.mem ((c.tc : Thread Cert.FwdGateIdeal.nD Cert.FwdGateIdeal.τ).loc Cert.FwdGateIdeal.main_arg1) = m ((c.tc : Thread Cert.FwdGateIdeal.nD Cert.FwdGateIdeal.τ).loc Cert.FwdGateIdeal.main_arg1)
          ∧ r.2.mem ((c.tc : Thread Cert.FwdGateIdeal.nD Cert.FwdGateIdeal.τ).loc Cert.FwdGateIdeal.main_arg2) = m ((c.tc : Thread Cert.FwdGateIdeal.nD Cert.FwdGateIdeal.τ).loc Cert.FwdGateIdeal.main_arg2)
          ∧ r.2.mem ((c.tc : Thread Cert.FwdGateIdeal.nD Cert.FwdGateIdeal.τ).loc Cert.FwdGateIdeal.main_arg3) = m ((c.tc : Thread Cert.FwdGateIdeal.nD Cert.FwdGateIdeal.τ).loc Cert.FwdGateIdeal.main_arg3)
          ∧ r.2.mem ((c.tc : Thread Cert.FwdGateIdeal.nD Cert.FwdGateIdeal.τ).loc Cert.FwdGateIdeal.main_arg4) = m ((c.tc : Thread Cert.FwdGateIdeal.nD Cert.FwdGateIdeal.τ).loc Cert.FwdGateIdeal.main_arg4))
      ∧ θ_run (Cert.FwdGateRefIdeal.defs (F := Ideal)) (onTc (τ := Cert.FwdGateRefIdeal.τ) (Cert.FwdGateRefIdeal.main (F := Ideal))) ⟨m', fun _ => 0, g'⟩ (fun r => ∀ c : Dev Cert.FwdGateRefIdeal.nD,
          r.2.mem ((c.tc : Thread Cert.FwdGateRefIdeal.nD Cert.FwdGateRefIdeal.τ).loc Cert.FwdGateRefIdeal.main_v16) = v0 c
          ∧ r.2.mem ((c.tc : Thread Cert.FwdGateRefIdeal.nD Cert.FwdGateRefIdeal.τ).loc Cert.FwdGateRefIdeal.main_arg0) = m' ((c.tc : Thread Cert.FwdGateRefIdeal.nD Cert.FwdGateRefIdeal.τ).loc Cert.FwdGateRefIdeal.main_arg0)
          ∧ r.2.mem ((c.tc : Thread Cert.FwdGateRefIdeal.nD Cert.FwdGateRefIdeal.τ).loc Cert.FwdGateRefIdeal.main_arg1) = m' ((c.tc : Thread Cert.FwdGateRefIdeal.nD Cert.FwdGateRefIdeal.τ).loc Cert.FwdGateRefIdeal.main_arg1)
          ∧ r.2.mem ((c.tc : Thread Cert.FwdGateRefIdeal.nD Cert.FwdGateRefIdeal.τ).loc Cert.FwdGateRefIdeal.main_arg2) = m' ((c.tc : Thread Cert.FwdGateRefIdeal.nD Cert.FwdGateRefIdeal.τ).loc Cert.FwdGateRefIdeal.main_arg2)
          ∧ r.2.mem ((c.tc : Thread Cert.FwdGateRefIdeal.nD Cert.FwdGateRefIdeal.τ).loc Cert.FwdGateRefIdeal.main_arg3) = m' ((c.tc : Thread Cert.FwdGateRefIdeal.nD Cert.FwdGateRefIdeal.τ).loc Cert.FwdGateRefIdeal.main_arg3)
          ∧ r.2.mem ((c.tc : Thread Cert.FwdGateRefIdeal.nD Cert.FwdGateRefIdeal.τ).loc Cert.FwdGateRefIdeal.main_arg4) = m' ((c.tc : Thread Cert.FwdGateRefIdeal.nD Cert.FwdGateRefIdeal.τ).loc Cert.FwdGateRefIdeal.main_arg4))

def preserves_BwdGate_BwdGateIdeal : Prop :=
  True

def algebraic_BwdGateIdeal_BwdGateRefIdeal [hBwdGateIdeal : Cert.BwdGateIdeal.Facts] [hBwdGateRefIdeal : Cert.BwdGateRefIdeal.Facts] : Prop :=
  ∀ (m : (ℓ : Loc Cert.BwdGateIdeal.nD Cert.BwdGateIdeal.τ Cert.BwdGateIdeal.sig) → Buf (Elt Ideal) ℓ) (g : Dev Cert.BwdGateIdeal.nD → PrngReg)
    (m' : (ℓ : Loc Cert.BwdGateRefIdeal.nD Cert.BwdGateRefIdeal.τ Cert.BwdGateRefIdeal.sig) → Buf (Elt Ideal) ℓ) (g' : Dev Cert.BwdGateRefIdeal.nD → PrngReg), Pre_BwdGateIdeal m →
    (∀ c : Dev Cert.BwdGateIdeal.nD,
      m' ((c.tc : Thread Cert.BwdGateRefIdeal.nD Cert.BwdGateRefIdeal.τ).loc Cert.BwdGateRefIdeal.main_arg0) = m ((c.tc : Thread Cert.BwdGateIdeal.nD Cert.BwdGateIdeal.τ).loc Cert.BwdGateIdeal.main_arg0)
      ∧ m' ((c.tc : Thread Cert.BwdGateRefIdeal.nD Cert.BwdGateRefIdeal.τ).loc Cert.BwdGateRefIdeal.main_arg1) = m ((c.tc : Thread Cert.BwdGateIdeal.nD Cert.BwdGateIdeal.τ).loc Cert.BwdGateIdeal.main_arg1)
      ∧ m' ((c.tc : Thread Cert.BwdGateRefIdeal.nD Cert.BwdGateRefIdeal.τ).loc Cert.BwdGateRefIdeal.main_arg2) = m ((c.tc : Thread Cert.BwdGateIdeal.nD Cert.BwdGateIdeal.τ).loc Cert.BwdGateIdeal.main_arg2)
      ∧ m' ((c.tc : Thread Cert.BwdGateRefIdeal.nD Cert.BwdGateRefIdeal.τ).loc Cert.BwdGateRefIdeal.main_arg3) = m ((c.tc : Thread Cert.BwdGateIdeal.nD Cert.BwdGateIdeal.τ).loc Cert.BwdGateIdeal.main_arg3)
      ∧ m' ((c.tc : Thread Cert.BwdGateRefIdeal.nD Cert.BwdGateRefIdeal.τ).loc Cert.BwdGateRefIdeal.main_arg4) = m ((c.tc : Thread Cert.BwdGateIdeal.nD Cert.BwdGateIdeal.τ).loc Cert.BwdGateIdeal.main_arg4)
      ∧ m' ((c.tc : Thread Cert.BwdGateRefIdeal.nD Cert.BwdGateRefIdeal.τ).loc Cert.BwdGateRefIdeal.main_arg5) = m ((c.tc : Thread Cert.BwdGateIdeal.nD Cert.BwdGateIdeal.τ).loc Cert.BwdGateIdeal.main_arg5)) →
    ∃ (v0 : (c : Dev Cert.BwdGateIdeal.nD) → Buf (Elt Ideal) ((c.tc : Thread Cert.BwdGateIdeal.nD Cert.BwdGateIdeal.τ).loc Cert.BwdGateIdeal.main_v0_0)) (v1 : (c : Dev Cert.BwdGateIdeal.nD) → Buf (Elt Ideal) ((c.tc : Thread Cert.BwdGateIdeal.nD Cert.BwdGateIdeal.τ).loc Cert.BwdGateIdeal.main_v0_1)) (v2 : (c : Dev Cert.BwdGateIdeal.nD) → Buf (Elt Ideal) ((c.tc : Thread Cert.BwdGateIdeal.nD Cert.BwdGateIdeal.τ).loc Cert.BwdGateIdeal.main_v0_2)) (v3 : (c : Dev Cert.BwdGateIdeal.nD) → Buf (Elt Ideal) ((c.tc : Thread Cert.BwdGateIdeal.nD Cert.BwdGateIdeal.τ).loc Cert.BwdGateIdeal.main_v0_3)) (v4 : (c : Dev Cert.BwdGateIdeal.nD) → Buf (Elt Ideal) ((c.tc : Thread Cert.BwdGateIdeal.nD Cert.BwdGateIdeal.τ).loc Cert.BwdGateIdeal.main_v0_4)) (v5 : (c : Dev Cert.BwdGateIdeal.nD) → Buf (Elt Ideal) ((c.tc : Thread Cert.BwdGateIdeal.nD Cert.BwdGateIdeal.τ).loc Cert.BwdGateIdeal.main_v0_5)) (v6 : (c : Dev Cert.BwdGateIdeal.nD) → Buf (Elt Ideal) ((c.tc : Thread Cert.BwdGateIdeal.nD Cert.BwdGateIdeal.τ).loc Cert.BwdGateIdeal.main_v0_6)),
      θ_run (Cert.BwdGateIdeal.defs (F := Ideal)) (onTc (τ := Cert.BwdGateIdeal.τ) (Cert.BwdGateIdeal.main (F := Ideal))) ⟨m, fun _ => 0, g⟩ (fun r => ∀ c : Dev Cert.BwdGateIdeal.nD,
          r.2.mem ((c.tc : Thread Cert.BwdGateIdeal.nD Cert.BwdGateIdeal.τ).loc Cert.BwdGateIdeal.main_v0_0) = v0 c
          ∧ r.2.mem ((c.tc : Thread Cert.BwdGateIdeal.nD Cert.BwdGateIdeal.τ).loc Cert.BwdGateIdeal.main_v0_1) = v1 c
          ∧ r.2.mem ((c.tc : Thread Cert.BwdGateIdeal.nD Cert.BwdGateIdeal.τ).loc Cert.BwdGateIdeal.main_v0_2) = v2 c
          ∧ r.2.mem ((c.tc : Thread Cert.BwdGateIdeal.nD Cert.BwdGateIdeal.τ).loc Cert.BwdGateIdeal.main_v0_3) = v3 c
          ∧ r.2.mem ((c.tc : Thread Cert.BwdGateIdeal.nD Cert.BwdGateIdeal.τ).loc Cert.BwdGateIdeal.main_v0_4) = v4 c
          ∧ r.2.mem ((c.tc : Thread Cert.BwdGateIdeal.nD Cert.BwdGateIdeal.τ).loc Cert.BwdGateIdeal.main_v0_5) = v5 c
          ∧ r.2.mem ((c.tc : Thread Cert.BwdGateIdeal.nD Cert.BwdGateIdeal.τ).loc Cert.BwdGateIdeal.main_v0_6) = v6 c
          ∧ r.2.mem ((c.tc : Thread Cert.BwdGateIdeal.nD Cert.BwdGateIdeal.τ).loc Cert.BwdGateIdeal.main_arg0) = m ((c.tc : Thread Cert.BwdGateIdeal.nD Cert.BwdGateIdeal.τ).loc Cert.BwdGateIdeal.main_arg0)
          ∧ r.2.mem ((c.tc : Thread Cert.BwdGateIdeal.nD Cert.BwdGateIdeal.τ).loc Cert.BwdGateIdeal.main_arg1) = m ((c.tc : Thread Cert.BwdGateIdeal.nD Cert.BwdGateIdeal.τ).loc Cert.BwdGateIdeal.main_arg1)
          ∧ r.2.mem ((c.tc : Thread Cert.BwdGateIdeal.nD Cert.BwdGateIdeal.τ).loc Cert.BwdGateIdeal.main_arg2) = m ((c.tc : Thread Cert.BwdGateIdeal.nD Cert.BwdGateIdeal.τ).loc Cert.BwdGateIdeal.main_arg2)
          ∧ r.2.mem ((c.tc : Thread Cert.BwdGateIdeal.nD Cert.BwdGateIdeal.τ).loc Cert.BwdGateIdeal.main_arg3) = m ((c.tc : Thread Cert.BwdGateIdeal.nD Cert.BwdGateIdeal.τ).loc Cert.BwdGateIdeal.main_arg3)
          ∧ r.2.mem ((c.tc : Thread Cert.BwdGateIdeal.nD Cert.BwdGateIdeal.τ).loc Cert.BwdGateIdeal.main_arg4) = m ((c.tc : Thread Cert.BwdGateIdeal.nD Cert.BwdGateIdeal.τ).loc Cert.BwdGateIdeal.main_arg4)
          ∧ r.2.mem ((c.tc : Thread Cert.BwdGateIdeal.nD Cert.BwdGateIdeal.τ).loc Cert.BwdGateIdeal.main_arg5) = m ((c.tc : Thread Cert.BwdGateIdeal.nD Cert.BwdGateIdeal.τ).loc Cert.BwdGateIdeal.main_arg5))
      ∧ θ_run (Cert.BwdGateRefIdeal.defs (F := Ideal)) (onTc (τ := Cert.BwdGateRefIdeal.τ) (Cert.BwdGateRefIdeal.main (F := Ideal))) ⟨m', fun _ => 0, g'⟩ (fun r => ∀ c : Dev Cert.BwdGateRefIdeal.nD,
          r.2.mem ((c.tc : Thread Cert.BwdGateRefIdeal.nD Cert.BwdGateRefIdeal.τ).loc Cert.BwdGateRefIdeal.main_v35) = v0 c
          ∧ r.2.mem ((c.tc : Thread Cert.BwdGateRefIdeal.nD Cert.BwdGateRefIdeal.τ).loc Cert.BwdGateRefIdeal.main_v36) = v1 c
          ∧ r.2.mem ((c.tc : Thread Cert.BwdGateRefIdeal.nD Cert.BwdGateRefIdeal.τ).loc Cert.BwdGateRefIdeal.main_v37) = v2 c
          ∧ r.2.mem ((c.tc : Thread Cert.BwdGateRefIdeal.nD Cert.BwdGateRefIdeal.τ).loc Cert.BwdGateRefIdeal.main_v38) = v3 c
          ∧ r.2.mem ((c.tc : Thread Cert.BwdGateRefIdeal.nD Cert.BwdGateRefIdeal.τ).loc Cert.BwdGateRefIdeal.main_v39) = v4 c
          ∧ r.2.mem ((c.tc : Thread Cert.BwdGateRefIdeal.nD Cert.BwdGateRefIdeal.τ).loc Cert.BwdGateRefIdeal.main_v40) = v5 c
          ∧ r.2.mem ((c.tc : Thread Cert.BwdGateRefIdeal.nD Cert.BwdGateRefIdeal.τ).loc Cert.BwdGateRefIdeal.main_v31) = v6 c
          ∧ r.2.mem ((c.tc : Thread Cert.BwdGateRefIdeal.nD Cert.BwdGateRefIdeal.τ).loc Cert.BwdGateRefIdeal.main_arg0) = m' ((c.tc : Thread Cert.BwdGateRefIdeal.nD Cert.BwdGateRefIdeal.τ).loc Cert.BwdGateRefIdeal.main_arg0)
          ∧ r.2.mem ((c.tc : Thread Cert.BwdGateRefIdeal.nD Cert.BwdGateRefIdeal.τ).loc Cert.BwdGateRefIdeal.main_arg1) = m' ((c.tc : Thread Cert.BwdGateRefIdeal.nD Cert.BwdGateRefIdeal.τ).loc Cert.BwdGateRefIdeal.main_arg1)
          ∧ r.2.mem ((c.tc : Thread Cert.BwdGateRefIdeal.nD Cert.BwdGateRefIdeal.τ).loc Cert.BwdGateRefIdeal.main_arg2) = m' ((c.tc : Thread Cert.BwdGateRefIdeal.nD Cert.BwdGateRefIdeal.τ).loc Cert.BwdGateRefIdeal.main_arg2)
          ∧ r.2.mem ((c.tc : Thread Cert.BwdGateRefIdeal.nD Cert.BwdGateRefIdeal.τ).loc Cert.BwdGateRefIdeal.main_arg3) = m' ((c.tc : Thread Cert.BwdGateRefIdeal.nD Cert.BwdGateRefIdeal.τ).loc Cert.BwdGateRefIdeal.main_arg3)
          ∧ r.2.mem ((c.tc : Thread Cert.BwdGateRefIdeal.nD Cert.BwdGateRefIdeal.τ).loc Cert.BwdGateRefIdeal.main_arg4) = m' ((c.tc : Thread Cert.BwdGateRefIdeal.nD Cert.BwdGateRefIdeal.τ).loc Cert.BwdGateRefIdeal.main_arg4)
          ∧ r.2.mem ((c.tc : Thread Cert.BwdGateRefIdeal.nD Cert.BwdGateRefIdeal.τ).loc Cert.BwdGateRefIdeal.main_arg5) = m' ((c.tc : Thread Cert.BwdGateRefIdeal.nD Cert.BwdGateRefIdeal.τ).loc Cert.BwdGateRefIdeal.main_arg5))

def preserves_FwdNorm_FwdNormIdeal : Prop :=
  True

def algebraic_FwdNormIdeal_FwdNormRefIdeal [hFwdNormIdeal : Cert.FwdNormIdeal.Facts] [hFwdNormRefIdeal : Cert.FwdNormRefIdeal.Facts] : Prop :=
  ∀ (m : (ℓ : Loc Cert.FwdNormIdeal.nD Cert.FwdNormIdeal.τ Cert.FwdNormIdeal.sig) → Buf (Elt Ideal) ℓ) (g : Dev Cert.FwdNormIdeal.nD → PrngReg)
    (m' : (ℓ : Loc Cert.FwdNormRefIdeal.nD Cert.FwdNormRefIdeal.τ Cert.FwdNormRefIdeal.sig) → Buf (Elt Ideal) ℓ) (g' : Dev Cert.FwdNormRefIdeal.nD → PrngReg), Pre_FwdNormIdeal m →
    (∀ c : Dev Cert.FwdNormIdeal.nD,
      m' ((c.tc : Thread Cert.FwdNormRefIdeal.nD Cert.FwdNormRefIdeal.τ).loc Cert.FwdNormRefIdeal.main_arg0) = m ((c.tc : Thread Cert.FwdNormIdeal.nD Cert.FwdNormIdeal.τ).loc Cert.FwdNormIdeal.main_arg0)
      ∧ m' ((c.tc : Thread Cert.FwdNormRefIdeal.nD Cert.FwdNormRefIdeal.τ).loc Cert.FwdNormRefIdeal.main_arg1) = m ((c.tc : Thread Cert.FwdNormIdeal.nD Cert.FwdNormIdeal.τ).loc Cert.FwdNormIdeal.main_arg1)) →
    ∃ (v0 : (c : Dev Cert.FwdNormIdeal.nD) → Buf (Elt Ideal) ((c.tc : Thread Cert.FwdNormIdeal.nD Cert.FwdNormIdeal.τ).loc Cert.FwdNormIdeal.main_v0)),
      θ_run (Cert.FwdNormIdeal.defs (F := Ideal)) (onTc (τ := Cert.FwdNormIdeal.τ) (Cert.FwdNormIdeal.main (F := Ideal))) ⟨m, fun _ => 0, g⟩ (fun r => ∀ c : Dev Cert.FwdNormIdeal.nD,
          r.2.mem ((c.tc : Thread Cert.FwdNormIdeal.nD Cert.FwdNormIdeal.τ).loc Cert.FwdNormIdeal.main_v0) = v0 c
          ∧ r.2.mem ((c.tc : Thread Cert.FwdNormIdeal.nD Cert.FwdNormIdeal.τ).loc Cert.FwdNormIdeal.main_arg0) = m ((c.tc : Thread Cert.FwdNormIdeal.nD Cert.FwdNormIdeal.τ).loc Cert.FwdNormIdeal.main_arg0)
          ∧ r.2.mem ((c.tc : Thread Cert.FwdNormIdeal.nD Cert.FwdNormIdeal.τ).loc Cert.FwdNormIdeal.main_arg1) = m ((c.tc : Thread Cert.FwdNormIdeal.nD Cert.FwdNormIdeal.τ).loc Cert.FwdNormIdeal.main_arg1))
      ∧ θ_run (Cert.FwdNormRefIdeal.defs (F := Ideal)) (onTc (τ := Cert.FwdNormRefIdeal.τ) (Cert.FwdNormRefIdeal.main (F := Ideal))) ⟨m', fun _ => 0, g'⟩ (fun r => ∀ c : Dev Cert.FwdNormRefIdeal.nD,
          r.2.mem ((c.tc : Thread Cert.FwdNormRefIdeal.nD Cert.FwdNormRefIdeal.τ).loc Cert.FwdNormRefIdeal.main_v12) = v0 c
          ∧ r.2.mem ((c.tc : Thread Cert.FwdNormRefIdeal.nD Cert.FwdNormRefIdeal.τ).loc Cert.FwdNormRefIdeal.main_arg0) = m' ((c.tc : Thread Cert.FwdNormRefIdeal.nD Cert.FwdNormRefIdeal.τ).loc Cert.FwdNormRefIdeal.main_arg0)
          ∧ r.2.mem ((c.tc : Thread Cert.FwdNormRefIdeal.nD Cert.FwdNormRefIdeal.τ).loc Cert.FwdNormRefIdeal.main_arg1) = m' ((c.tc : Thread Cert.FwdNormRefIdeal.nD Cert.FwdNormRefIdeal.τ).loc Cert.FwdNormRefIdeal.main_arg1))

def preserves_BwdNorm_BwdNormIdeal : Prop :=
  True

def algebraic_BwdNormIdeal_BwdNormRefIdeal [hBwdNormIdeal : Cert.BwdNormIdeal.Facts] [hBwdNormRefIdeal : Cert.BwdNormRefIdeal.Facts] : Prop :=
  ∀ (m : (ℓ : Loc Cert.BwdNormIdeal.nD Cert.BwdNormIdeal.τ Cert.BwdNormIdeal.sig) → Buf (Elt Ideal) ℓ) (g : Dev Cert.BwdNormIdeal.nD → PrngReg)
    (m' : (ℓ : Loc Cert.BwdNormRefIdeal.nD Cert.BwdNormRefIdeal.τ Cert.BwdNormRefIdeal.sig) → Buf (Elt Ideal) ℓ) (g' : Dev Cert.BwdNormRefIdeal.nD → PrngReg), Pre_BwdNormIdeal m →
    (∀ c : Dev Cert.BwdNormIdeal.nD,
      m' ((c.tc : Thread Cert.BwdNormRefIdeal.nD Cert.BwdNormRefIdeal.τ).loc Cert.BwdNormRefIdeal.main_arg0) = m ((c.tc : Thread Cert.BwdNormIdeal.nD Cert.BwdNormIdeal.τ).loc Cert.BwdNormIdeal.main_arg0)
      ∧ m' ((c.tc : Thread Cert.BwdNormRefIdeal.nD Cert.BwdNormRefIdeal.τ).loc Cert.BwdNormRefIdeal.main_arg1) = m ((c.tc : Thread Cert.BwdNormIdeal.nD Cert.BwdNormIdeal.τ).loc Cert.BwdNormIdeal.main_arg1)
      ∧ m' ((c.tc : Thread Cert.BwdNormRefIdeal.nD Cert.BwdNormRefIdeal.τ).loc Cert.BwdNormRefIdeal.main_arg2) = m ((c.tc : Thread Cert.BwdNormIdeal.nD Cert.BwdNormIdeal.τ).loc Cert.BwdNormIdeal.main_arg2)
      ∧ m' ((c.tc : Thread Cert.BwdNormRefIdeal.nD Cert.BwdNormRefIdeal.τ).loc Cert.BwdNormRefIdeal.main_arg3) = m ((c.tc : Thread Cert.BwdNormIdeal.nD Cert.BwdNormIdeal.τ).loc Cert.BwdNormIdeal.main_arg3)) →
    ∃ (v0 : (c : Dev Cert.BwdNormIdeal.nD) → Buf (Elt Ideal) ((c.tc : Thread Cert.BwdNormIdeal.nD Cert.BwdNormIdeal.τ).loc Cert.BwdNormIdeal.main_v0_0)) (v1 : (c : Dev Cert.BwdNormIdeal.nD) → Buf (Elt Ideal) ((c.tc : Thread Cert.BwdNormIdeal.nD Cert.BwdNormIdeal.τ).loc Cert.BwdNormIdeal.main_v0_1)),
      θ_run (Cert.BwdNormIdeal.defs (F := Ideal)) (onTc (τ := Cert.BwdNormIdeal.τ) (Cert.BwdNormIdeal.main (F := Ideal))) ⟨m, fun _ => 0, g⟩ (fun r => ∀ c : Dev Cert.BwdNormIdeal.nD,
          r.2.mem ((c.tc : Thread Cert.BwdNormIdeal.nD Cert.BwdNormIdeal.τ).loc Cert.BwdNormIdeal.main_v0_0) = v0 c
          ∧ r.2.mem ((c.tc : Thread Cert.BwdNormIdeal.nD Cert.BwdNormIdeal.τ).loc Cert.BwdNormIdeal.main_v0_1) = v1 c
          ∧ r.2.mem ((c.tc : Thread Cert.BwdNormIdeal.nD Cert.BwdNormIdeal.τ).loc Cert.BwdNormIdeal.main_arg0) = m ((c.tc : Thread Cert.BwdNormIdeal.nD Cert.BwdNormIdeal.τ).loc Cert.BwdNormIdeal.main_arg0)
          ∧ r.2.mem ((c.tc : Thread Cert.BwdNormIdeal.nD Cert.BwdNormIdeal.τ).loc Cert.BwdNormIdeal.main_arg1) = m ((c.tc : Thread Cert.BwdNormIdeal.nD Cert.BwdNormIdeal.τ).loc Cert.BwdNormIdeal.main_arg1)
          ∧ r.2.mem ((c.tc : Thread Cert.BwdNormIdeal.nD Cert.BwdNormIdeal.τ).loc Cert.BwdNormIdeal.main_arg2) = m ((c.tc : Thread Cert.BwdNormIdeal.nD Cert.BwdNormIdeal.τ).loc Cert.BwdNormIdeal.main_arg2)
          ∧ r.2.mem ((c.tc : Thread Cert.BwdNormIdeal.nD Cert.BwdNormIdeal.τ).loc Cert.BwdNormIdeal.main_arg3) = m ((c.tc : Thread Cert.BwdNormIdeal.nD Cert.BwdNormIdeal.τ).loc Cert.BwdNormIdeal.main_arg3))
      ∧ θ_run (Cert.BwdNormRefIdeal.defs (F := Ideal)) (onTc (τ := Cert.BwdNormRefIdeal.τ) (Cert.BwdNormRefIdeal.main (F := Ideal))) ⟨m', fun _ => 0, g'⟩ (fun r => ∀ c : Dev Cert.BwdNormRefIdeal.nD,
          r.2.mem ((c.tc : Thread Cert.BwdNormRefIdeal.nD Cert.BwdNormRefIdeal.τ).loc Cert.BwdNormRefIdeal.main_v34) = v0 c
          ∧ r.2.mem ((c.tc : Thread Cert.BwdNormRefIdeal.nD Cert.BwdNormRefIdeal.τ).loc Cert.BwdNormRefIdeal.main_v17) = v1 c
          ∧ r.2.mem ((c.tc : Thread Cert.BwdNormRefIdeal.nD Cert.BwdNormRefIdeal.τ).loc Cert.BwdNormRefIdeal.main_arg0) = m' ((c.tc : Thread Cert.BwdNormRefIdeal.nD Cert.BwdNormRefIdeal.τ).loc Cert.BwdNormRefIdeal.main_arg0)
          ∧ r.2.mem ((c.tc : Thread Cert.BwdNormRefIdeal.nD Cert.BwdNormRefIdeal.τ).loc Cert.BwdNormRefIdeal.main_arg1) = m' ((c.tc : Thread Cert.BwdNormRefIdeal.nD Cert.BwdNormRefIdeal.τ).loc Cert.BwdNormRefIdeal.main_arg1)
          ∧ r.2.mem ((c.tc : Thread Cert.BwdNormRefIdeal.nD Cert.BwdNormRefIdeal.τ).loc Cert.BwdNormRefIdeal.main_arg2) = m' ((c.tc : Thread Cert.BwdNormRefIdeal.nD Cert.BwdNormRefIdeal.τ).loc Cert.BwdNormRefIdeal.main_arg2)
          ∧ r.2.mem ((c.tc : Thread Cert.BwdNormRefIdeal.nD Cert.BwdNormRefIdeal.τ).loc Cert.BwdNormRefIdeal.main_arg3) = m' ((c.tc : Thread Cert.BwdNormRefIdeal.nD Cert.BwdNormRefIdeal.τ).loc Cert.BwdNormRefIdeal.main_arg3))

def preserves_FwdAtt_FwdAttIdeal : Prop :=
  True

def algebraic_FwdAttIdeal_FwdAttRefIdeal [hFwdAttIdeal : Cert.FwdAttIdeal.Facts] [hFwdAttRefIdeal : Cert.FwdAttRefIdeal.Facts] : Prop :=
  ∀ (m : (ℓ : Loc Cert.FwdAttIdeal.nD Cert.FwdAttIdeal.τ Cert.FwdAttIdeal.sig) → Buf (Elt Ideal) ℓ) (g : Dev Cert.FwdAttIdeal.nD → PrngReg)
    (m' : (ℓ : Loc Cert.FwdAttRefIdeal.nD Cert.FwdAttRefIdeal.τ Cert.FwdAttRefIdeal.sig) → Buf (Elt Ideal) ℓ) (g' : Dev Cert.FwdAttRefIdeal.nD → PrngReg), Pre_FwdAttIdeal m →
    (∀ c : Dev Cert.FwdAttIdeal.nD,
      m' ((c.tc : Thread Cert.FwdAttRefIdeal.nD Cert.FwdAttRefIdeal.τ).loc Cert.FwdAttRefIdeal.main_arg0) = m ((c.tc : Thread Cert.FwdAttIdeal.nD Cert.FwdAttIdeal.τ).loc Cert.FwdAttIdeal.main_arg0)
      ∧ m' ((c.tc : Thread Cert.FwdAttRefIdeal.nD Cert.FwdAttRefIdeal.τ).loc Cert.FwdAttRefIdeal.main_arg1) = m ((c.tc : Thread Cert.FwdAttIdeal.nD Cert.FwdAttIdeal.τ).loc Cert.FwdAttIdeal.main_arg1)) →
    ∃ (v0 : (c : Dev Cert.FwdAttIdeal.nD) → Buf (Elt Ideal) ((c.tc : Thread Cert.FwdAttIdeal.nD Cert.FwdAttIdeal.τ).loc Cert.FwdAttIdeal.main_v0)),
      θ_run (Cert.FwdAttIdeal.defs (F := Ideal)) (onTc (τ := Cert.FwdAttIdeal.τ) (Cert.FwdAttIdeal.main (F := Ideal))) ⟨m, fun _ => 0, g⟩ (fun r => ∀ c : Dev Cert.FwdAttIdeal.nD,
          r.2.mem ((c.tc : Thread Cert.FwdAttIdeal.nD Cert.FwdAttIdeal.τ).loc Cert.FwdAttIdeal.main_v0) = v0 c
          ∧ r.2.mem ((c.tc : Thread Cert.FwdAttIdeal.nD Cert.FwdAttIdeal.τ).loc Cert.FwdAttIdeal.main_arg0) = m ((c.tc : Thread Cert.FwdAttIdeal.nD Cert.FwdAttIdeal.τ).loc Cert.FwdAttIdeal.main_arg0)
          ∧ r.2.mem ((c.tc : Thread Cert.FwdAttIdeal.nD Cert.FwdAttIdeal.τ).loc Cert.FwdAttIdeal.main_arg1) = m ((c.tc : Thread Cert.FwdAttIdeal.nD Cert.FwdAttIdeal.τ).loc Cert.FwdAttIdeal.main_arg1))
      ∧ θ_run (Cert.FwdAttRefIdeal.defs (F := Ideal)) (onTc (τ := Cert.FwdAttRefIdeal.τ) (Cert.FwdAttRefIdeal.main (F := Ideal))) ⟨m', fun _ => 0, g'⟩ (fun r => ∀ c : Dev Cert.FwdAttRefIdeal.nD,
          r.2.mem ((c.tc : Thread Cert.FwdAttRefIdeal.nD Cert.FwdAttRefIdeal.τ).loc Cert.FwdAttRefIdeal.main_v22) = v0 c
          ∧ r.2.mem ((c.tc : Thread Cert.FwdAttRefIdeal.nD Cert.FwdAttRefIdeal.τ).loc Cert.FwdAttRefIdeal.main_arg0) = m' ((c.tc : Thread Cert.FwdAttRefIdeal.nD Cert.FwdAttRefIdeal.τ).loc Cert.FwdAttRefIdeal.main_arg0)
          ∧ r.2.mem ((c.tc : Thread Cert.FwdAttRefIdeal.nD Cert.FwdAttRefIdeal.τ).loc Cert.FwdAttRefIdeal.main_arg1) = m' ((c.tc : Thread Cert.FwdAttRefIdeal.nD Cert.FwdAttRefIdeal.τ).loc Cert.FwdAttRefIdeal.main_arg1))

def preserves_BwdAtt_BwdAttIdeal : Prop :=
  True

def algebraic_BwdAttIdeal_BwdAttRefIdeal [hBwdAttIdeal : Cert.BwdAttIdeal.Facts] [hBwdAttRefIdeal : Cert.BwdAttRefIdeal.Facts] : Prop :=
  ∀ (m : (ℓ : Loc Cert.BwdAttIdeal.nD Cert.BwdAttIdeal.τ Cert.BwdAttIdeal.sig) → Buf (Elt Ideal) ℓ) (g : Dev Cert.BwdAttIdeal.nD → PrngReg)
    (m' : (ℓ : Loc Cert.BwdAttRefIdeal.nD Cert.BwdAttRefIdeal.τ Cert.BwdAttRefIdeal.sig) → Buf (Elt Ideal) ℓ) (g' : Dev Cert.BwdAttRefIdeal.nD → PrngReg), Pre_BwdAttIdeal m →
    (∀ c : Dev Cert.BwdAttIdeal.nD,
      m' ((c.tc : Thread Cert.BwdAttRefIdeal.nD Cert.BwdAttRefIdeal.τ).loc Cert.BwdAttRefIdeal.main_arg0) = m ((c.tc : Thread Cert.BwdAttIdeal.nD Cert.BwdAttIdeal.τ).loc Cert.BwdAttIdeal.main_arg0)
      ∧ m' ((c.tc : Thread Cert.BwdAttRefIdeal.nD Cert.BwdAttRefIdeal.τ).loc Cert.BwdAttRefIdeal.main_arg1) = m ((c.tc : Thread Cert.BwdAttIdeal.nD Cert.BwdAttIdeal.τ).loc Cert.BwdAttIdeal.main_arg1)
      ∧ m' ((c.tc : Thread Cert.BwdAttRefIdeal.nD Cert.BwdAttRefIdeal.τ).loc Cert.BwdAttRefIdeal.main_arg2) = m ((c.tc : Thread Cert.BwdAttIdeal.nD Cert.BwdAttIdeal.τ).loc Cert.BwdAttIdeal.main_arg2)) →
    ∃ (v0 : (c : Dev Cert.BwdAttIdeal.nD) → Buf (Elt Ideal) ((c.tc : Thread Cert.BwdAttIdeal.nD Cert.BwdAttIdeal.τ).loc Cert.BwdAttIdeal.main_v0_0)) (v1 : (c : Dev Cert.BwdAttIdeal.nD) → Buf (Elt Ideal) ((c.tc : Thread Cert.BwdAttIdeal.nD Cert.BwdAttIdeal.τ).loc Cert.BwdAttIdeal.main_v0_1)),
      θ_run (Cert.BwdAttIdeal.defs (F := Ideal)) (onTc (τ := Cert.BwdAttIdeal.τ) (Cert.BwdAttIdeal.main (F := Ideal))) ⟨m, fun _ => 0, g⟩ (fun r => ∀ c : Dev Cert.BwdAttIdeal.nD,
          r.2.mem ((c.tc : Thread Cert.BwdAttIdeal.nD Cert.BwdAttIdeal.τ).loc Cert.BwdAttIdeal.main_v0_0) = v0 c
          ∧ r.2.mem ((c.tc : Thread Cert.BwdAttIdeal.nD Cert.BwdAttIdeal.τ).loc Cert.BwdAttIdeal.main_v0_1) = v1 c
          ∧ r.2.mem ((c.tc : Thread Cert.BwdAttIdeal.nD Cert.BwdAttIdeal.τ).loc Cert.BwdAttIdeal.main_arg0) = m ((c.tc : Thread Cert.BwdAttIdeal.nD Cert.BwdAttIdeal.τ).loc Cert.BwdAttIdeal.main_arg0)
          ∧ r.2.mem ((c.tc : Thread Cert.BwdAttIdeal.nD Cert.BwdAttIdeal.τ).loc Cert.BwdAttIdeal.main_arg1) = m ((c.tc : Thread Cert.BwdAttIdeal.nD Cert.BwdAttIdeal.τ).loc Cert.BwdAttIdeal.main_arg1)
          ∧ r.2.mem ((c.tc : Thread Cert.BwdAttIdeal.nD Cert.BwdAttIdeal.τ).loc Cert.BwdAttIdeal.main_arg2) = m ((c.tc : Thread Cert.BwdAttIdeal.nD Cert.BwdAttIdeal.τ).loc Cert.BwdAttIdeal.main_arg2))
      ∧ θ_run (Cert.BwdAttRefIdeal.defs (F := Ideal)) (onTc (τ := Cert.BwdAttRefIdeal.τ) (Cert.BwdAttRefIdeal.main (F := Ideal))) ⟨m', fun _ => 0, g'⟩ (fun r => ∀ c : Dev Cert.BwdAttRefIdeal.nD,
          r.2.mem ((c.tc : Thread Cert.BwdAttRefIdeal.nD Cert.BwdAttRefIdeal.τ).loc Cert.BwdAttRefIdeal.main_v66) = v0 c
          ∧ r.2.mem ((c.tc : Thread Cert.BwdAttRefIdeal.nD Cert.BwdAttRefIdeal.τ).loc Cert.BwdAttRefIdeal.main_v64) = v1 c
          ∧ r.2.mem ((c.tc : Thread Cert.BwdAttRefIdeal.nD Cert.BwdAttRefIdeal.τ).loc Cert.BwdAttRefIdeal.main_arg0) = m' ((c.tc : Thread Cert.BwdAttRefIdeal.nD Cert.BwdAttRefIdeal.τ).loc Cert.BwdAttRefIdeal.main_arg0)
          ∧ r.2.mem ((c.tc : Thread Cert.BwdAttRefIdeal.nD Cert.BwdAttRefIdeal.τ).loc Cert.BwdAttRefIdeal.main_arg1) = m' ((c.tc : Thread Cert.BwdAttRefIdeal.nD Cert.BwdAttRefIdeal.τ).loc Cert.BwdAttRefIdeal.main_arg1)
          ∧ r.2.mem ((c.tc : Thread Cert.BwdAttRefIdeal.nD Cert.BwdAttRefIdeal.τ).loc Cert.BwdAttRefIdeal.main_arg2) = m' ((c.tc : Thread Cert.BwdAttRefIdeal.nD Cert.BwdAttRefIdeal.τ).loc Cert.BwdAttRefIdeal.main_arg2))

def preserves_FwdMix_FwdMixIdeal : Prop :=
  True

def algebraic_FwdMixIdeal_FwdMixRefIdeal [hFwdMixIdeal : Cert.FwdMixIdeal.Facts] [hFwdMixRefIdeal : Cert.FwdMixRefIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRefIdeal.nD Cert.FwdMixRefIdeal.τ Cert.FwdMixRefIdeal.sig) → Buf (Elt Ideal) ℓ) (g' : Dev Cert.FwdMixRefIdeal.nD → PrngReg), Pre_FwdMixIdeal m →
    (∀ c : Dev Cert.FwdMixIdeal.nD,
      m' ((c.tc : Thread Cert.FwdMixRefIdeal.nD Cert.FwdMixRefIdeal.τ).loc Cert.FwdMixRefIdeal.main_arg0) = m ((c.tc : Thread Cert.FwdMixIdeal.nD Cert.FwdMixIdeal.τ).loc Cert.FwdMixIdeal.main_arg0)
      ∧ m' ((c.tc : Thread Cert.FwdMixRefIdeal.nD Cert.FwdMixRefIdeal.τ).loc Cert.FwdMixRefIdeal.main_arg1) = m ((c.tc : Thread Cert.FwdMixIdeal.nD Cert.FwdMixIdeal.τ).loc Cert.FwdMixIdeal.main_arg1)
      ∧ m' ((c.tc : Thread Cert.FwdMixRefIdeal.nD Cert.FwdMixRefIdeal.τ).loc Cert.FwdMixRefIdeal.main_arg2) = m ((c.tc : Thread Cert.FwdMixIdeal.nD Cert.FwdMixIdeal.τ).loc Cert.FwdMixIdeal.main_arg2)
      ∧ m' ((c.tc : Thread Cert.FwdMixRefIdeal.nD Cert.FwdMixRefIdeal.τ).loc Cert.FwdMixRefIdeal.main_arg3) = m ((c.tc : Thread Cert.FwdMixIdeal.nD Cert.FwdMixIdeal.τ).loc Cert.FwdMixIdeal.main_arg3)
      ∧ m' ((c.tc : Thread Cert.FwdMixRefIdeal.nD Cert.FwdMixRefIdeal.τ).loc Cert.FwdMixRefIdeal.main_arg4) = m ((c.tc : Thread Cert.FwdMixIdeal.nD Cert.FwdMixIdeal.τ).loc Cert.FwdMixIdeal.main_arg4)
      ∧ m' ((c.tc : Thread Cert.FwdMixRefIdeal.nD Cert.FwdMixRefIdeal.τ).loc Cert.FwdMixRefIdeal.main_arg5) = m ((c.tc : Thread Cert.FwdMixIdeal.nD Cert.FwdMixIdeal.τ).loc Cert.FwdMixIdeal.main_arg5)
      ∧ m' ((c.tc : Thread Cert.FwdMixRefIdeal.nD Cert.FwdMixRefIdeal.τ).loc Cert.FwdMixRefIdeal.main_arg6) = m ((c.tc : Thread Cert.FwdMixIdeal.nD Cert.FwdMixIdeal.τ).loc Cert.FwdMixIdeal.main_arg6)
      ∧ m' ((c.tc : Thread Cert.FwdMixRefIdeal.nD Cert.FwdMixRefIdeal.τ).loc Cert.FwdMixRefIdeal.main_arg7) = m ((c.tc : Thread Cert.FwdMixIdeal.nD Cert.FwdMixIdeal.τ).loc Cert.FwdMixIdeal.main_arg7)) →
    ∃ (v0 : (c : Dev Cert.FwdMixIdeal.nD) → Buf (Elt Ideal) ((c.tc : Thread Cert.FwdMixIdeal.nD Cert.FwdMixIdeal.τ).loc Cert.FwdMixIdeal.main_v0)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v0) = v0 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7))
      ∧ θ_run (Cert.FwdMixRefIdeal.defs (F := Ideal)) (onTc (τ := Cert.FwdMixRefIdeal.τ) (Cert.FwdMixRefIdeal.main (F := Ideal))) ⟨m', fun _ => 0, g'⟩ (fun r => ∀ c : Dev Cert.FwdMixRefIdeal.nD,
          r.2.mem ((c.tc : Thread Cert.FwdMixRefIdeal.nD Cert.FwdMixRefIdeal.τ).loc Cert.FwdMixRefIdeal.main_v63) = v0 c
          ∧ r.2.mem ((c.tc : Thread Cert.FwdMixRefIdeal.nD Cert.FwdMixRefIdeal.τ).loc Cert.FwdMixRefIdeal.main_arg0) = m' ((c.tc : Thread Cert.FwdMixRefIdeal.nD Cert.FwdMixRefIdeal.τ).loc Cert.FwdMixRefIdeal.main_arg0)
          ∧ r.2.mem ((c.tc : Thread Cert.FwdMixRefIdeal.nD Cert.FwdMixRefIdeal.τ).loc Cert.FwdMixRefIdeal.main_arg1) = m' ((c.tc : Thread Cert.FwdMixRefIdeal.nD Cert.FwdMixRefIdeal.τ).loc Cert.FwdMixRefIdeal.main_arg1)
          ∧ r.2.mem ((c.tc : Thread Cert.FwdMixRefIdeal.nD Cert.FwdMixRefIdeal.τ).loc Cert.FwdMixRefIdeal.main_arg2) = m' ((c.tc : Thread Cert.FwdMixRefIdeal.nD Cert.FwdMixRefIdeal.τ).loc Cert.FwdMixRefIdeal.main_arg2)
          ∧ r.2.mem ((c.tc : Thread Cert.FwdMixRefIdeal.nD Cert.FwdMixRefIdeal.τ).loc Cert.FwdMixRefIdeal.main_arg3) = m' ((c.tc : Thread Cert.FwdMixRefIdeal.nD Cert.FwdMixRefIdeal.τ).loc Cert.FwdMixRefIdeal.main_arg3)
          ∧ r.2.mem ((c.tc : Thread Cert.FwdMixRefIdeal.nD Cert.FwdMixRefIdeal.τ).loc Cert.FwdMixRefIdeal.main_arg4) = m' ((c.tc : Thread Cert.FwdMixRefIdeal.nD Cert.FwdMixRefIdeal.τ).loc Cert.FwdMixRefIdeal.main_arg4)
          ∧ r.2.mem ((c.tc : Thread Cert.FwdMixRefIdeal.nD Cert.FwdMixRefIdeal.τ).loc Cert.FwdMixRefIdeal.main_arg5) = m' ((c.tc : Thread Cert.FwdMixRefIdeal.nD Cert.FwdMixRefIdeal.τ).loc Cert.FwdMixRefIdeal.main_arg5)
          ∧ r.2.mem ((c.tc : Thread Cert.FwdMixRefIdeal.nD Cert.FwdMixRefIdeal.τ).loc Cert.FwdMixRefIdeal.main_arg6) = m' ((c.tc : Thread Cert.FwdMixRefIdeal.nD Cert.FwdMixRefIdeal.τ).loc Cert.FwdMixRefIdeal.main_arg6)
          ∧ r.2.mem ((c.tc : Thread Cert.FwdMixRefIdeal.nD Cert.FwdMixRefIdeal.τ).loc Cert.FwdMixRefIdeal.main_arg7) = m' ((c.tc : Thread Cert.FwdMixRefIdeal.nD Cert.FwdMixRefIdeal.τ).loc Cert.FwdMixRefIdeal.main_arg7))

def preserves_BwdMix_BwdMixIdeal : Prop :=
  True

def algebraic_BwdMixIdeal_BwdMixRefIdeal [hBwdMixIdeal : Cert.BwdMixIdeal.Facts] [hBwdMixRefIdeal : Cert.BwdMixRefIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg)
    (m' : (ℓ : Loc Cert.BwdMixRefIdeal.nD Cert.BwdMixRefIdeal.τ Cert.BwdMixRefIdeal.sig) → Buf (Elt Ideal) ℓ) (g' : Dev Cert.BwdMixRefIdeal.nD → PrngReg), Pre_BwdMixIdeal m →
    (∀ c : Dev Cert.BwdMixIdeal.nD,
      m' ((c.tc : Thread Cert.BwdMixRefIdeal.nD Cert.BwdMixRefIdeal.τ).loc Cert.BwdMixRefIdeal.main_arg0) = m ((c.tc : Thread Cert.BwdMixIdeal.nD Cert.BwdMixIdeal.τ).loc Cert.BwdMixIdeal.main_arg0)
      ∧ m' ((c.tc : Thread Cert.BwdMixRefIdeal.nD Cert.BwdMixRefIdeal.τ).loc Cert.BwdMixRefIdeal.main_arg1) = m ((c.tc : Thread Cert.BwdMixIdeal.nD Cert.BwdMixIdeal.τ).loc Cert.BwdMixIdeal.main_arg1)
      ∧ m' ((c.tc : Thread Cert.BwdMixRefIdeal.nD Cert.BwdMixRefIdeal.τ).loc Cert.BwdMixRefIdeal.main_arg2) = m ((c.tc : Thread Cert.BwdMixIdeal.nD Cert.BwdMixIdeal.τ).loc Cert.BwdMixIdeal.main_arg2)
      ∧ m' ((c.tc : Thread Cert.BwdMixRefIdeal.nD Cert.BwdMixRefIdeal.τ).loc Cert.BwdMixRefIdeal.main_arg3) = m ((c.tc : Thread Cert.BwdMixIdeal.nD Cert.BwdMixIdeal.τ).loc Cert.BwdMixIdeal.main_arg3)
      ∧ m' ((c.tc : Thread Cert.BwdMixRefIdeal.nD Cert.BwdMixRefIdeal.τ).loc Cert.BwdMixRefIdeal.main_arg4) = m ((c.tc : Thread Cert.BwdMixIdeal.nD Cert.BwdMixIdeal.τ).loc Cert.BwdMixIdeal.main_arg4)
      ∧ m' ((c.tc : Thread Cert.BwdMixRefIdeal.nD Cert.BwdMixRefIdeal.τ).loc Cert.BwdMixRefIdeal.main_arg5) = m ((c.tc : Thread Cert.BwdMixIdeal.nD Cert.BwdMixIdeal.τ).loc Cert.BwdMixIdeal.main_arg5)
      ∧ m' ((c.tc : Thread Cert.BwdMixRefIdeal.nD Cert.BwdMixRefIdeal.τ).loc Cert.BwdMixRefIdeal.main_arg6) = m ((c.tc : Thread Cert.BwdMixIdeal.nD Cert.BwdMixIdeal.τ).loc Cert.BwdMixIdeal.main_arg6)
      ∧ m' ((c.tc : Thread Cert.BwdMixRefIdeal.nD Cert.BwdMixRefIdeal.τ).loc Cert.BwdMixRefIdeal.main_arg7) = m ((c.tc : Thread Cert.BwdMixIdeal.nD Cert.BwdMixIdeal.τ).loc Cert.BwdMixIdeal.main_arg7)
      ∧ m' ((c.tc : Thread Cert.BwdMixRefIdeal.nD Cert.BwdMixRefIdeal.τ).loc Cert.BwdMixRefIdeal.main_arg8) = m ((c.tc : Thread Cert.BwdMixIdeal.nD Cert.BwdMixIdeal.τ).loc Cert.BwdMixIdeal.main_arg8)
      ∧ m' ((c.tc : Thread Cert.BwdMixRefIdeal.nD Cert.BwdMixRefIdeal.τ).loc Cert.BwdMixRefIdeal.main_arg9) = m ((c.tc : Thread Cert.BwdMixIdeal.nD Cert.BwdMixIdeal.τ).loc Cert.BwdMixIdeal.main_arg9)
      ∧ m' ((c.tc : Thread Cert.BwdMixRefIdeal.nD Cert.BwdMixRefIdeal.τ).loc Cert.BwdMixRefIdeal.main_arg10) = m ((c.tc : Thread Cert.BwdMixIdeal.nD Cert.BwdMixIdeal.τ).loc Cert.BwdMixIdeal.main_arg10)) →
    ∃ (v0 : (c : Dev Cert.BwdMixIdeal.nD) → Buf (Elt Ideal) ((c.tc : Thread Cert.BwdMixIdeal.nD Cert.BwdMixIdeal.τ).loc Cert.BwdMixIdeal.main_v0_0)) (v1 : (c : Dev Cert.BwdMixIdeal.nD) → Buf (Elt Ideal) ((c.tc : Thread Cert.BwdMixIdeal.nD Cert.BwdMixIdeal.τ).loc Cert.BwdMixIdeal.main_v0_1)) (v2 : (c : Dev Cert.BwdMixIdeal.nD) → Buf (Elt Ideal) ((c.tc : Thread Cert.BwdMixIdeal.nD Cert.BwdMixIdeal.τ).loc Cert.BwdMixIdeal.main_v0_2)) (v3 : (c : Dev Cert.BwdMixIdeal.nD) → Buf (Elt Ideal) ((c.tc : Thread Cert.BwdMixIdeal.nD Cert.BwdMixIdeal.τ).loc Cert.BwdMixIdeal.main_v0_3)) (v4 : (c : Dev Cert.BwdMixIdeal.nD) → Buf (Elt Ideal) ((c.tc : Thread Cert.BwdMixIdeal.nD Cert.BwdMixIdeal.τ).loc Cert.BwdMixIdeal.main_v0_4)) (v5 : (c : Dev Cert.BwdMixIdeal.nD) → Buf (Elt Ideal) ((c.tc : Thread Cert.BwdMixIdeal.nD Cert.BwdMixIdeal.τ).loc Cert.BwdMixIdeal.main_v0_5)) (v6 : (c : Dev Cert.BwdMixIdeal.nD) → Buf (Elt Ideal) ((c.tc : Thread Cert.BwdMixIdeal.nD Cert.BwdMixIdeal.τ).loc Cert.BwdMixIdeal.main_v0_6)) (v7 : (c : Dev Cert.BwdMixIdeal.nD) → Buf (Elt Ideal) ((c.tc : Thread Cert.BwdMixIdeal.nD Cert.BwdMixIdeal.τ).loc Cert.BwdMixIdeal.main_v0_7)) (v8 : (c : Dev Cert.BwdMixIdeal.nD) → Buf (Elt Ideal) ((c.tc : Thread Cert.BwdMixIdeal.nD Cert.BwdMixIdeal.τ).loc Cert.BwdMixIdeal.main_v0_8)) (v9 : (c : Dev Cert.BwdMixIdeal.nD) → Buf (Elt Ideal) ((c.tc : Thread Cert.BwdMixIdeal.nD Cert.BwdMixIdeal.τ).loc Cert.BwdMixIdeal.main_v0_9)),
      θ_run (Cert.BwdMixIdeal.defs (F := Ideal)) (onTc (τ := Cert.BwdMixIdeal.τ) (Cert.BwdMixIdeal.main (F := Ideal))) ⟨m, fun _ => 0, g⟩ (fun r => ∀ c : Dev Cert.BwdMixIdeal.nD,
          r.2.mem ((c.tc : Thread Cert.BwdMixIdeal.nD Cert.BwdMixIdeal.τ).loc Cert.BwdMixIdeal.main_v0_0) = v0 c
          ∧ r.2.mem ((c.tc : Thread Cert.BwdMixIdeal.nD Cert.BwdMixIdeal.τ).loc Cert.BwdMixIdeal.main_v0_1) = v1 c
          ∧ r.2.mem ((c.tc : Thread Cert.BwdMixIdeal.nD Cert.BwdMixIdeal.τ).loc Cert.BwdMixIdeal.main_v0_2) = v2 c
          ∧ r.2.mem ((c.tc : Thread Cert.BwdMixIdeal.nD Cert.BwdMixIdeal.τ).loc Cert.BwdMixIdeal.main_v0_3) = v3 c
          ∧ r.2.mem ((c.tc : Thread Cert.BwdMixIdeal.nD Cert.BwdMixIdeal.τ).loc Cert.BwdMixIdeal.main_v0_4) = v4 c
          ∧ r.2.mem ((c.tc : Thread Cert.BwdMixIdeal.nD Cert.BwdMixIdeal.τ).loc Cert.BwdMixIdeal.main_v0_5) = v5 c
          ∧ r.2.mem ((c.tc : Thread Cert.BwdMixIdeal.nD Cert.BwdMixIdeal.τ).loc Cert.BwdMixIdeal.main_v0_6) = v6 c
          ∧ r.2.mem ((c.tc : Thread Cert.BwdMixIdeal.nD Cert.BwdMixIdeal.τ).loc Cert.BwdMixIdeal.main_v0_7) = v7 c
          ∧ r.2.mem ((c.tc : Thread Cert.BwdMixIdeal.nD Cert.BwdMixIdeal.τ).loc Cert.BwdMixIdeal.main_v0_8) = v8 c
          ∧ r.2.mem ((c.tc : Thread Cert.BwdMixIdeal.nD Cert.BwdMixIdeal.τ).loc Cert.BwdMixIdeal.main_v0_9) = v9 c
          ∧ r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
          ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
          ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
          ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
          ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
          ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
          ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6)
          ∧ r.2.mem ((c.tc : Thread Cert.BwdMixIdeal.nD Cert.BwdMixIdeal.τ).loc Cert.BwdMixIdeal.main_arg7) = m ((c.tc : Thread Cert.BwdMixIdeal.nD Cert.BwdMixIdeal.τ).loc Cert.BwdMixIdeal.main_arg7)
          ∧ r.2.mem ((c.tc : Thread Cert.BwdMixIdeal.nD Cert.BwdMixIdeal.τ).loc Cert.BwdMixIdeal.main_arg8) = m ((c.tc : Thread Cert.BwdMixIdeal.nD Cert.BwdMixIdeal.τ).loc Cert.BwdMixIdeal.main_arg8)
          ∧ r.2.mem ((c.tc : Thread Cert.BwdMixIdeal.nD Cert.BwdMixIdeal.τ).loc Cert.BwdMixIdeal.main_arg9) = m ((c.tc : Thread Cert.BwdMixIdeal.nD Cert.BwdMixIdeal.τ).loc Cert.BwdMixIdeal.main_arg9)
          ∧ r.2.mem ((c.tc : Thread Cert.BwdMixIdeal.nD Cert.BwdMixIdeal.τ).loc Cert.BwdMixIdeal.main_arg10) = m ((c.tc : Thread Cert.BwdMixIdeal.nD Cert.BwdMixIdeal.τ).loc Cert.BwdMixIdeal.main_arg10))
      ∧ θ_run (Cert.BwdMixRefIdeal.defs (F := Ideal)) (onTc (τ := Cert.BwdMixRefIdeal.τ) (Cert.BwdMixRefIdeal.main (F := Ideal))) ⟨m', fun _ => 0, g'⟩ (fun r => ∀ c : Dev Cert.BwdMixRefIdeal.nD,
          r.2.mem ((c.tc : Thread Cert.BwdMixRefIdeal.nD Cert.BwdMixRefIdeal.τ).loc Cert.BwdMixRefIdeal.main_v138) = v0 c
          ∧ r.2.mem ((c.tc : Thread Cert.BwdMixRefIdeal.nD Cert.BwdMixRefIdeal.τ).loc Cert.BwdMixRefIdeal.main_v151) = v1 c
          ∧ r.2.mem ((c.tc : Thread Cert.BwdMixRefIdeal.nD Cert.BwdMixRefIdeal.τ).loc Cert.BwdMixRefIdeal.main_v136) = v2 c
          ∧ r.2.mem ((c.tc : Thread Cert.BwdMixRefIdeal.nD Cert.BwdMixRefIdeal.τ).loc Cert.BwdMixRefIdeal.main_v152) = v3 c
          ∧ r.2.mem ((c.tc : Thread Cert.BwdMixRefIdeal.nD Cert.BwdMixRefIdeal.τ).loc Cert.BwdMixRefIdeal.main_v153) = v4 c
          ∧ r.2.mem ((c.tc : Thread Cert.BwdMixRefIdeal.nD Cert.BwdMixRefIdeal.τ).loc Cert.BwdMixRefIdeal.main_v107) = v5 c
          ∧ r.2.mem ((c.tc : Thread Cert.BwdMixRefIdeal.nD Cert.BwdMixRefIdeal.τ).loc Cert.BwdMixRefIdeal.main_v135) = v6 c
          ∧ r.2.mem ((c.tc : Thread Cert.BwdMixRefIdeal.nD Cert.BwdMixRefIdeal.τ).loc Cert.BwdMixRefIdeal.main_v110) = v7 c
          ∧ r.2.mem ((c.tc : Thread Cert.BwdMixRefIdeal.nD Cert.BwdMixRefIdeal.τ).loc Cert.BwdMixRefIdeal.main_v91) = v8 c
          ∧ r.2.mem ((c.tc : Thread Cert.BwdMixRefIdeal.nD Cert.BwdMixRefIdeal.τ).loc Cert.BwdMixRefIdeal.main_v89) = v9 c
          ∧ r.2.mem ((c.tc : Thread Cert.BwdMixRefIdeal.nD Cert.BwdMixRefIdeal.τ).loc Cert.BwdMixRefIdeal.main_arg0) = m' ((c.tc : Thread Cert.BwdMixRefIdeal.nD Cert.BwdMixRefIdeal.τ).loc Cert.BwdMixRefIdeal.main_arg0)
          ∧ r.2.mem ((c.tc : Thread Cert.BwdMixRefIdeal.nD Cert.BwdMixRefIdeal.τ).loc Cert.BwdMixRefIdeal.main_arg1) = m' ((c.tc : Thread Cert.BwdMixRefIdeal.nD Cert.BwdMixRefIdeal.τ).loc Cert.BwdMixRefIdeal.main_arg1)
          ∧ r.2.mem ((c.tc : Thread Cert.BwdMixRefIdeal.nD Cert.BwdMixRefIdeal.τ).loc Cert.BwdMixRefIdeal.main_arg2) = m' ((c.tc : Thread Cert.BwdMixRefIdeal.nD Cert.BwdMixRefIdeal.τ).loc Cert.BwdMixRefIdeal.main_arg2)
          ∧ r.2.mem ((c.tc : Thread Cert.BwdMixRefIdeal.nD Cert.BwdMixRefIdeal.τ).loc Cert.BwdMixRefIdeal.main_arg3) = m' ((c.tc : Thread Cert.BwdMixRefIdeal.nD Cert.BwdMixRefIdeal.τ).loc Cert.BwdMixRefIdeal.main_arg3)
          ∧ r.2.mem ((c.tc : Thread Cert.BwdMixRefIdeal.nD Cert.BwdMixRefIdeal.τ).loc Cert.BwdMixRefIdeal.main_arg4) = m' ((c.tc : Thread Cert.BwdMixRefIdeal.nD Cert.BwdMixRefIdeal.τ).loc Cert.BwdMixRefIdeal.main_arg4)
          ∧ r.2.mem ((c.tc : Thread Cert.BwdMixRefIdeal.nD Cert.BwdMixRefIdeal.τ).loc Cert.BwdMixRefIdeal.main_arg5) = m' ((c.tc : Thread Cert.BwdMixRefIdeal.nD Cert.BwdMixRefIdeal.τ).loc Cert.BwdMixRefIdeal.main_arg5)
          ∧ r.2.mem ((c.tc : Thread Cert.BwdMixRefIdeal.nD Cert.BwdMixRefIdeal.τ).loc Cert.BwdMixRefIdeal.main_arg6) = m' ((c.tc : Thread Cert.BwdMixRefIdeal.nD Cert.BwdMixRefIdeal.τ).loc Cert.BwdMixRefIdeal.main_arg6)
          ∧ r.2.mem ((c.tc : Thread Cert.BwdMixRefIdeal.nD Cert.BwdMixRefIdeal.τ).loc Cert.BwdMixRefIdeal.main_arg7) = m' ((c.tc : Thread Cert.BwdMixRefIdeal.nD Cert.BwdMixRefIdeal.τ).loc Cert.BwdMixRefIdeal.main_arg7)
          ∧ r.2.mem ((c.tc : Thread Cert.BwdMixRefIdeal.nD Cert.BwdMixRefIdeal.τ).loc Cert.BwdMixRefIdeal.main_arg8) = m' ((c.tc : Thread Cert.BwdMixRefIdeal.nD Cert.BwdMixRefIdeal.τ).loc Cert.BwdMixRefIdeal.main_arg8)
          ∧ r.2.mem ((c.tc : Thread Cert.BwdMixRefIdeal.nD Cert.BwdMixRefIdeal.τ).loc Cert.BwdMixRefIdeal.main_arg9) = m' ((c.tc : Thread Cert.BwdMixRefIdeal.nD Cert.BwdMixRefIdeal.τ).loc Cert.BwdMixRefIdeal.main_arg9)
          ∧ r.2.mem ((c.tc : Thread Cert.BwdMixRefIdeal.nD Cert.BwdMixRefIdeal.τ).loc Cert.BwdMixRefIdeal.main_arg10) = m' ((c.tc : Thread Cert.BwdMixRefIdeal.nD Cert.BwdMixRefIdeal.τ).loc Cert.BwdMixRefIdeal.main_arg10))

def Claim : Prop :=
  ∃ (hKernel : Cert.Kernel.Facts) (hKernelIdeal : Cert.KernelIdeal.Facts) (hReferenceIdeal : Cert.ReferenceIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hUpX : Cert.UpX.Facts) (hUpXIdeal : Cert.UpXIdeal.Facts) (hUpXRefIdeal : Cert.UpXRefIdeal.Facts) (hUpW : Cert.UpW.Facts) (hUpWIdeal : Cert.UpWIdeal.Facts) (hUpWRefIdeal : Cert.UpWRefIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hFwdIn : Cert.FwdIn.Facts) (hFwdInIdeal : Cert.FwdInIdeal.Facts) (hFwdInRefIdeal : Cert.FwdInRefIdeal.Facts) (hFwdBa : Cert.FwdBa.Facts) (hFwdBaIdeal : Cert.FwdBaIdeal.Facts) (hFwdBaRefIdeal : Cert.FwdBaRefIdeal.Facts) (hFwdBranch0 : Cert.FwdBranch0.Facts) (hFwdBranch0Ideal : Cert.FwdBranch0Ideal.Facts) (hFwdBranch0RefIdeal : Cert.FwdBranch0RefIdeal.Facts) (hFwdBranch1 : Cert.FwdBranch1.Facts) (hFwdBranch1Ideal : Cert.FwdBranch1Ideal.Facts) (hFwdBranch1RefIdeal : Cert.FwdBranch1RefIdeal.Facts) (hFwdBranch2 : Cert.FwdBranch2.Facts) (hFwdBranch2Ideal : Cert.FwdBranch2Ideal.Facts) (hFwdBranch2RefIdeal : Cert.FwdBranch2RefIdeal.Facts) (hFwdOut : Cert.FwdOut.Facts) (hFwdOutIdeal : Cert.FwdOutIdeal.Facts) (hFwdOutRefIdeal : Cert.FwdOutRefIdeal.Facts) (hFwdQ : Cert.FwdQ.Facts) (hFwdQIdeal : Cert.FwdQIdeal.Facts) (hFwdQRefIdeal : Cert.FwdQRefIdeal.Facts) (hFwdKv : Cert.FwdKv.Facts) (hFwdKvIdeal : Cert.FwdKvIdeal.Facts) (hFwdKvRefIdeal : Cert.FwdKvRefIdeal.Facts) (hFwdUp : Cert.FwdUp.Facts) (hFwdUpIdeal : Cert.FwdUpIdeal.Facts) (hFwdUpRefIdeal : Cert.FwdUpRefIdeal.Facts) (hFwdDown : Cert.FwdDown.Facts) (hFwdDownIdeal : Cert.FwdDownIdeal.Facts) (hFwdDownRefIdeal : Cert.FwdDownRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hQX : Cert.QX.Facts) (hQXIdeal : Cert.QXIdeal.Facts) (hQXRefIdeal : Cert.QXRefIdeal.Facts) (hQW : Cert.QW.Facts) (hQWIdeal : Cert.QWIdeal.Facts) (hQWRefIdeal : Cert.QWRefIdeal.Facts) (hKvX : Cert.KvX.Facts) (hKvXIdeal : Cert.KvXIdeal.Facts) (hKvXRefIdeal : Cert.KvXRefIdeal.Facts) (hKvW : Cert.KvW.Facts) (hKvWIdeal : Cert.KvWIdeal.Facts) (hKvWRefIdeal : Cert.KvWRefIdeal.Facts) (hBranchX : Cert.BranchX.Facts) (hBranchXIdeal : Cert.BranchXIdeal.Facts) (hBranchXRefIdeal : Cert.BranchXRefIdeal.Facts) (hBranchW0 : Cert.BranchW0.Facts) (hBranchW0Ideal : Cert.BranchW0Ideal.Facts) (hBranchW0RefIdeal : Cert.BranchW0RefIdeal.Facts) (hBranchW1 : Cert.BranchW1.Facts) (hBranchW1Ideal : Cert.BranchW1Ideal.Facts) (hBranchW1RefIdeal : Cert.BranchW1RefIdeal.Facts) (hBranchW2 : Cert.BranchW2.Facts) (hBranchW2Ideal : Cert.BranchW2Ideal.Facts) (hBranchW2RefIdeal : Cert.BranchW2RefIdeal.Facts) (hBaX : Cert.BaX.Facts) (hBaXIdeal : Cert.BaXIdeal.Facts) (hBaXRefIdeal : Cert.BaXRefIdeal.Facts) (hBaW : Cert.BaW.Facts) (hBaWIdeal : Cert.BaWIdeal.Facts) (hBaWRefIdeal : Cert.BaWRefIdeal.Facts) (hFwdGate : Cert.FwdGate.Facts) (hFwdGateIdeal : Cert.FwdGateIdeal.Facts) (hFwdGateRefIdeal : Cert.FwdGateRefIdeal.Facts) (hBwdGate : Cert.BwdGate.Facts) (hBwdGateIdeal : Cert.BwdGateIdeal.Facts) (hBwdGateRefIdeal : Cert.BwdGateRefIdeal.Facts) (hFwdNorm : Cert.FwdNorm.Facts) (hFwdNormIdeal : Cert.FwdNormIdeal.Facts) (hFwdNormRefIdeal : Cert.FwdNormRefIdeal.Facts) (hBwdNorm : Cert.BwdNorm.Facts) (hBwdNormIdeal : Cert.BwdNormIdeal.Facts) (hBwdNormRefIdeal : Cert.BwdNormRefIdeal.Facts) (hFwdAtt : Cert.FwdAtt.Facts) (hFwdAttIdeal : Cert.FwdAttIdeal.Facts) (hFwdAttRefIdeal : Cert.FwdAttRefIdeal.Facts) (hBwdAtt : Cert.BwdAtt.Facts) (hBwdAttIdeal : Cert.BwdAttIdeal.Facts) (hBwdAttRefIdeal : Cert.BwdAttRefIdeal.Facts) (hFwdMix : Cert.FwdMix.Facts) (hFwdMixIdeal : Cert.FwdMixIdeal.Facts) (hFwdMixRefIdeal : Cert.FwdMixRefIdeal.Facts) (hBwdMix : Cert.BwdMix.Facts) (hBwdMixIdeal : Cert.BwdMixIdeal.Facts) (hBwdMixRefIdeal : Cert.BwdMixRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpW (hUpW := hUpW)
    ∧ quiescent_UpWIdeal (hUpWIdeal := hUpWIdeal)
    ∧ quiescent_UpWRefIdeal (hUpWRefIdeal := hUpWRefIdeal)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdBa (hFwdBa := hFwdBa)
    ∧ quiescent_FwdBaIdeal (hFwdBaIdeal := hFwdBaIdeal)
    ∧ quiescent_FwdBaRefIdeal (hFwdBaRefIdeal := hFwdBaRefIdeal)
    ∧ quiescent_FwdBranch0 (hFwdBranch0 := hFwdBranch0)
    ∧ quiescent_FwdBranch0Ideal (hFwdBranch0Ideal := hFwdBranch0Ideal)
    ∧ quiescent_FwdBranch0RefIdeal (hFwdBranch0RefIdeal := hFwdBranch0RefIdeal)
    ∧ quiescent_FwdBranch1 (hFwdBranch1 := hFwdBranch1)
    ∧ quiescent_FwdBranch1Ideal (hFwdBranch1Ideal := hFwdBranch1Ideal)
    ∧ quiescent_FwdBranch1RefIdeal (hFwdBranch1RefIdeal := hFwdBranch1RefIdeal)
    ∧ quiescent_FwdBranch2 (hFwdBranch2 := hFwdBranch2)
    ∧ quiescent_FwdBranch2Ideal (hFwdBranch2Ideal := hFwdBranch2Ideal)
    ∧ quiescent_FwdBranch2RefIdeal (hFwdBranch2RefIdeal := hFwdBranch2RefIdeal)
    ∧ quiescent_FwdOut (hFwdOut := hFwdOut)
    ∧ quiescent_FwdOutIdeal (hFwdOutIdeal := hFwdOutIdeal)
    ∧ quiescent_FwdOutRefIdeal (hFwdOutRefIdeal := hFwdOutRefIdeal)
    ∧ quiescent_FwdQ (hFwdQ := hFwdQ)
    ∧ quiescent_FwdQIdeal (hFwdQIdeal := hFwdQIdeal)
    ∧ quiescent_FwdQRefIdeal (hFwdQRefIdeal := hFwdQRefIdeal)
    ∧ quiescent_FwdKv (hFwdKv := hFwdKv)
    ∧ quiescent_FwdKvIdeal (hFwdKvIdeal := hFwdKvIdeal)
    ∧ quiescent_FwdKvRefIdeal (hFwdKvRefIdeal := hFwdKvRefIdeal)
    ∧ quiescent_FwdUp (hFwdUp := hFwdUp)
    ∧ quiescent_FwdUpIdeal (hFwdUpIdeal := hFwdUpIdeal)
    ∧ quiescent_FwdUpRefIdeal (hFwdUpRefIdeal := hFwdUpRefIdeal)
    ∧ quiescent_FwdDown (hFwdDown := hFwdDown)
    ∧ quiescent_FwdDownIdeal (hFwdDownIdeal := hFwdDownIdeal)
    ∧ quiescent_FwdDownRefIdeal (hFwdDownRefIdeal := hFwdDownRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_QX (hQX := hQX)
    ∧ quiescent_QXIdeal (hQXIdeal := hQXIdeal)
    ∧ quiescent_QXRefIdeal (hQXRefIdeal := hQXRefIdeal)
    ∧ quiescent_QW (hQW := hQW)
    ∧ quiescent_QWIdeal (hQWIdeal := hQWIdeal)
    ∧ quiescent_QWRefIdeal (hQWRefIdeal := hQWRefIdeal)
    ∧ quiescent_KvX (hKvX := hKvX)
    ∧ quiescent_KvXIdeal (hKvXIdeal := hKvXIdeal)
    ∧ quiescent_KvXRefIdeal (hKvXRefIdeal := hKvXRefIdeal)
    ∧ quiescent_KvW (hKvW := hKvW)
    ∧ quiescent_KvWIdeal (hKvWIdeal := hKvWIdeal)
    ∧ quiescent_KvWRefIdeal (hKvWRefIdeal := hKvWRefIdeal)
    ∧ quiescent_BranchX (hBranchX := hBranchX)
    ∧ quiescent_BranchXIdeal (hBranchXIdeal := hBranchXIdeal)
    ∧ quiescent_BranchXRefIdeal (hBranchXRefIdeal := hBranchXRefIdeal)
    ∧ quiescent_BranchW0 (hBranchW0 := hBranchW0)
    ∧ quiescent_BranchW0Ideal (hBranchW0Ideal := hBranchW0Ideal)
    ∧ quiescent_BranchW0RefIdeal (hBranchW0RefIdeal := hBranchW0RefIdeal)
    ∧ quiescent_BranchW1 (hBranchW1 := hBranchW1)
    ∧ quiescent_BranchW1Ideal (hBranchW1Ideal := hBranchW1Ideal)
    ∧ quiescent_BranchW1RefIdeal (hBranchW1RefIdeal := hBranchW1RefIdeal)
    ∧ quiescent_BranchW2 (hBranchW2 := hBranchW2)
    ∧ quiescent_BranchW2Ideal (hBranchW2Ideal := hBranchW2Ideal)
    ∧ quiescent_BranchW2RefIdeal (hBranchW2RefIdeal := hBranchW2RefIdeal)
    ∧ quiescent_BaX (hBaX := hBaX)
    ∧ quiescent_BaXIdeal (hBaXIdeal := hBaXIdeal)
    ∧ quiescent_BaXRefIdeal (hBaXRefIdeal := hBaXRefIdeal)
    ∧ quiescent_BaW (hBaW := hBaW)
    ∧ quiescent_BaWIdeal (hBaWIdeal := hBaWIdeal)
    ∧ quiescent_BaWRefIdeal (hBaWRefIdeal := hBaWRefIdeal)
    ∧ quiescent_FwdGate (hFwdGate := hFwdGate)
    ∧ quiescent_FwdGateIdeal (hFwdGateIdeal := hFwdGateIdeal)
    ∧ quiescent_FwdGateRefIdeal (hFwdGateRefIdeal := hFwdGateRefIdeal)
    ∧ quiescent_BwdGate (hBwdGate := hBwdGate)
    ∧ quiescent_BwdGateIdeal (hBwdGateIdeal := hBwdGateIdeal)
    ∧ quiescent_BwdGateRefIdeal (hBwdGateRefIdeal := hBwdGateRefIdeal)
    ∧ quiescent_FwdNorm (hFwdNorm := hFwdNorm)
    ∧ quiescent_FwdNormIdeal (hFwdNormIdeal := hFwdNormIdeal)
    ∧ quiescent_FwdNormRefIdeal (hFwdNormRefIdeal := hFwdNormRefIdeal)
    ∧ quiescent_BwdNorm (hBwdNorm := hBwdNorm)
    ∧ quiescent_BwdNormIdeal (hBwdNormIdeal := hBwdNormIdeal)
    ∧ quiescent_BwdNormRefIdeal (hBwdNormRefIdeal := hBwdNormRefIdeal)
    ∧ quiescent_FwdAtt (hFwdAtt := hFwdAtt)
    ∧ quiescent_FwdAttIdeal (hFwdAttIdeal := hFwdAttIdeal)
    ∧ quiescent_FwdAttRefIdeal (hFwdAttRefIdeal := hFwdAttRefIdeal)
    ∧ quiescent_BwdAtt (hBwdAtt := hBwdAtt)
    ∧ quiescent_BwdAttIdeal (hBwdAttIdeal := hBwdAttIdeal)
    ∧ quiescent_BwdAttRefIdeal (hBwdAttRefIdeal := hBwdAttRefIdeal)
    ∧ quiescent_FwdMix (hFwdMix := hFwdMix)
    ∧ quiescent_FwdMixIdeal (hFwdMixIdeal := hFwdMixIdeal)
    ∧ quiescent_FwdMixRefIdeal (hFwdMixRefIdeal := hFwdMixRefIdeal)
    ∧ quiescent_BwdMix (hBwdMix := hBwdMix)
    ∧ quiescent_BwdMixIdeal (hBwdMixIdeal := hBwdMixIdeal)
    ∧ quiescent_BwdMixRefIdeal (hBwdMixRefIdeal := hBwdMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_UpX_UpXIdeal
    ∧ algebraic_UpXIdeal_UpXRefIdeal (hUpXIdeal := hUpXIdeal) (hUpXRefIdeal := hUpXRefIdeal)
    ∧ preserves_UpW_UpWIdeal
    ∧ algebraic_UpWIdeal_UpWRefIdeal (hUpWIdeal := hUpWIdeal) (hUpWRefIdeal := hUpWRefIdeal)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_FwdIn_FwdInIdeal
    ∧ algebraic_FwdInIdeal_FwdInRefIdeal (hFwdInIdeal := hFwdInIdeal) (hFwdInRefIdeal := hFwdInRefIdeal)
    ∧ preserves_FwdBa_FwdBaIdeal
    ∧ algebraic_FwdBaIdeal_FwdBaRefIdeal (hFwdBaIdeal := hFwdBaIdeal) (hFwdBaRefIdeal := hFwdBaRefIdeal)
    ∧ preserves_FwdBranch0_FwdBranch0Ideal
    ∧ algebraic_FwdBranch0Ideal_FwdBranch0RefIdeal (hFwdBranch0Ideal := hFwdBranch0Ideal) (hFwdBranch0RefIdeal := hFwdBranch0RefIdeal)
    ∧ preserves_FwdBranch1_FwdBranch1Ideal
    ∧ algebraic_FwdBranch1Ideal_FwdBranch1RefIdeal (hFwdBranch1Ideal := hFwdBranch1Ideal) (hFwdBranch1RefIdeal := hFwdBranch1RefIdeal)
    ∧ preserves_FwdBranch2_FwdBranch2Ideal
    ∧ algebraic_FwdBranch2Ideal_FwdBranch2RefIdeal (hFwdBranch2Ideal := hFwdBranch2Ideal) (hFwdBranch2RefIdeal := hFwdBranch2RefIdeal)
    ∧ preserves_FwdOut_FwdOutIdeal
    ∧ algebraic_FwdOutIdeal_FwdOutRefIdeal (hFwdOutIdeal := hFwdOutIdeal) (hFwdOutRefIdeal := hFwdOutRefIdeal)
    ∧ preserves_FwdQ_FwdQIdeal
    ∧ algebraic_FwdQIdeal_FwdQRefIdeal (hFwdQIdeal := hFwdQIdeal) (hFwdQRefIdeal := hFwdQRefIdeal)
    ∧ preserves_FwdKv_FwdKvIdeal
    ∧ algebraic_FwdKvIdeal_FwdKvRefIdeal (hFwdKvIdeal := hFwdKvIdeal) (hFwdKvRefIdeal := hFwdKvRefIdeal)
    ∧ preserves_FwdUp_FwdUpIdeal
    ∧ algebraic_FwdUpIdeal_FwdUpRefIdeal (hFwdUpIdeal := hFwdUpIdeal) (hFwdUpRefIdeal := hFwdUpRefIdeal)
    ∧ preserves_FwdDown_FwdDownIdeal
    ∧ algebraic_FwdDownIdeal_FwdDownRefIdeal (hFwdDownIdeal := hFwdDownIdeal) (hFwdDownRefIdeal := hFwdDownRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_QX_QXIdeal
    ∧ algebraic_QXIdeal_QXRefIdeal (hQXIdeal := hQXIdeal) (hQXRefIdeal := hQXRefIdeal)
    ∧ preserves_QW_QWIdeal
    ∧ algebraic_QWIdeal_QWRefIdeal (hQWIdeal := hQWIdeal) (hQWRefIdeal := hQWRefIdeal)
    ∧ preserves_KvX_KvXIdeal
    ∧ algebraic_KvXIdeal_KvXRefIdeal (hKvXIdeal := hKvXIdeal) (hKvXRefIdeal := hKvXRefIdeal)
    ∧ preserves_KvW_KvWIdeal
    ∧ algebraic_KvWIdeal_KvWRefIdeal (hKvWIdeal := hKvWIdeal) (hKvWRefIdeal := hKvWRefIdeal)
    ∧ preserves_BranchX_BranchXIdeal
    ∧ algebraic_BranchXIdeal_BranchXRefIdeal (hBranchXIdeal := hBranchXIdeal) (hBranchXRefIdeal := hBranchXRefIdeal)
    ∧ preserves_BranchW0_BranchW0Ideal
    ∧ algebraic_BranchW0Ideal_BranchW0RefIdeal (hBranchW0Ideal := hBranchW0Ideal) (hBranchW0RefIdeal := hBranchW0RefIdeal)
    ∧ preserves_BranchW1_BranchW1Ideal
    ∧ algebraic_BranchW1Ideal_BranchW1RefIdeal (hBranchW1Ideal := hBranchW1Ideal) (hBranchW1RefIdeal := hBranchW1RefIdeal)
    ∧ preserves_BranchW2_BranchW2Ideal
    ∧ algebraic_BranchW2Ideal_BranchW2RefIdeal (hBranchW2Ideal := hBranchW2Ideal) (hBranchW2RefIdeal := hBranchW2RefIdeal)
    ∧ preserves_BaX_BaXIdeal
    ∧ algebraic_BaXIdeal_BaXRefIdeal (hBaXIdeal := hBaXIdeal) (hBaXRefIdeal := hBaXRefIdeal)
    ∧ preserves_BaW_BaWIdeal
    ∧ algebraic_BaWIdeal_BaWRefIdeal (hBaWIdeal := hBaWIdeal) (hBaWRefIdeal := hBaWRefIdeal)
    ∧ preserves_FwdGate_FwdGateIdeal
    ∧ algebraic_FwdGateIdeal_FwdGateRefIdeal (hFwdGateIdeal := hFwdGateIdeal) (hFwdGateRefIdeal := hFwdGateRefIdeal)
    ∧ preserves_BwdGate_BwdGateIdeal
    ∧ algebraic_BwdGateIdeal_BwdGateRefIdeal (hBwdGateIdeal := hBwdGateIdeal) (hBwdGateRefIdeal := hBwdGateRefIdeal)
    ∧ preserves_FwdNorm_FwdNormIdeal
    ∧ algebraic_FwdNormIdeal_FwdNormRefIdeal (hFwdNormIdeal := hFwdNormIdeal) (hFwdNormRefIdeal := hFwdNormRefIdeal)
    ∧ preserves_BwdNorm_BwdNormIdeal
    ∧ algebraic_BwdNormIdeal_BwdNormRefIdeal (hBwdNormIdeal := hBwdNormIdeal) (hBwdNormRefIdeal := hBwdNormRefIdeal)
    ∧ preserves_FwdAtt_FwdAttIdeal
    ∧ algebraic_FwdAttIdeal_FwdAttRefIdeal (hFwdAttIdeal := hFwdAttIdeal) (hFwdAttRefIdeal := hFwdAttRefIdeal)
    ∧ preserves_BwdAtt_BwdAttIdeal
    ∧ algebraic_BwdAttIdeal_BwdAttRefIdeal (hBwdAttIdeal := hBwdAttIdeal) (hBwdAttRefIdeal := hBwdAttRefIdeal)
    ∧ preserves_FwdMix_FwdMixIdeal
    ∧ algebraic_FwdMixIdeal_FwdMixRefIdeal (hFwdMixIdeal := hFwdMixIdeal) (hFwdMixRefIdeal := hFwdMixRefIdeal)
    ∧ preserves_BwdMix_BwdMixIdeal
    ∧ algebraic_BwdMixIdeal_BwdMixRefIdeal (hBwdMixIdeal := hBwdMixIdeal) (hBwdMixRefIdeal := hBwdMixRefIdeal)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_4 : BitVec 32 := 0#32
  let c64_i32 : BitVec 32 := 64#32
  let v6 : BitVec 32 := Scalar.addi c0_i32_4 c64_i32
  let c1_i32 : BitVec 32 := 1#32
  ⟨c0_i32_4, v6, c1_i32⟩
def k0_mult1 (k0_t1 : Fin k0_t1_loop.trips) : BitVec 32 :=
  let c63_i32 : BitVec 32 := 63#32
  let c0_i32_4 : BitVec 32 := 0#32
  let c1_i32 : BitVec 32 := 1#32
  let arg7 : BitVec 32 := Scf.iv c0_i32_4 c1_i32 k0_t1
  let v14 : BitVec 32 := Scalar.subi c63_i32 arg7
  let c8_i32 : BitVec 32 := 8#32
  let v15 : BitVec 32 := Scalar.muli v14 c8_i32
  v15
def k0_off1 (k0_t1 : Fin k0_t1_loop.trips) : Fin 2 → Nat :=
  let c63_i32 : BitVec 32 := 63#32
  let c0_i32_4 : BitVec 32 := 0#32
  let c1_i32 : BitVec 32 := 1#32
  let arg7 : BitVec 32 := Scf.iv c0_i32_4 c1_i32 k0_t1
  let v14 : BitVec 32 := Scalar.subi c63_i32 arg7
  let c8_i32 : BitVec 32 := 8#32
  let v15 : BitVec 32 := Scalar.muli v14 c8_i32
  let v16 : BitVec 32 := v15
  let v17 : Index := Scalar.indexCast v16
  let c0_10 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x512 : Shape := ⟨2, ![8192, 512]⟩
abbrev S2x4096x512 : Shape := ⟨3, ![2, 4096, 512]⟩
abbrev S_ : Shape := ⟨0, ![]⟩
abbrev S2x512 : Shape := ⟨2, ![2, 512]⟩
abbrev S4096x2x512 : Shape := ⟨3, ![4096, 2, 512]⟩
abbrev S1x2x512 : Shape := ⟨3, ![1, 2, 512]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S2x4096x512, .f32⟩
  | .hbm, ⟨3, _⟩ => ⟨S2x4096x512, .f32⟩
  | .hbm, ⟨4, _⟩ => ⟨S_, .f32⟩
  | .hbm, ⟨5, _⟩ => ⟨S2x512, .f32⟩
  | .hbm, ⟨6, _⟩ => ⟨S4096x2x512, .f32⟩
  | .hbm, ⟨7, _⟩ => ⟨S4096x2x512, .f32⟩
  | .hbm, ⟨8, _⟩ => ⟨S_, .f32⟩
  | .hbm, ⟨9, _⟩ => ⟨S2x512, .f32⟩
  | .hbm, ⟨10, _⟩ => ⟨S_, .f32⟩
  | .hbm, ⟨11, _⟩ => ⟨S4096x2x512, .f32⟩
  | .hbm, ⟨12, _⟩ => ⟨S_, .i32⟩
  | .hbm, ⟨13, _⟩ => ⟨S4096x2x512, .f32⟩
  | .hbm, ⟨14, _⟩ => ⟨S4096x2x512, .f32⟩
  | .hbm, ⟨15, _⟩ => ⟨S_, .i32⟩
  | .hbm, ⟨16, _⟩ => ⟨S2x512, .f32⟩
  | .hbm, ⟨17, _⟩ => ⟨S4096x2x512, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x2x512, .f32⟩
  | .hbm, ⟨27, _⟩ => ⟨S2x512, .f32⟩
  | .hbm, ⟨28, _⟩ => ⟨S_, .i32⟩
  | .hbm, ⟨29, _⟩ => ⟨S_, .i32⟩
  | .hbm, ⟨30, _⟩ => ⟨S1x2x512, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S1x2x512, .f32⟩
  | .hbm, ⟨35, _⟩ => ⟨S_, .i32⟩
  | .hbm, ⟨36, _⟩ => ⟨S_, .i32⟩
  | .hbm, ⟨37, _⟩ => ⟨S4096x2x512, .f32⟩
  | .hbm, ⟨38, _⟩ => ⟨S_, .i32⟩
  | .hbm, ⟨39, _⟩ => ⟨S_, .i32⟩
  | .hbm, ⟨40, _⟩ => ⟨S2x4096x512, .f32⟩
  | .hbm, ⟨41, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_c : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_while0c_c_6 : Ref sig .tc := ⟨.hbm, 18, rfl⟩
abbrev main_while0c_v10 : Ref sig .tc := ⟨.hbm, 19, rfl⟩
abbrev main_while0b_c_6 : Ref sig .tc := ⟨.hbm, 20, rfl⟩
abbrev main_while0b_v10 : Ref sig .tc := ⟨.hbm, 21, rfl⟩
abbrev main_while0b_c_7 : Ref sig .tc := ⟨.hbm, 22, rfl⟩
abbrev main_while0b_v11 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v12 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_v0 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_call2_v0 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_v16 : Ref sig .tc := ⟨.hbm, 37, rfl⟩
abbrev main_while0b_c_8 : Ref sig .tc := ⟨.hbm, 38, rfl⟩
abbrev main_while0b_v17 : Ref sig .tc := ⟨.hbm, 39, rfl⟩
abbrev main_v8 : Ref sig .tc := ⟨.hbm, 40, rfl⟩
abbrev main_v9 : Ref sig .tc := ⟨.hbm, 41, rfl⟩

abbrev nD : Nat := 1
abbrev τ : Topo := Topo.v7x

variable {F : FTy → Type} [FloatOps F]

abbrev main_while0_count : Scf.Loop 32 := ⟨0#32, 4096#32, 1#32⟩
-- ==== InX.lean ====
abbrev S8192x6656 : Shape := ⟨2, ![8192, 6656]⟩
abbrev S6656x1024 : Shape := ⟨2, ![6656, 1024]⟩
abbrev S8192x1024 : Shape := ⟨2, ![8192, 1024]⟩
abbrev S1024x3328 : Shape := ⟨2, ![1024, 3328]⟩
abbrev S3328x512 : Shape := ⟨2, ![3328, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x6656, .bf16⟩
  | .hbm, ⟨1, _⟩ => ⟨S6656x1024, .bf16⟩
  | .hbm, ⟨2, _⟩ => ⟨S8192x1024, .f32⟩
  | .hbm, ⟨3, _⟩ => ⟨S8192x1024, .f32⟩
  | .local _ .vmem, ⟨0, _⟩ => ⟨S1024x3328, .bf16⟩
  | .local _ .vmem, ⟨1, _⟩ => ⟨S1024x3328, .bf16⟩
  | .local _ .vmem, ⟨2, _⟩ => ⟨S3328x512, .bf16⟩
  | .local _ .vmem, ⟨3, _⟩ => ⟨S3328x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXRefIdeal.lean ====
abbrev S8192x6656 : Shape := ⟨2, ![8192, 6656]⟩
abbrev S6656x1024 : Shape := ⟨2, ![6656, 1024]⟩
abbrev S8192x1024 : Shape := ⟨2, ![8192, 1024]⟩
abbrev S1024x6656 : Shape := ⟨2, ![1024, 6656]⟩

abbrev nBuf : Space → Nat
  | .hbm => 8
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S6656x1024, .bf16⟩
  | .hbm, ⟨2, _⟩ => ⟨S8192x1024, .f32⟩
  | .hbm, ⟨3, _⟩ => ⟨S6656x1024, .f32⟩
  | .hbm, ⟨4, _⟩ => ⟨S8192x6656, .f32⟩
  | .hbm, ⟨5, _⟩ => ⟨S1024x6656, .f32⟩
  | .hbm, ⟨6, _⟩ => ⟨S8192x1024, .f32⟩
  | .hbm, ⟨7, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InW.lean ====
abbrev S8192x6656 : Shape := ⟨2, ![8192, 6656]⟩
abbrev S8192x1024 : Shape := ⟨2, ![8192, 1024]⟩
abbrev S6656x1024 : Shape := ⟨2, ![6656, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S6656x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x6656 : Shape := ⟨2, ![8192, 6656]⟩
abbrev S8192x1024 : Shape := ⟨2, ![8192, 1024]⟩
abbrev S6656x1024 : Shape := ⟨2, ![6656, 1024]⟩
abbrev S1024x6656 : Shape := ⟨2, ![1024, 6656]⟩

abbrev nBuf : Space → Nat
  | .hbm => 7
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S8192x1024, .f32⟩
  | .hbm, ⟨3, _⟩ => ⟨S8192x6656, .f32⟩
  | .hbm, ⟨4, _⟩ => ⟨S6656x1024, .f32⟩
  | .hbm, ⟨5, _⟩ => ⟨S1024x6656, .f32⟩
  | .hbm, ⟨6, _⟩ => ⟨S6656x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpX.lean ====
abbrev S8192x6144 : Shape := ⟨2, ![8192, 6144]⟩
abbrev S6144x1024 : Shape := ⟨2, ![6144, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S6144x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S8192x6144 : Shape := ⟨2, ![8192, 6144]⟩
abbrev S6144x1024 : Shape := ⟨2, ![6144, 1024]⟩
abbrev S1024x6144 : Shape := ⟨2, ![1024, 6144]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S6144x1024, .bf16⟩
  | .hbm, ⟨2, _⟩ => ⟨S6144x1024, .f32⟩
  | .hbm, ⟨3, _⟩ => ⟨S8192x6144, .f32⟩
  | .hbm, ⟨4, _⟩ => ⟨S1024x6144, .f32⟩
  | .hbm, ⟨5, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpW.lean ====
abbrev S8192x6144 : Shape := ⟨2, ![8192, 6144]⟩
abbrev S8192x1024 : Shape := ⟨2, ![8192, 1024]⟩
abbrev S6144x1024 : Shape := ⟨2, ![6144, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .bf16⟩
  | .hbm, ⟨2, _⟩ => ⟨S6144x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8192x6144 : Shape := ⟨2, ![8192, 6144]⟩
abbrev S8192x1024 : Shape := ⟨2, ![8192, 1024]⟩
abbrev S6144x1024 : Shape := ⟨2, ![6144, 1024]⟩
abbrev S1024x6144 : Shape := ⟨2, ![1024, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .bf16⟩
  | .hbm, ⟨2, _⟩ => ⟨S8192x1024, .f32⟩
  | .hbm, ⟨3, _⟩ => ⟨S8192x6144, .f32⟩
  | .hbm, ⟨4, _⟩ => ⟨S6144x1024, .f32⟩
  | .hbm, ⟨5, _⟩ => ⟨S1024x6144, .f32⟩
  | .hbm, ⟨6, _⟩ => ⟨S6144x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownX.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S1024x3072, .bf16⟩
  | .hbm, ⟨3, _⟩ => ⟨S1024x3072, .f32⟩
  | .hbm, ⟨4, _⟩ => ⟨S3072x1024, .f32⟩
  | .hbm, ⟨5, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownW.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x3072 : Shape := ⟨2, ![8192, 3072]⟩
abbrev S8192x1024 : Shape := ⟨2, ![8192, 1024]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S8192x3072, .f32⟩
  | .hbm, ⟨3, _⟩ => ⟨S1024x3072, .f32⟩
  | .hbm, ⟨4, _⟩ => ⟨S3072x1024, .f32⟩
  | .hbm, ⟨5, _⟩ => ⟨S1024x3072, .f32⟩
  | .hbm, ⟨6, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FwdIn.lean ====
abbrev S8192x1024 : Shape := ⟨2, ![8192, 1024]⟩
abbrev S6656x1024 : Shape := ⟨2, ![6656, 1024]⟩
abbrev S8192x6656 : Shape := ⟨2, ![8192, 6656]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S6656x1024, .bf16⟩
  | .hbm, ⟨2, _⟩ => ⟨S8192x6656, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdInRefIdeal.lean ====
abbrev S8192x1024 : Shape := ⟨2, ![8192, 1024]⟩
abbrev S6656x1024 : Shape := ⟨2, ![6656, 1024]⟩
abbrev S1024x6656 : Shape := ⟨2, ![1024, 6656]⟩
abbrev S8192x6656 : Shape := ⟨2, ![8192, 6656]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S6656x1024, .bf16⟩
  | .hbm, ⟨2, _⟩ => ⟨S8192x1024, .f32⟩
  | .hbm, ⟨3, _⟩ => ⟨S6656x1024, .f32⟩
  | .hbm, ⟨4, _⟩ => ⟨S1024x6656, .f32⟩
  | .hbm, ⟨5, _⟩ => ⟨S8192x6656, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdBa.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdBaRefIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdBranch0.lean ====
abbrev S8192x1536 : Shape := ⟨2, ![8192, 1536]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdBranch0RefIdeal.lean ====
abbrev S8192x1536 : Shape := ⟨2, ![8192, 1536]⟩
abbrev S1024x512 : Shape := ⟨2, ![1024, 512]⟩
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x512, .bf16⟩
  | .hbm, ⟨2, _⟩ => ⟨S8192x512, .bf16⟩
  | .hbm, ⟨3, _⟩ => ⟨S8192x512, .f32⟩
  | .hbm, ⟨4, _⟩ => ⟨S1024x512, .f32⟩
  | .hbm, ⟨5, _⟩ => ⟨S512x1024, .f32⟩
  | .hbm, ⟨6, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FwdBranch1.lean ====
abbrev S8192x1536 : Shape := ⟨2, ![8192, 1536]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdBranch1RefIdeal.lean ====
abbrev S8192x1536 : Shape := ⟨2, ![8192, 1536]⟩
abbrev S1024x512 : Shape := ⟨2, ![1024, 512]⟩
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x512, .bf16⟩
  | .hbm, ⟨2, _⟩ => ⟨S8192x512, .bf16⟩
  | .hbm, ⟨3, _⟩ => ⟨S8192x512, .f32⟩
  | .hbm, ⟨4, _⟩ => ⟨S1024x512, .f32⟩
  | .hbm, ⟨5, _⟩ => ⟨S512x1024, .f32⟩
  | .hbm, ⟨6, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FwdBranch2.lean ====
abbrev S8192x1536 : Shape := ⟨2, ![8192, 1536]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdBranch2RefIdeal.lean ====
abbrev S8192x1536 : Shape := ⟨2, ![8192, 1536]⟩
abbrev S1024x512 : Shape := ⟨2, ![1024, 512]⟩
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x512, .bf16⟩
  | .hbm, ⟨2, _⟩ => ⟨S8192x512, .bf16⟩
  | .hbm, ⟨3, _⟩ => ⟨S8192x512, .f32⟩
  | .hbm, ⟨4, _⟩ => ⟨S1024x512, .f32⟩
  | .hbm, ⟨5, _⟩ => ⟨S512x1024, .f32⟩
  | .hbm, ⟨6, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FwdOut.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwdOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FwdQ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdQRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdKv.lean ====
abbrev S512x1024 : Shape := ⟨2, ![512, 1024]⟩
abbrev S2048x1024 : Shape := ⟨2, ![2048, 1024]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S512x2048, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdKvRefIdeal.lean ====
abbrev S512x1024 : Shape := ⟨2, ![512, 1024]⟩
abbrev S2048x1024 : Shape := ⟨2, ![2048, 1024]⟩
abbrev S1024x2048 : Shape := ⟨2, ![1024, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S512x1024, .f32⟩
  | .hbm, ⟨3, _⟩ => ⟨S2048x1024, .f32⟩
  | .hbm, ⟨4, _⟩ => ⟨S1024x2048, .f32⟩
  | .hbm, ⟨5, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdUp.lean ====
abbrev S8192x1024 : Shape := ⟨2, ![8192, 1024]⟩
abbrev S6144x1024 : Shape := ⟨2, ![6144, 1024]⟩
abbrev S8192x6144 : Shape := ⟨2, ![8192, 6144]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S6144x1024, .bf16⟩
  | .hbm, ⟨2, _⟩ => ⟨S8192x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdUpRefIdeal.lean ====
abbrev S8192x1024 : Shape := ⟨2, ![8192, 1024]⟩
abbrev S6144x1024 : Shape := ⟨2, ![6144, 1024]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S6144x1024, .bf16⟩
  | .hbm, ⟨2, _⟩ => ⟨S8192x1024, .f32⟩
  | .hbm, ⟨3, _⟩ => ⟨S6144x1024, .f32⟩
  | .hbm, ⟨4, _⟩ => ⟨S1024x6144, .f32⟩
  | .hbm, ⟨5, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdDown.lean ====
abbrev S8192x3072 : Shape := ⟨2, ![8192, 3072]⟩
abbrev S3072x1024 : Shape := ⟨2, ![3072, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwdDownRefIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutX.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .bf16⟩
  | .hbm, ⟨3, _⟩ => ⟨S1024x1024, .f32⟩
  | .hbm, ⟨4, _⟩ => ⟨S1024x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QX.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QXRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QWRefIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvX.lean ====
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048x1024, .bf16⟩
  | .hbm, ⟨2, _⟩ => ⟨S512x1024, .f32⟩
  | .local _ .vmem, ⟨0, _⟩ => ⟨S512x2048, .f32⟩
  | .local _ .vmem, ⟨1, _⟩ => ⟨S2048x1024, .bf16⟩
  | .local _ .vmem, ⟨2, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvXRefIdeal.lean ====
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvW.lean ====
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S512x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S512x2048 : Shape := ⟨2, ![512, 2048]⟩
abbrev S512x1024 : Shape := ⟨2, ![512, 1024]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x1024, .bf16⟩
  | .hbm, ⟨2, _⟩ => ⟨S512x1024, .f32⟩
  | .hbm, ⟨3, _⟩ => ⟨S2048x1024, .f32⟩
  | .hbm, ⟨4, _⟩ => ⟨S1024x2048, .f32⟩
  | .hbm, ⟨5, _⟩ => ⟨S2048x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchX.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchXRefIdeal.lean ====
abbrev S8192x1024 : Shape := ⟨2, ![8192, 1024]⟩
abbrev S1024x512 : Shape := ⟨2, ![1024, 512]⟩
abbrev S512x1024 : Shape := ⟨2, ![512, 1024]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S1024x512, .f32⟩
  | .hbm, ⟨3, _⟩ => ⟨S8192x1024, .f32⟩
  | .hbm, ⟨4, _⟩ => ⟨S512x1024, .f32⟩
  | .hbm, ⟨5, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchW0.lean ====
abbrev S8192x1024 : Shape := ⟨2, ![8192, 1024]⟩
abbrev S8192x1536 : Shape := ⟨2, ![8192, 1536]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW0RefIdeal.lean ====
abbrev S8192x1024 : Shape := ⟨2, ![8192, 1024]⟩
abbrev S8192x1536 : Shape := ⟨2, ![8192, 1536]⟩
abbrev S8192x512 : Shape := ⟨2, ![8192, 512]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== BranchW1.lean ====
abbrev S8192x1024 : Shape := ⟨2, ![8192, 1024]⟩
abbrev S8192x1536 : Shape := ⟨2, ![8192, 1536]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW1RefIdeal.lean ====
abbrev S8192x1024 : Shape := ⟨2, ![8192, 1024]⟩
abbrev S8192x1536 : Shape := ⟨2, ![8192, 1536]⟩
abbrev S8192x512 : Shape := ⟨2, ![8192, 512]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== BranchW2.lean ====
abbrev S8192x1024 : Shape := ⟨2, ![8192, 1024]⟩
abbrev S8192x1536 : Shape := ⟨2, ![8192, 1536]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchW2RefIdeal.lean ====
abbrev S8192x1024 : Shape := ⟨2, ![8192, 1024]⟩
abbrev S8192x1536 : Shape := ⟨2, ![8192, 1536]⟩
abbrev S8192x512 : Shape := ⟨2, ![8192, 512]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== BaX.lean ====
abbrev S8192x128 : Shape := ⟨2, ![8192, 128]⟩
abbrev S128x1024 : Shape := ⟨2, ![128, 1024]⟩
abbrev S8192x1024 : Shape := ⟨2, ![8192, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BaXRefIdeal.lean ====
abbrev S8192x128 : Shape := ⟨2, ![8192, 128]⟩
abbrev S128x1024 : Shape := ⟨2, ![128, 1024]⟩
abbrev S1024x128 : Shape := ⟨2, ![1024, 128]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S128x1024, .f32⟩
  | .hbm, ⟨3, _⟩ => ⟨S8192x128, .f32⟩
  | .hbm, ⟨4, _⟩ => ⟨S1024x128, .f32⟩
  | .hbm, ⟨5, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BaW.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BaWRefIdeal.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S8192x1024, .f32⟩
  | .hbm, ⟨3, _⟩ => ⟨S8192x128, .f32⟩
  | .hbm, ⟨4, _⟩ => ⟨S128x1024, .f32⟩
  | .hbm, ⟨5, _⟩ => ⟨S1024x128, .f32⟩
  | .hbm, ⟨6, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FwdGate.lean ====
abbrev S8192x6656 : Shape := ⟨2, ![8192, 6656]⟩
abbrev S8192x1024 : Shape := ⟨2, ![8192, 1024]⟩
abbrev S1x3072 : Shape := ⟨2, ![1, 3072]⟩
abbrev S512x1024 : Shape := ⟨2, ![512, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S8192x6656, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x3072, .f32⟩
  | .local _ .vmem, ⟨13, _⟩ => ⟨S512x1024, .bf16⟩
  | .local _ .vmem, ⟨14, _⟩ => ⟨S512x1024, .bf16⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FwdGateRefIdeal.lean ====
abbrev S8192x6656 : Shape := ⟨2, ![8192, 6656]⟩
abbrev S8192x1024 : Shape := ⟨2, ![8192, 1024]⟩
abbrev S1x3072 : Shape := ⟨2, ![1, 3072]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x3x1024, .f32⟩
  | .hbm, ⟨9, _⟩ => ⟨S8192x3x1024, .f32⟩
  | .hbm, ⟨10, _⟩ => ⟨S8192x3x1024, .f32⟩
  | .hbm, ⟨11, _⟩ => ⟨S_, .f32⟩
  | .hbm, ⟨12, _⟩ => ⟨S8192x3x1024, .f32⟩
  | .hbm, ⟨13, _⟩ => ⟨S8192x3x1024, .f32⟩
  | .hbm, ⟨14, _⟩ => ⟨S_, .f32⟩
  | .hbm, ⟨15, _⟩ => ⟨S8192x3x1024, .f32⟩
  | .hbm, ⟨16, _⟩ => ⟨S8192x3x1024, .f32⟩
  | .hbm, ⟨17, _⟩ => ⟨S8192x1x1024, .f32⟩
  | .hbm, ⟨18, _⟩ => ⟨S8192x1x1024, .f32⟩
  | .hbm, ⟨19, _⟩ => ⟨S8192x1x1024, .f32⟩
  | .hbm, ⟨20, _⟩ => ⟨S8192x3x1024, .f32⟩
  | .hbm, ⟨21, _⟩ => ⟨S8192x3x1024, .f32⟩
  | .hbm, ⟨22, _⟩ => ⟨S_, .f32⟩
  | .hbm, ⟨23, _⟩ => ⟨S8192x1024, .f32⟩
  | .hbm, ⟨24, _⟩ => ⟨S8192x1024, .bf16⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== BwdGate.lean ====
abbrev S8192x6656 : Shape := ⟨2, ![8192, 6656]⟩
abbrev S8192x1024 : Shape := ⟨2, ![8192, 1024]⟩
abbrev S1x3072 : Shape := ⟨2, ![1, 3072]⟩
abbrev S512x1024 : Shape := ⟨2, ![512, 1024]⟩
abbrev S1x1024 : Shape := ⟨2, ![1, 1024]⟩
abbrev S1024 : Shape := ⟨1, ![1024]⟩
abbrev S1x2048 : Shape := ⟨2, ![1, 2048]⟩

abbrev nBuf : Space → Nat
  | .hbm => 13
  | .vmem => 28
  | .smem => 0
  | _ => 0

abbrev bufTy : (tb : Table) → Fin (tcTables nBuf tb) → BufTy
  | .hbm, ⟨0, _⟩ => ⟨S8192x6656, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x3072, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x3072, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let v1 : BitVec 32 := Scalar.addi c3_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c5_i32 : BitVec 32 := 5#32
  let v1 : BitVec 32 := Scalar.addi c5_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== BwdGateRefIdeal.lean ====
abbrev S8192x6656 : Shape := ⟨2, ![8192, 6656]⟩
abbrev S8192x1024 : Shape := ⟨2, ![8192, 1024]⟩
abbrev S1x3072 : Shape := ⟨2, ![1, 3072]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩
abbrev S3072 : Shape := ⟨1, ![3072]⟩

abbrev nBuf : Space → Nat
  | .hbm => 52
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x3072, .f32⟩
  | .hbm, ⟨5, _⟩ => ⟨S8192x1024, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x3x1024, .f32⟩
  | .hbm, ⟨10, _⟩ => ⟨S8192x3x1024, .f32⟩
  | .hbm, ⟨11, _⟩ => ⟨S8192x3x1024, .f32⟩
  | .hbm, ⟨12, _⟩ => ⟨S_, .f32⟩
  | .hbm, ⟨13, _⟩ => ⟨S8192x3x1024, .f32⟩
  | .hbm, ⟨14, _⟩ => ⟨S8192x3x1024, .f32⟩
  | .hbm, ⟨15, _⟩ => ⟨S_, .f32⟩
  | .hbm, ⟨16, _⟩ => ⟨S8192x3x1024, .f32⟩
  | .hbm, ⟨17, _⟩ => ⟨S8192x3x1024, .f32⟩
  | .hbm, ⟨18, _⟩ => ⟨S_, .f32⟩
  | .hbm, ⟨19, _⟩ => ⟨S8192x3x1024, .f32⟩
  | .hbm, ⟨20, _⟩ => ⟨S8192x3x1024, .f32⟩
  | .hbm, ⟨21, _⟩ => ⟨S8192x3x1024, .f32⟩
  | .hbm, ⟨22, _⟩ => ⟨S8192x1x1024, .f32⟩
  | .hbm, ⟨23, _⟩ => ⟨S8192x1x1024, .f32⟩
  | .hbm, ⟨24, _⟩ => ⟨S8192x1x1024, .f32⟩
  | .hbm, ⟨25, _⟩ => ⟨S8192x3x1024, .f32⟩
  | .hbm, ⟨26, _⟩ => ⟨S8192x3x1024, .f32⟩
  | .hbm, ⟨27, _⟩ => ⟨S_, .f32⟩
  | .hbm, ⟨28, _⟩ => ⟨S8192x1024, .f32⟩
  | .hbm, ⟨29, _⟩ => ⟨S8192x3x1024, .f32⟩
  | .hbm, ⟨30, _⟩ => ⟨S8192x3x1024, .f32⟩
  | .hbm, ⟨31, _⟩ => ⟨S8192x3x1024, .f32⟩
  | .hbm, ⟨32, _⟩ => ⟨S8192x1x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x3x1024, .f32⟩
  | .hbm, ⟨39, _⟩ => ⟨S8192x3072, .f32⟩
  | .hbm, ⟨40, _⟩ => ⟨S_, .f32⟩
  | .hbm, ⟨41, _⟩ => ⟨S3072, .f32⟩
  | .hbm, ⟨42, _⟩ => ⟨S1x3072, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .bf16⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== FwdNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwdNormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== BwdNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== BwdNormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FwdAtt.lean ====
abbrev S8192x1024 : Shape := ⟨2, ![8192, 1024]⟩
abbrev S2x256x2048 : Shape := ⟨3, ![2, 256, 2048]⟩
abbrev S512x1024 : Shape := ⟨2, ![512, 1024]⟩
abbrev S1x256x2048 : Shape := ⟨3, ![1, 256, 2048]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x256x2048, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x256x2048, .f32⟩
  | .local _ .vmem, ⟨3, _⟩ => ⟨S1x256x2048, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwdAttRefIdeal.lean ====
abbrev S8192x1024 : Shape := ⟨2, ![8192, 1024]⟩
abbrev S2x256x2048 : Shape := ⟨3, ![2, 256, 2048]⟩
abbrev S2x4096x4x256 : Shape := ⟨4, ![2, 4096, 4, 256]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x256x2048, .f32⟩
  | .hbm, ⟨2, _⟩ => ⟨S2x4096x4x256, .f32⟩
  | .hbm, ⟨3, _⟩ => ⟨S2x256x1024, .f32⟩
  | .hbm, ⟨4, _⟩ => ⟨S2x256x1024, .f32⟩
  | .hbm, ⟨5, _⟩ => ⟨S2x256x4x256, .f32⟩
  | .hbm, ⟨6, _⟩ => ⟨S2x256x4x256, .f32⟩
  | .hbm, ⟨7, _⟩ => ⟨S2x4x4096x256, .f32⟩
  | .hbm, ⟨8, _⟩ => ⟨S_, .f32⟩
  | .hbm, ⟨9, _⟩ => ⟨S2x4x4096x256, .f32⟩
  | .hbm, ⟨10, _⟩ => ⟨S2x4x4096x256, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .f32⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x256x4096, .f32⟩
  | .hbm, ⟨26, _⟩ => ⟨S2x4096x4x256, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== BwdAtt.lean ====
abbrev S8192x1024 : Shape := ⟨2, ![8192, 1024]⟩
abbrev S2x256x2048 : Shape := ⟨3, ![2, 256, 2048]⟩
abbrev S512x1024 : Shape := ⟨2, ![512, 1024]⟩
abbrev S1x256x2048 : Shape := ⟨3, ![1, 256, 2048]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x1792 : Shape := ⟨2, ![256, 1792]⟩
abbrev S256x1536 : Shape := ⟨2, ![256, 1536]⟩
abbrev S256x1280 : Shape := ⟨2, ![256, 1280]⟩
abbrev S256x512 : Shape := ⟨2, ![256, 512]⟩
abbrev S256x1024 : Shape := ⟨2, ![256, 1024]⟩
abbrev S256x768 : Shape := ⟨2, ![256, 768]⟩
abbrev S512x768 : Shape := ⟨2, ![512, 768]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2x256x2048, .f32⟩
  | .hbm, ⟨2, _⟩ => ⟨S8192x1024, .f32⟩
  | .hbm, ⟨3, _⟩ => ⟨S8192x1024, .bf16⟩
  | .hbm, ⟨4, _⟩ => ⟨S2x256x2048, .f32⟩
  | .local _ .vmem, ⟨0, _⟩ => ⟨S512x1024, .f32⟩
  | .local _ .vmem, ⟨1, _⟩ => ⟨S512x1024, .f32⟩
  | .local _ .vmem, ⟨2, _⟩ => ⟨S1x256x2048, .f32⟩
  | .local _ .vmem, ⟨3, _⟩ => ⟨S1x256x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x256x2048, .f32⟩
  | .local _ .vmem, ⟨9, _⟩ => ⟨S1x256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== BwdAttRefIdeal.lean ====
abbrev S8192x1024 : Shape := ⟨2, ![8192, 1024]⟩
abbrev S2x256x2048 : Shape := ⟨3, ![2, 256, 2048]⟩
abbrev S2x4096x4x256 : Shape := ⟨4, ![2, 4096, 4, 256]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S2x4x256x256 : Shape := ⟨4, ![2, 4, 256, 256]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x256x2048, .f32⟩
  | .hbm, ⟨2, _⟩ => ⟨S8192x1024, .f32⟩
  | .hbm, ⟨3, _⟩ => ⟨S2x4096x4x256, .f32⟩
  | .hbm, ⟨4, _⟩ => ⟨S2x256x1024, .f32⟩
  | .hbm, ⟨5, _⟩ => ⟨S2x256x1024, .f32⟩
  | .hbm, ⟨6, _⟩ => ⟨S2x256x4x256, .f32⟩
  | .hbm, ⟨7, _⟩ => ⟨S2x256x4x256, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x256, .f32⟩
  | .hbm, ⟨16, _⟩ => ⟨S2x4x4096x256, .i1⟩
  | .hbm, ⟨17, _⟩ => ⟨S2x4x4096x256, .f32⟩
  | .hbm, ⟨18, _⟩ => ⟨S_, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .f32⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S2x4x4096, .i1⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096, .f32⟩
  | .hbm, ⟨37, _⟩ => ⟨S2x4x4096x1, .f32⟩
  | .hbm, ⟨38, _⟩ => ⟨S2x4x4096x256, .f32⟩
  | .hbm, ⟨39, _⟩ => ⟨S2x4x4096x256, .f32⟩
  | .hbm, ⟨40, _⟩ => ⟨S2x4x4096x256, .f32⟩
  | .hbm, ⟨41, _⟩ => ⟨S_, .f32⟩
  | .hbm, ⟨42, _⟩ => ⟨S2x4x4096, .f32⟩
  | .hbm, ⟨43, _⟩ => ⟨S2x4x4096x1, .f32⟩
  | .hbm, ⟨44, _⟩ => ⟨S2x4x4096x256, .f32⟩
  | .hbm, ⟨45, _⟩ => ⟨S2x4x4096x256, .f32⟩
  | .hbm, ⟨46, _⟩ => ⟨S2x4x4096x1, .f32⟩
  | .hbm, ⟨47, _⟩ => ⟨S_, .f32⟩
  | .hbm, ⟨48, _⟩ => ⟨S2x4x4096x1, .f32⟩
  | .hbm, ⟨49, _⟩ => ⟨S2x4x4096x1, .f32⟩
  | .hbm, ⟨50, _⟩ => ⟨S2x4x256x4096, .f32⟩
  | .hbm, ⟨51, _⟩ => ⟨S2x4096x4x256, .f32⟩
  | .hbm, ⟨52, _⟩ => ⟨S8192x1024, .f32⟩
  | .hbm, ⟨53, _⟩ => ⟨S2x4096x4x256, .f32⟩
  | .hbm, ⟨54, _⟩ => ⟨S2x4x256x4096, .f32⟩
  | .hbm, ⟨55, _⟩ => ⟨S2x4x4096x256, .f32⟩
  | .hbm, ⟨56, _⟩ => ⟨S2x4x256x256, .f32⟩
  | .hbm, ⟨57, _⟩ => ⟨S2x256x4x256, .f32⟩
  | .hbm, ⟨58, _⟩ => ⟨S2x4x4096x256, .f32⟩
  | .hbm, ⟨59, _⟩ => ⟨S2x4x4096x256, .f32⟩
  | .hbm, ⟨60, _⟩ => ⟨S2x4x4096x256, .f32⟩
  | .hbm, ⟨61, _⟩ => ⟨S_, .f32⟩
  | .hbm, ⟨62, _⟩ => ⟨S2x4x4096, .f32⟩
  | .hbm, ⟨63, _⟩ => ⟨S2x4x4096x1, .f32⟩
  | .hbm, ⟨64, _⟩ => ⟨S2x4x4096x1, .f32⟩
  | .hbm, ⟨65, _⟩ => ⟨S2x4x4096x256, .f32⟩
  | .hbm, ⟨66, _⟩ => ⟨S2x4x4096x256, .f32⟩
  | .hbm, ⟨67, _⟩ => ⟨S_, .f32⟩
  | .hbm, ⟨68, _⟩ => ⟨S2x4x4096, .f32⟩
  | .hbm, ⟨69, _⟩ => ⟨S2x4x4096x256, .f32⟩
  | .hbm, ⟨70, _⟩ => ⟨S2x4x4096x256, .f32⟩
  | .hbm, ⟨71, _⟩ => ⟨S2x4x4096x256, .f32⟩
  | .hbm, ⟨72, _⟩ => ⟨S_, .f32⟩
  | .hbm, ⟨73, _⟩ => ⟨S2x4x4096x256, .f32⟩
  | .hbm, ⟨74, _⟩ => ⟨S2x4x4096x256, .f32⟩
  | .hbm, ⟨75, _⟩ => ⟨S2x4x256x256, .f32⟩
  | .hbm, ⟨76, _⟩ => ⟨S2x256x4x256, .f32⟩
  | .hbm, ⟨77, _⟩ => ⟨S2x4x4096x256, .f32⟩
  | .hbm, ⟨78, _⟩ => ⟨S2x4096x4x256, .f32⟩
  | .hbm, ⟨79, _⟩ => ⟨S2x256x1024, .f32⟩
  | .hbm, ⟨80, _⟩ => ⟨S2x256x1024, .f32⟩
  | .hbm, ⟨81, _⟩ => ⟨S2x256x2048, .f32⟩
  | .hbm, ⟨82, _⟩ => ⟨S8192x1024, .f32⟩
  | .hbm, ⟨83, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== FwdMix.lean ====
abbrev S8192x6656 : Shape := ⟨2, ![8192, 6656]⟩
abbrev S8192x512 : Shape := ⟨2, ![8192, 512]⟩
abbrev S1x512 : Shape := ⟨2, ![1, 512]⟩
abbrev S512x512 : Shape := ⟨2, ![512, 512]⟩
abbrev S8192x1536 : Shape := ⟨2, ![8192, 1536]⟩
abbrev S512x1536 : Shape := ⟨2, ![512, 1536]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x6656, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S512x512, .f32⟩
  | .hbm, ⟨7, _⟩ => ⟨S1x512, .f32⟩
  | .hbm, ⟨8, _⟩ => ⟨S8192x1536, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S512x1536, .bf16⟩
  | .local _ .vmem, ⟨17, _⟩ => ⟨S512x1536, .bf16⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FwdMixRefIdeal.lean ====
abbrev S8192x6656 : Shape := ⟨2, ![8192, 6656]⟩
abbrev S8192x512 : Shape := ⟨2, ![8192, 512]⟩
abbrev S1x512 : Shape := ⟨2, ![1, 512]⟩
abbrev S512x512 : Shape := ⟨2, ![512, 512]⟩
abbrev S_ : Shape := ⟨0, ![]⟩
abbrev S8192x4x128 : Shape := ⟨3, ![8192, 4, 128]⟩
abbrev S4x128 : Shape := ⟨2, ![4, 128]⟩
abbrev S8192x4 : Shape := ⟨2, ![8192, 4]⟩
abbrev S8192x4x1 : Shape := ⟨3, ![8192, 4, 1]⟩
abbrev S1x4x128 : Shape := ⟨3, ![1, 4, 128]⟩
abbrev S8192x1536 : Shape := ⟨2, ![8192, 1536]⟩

abbrev nBuf : Space → Nat
  | .hbm => 93
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S512x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x4x128, .f32⟩
  | .hbm, ⟨30, _⟩ => ⟨S4x128, .f32⟩
  | .hbm, ⟨31, _⟩ => ⟨S8192x4x128, .f32⟩
  | .hbm, ⟨32, _⟩ => ⟨S_, .f32⟩
  | .hbm, ⟨33, _⟩ => ⟨S8192x4, .f32⟩
  | .hbm, ⟨34, _⟩ => ⟨S8192x4x1, .f32⟩
  | .hbm, ⟨35, _⟩ => ⟨S_, .f32⟩
  | .hbm, ⟨36, _⟩ => ⟨S8192x4x1, .f32⟩
  | .hbm, ⟨37, _⟩ => ⟨S8192x4x1, .f32⟩
  | .hbm, ⟨38, _⟩ => ⟨S_, .f32⟩
  | .hbm, ⟨39, _⟩ => ⟨S8192x4x1, .f32⟩
  | .hbm, ⟨40, _⟩ => ⟨S8192x4x1, .f32⟩
  | .hbm, ⟨41, _⟩ => ⟨S8192x4x1, .f32⟩
  | .hbm, ⟨42, _⟩ => ⟨S8192x4x128, .f32⟩
  | .hbm, ⟨43, _⟩ => ⟨S8192x4x128, .f32⟩
  | .hbm, ⟨44, _⟩ => ⟨S1x4x128, .f32⟩
  | .hbm, ⟨45, _⟩ => ⟨S8192x4x128, .f32⟩
  | .hbm, ⟨46, _⟩ => ⟨S8192x4x128, .f32⟩
  | .hbm, ⟨47, _⟩ => ⟨S8192x4x128, .f32⟩
  | .hbm, ⟨48, _⟩ => ⟨S8192x4x128, .f32⟩
  | .hbm, ⟨49, _⟩ => ⟨S8192x4x128, .f32⟩
  | .hbm, ⟨50, _⟩ => ⟨S_, .f32⟩
  | .hbm, ⟨51, _⟩ => ⟨S8192x4x128, .f32⟩
  | .hbm, ⟨52, _⟩ => ⟨S8192x4x128, .f32⟩
  | .hbm, ⟨53, _⟩ => ⟨S_, .f32⟩
  | .hbm, ⟨54, _⟩ => ⟨S8192x4x128, .f32⟩
  | .hbm, ⟨55, _⟩ => ⟨S8192x4x128, .f32⟩
  | .hbm, ⟨56, _⟩ => ⟨S8192x4x128, .f32⟩
  | .hbm, ⟨57, _⟩ => ⟨S8192x4x128, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S8192x512, .f32⟩
  | .hbm, ⟨85, _⟩ => ⟨S8192x512, .f32⟩
  | .hbm, ⟨86, _⟩ => ⟨S_, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x1536, .f32⟩
  | .hbm, ⟨92, _⟩ => ⟨S8192x1536, .bf16⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]
-- ==== BwdMix.lean ====
abbrev S8192x6656 : Shape := ⟨2, ![8192, 6656]⟩
abbrev S8192x512 : Shape := ⟨2, ![8192, 512]⟩
abbrev S1x512 : Shape := ⟨2, ![1, 512]⟩
abbrev S512x512 : Shape := ⟨2, ![512, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S512x1536 : Shape := ⟨2, ![512, 1536]⟩
abbrev S128 : Shape := ⟨1, ![128]⟩
abbrev S512x384 : Shape := ⟨2, ![512, 384]⟩
abbrev S512x256 : Shape := ⟨2, ![512, 256]⟩
abbrev S1x384 : Shape := ⟨2, ![1, 384]⟩
abbrev S1x256 : Shape := ⟨2, ![1, 256]⟩

abbrev nBuf : Space → Nat
  | .hbm => 21
  | .vmem => 38
  | .smem => 0
  | _ => 0

abbrev bufTy : (tb : Table) → Fin (tcTables nBuf tb) → BufTy
  | .hbm, ⟨0, _⟩ => ⟨S8192x6656, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S512x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S8192x512, .bf16⟩
  | .hbm, ⟨16, _⟩ => ⟨S8192x512, .f32⟩
  | .hbm, ⟨17, _⟩ => ⟨S1x512, .f32⟩
  | .hbm, ⟨18, _⟩ => ⟨S1x512, .f32⟩
  | .hbm, ⟨19, _⟩ => ⟨S512x512, .f32⟩
  | .hbm, ⟨20, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .f32⟩
  | .local _ .vmem, ⟨33, _⟩ => ⟨S512x512, .f32⟩
  | .local _ .vmem, ⟨34, _⟩ => ⟨S1x512, .f32⟩
  | .local _ .vmem, ⟨35, _⟩ => ⟨S1x512, .f32⟩
  | .local _ .vmem, ⟨36, _⟩ => ⟨S512x512, .f32⟩
  | .local _ .vmem, ⟨37, _⟩ => ⟨S1x512, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg22_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35
abbrev cc0_sem21_0 : DmaSem sig := 36
abbrev cc0_sem22_0 : DmaSem sig := 37

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c5_i32 : BitVec 32 := 5#32
  let v1 : BitVec 32 := Scalar.addi c5_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c12_i32 : BitVec 32 := 12#32
  let v1 : BitVec 32 := Scalar.addi c12_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_17 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_18 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== BwdMixRefIdeal.lean ====
abbrev S8192x6656 : Shape := ⟨2, ![8192, 6656]⟩
abbrev S8192x512 : Shape := ⟨2, ![8192, 512]⟩
abbrev S1x512 : Shape := ⟨2, ![1, 512]⟩
abbrev S512x512 : Shape := ⟨2, ![512, 512]⟩
abbrev S_ : Shape := ⟨0, ![]⟩
abbrev S8192x4x128 : Shape := ⟨3, ![8192, 4, 128]⟩
abbrev S4x128 : Shape := ⟨2, ![4, 128]⟩
abbrev S8192x4 : Shape := ⟨2, ![8192, 4]⟩
abbrev S8192x4x1 : Shape := ⟨3, ![8192, 4, 1]⟩
abbrev S1x4x128 : Shape := ⟨3, ![1, 4, 128]⟩
abbrev S512 : Shape := ⟨1, ![512]⟩

abbrev nBuf : Space → Nat
  | .hbm => 214
  | .vmem => 0
  | .smem => 0
  | _ => 0

abbrev hbmTy0_0 (i : Nat) : BufTy := match i % 128 with
  | 0 => ⟨S8192x6656, .f32⟩
  | 1 => ⟨S8192x512, .f32⟩
  | 2 => ⟨S8192x512, .f32⟩
  | 3 => ⟨S8192x512, .f32⟩
  | 4 => ⟨S1x512, .f32⟩
  | 5 => ⟨S1x512, .f32⟩
  | 6 => ⟨S512x512, .f32⟩
  | 7 => ⟨S1x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S8192x512, .f32⟩
  | 43 => ⟨S8192x4x128, .f32⟩
  | 44 => ⟨S4x128, .f32⟩
  | 45 => ⟨S8192x4x128, .f32⟩
  | 46 => ⟨S_, .f32⟩
  | 47 => ⟨S8192x4, .f32⟩
  | 48 => ⟨S8192x4x1, .f32⟩
  | 49 => ⟨S_, .f32⟩
  | 50 => ⟨S8192x4x1, .f32⟩
  | 51 => ⟨S8192x4x1, .f32⟩
  | 52 => ⟨S_, .f32⟩
  | 53 => ⟨S8192x4x1, .f32⟩
  | 54 => ⟨S8192x4x1, .f32⟩
  | 55 => ⟨S8192x4x1, .f32⟩
  | 56 => ⟨S8192x4x1, .f32⟩
  | 57 => ⟨S_, .f32⟩
  | 58 => ⟨S8192x4x1, .f32⟩
  | 59 => ⟨S8192x4x1, .f32⟩
  | 60 => ⟨S8192x4x128, .f32⟩
  | 61 => ⟨S8192x4x128, .f32⟩
  | 62 => ⟨S1x4x128, .f32⟩
  | 63 => ⟨S8192x4x128, .f32⟩
  | 64 => ⟨S8192x4x128, .f32⟩
  | 65 => ⟨S8192x4x128, .f32⟩
  | 66 => ⟨S8192x4x128, .f32⟩
  | 67 => ⟨S8192x4x128, .f32⟩
  | 68 => ⟨S_, .f32⟩
  | 69 => ⟨S8192x4x128, .f32⟩
  | 70 => ⟨S8192x4x128, .f32⟩
  | 71 => ⟨S_, .f32⟩
  | 72 => ⟨S8192x4x128, .f32⟩
  | 73 => ⟨S8192x4x128, .f32⟩
  | 74 => ⟨S_, .f32⟩
  | 75 => ⟨S8192x4x128, .f32⟩
  | 76 => ⟨S8192x4x128, .f32⟩
  | 77 => ⟨S8192x4x128, .f32⟩
  | 78 => ⟨S8192x4x128, .f32⟩
  | 79 => ⟨S8192x4x128, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S_, .f32⟩
  | 120 => ⟨S8192x512, .f32⟩
  | 121 => ⟨S8192x512, .f32⟩
  | 122 => ⟨S_, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x6656, .f32⟩

abbrev hbmTy0_1 (i : Nat) : BufTy := match i % 128 with
  | 0 => ⟨S8192x4x128, .f32⟩
  | 1 => ⟨S8192x512, .f32⟩
  | 2 => ⟨S8192x512, .f32⟩
  | 3 => ⟨S8192x512, .f32⟩
  | 4 => ⟨S_, .f32⟩
  | 5 => ⟨S512, .f32⟩
  | 6 => ⟨S1x512, .f32⟩
  | 7 => ⟨S512x512, .f32⟩
  | 8 => ⟨S512x512, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S8192x4x128, .f32⟩
  | 33 => ⟨S8192x4x128, .f32⟩
  | 34 => ⟨S8192x4x128, .f32⟩
  | 35 => ⟨S8192x4x128, .f32⟩
  | 36 => ⟨S8192x4x128, .f32⟩
  | 37 => ⟨S8192x4x128, .f32⟩
  | 38 => ⟨S8192x512, .f32⟩
  | 39 => ⟨S8192x4x128, .f32⟩
  | 40 => ⟨S_, .f32⟩
  | 41 => ⟨S4x128, .f32⟩
  | 42 => ⟨S1x4x128, .f32⟩
  | 43 => ⟨S8192x4x128, .f32⟩
  | 44 => ⟨S8192x4x128, .f32⟩
  | 45 => ⟨S_, .f32⟩
  | 46 => ⟨S4x128, .f32⟩
  | 47 => ⟨S8192x4x128, .f32⟩
  | 48 => ⟨S_, .f32⟩
  | 49 => ⟨S8192x4, .f32⟩
  | 50 => ⟨S8192x4x1, .f32⟩
  | 51 => ⟨S8192x4x128, .f32⟩
  | 52 => ⟨S8192x4x128, .f32⟩
  | 53 => ⟨S8192x4x1, .f32⟩
  | 54 => ⟨S_, .f32⟩
  | 55 => ⟨S8192x4x1, .f32⟩
  | 56 => ⟨S8192x4x1, .f32⟩
  | 57 => ⟨S_, .f32⟩
  | 58 => ⟨S8192x4, .f32⟩
  | 59 => ⟨S8192x4x128, .f32⟩
  | 60 => ⟨S8192x4x128, .f32⟩
  | 61 => ⟨S8192x4x128, .f32⟩
  | 62 => ⟨S8192x4x128, .f32⟩
  | 63 => ⟨S8192x4x128, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S8192x512, .f32⟩
  | 82 => ⟨S8192x512, .f32⟩
  | 83 => ⟨S8192x512, .bf16⟩
  | 84 => ⟨S8192x512, .bf16⟩
  | 85 => ⟨S8192x512, .bf16⟩
  | _ => ⟨S8192x6656, .f32⟩

abbrev hbmTy (i : Nat) : BufTy := match i / 128 with
  | 0 => hbmTy0_0 i
  | 1 => hbmTy0_1 i
  | _ => ⟨S8192x6656, .f32⟩

abbrev bufTy : (tb : Table) → Fin (tcTables nBuf tb) → BufTy
  | .hbm, ⟨i, _⟩ => hbmTy i
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_v44_2 : Ref sig .tc := ⟨.hbm, 73, rfl⟩
abbrev main_call0_cst_1 : Ref sig .tc := ⟨.hbm, 74, rfl⟩
abbrev main_call0_v6 : Ref sig .tc := ⟨.hbm, 75, rfl⟩
abbrev main_call0_v7 : Ref sig .tc := ⟨.hbm, 76, rfl⟩
abbrev main_v44_1 : Ref sig .tc := ⟨.hbm, 77, rfl⟩
abbrev main_v44_0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_15 : Ref sig .tc := ⟨.hbm, 104, rfl⟩
abbrev main_v65 : Ref sig .tc := ⟨.hbm, 105, rfl⟩
abbrev main_v66 : Ref sig .tc := ⟨.hbm, 106, rfl⟩
abbrev main_cst_16 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76 : Ref sig .tc := ⟨.hbm, 118, rfl⟩
abbrev main_cst_18 : Ref sig .tc := ⟨.hbm, 119, rfl⟩
abbrev main_v77 : Ref sig .tc := ⟨.hbm, 120, rfl⟩
abbrev main_v78 : Ref sig .tc := ⟨.hbm, 121, rfl⟩
abbrev main_cst_19 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_20 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_21 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_22 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_23 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_24 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_25 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_26 : Ref sig .tc := ⟨.hbm, 173, rfl⟩
abbrev main_v120 : Ref sig .tc := ⟨.hbm, 174, rfl⟩
abbrev main_v121 : Ref sig .tc := ⟨.hbm, 175, rfl⟩
abbrev main_cst_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_28 : Ref sig .tc := ⟨.hbm, 182, rfl⟩
abbrev main_v127 : Ref sig .tc := ⟨.hbm, 183, rfl⟩
abbrev main_v128 : Ref sig .tc := ⟨.hbm, 184, rfl⟩
abbrev main_cst_29 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_30 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_31 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_32 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩

abbrev nD : Nat := 1
abbrev τ : Topo := Topo.v7x

variable {F : FTy → Type} [FloatOps F]
-- ==== Proof.InX.lean ====
module
public import proofs.«01_k».proof.Proof.Gen.InXIdeal.Value
public import proofs.«01_k».proof.Proof.Gen.InXRefIdeal.Run
public import Idealize.ShloMosaic.Lib.Pipeline.ValueKit
public import Idealize.ShloMosaic.Lib.Pipeline.ReadBack
@[expose] public section
set_option maxRecDepth 16384
noncomputable section
namespace Cert.InXIdeal.Product
open Cert.InXIdeal Cert.InXIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term for the gradient of the first product with respect to its rows, added to the gradient that came past it. -/
abbrev REF (X : FVec Ideal S8192x6656 .bf16) (W : FVec Ideal S6656x1024 .bf16) (R : FVec Ideal S8192x1024 .f32) : FVec Ideal S8192x1024 .f32 :=
  addf R (Host.dotGeneral Cert.InXRefIdeal.dot_S8192x6656_S1024x6656_S8192x1024_1_1_0_0_n_n none (extf .f32 X Cert.InXRefIdeal.Gen.bitsLt_bf16_f32)
    (transpose Cert.InXRefIdeal.S1024x6656 [1, 0] (extf .f32 W Cert.InXRefIdeal.Gen.bitsLt_bf16_f32) Cert.InXRefIdeal.Gen.transposes_S6656x1024_S1024x6656_1_0))

/-- The block each window shows at a point. -/
theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

/-- The first step's payload is its own part of the sum. -/
theorem part (x0 : Vec Ideal S1024x3328 .bf16) (x1 : Vec Ideal S3328x512 .bf16) (j : S1024x512.Idx) :
    k0_pay2 x0 x1 j = ∑ k : Fin 3328, x0 (ix2 (j 0) k) * x1 (ix2 k (j 1)) := by
  pointwise [k0_pay1, k0_pay2]

/-- A later step adds its part to what was there. -/
theorem add (x0 : Vec Ideal S1024x3328 .bf16) (x1 : Vec Ideal S3328x512 .bf16) (acc : Vec Ideal S1024x512 .f32) (j : S1024x512.Idx) :
    k0_pay3 x0 x1 acc j = acc j + ∑ k : Fin 3328, x0 (ix2 (j 0) k) * x1 (ix2 k (j 1)) := by
  pointwise [k0_pay1, k0_pay3]

/-- The reference contracts the whole axis at once. -/
theorem whole (X : FVec Ideal S8192x6656 .bf16) (W : FVec Ideal S6656x1024 .bf16) (R : FVec Ideal S8192x1024 .f32) (j : S8192x1024.Idx) :
    REF X W R j = R j + ∑ l : Fin 6656, X (ix2 (j 0) l) * W (ix2 l (j 1)) := by
  pointwise [REF]

/-- The output block is written back with the other gradient added to the finished sum. -/
theorem last (c : Dev nD) (t : Fin cfg0.N) (h : t.val % 2 = 1) (j : S1024x512.Idx) :
    (outsAt0 m c t.val t.isLt).1 j = (show FVec Ideal S1024x512 .f32 from iblk m c 2 t) j + (outsAt0 m c t.val t.isLt).2 j := by
  rw [outsAt0_B m c t (by omega) h h]
  frame_out
  pointwise [k0_pay4]
  rw [add_comm]

/-- The result array after the run is the reference's. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, last m c t ((flush0_3 t).mp hf), Pipeline.eq_sum_fin_of_reset_step_apply_of_flush (fun n h => (outsAt0 m c n h).2) 2 (fun _ => 0) _
    (fun t h j => by rw [outsAt0_A m c t h (by omega) (by omega)]; frame_out; rw [part, zero_add])
    (fun t h j => by rw [outsAt0_B m c t h (by omega) (by omega)]; frame_out; rw [add, read_unread_whole])
    t ((flush0_3 t).mp hf) _, zero_add, whole]
  refine congrArg₂ (fun a b : EReal => a + b) ?_ ?_
  · blk_point [iblk, V, idx t]
  refine Fin.sum_mul_add_congr fun s k hl => ?_
  blk_point [iblk, V, idx t, idx ⟨_, Pipeline.run_point_lt_of_flush t ((flush0_3 t).mp hf) s⟩]

end Cert.InXIdeal.Product
-- ==== Proof.InW.lean ====
module
public import proofs.«01_k».proof.Proof.Gen.InWIdeal.Value
public import proofs.«01_k».proof.Proof.Gen.InWRefIdeal.Run
public import Idealize.ShloMosaic.Lib.Pipeline.ValueKit
public import Idealize.ShloMosaic.Lib.Pipeline.ReadBack
@[expose] public section
set_option maxRecDepth 16384
noncomputable section
namespace Cert.InWIdeal.Product
open Cert.InWIdeal Cert.InWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term for the gradient of the first product with respect to its matrix. -/
abbrev REF (X : FVec Ideal S8192x6656 .bf16) (Y : FVec Ideal S8192x1024 .bf16) : FVec Ideal S6656x1024 .f32 :=
  transpose S6656x1024 [1, 0] (transpose Cert.InWRefIdeal.S1024x6656 [1, 0]
    (Host.dotGeneral Cert.InWRefIdeal.dot_S8192x6656_S8192x1024_S6656x1024_0_0_1_1_n_n none (extf .f32 X Cert.InWRefIdeal.Gen.bitsLt_bf16_f32) (extf .f32 Y Cert.InWRefIdeal.Gen.bitsLt_bf16_f32))
    Cert.InWRefIdeal.Gen.transposes_S6656x1024_S1024x6656_1_0) Cert.InWRefIdeal.Gen.transposes_S1024x6656_S6656x1024_1_0

/-- The block each window shows at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The first step's payload is its own part of the sum. -/
theorem part (x0 : Vec Ideal S2048x512 .bf16) (x1 : Vec Ideal S2048x1024 .bf16) (j : S512x1024.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x512 .bf16) (x1 : Vec Ideal S2048x1024 .bf16) (acc : Vec Ideal S512x1024 .f32) (j : S512x1024.Idx) :
    k0_pay3 x0 x1 acc j = acc j + ∑ k : Fin 2048, x0 (ix2 k (j 0)) * x1 (ix2 k (j 1)) := by
  pointwise [k0_pay1, k0_pay3]

/-- The reference contracts the whole axis at once. -/
theorem whole (X : FVec Ideal S8192x6656 .bf16) (Y : FVec Ideal S8192x1024 .bf16) (j : S6656x1024.Idx) :
    REF X Y j = ∑ l : Fin 8192, X (ix2 l (j 0)) * Y (ix2 l (j 1)) := by
  pointwise [REF]

/-- The output block holds the finished sum when it is written back. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.InWIdeal.Product
-- ==== Proof.UpX.lean ====
module
public import proofs.«01_k».proof.Proof.Gen.UpXIdeal.Value
public import proofs.«01_k».proof.Proof.Gen.UpXRefIdeal.Run
public import Idealize.ShloMosaic.Lib.Pipeline.ValueKit
public import Idealize.ShloMosaic.Lib.Pipeline.ReadBack
@[expose] public section
set_option maxRecDepth 16384
noncomputable section
namespace Cert.UpXIdeal.Product
open Cert.UpXIdeal Cert.UpXIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term for the gradient of the widening product with respect to its rows. -/
abbrev REF (X : FVec Ideal S8192x6144 .bf16) (W : FVec Ideal S6144x1024 .bf16) : FVec Ideal S8192x1024 .f32 :=
  Host.dotGeneral Cert.UpXRefIdeal.dot_S8192x6144_S1024x6144_S8192x1024_1_1_0_0_n_n none
    (extf .f32 X Cert.UpXRefIdeal.Gen.bitsLt_bf16_f32)
    (transpose Cert.UpXRefIdeal.S1024x6144 [1, 0] (extf .f32 W Cert.UpXRefIdeal.Gen.bitsLt_bf16_f32) Cert.UpXRefIdeal.Gen.transposes_S6144x1024_S1024x6144_1_0)

/-- The block each window shows at a point. -/
theorem idx : ∀ t : Fin cfg0.N, win0_0.index t = ![t.val / 3, t.val % 3] ∧ win0_1.index t = ![t.val % 3, 0] ∧ win0_2.index t = ![t.val / 3, 0] :=
  (by decide +kernel : ∀ t : Fin grid0.N, _)

/-- The first step's payload is its own part of the sum. -/
theorem part (x0 : Vec Ideal S1024x2048 .bf16) (x1 : Vec Ideal S2048x1024 .bf16) (j : S1024x1024.Idx) :
    k0_pay2 x0 x1 j = ∑ k : Fin 2048, x0 (ix2 (j 0) k) * x1 (ix2 k (j 1)) := by
  pointwise [k0_pay1, k0_pay2]

/-- A later step adds its part to what was there. -/
theorem add (x0 : Vec Ideal S1024x2048 .bf16) (x1 : Vec Ideal S2048x1024 .bf16) (acc : Vec Ideal S1024x1024 .f32) (j : S1024x1024.Idx) :
    k0_pay3 x0 x1 acc j = acc j + ∑ k : Fin 2048, x0 (ix2 (j 0) k) * x1 (ix2 k (j 1)) := by
  pointwise [k0_pay1, k0_pay3]

/-- The reference contracts the whole axis at once. -/
theorem whole (X : FVec Ideal S8192x6144 .bf16) (W : FVec Ideal S6144x1024 .bf16) (j : S8192x1024.Idx) :
    REF X W j = ∑ l : Fin 6144, X (ix2 (j 0) l) * W (ix2 l (j 1)) := by
  pointwise [REF]

/-- The output block holds the finished sum when it is written back. -/
theorem last (c : Dev nD) (t : Fin cfg0.N) (h : t.val % 3 = 2) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 3 (fun _ => 0) _
    (fun t h j => by rw [outsAt0_A m c t h (by omega) (by omega)]; frame_out; rw [part, zero_add])
    (fun t h j => by
      by_cases h2 : t.val % 3 = 2
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.UpXIdeal.Product
-- ==== Proof.UpW.lean ====
module
public import proofs.«01_k».proof.Proof.Gen.UpWIdeal.Value
public import proofs.«01_k».proof.Proof.Gen.UpWRefIdeal.Run
public import Idealize.ShloMosaic.Lib.Pipeline.ValueKit
public import Idealize.ShloMosaic.Lib.Pipeline.ReadBack
@[expose] public section
set_option maxRecDepth 16384
noncomputable section
namespace Cert.UpWIdeal.Product
open Cert.UpWIdeal Cert.UpWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term for the gradient of the widening product with respect to its matrix. -/
abbrev REF (X : FVec Ideal S8192x6144 .bf16) (Y : FVec Ideal S8192x1024 .bf16) : FVec Ideal S6144x1024 .f32 :=
  transpose S6144x1024 [1, 0] (transpose Cert.UpWRefIdeal.S1024x6144 [1, 0]
    (Host.dotGeneral Cert.UpWRefIdeal.dot_S8192x6144_S8192x1024_S6144x1024_0_0_1_1_n_n none (extf .f32 X Cert.UpWRefIdeal.Gen.bitsLt_bf16_f32) (extf .f32 Y Cert.UpWRefIdeal.Gen.bitsLt_bf16_f32))
    Cert.UpWRefIdeal.Gen.transposes_S6144x1024_S1024x6144_1_0) Cert.UpWRefIdeal.Gen.transposes_S1024x6144_S6144x1024_1_0

/-- The block each window shows at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The first step's payload is its own part of the sum. -/
theorem part (x0 : Vec Ideal S2048x1024 .bf16) (x1 : Vec Ideal S2048x1024 .bf16) (j : S1024x1024.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x1024 .bf16) (acc : Vec Ideal S1024x1024 .f32) (j : S1024x1024.Idx) :
    k0_pay3 x0 x1 acc j = acc j + ∑ k : Fin 2048, x0 (ix2 k (j 0)) * x1 (ix2 k (j 1)) := by
  pointwise [k0_pay1, k0_pay3]

/-- The reference contracts the whole axis at once. -/
theorem whole (X : FVec Ideal S8192x6144 .bf16) (Y : FVec Ideal S8192x1024 .bf16) (j : S6144x1024.Idx) :
    REF X Y j = ∑ l : Fin 8192, X (ix2 l (j 0)) * Y (ix2 l (j 1)) := by
  pointwise [REF]

/-- The output block holds the finished sum when it is written back. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.UpWIdeal.Product
-- ==== Proof.DownX.lean ====
module
public import proofs.«01_k».proof.Proof.Gen.DownXIdeal.Value
public import proofs.«01_k».proof.Proof.Gen.DownXRefIdeal.Run
public import Idealize.ShloMosaic.Lib.Pipeline.ValueKit
@[expose] public section
set_option maxRecDepth 16384
noncomputable section
namespace Cert.DownXIdeal.Product
open Cert.DownXIdeal Cert.DownXIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term for the gradient of the narrowing product with respect to its rows. -/
abbrev REF (X : FVec Ideal S8192x1024 .f32) (W : FVec Ideal S3072x1024 .bf16) : FVec Ideal S8192x3072 .f32 :=
  Host.dotGeneral Cert.DownXRefIdeal.dot_S8192x1024_S3072x1024_S8192x3072_1_1_0_0_n_n none X
    (transpose Cert.DownXRefIdeal.S3072x1024 [1, 0] (extf .f32 (transpose Cert.DownXRefIdeal.S1024x3072 [1, 0] W Cert.DownXRefIdeal.Gen.transposes_S3072x1024_S1024x3072_1_0) Cert.DownXRefIdeal.Gen.bitsLt_bf16_f32)
      Cert.DownXRefIdeal.Gen.transposes_S1024x3072_S3072x1024_1_0)

/-- The block each window shows at a point. -/
theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

/-- What the body stores at a point is the reference there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownXIdeal.Product
-- ==== Proof.DownW.lean ====
module
public import proofs.«01_k».proof.Proof.Gen.DownWIdeal.Value
public import proofs.«01_k».proof.Proof.Gen.DownWRefIdeal.Run
public import Idealize.ShloMosaic.Lib.Pipeline.ValueKit
public import Idealize.ShloMosaic.Lib.Pipeline.ReadBack
@[expose] public section
set_option maxRecDepth 16384
noncomputable section
namespace Cert.DownWIdeal.Product
open Cert.DownWIdeal Cert.DownWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term for the gradient of the narrowing product with respect to its matrix. -/
abbrev REF (X : FVec Ideal S8192x3072 .bf16) (Y : FVec Ideal S8192x1024 .f32) : FVec Ideal S3072x1024 .f32 :=
  transpose S3072x1024 [1, 0] (transpose Cert.DownWRefIdeal.S1024x3072 [1, 0] (transpose S3072x1024 [1, 0]
    (Host.dotGeneral Cert.DownWRefIdeal.dot_S8192x1024_S8192x3072_S1024x3072_0_0_1_1_n_n none Y (extf .f32 X Cert.DownWRefIdeal.Gen.bitsLt_bf16_f32))
    Cert.DownWRefIdeal.Gen.transposes_S1024x3072_S3072x1024_1_0) Cert.DownWRefIdeal.Gen.transposes_S3072x1024_S1024x3072_1_0) Cert.DownWRefIdeal.Gen.transposes_S1024x3072_S3072x1024_1_0

/-- The block each window shows at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The first step's payload is its own part of the sum. -/
theorem part (x0 : Vec Ideal S2048x1024 .bf16) (x1 : Vec Ideal S2048x1024 .f32) (j : S1024x1024.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x1024 .f32) (acc : Vec Ideal S1024x1024 .f32) (j : S1024x1024.Idx) :
    k0_pay3 x0 x1 acc j = acc j + ∑ k : Fin 2048, x0 (ix2 k (j 0)) * x1 (ix2 k (j 1)) := by
  pointwise [k0_pay1, k0_pay3]

/-- The reference contracts the whole axis at once. -/
theorem whole (X : FVec Ideal S8192x3072 .bf16) (Y : FVec Ideal S8192x1024 .f32) (j : S3072x1024.Idx) :
    REF X Y j = ∑ l : Fin 8192, X (ix2 l (j 0)) * Y (ix2 l (j 1)) := by
  pointwise [REF]
  exact Finset.sum_congr rfl fun _ _ => mul_comm _ _

/-- The output block holds the finished sum when it is written back. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.DownWIdeal.Product
-- ==== Proof.FwdIn.lean ====
/- The first product: the kernel's array is the reference's. -/
module
public import proofs.«01_k».proof.Proof.Gen.FwdInIdeal.Value
public import proofs.«01_k».proof.Proof.Gen.FwdInRefIdeal.Run
public import Idealize.ShloMosaic.Lib.Pipeline.ValueKit
@[expose] public section
set_option maxRecDepth 16384
noncomputable section
open Idealize.ShloMosaic Idealize.ShloMosaic.TcCoe Idealize.SL.Sem

namespace Cert.FwdInRefIdeal.Product
open Cert.FwdInRefIdeal Cert.FwdInRefIdeal.Gen

/-- The reference's term. -/
abbrev REF (X : FVec Ideal S8192x1024 .bf16) (Y : FVec Ideal S6656x1024 .bf16) : FVec Ideal S8192x6656 .f32 :=
  Host.dotGeneral dot_S8192x1024_S1024x6656_S8192x6656_1_0_0_1_n_n none (extf .f32 X bitsLt_bf16_f32) (transpose S1024x6656 [1, 0] (extf .f32 Y bitsLt_bf16_f32) transposes_S6656x1024_S1024x6656_1_0)

end Cert.FwdInRefIdeal.Product

namespace Cert.FwdInIdeal.Product
open Cert.FwdInIdeal Cert.FwdInIdeal.Gen Cert.FwdInRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val / 13, 0] ∧ win0_1.index t = ![t.val % 13, 0] ∧ win0_2.index t = ![t.val / 13, t.val % 13] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdInIdeal.Product
-- ==== Proof.FwdBa.lean ====
/- The first product, its columns of the two gates of the delta rule: the kernel's array is the reference's. -/
module
public import proofs.«01_k».proof.Proof.Gen.FwdBaIdeal.Value
public import proofs.«01_k».proof.Proof.Gen.FwdBaRefIdeal.Run
public import Idealize.ShloMosaic.Lib.Pipeline.ValueKit
@[expose] public section
set_option maxRecDepth 16384
noncomputable section
open Idealize.ShloMosaic Idealize.ShloMosaic.TcCoe Idealize.SL.Sem

namespace Cert.FwdBaRefIdeal.Product
open Cert.FwdBaRefIdeal Cert.FwdBaRefIdeal.Gen

/-- The reference's term. -/
abbrev REF (X : FVec Ideal S8192x1024 .bf16) (Y : FVec Ideal S128x1024 .bf16) : FVec Ideal S8192x128 .f32 :=
  Host.dotGeneral dot_S8192x1024_S1024x128_S8192x128_1_0_0_1_n_n none (extf .f32 X bitsLt_bf16_f32) (transpose S1024x128 [1, 0] (extf .f32 Y bitsLt_bf16_f32) transposes_S128x1024_S1024x128_1_0)

end Cert.FwdBaRefIdeal.Product

namespace Cert.FwdBaIdeal.Product
open Cert.FwdBaIdeal Cert.FwdBaIdeal.Gen Cert.FwdBaRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdBaIdeal.Product
-- ==== Proof.FwdBranch0.lean ====
/- The product of branch 0: the kernel's array is the reference's. -/
module
public import proofs.«01_k».proof.Proof.Gen.FwdBranch0Ideal.Value
public import proofs.«01_k».proof.Proof.Gen.FwdBranch0RefIdeal.Run
public import Idealize.ShloMosaic.Lib.Pipeline.ValueKit
@[expose] public section
set_option maxRecDepth 16384
noncomputable section
open Idealize.ShloMosaic Idealize.ShloMosaic.TcCoe Idealize.SL.Sem

namespace Cert.FwdBranch0RefIdeal.Product
open Cert.FwdBranch0RefIdeal Cert.FwdBranch0RefIdeal.Gen

/-- The reference's term. -/
abbrev REF (X : FVec Ideal S8192x1536 .bf16) (Y : FVec Ideal S1024x512 .bf16) : FVec Ideal S8192x1024 .f32 :=
  Host.dotGeneral dot_S8192x512_S512x1024_S8192x1024_1_0_0_1_n_n none (extf .f32 (extractStridedSlice S8192x512 ![0, 0] X slices_S8192x1536_S8192x512_0_0) bitsLt_bf16_f32) (transpose S512x1024 [1, 0] (extf .f32 Y bitsLt_bf16_f32) transposes_S1024x512_S512x1024_1_0)

end Cert.FwdBranch0RefIdeal.Product

namespace Cert.FwdBranch0Ideal.Product
open Cert.FwdBranch0Ideal Cert.FwdBranch0Ideal.Gen Cert.FwdBranch0RefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdBranch0Ideal.Product
-- ==== Proof.FwdBranch1.lean ====
/- The product of branch 1: the kernel's array is the reference's. -/
module
public import proofs.«01_k».proof.Proof.Gen.FwdBranch1Ideal.Value
public import proofs.«01_k».proof.Proof.Gen.FwdBranch1RefIdeal.Run
public import Idealize.ShloMosaic.Lib.Pipeline.ValueKit
@[expose] public section
set_option maxRecDepth 16384
noncomputable section
open Idealize.ShloMosaic Idealize.ShloMosaic.TcCoe Idealize.SL.Sem

namespace Cert.FwdBranch1RefIdeal.Product
open Cert.FwdBranch1RefIdeal Cert.FwdBranch1RefIdeal.Gen

/-- The reference's term. -/
abbrev REF (X : FVec Ideal S8192x1536 .bf16) (Y : FVec Ideal S1024x512 .bf16) : FVec Ideal S8192x1024 .f32 :=
  Host.dotGeneral dot_S8192x512_S512x1024_S8192x1024_1_0_0_1_n_n none (extf .f32 (extractStridedSlice S8192x512 ![0, 512] X slices_S8192x1536_S8192x512_0_512) bitsLt_bf16_f32) (transpose S512x1024 [1, 0] (extf .f32 Y bitsLt_bf16_f32) transposes_S1024x512_S512x1024_1_0)

end Cert.FwdBranch1RefIdeal.Product

namespace Cert.FwdBranch1Ideal.Product
open Cert.FwdBranch1Ideal Cert.FwdBranch1Ideal.Gen Cert.FwdBranch1RefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 1] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdBranch1Ideal.Product
-- ==== Proof.FwdBranch2.lean ====
/- The product of branch 2: the kernel's array is the reference's. -/
module
public import proofs.«01_k».proof.Proof.Gen.FwdBranch2Ideal.Value
public import proofs.«01_k».proof.Proof.Gen.FwdBranch2RefIdeal.Run
public import Idealize.ShloMosaic.Lib.Pipeline.ValueKit
@[expose] public section
set_option maxRecDepth 16384
noncomputable section
open Idealize.ShloMosaic Idealize.ShloMosaic.TcCoe Idealize.SL.Sem

namespace Cert.FwdBranch2RefIdeal.Product
open Cert.FwdBranch2RefIdeal Cert.FwdBranch2RefIdeal.Gen

/-- The reference's term. -/
abbrev REF (X : FVec Ideal S8192x1536 .bf16) (Y : FVec Ideal S1024x512 .bf16) : FVec Ideal S8192x1024 .f32 :=
  Host.dotGeneral dot_S8192x512_S512x1024_S8192x1024_1_0_0_1_n_n none (extf .f32 (extractStridedSlice S8192x512 ![0, 1024] X slices_S8192x1536_S8192x512_0_1024) bitsLt_bf16_f32) (transpose S512x1024 [1, 0] (extf .f32 Y bitsLt_bf16_f32) transposes_S1024x512_S512x1024_1_0)

end Cert.FwdBranch2RefIdeal.Product

namespace Cert.FwdBranch2Ideal.Product
open Cert.FwdBranch2Ideal Cert.FwdBranch2Ideal.Gen Cert.FwdBranch2RefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 2] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdBranch2Ideal.Product
-- ==== Proof.FwdOut.lean ====
/- The output product, of the mixer and of the attention, with what came past it: the kernel's array is the reference's. -/
module
public import proofs.«01_k».proof.Proof.Gen.FwdOutIdeal.Value
public import proofs.«01_k».proof.Proof.Gen.FwdOutRefIdeal.Run
public import Idealize.ShloMosaic.Lib.Pipeline.ValueKit
@[expose] public section
set_option maxRecDepth 16384
noncomputable section
open Idealize.ShloMosaic Idealize.ShloMosaic.TcCoe Idealize.SL.Sem

namespace Cert.FwdOutRefIdeal.Product
open Cert.FwdOutRefIdeal Cert.FwdOutRefIdeal.Gen

/-- The reference's term. -/
abbrev REF (X : FVec Ideal S8192x1024 .bf16) (Y : FVec Ideal S1024x1024 .bf16) (Z : FVec Ideal S8192x1024 .f32) : FVec Ideal S8192x1024 .f32 :=
  addf Z (Host.dotGeneral dot_S8192x1024_S1024x1024_S8192x1024_1_0_0_1_n_n none (extf .f32 X bitsLt_bf16_f32) (extf .f32 Y bitsLt_bf16_f32))

end Cert.FwdOutRefIdeal.Product

namespace Cert.FwdOutIdeal.Product
open Cert.FwdOutIdeal Cert.FwdOutIdeal.Gen Cert.FwdOutRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result array after the run is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, REF]
  blk_point [iblk, V, idx t]

end Cert.FwdOutIdeal.Product
-- ==== Proof.FwdQ.lean ====
/- The product that makes the queries: the kernel's array is the reference's. -/
module
public import proofs.«01_k».proof.Proof.Gen.FwdQIdeal.Value
public import proofs.«01_k».proof.Proof.Gen.FwdQRefIdeal.Run
public import Idealize.ShloMosaic.Lib.Pipeline.ValueKit
@[expose] public section
set_option maxRecDepth 16384
noncomputable section
open Idealize.ShloMosaic Idealize.ShloMosaic.TcCoe Idealize.SL.Sem

namespace Cert.FwdQRefIdeal.Product
open Cert.FwdQRefIdeal Cert.FwdQRefIdeal.Gen

/-- The reference's term. -/
abbrev REF (X : FVec Ideal S8192x1024 .bf16) (Y : FVec Ideal S1024x1024 .bf16) : FVec Ideal S8192x1024 .f32 :=
  Host.dotGeneral dot_S8192x1024_S1024x1024_S8192x1024_1_0_0_1_n_n none (extf .f32 X bitsLt_bf16_f32) (extf .f32 Y bitsLt_bf16_f32)

end Cert.FwdQRefIdeal.Product

namespace Cert.FwdQIdeal.Product
open Cert.FwdQIdeal Cert.FwdQIdeal.Gen Cert.FwdQRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdQIdeal.Product
-- ==== Proof.FwdKv.lean ====
/- The product that makes the keys and values: the kernel's array is the reference's. -/
module
public import proofs.«01_k».proof.Proof.Gen.FwdKvIdeal.Value
public import proofs.«01_k».proof.Proof.Gen.FwdKvRefIdeal.Run
public import Idealize.ShloMosaic.Lib.Pipeline.ValueKit
@[expose] public section
set_option maxRecDepth 16384
noncomputable section
open Idealize.ShloMosaic Idealize.ShloMosaic.TcCoe Idealize.SL.Sem

namespace Cert.FwdKvRefIdeal.Product
open Cert.FwdKvRefIdeal Cert.FwdKvRefIdeal.Gen

/-- The reference's term. -/
abbrev REF (X : FVec Ideal S512x1024 .bf16) (Y : FVec Ideal S2048x1024 .bf16) : FVec Ideal S512x2048 .f32 :=
  Host.dotGeneral dot_S512x1024_S1024x2048_S512x2048_1_0_0_1_n_n none (extf .f32 X bitsLt_bf16_f32) (transpose S1024x2048 [1, 0] (extf .f32 Y bitsLt_bf16_f32) transposes_S2048x1024_S1024x2048_1_0)

end Cert.FwdKvRefIdeal.Product

namespace Cert.FwdKvIdeal.Product
open Cert.FwdKvIdeal Cert.FwdKvIdeal.Gen Cert.FwdKvRefIdeal.Product
open Idealize.ShloMosaic.Pipeline (Dat)

variable (m : (ℓ : Loc nD τ sig) → Buf (Elt Ideal) ℓ)

/-- The block each window shows at a point. -/
theorem idx : ∀ t : Fin cfg0.N, win0_0.index t = ![0, 0] ∧ win0_1.index t = ![t.val, 0] ∧ win0_2.index t = ![0, t.val] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdKvIdeal.Product
-- ==== Proof.FwdUp.lean ====
/- The widening product: the kernel's array is the reference's. -/
module
public import proofs.«01_k».proof.Proof.Gen.FwdUpIdeal.Value
public import proofs.«01_k».proof.Proof.Gen.FwdUpRefIdeal.Run
public import Idealize.ShloMosaic.Lib.Pipeline.ValueKit
@[expose] public section
set_option maxRecDepth 16384
noncomputable section
open Idealize.ShloMosaic Idealize.ShloMosaic.TcCoe Idealize.SL.Sem

namespace Cert.FwdUpRefIdeal.Product
open Cert.FwdUpRefIdeal Cert.FwdUpRefIdeal.Gen

/-- The reference's term. -/
abbrev REF (X : FVec Ideal S8192x1024 .bf16) (Y : FVec Ideal S6144x1024 .bf16) : FVec Ideal S8192x6144 .f32 :=
  Host.dotGeneral dot_S8192x1024_S1024x6144_S8192x6144_1_0_0_1_n_n none (extf .f32 X bitsLt_bf16_f32) (transpose S1024x6144 [1, 0] (extf .f32 Y bitsLt_bf16_f32) transposes_S6144x1024_S1024x6144_1_0)

end Cert.FwdUpRefIdeal.Product

namespace Cert.FwdUpIdeal.Product
open Cert.FwdUpIdeal Cert.FwdUpIdeal.Gen Cert.FwdUpRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val / 6, 0] ∧ win0_1.index t = ![t.val % 6, 0] ∧ win0_2.index t = ![t.val / 6, t.val % 6] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdUpIdeal.Product
-- ==== Proof.FwdDown.lean ====
/- The narrowing product, with what came past it: the kernel's array is the reference's. -/
module
public import proofs.«01_k».proof.Proof.Gen.FwdDownIdeal.Value
public import proofs.«01_k».proof.Proof.Gen.FwdDownRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.FwdDownRefIdeal.Product
open Cert.FwdDownRefIdeal Cert.FwdDownRefIdeal.Gen

/-- The reference's term. -/
abbrev REF (X : FVec Ideal S8192x3072 .bf16) (Y : FVec Ideal S3072x1024 .bf16) (Z : FVec Ideal S8192x1024 .f32) : FVec Ideal S8192x1024 .f32 :=
  addf Z (Host.dotGeneral dot_S8192x3072_S3072x1024_S8192x1024_1_0_0_1_n_n none (extf .f32 X bitsLt_bf16_f32) (extf .f32 Y bitsLt_bf16_f32))

end Cert.FwdDownRefIdeal.Product

namespace Cert.FwdDownIdeal.Product
open Cert.FwdDownIdeal Cert.FwdDownIdeal.Gen Cert.FwdDownRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val / 3, t.val % 3] ∧ win0_1.index t = ![t.val % 3, 0] ∧ win0_2.index t = ![t.val / 3, 0] ∧ win0_3.index t = ![t.val / 3, 0] :=
  (by decide +kernel : ∀ t : Fin grid0.N, _)

/-- The first step's payload is its own part of the sum. -/
theorem part (x0 : Vec Ideal S1024x1024 .bf16) (x1 : Vec Ideal S1024x1024 .bf16) (j : S1024x1024.Idx) :
    k0_pay2 x0 x1 j = ∑ k : Fin 1024, x0 (ix2 (j 0) k) * x1 (ix2 k (j 1)) := by
  pointwise [k0_pay1, k0_pay2]

/-- A later step adds its part to what was there. -/
theorem add (x0 : Vec Ideal S1024x1024 .bf16) (x1 : Vec Ideal S1024x1024 .bf16) (acc : Vec Ideal S1024x1024 .f32) (j : S1024x1024.Idx) :
    k0_pay3 x0 x1 acc j = acc j + ∑ k : Fin 1024, x0 (ix2 (j 0) k) * x1 (ix2 k (j 1)) := by
  pointwise [k0_pay1, k0_pay3]

/-- The reference contracts the whole axis at once. -/
theorem whole (X : FVec Ideal S8192x3072 .bf16) (Y : FVec Ideal S3072x1024 .bf16) (Z : FVec Ideal S8192x1024 .f32) (j : S8192x1024.Idx) :
    REF X Y Z j = Z j + ∑ l : Fin 3072, X (ix2 (j 0) l) * Y (ix2 l (j 1)) := by
  pointwise [REF]

/-- The output block is written back with the finished sum. -/
theorem last (c : Dev nD) (t : Fin cfg0.N) (h : t.val % 3 = 2) (j : S1024x1024.Idx) :
    (outsAt0 m c t.val t.isLt).1 j = (show FVec Ideal S1024x1024 .f32 from iblk m c 2 t) j + (outsAt0 m c t.val t.isLt).2 j := by
  rw [outsAt0_C m c t (by omega) (by omega) h]
  frame_out
  pointwise [k0_pay4]
  rw [add_comm]

/-- The result array after the run is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, last m c t ((flush0_3 t).mp hf), Pipeline.eq_sum_fin_of_reset_step_apply_of_flush (fun n h => (outsAt0 m c n h).2) 3 (fun _ => 0) _
    (fun t h j => by rw [outsAt0_A m c t h (by omega) (by omega)]; frame_out; rw [part, zero_add])
    (fun t h j => by
      by_cases h2 : t.val % 3 = 2
      · rw [outsAt0_C m c t h (by omega) h2]; frame_out; rw [add, read_unread_whole]
      · rw [outsAt0_B m c t h (by omega) h2]; frame_out; rw [add, read_unread_whole])
    t ((flush0_3 t).mp hf) _, zero_add, whole]
  refine congrArg₂ (fun a b : EReal => a + b) ?_ ?_
  · blk_point [iblk, V, idx t]
  refine Fin.sum_mul_add_congr fun s k hl => ?_
  blk_point [iblk, V, idx t, idx ⟨_, Pipeline.run_point_lt_of_flush t ((flush0_3 t).mp hf) s⟩]

end Cert.FwdDownIdeal.Product
-- ==== Proof.OutX.lean ====
/- The gradient in the rows of an output product, of the mixer and of the attention: the kernel's array is the reference's. -/
module
public import proofs.«01_k».proof.Proof.Gen.OutXIdeal.Value
public import proofs.«01_k».proof.Proof.Gen.OutXRefIdeal.Run
public import Idealize.ShloMosaic.Lib.Pipeline.ValueKit
@[expose] public section
set_option maxRecDepth 16384
noncomputable section
open Idealize.ShloMosaic Idealize.ShloMosaic.TcCoe Idealize.SL.Sem

namespace Cert.OutXRefIdeal.Product
open Cert.OutXRefIdeal Cert.OutXRefIdeal.Gen

/-- The reference's term. -/
abbrev REF (X : FVec Ideal S8192x1024 .f32) (Y : FVec Ideal S1024x1024 .bf16) : FVec Ideal S8192x1024 .f32 :=
  Host.dotGeneral dot_S8192x1024_S1024x1024_S8192x1024_1_1_0_0_n_n none X (transpose S1024x1024 [1, 0] (extf .f32 (transpose S1024x1024 [1, 0] Y transposes_S1024x1024_S1024x1024_1_0) bitsLt_bf16_f32) transposes_S1024x1024_S1024x1024_1_0)

end Cert.OutXRefIdeal.Product

namespace Cert.OutXIdeal.Product
open Cert.OutXIdeal Cert.OutXIdeal.Gen Cert.OutXRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.OutXIdeal.Product
-- ==== Proof.OutW.lean ====
/- The gradient in the matrix of an output product, of the mixer and of the attention: the kernel's array is the reference's. -/
module
public import proofs.«01_k».proof.Proof.Gen.OutWIdeal.Value
public import proofs.«01_k».proof.Proof.Gen.OutWRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.OutWRefIdeal.Product
open Cert.OutWRefIdeal Cert.OutWRefIdeal.Gen

/-- The reference's term. -/
abbrev REF (X : FVec Ideal S8192x1024 .bf16) (Y : FVec Ideal S8192x1024 .f32) : FVec Ideal S1024x1024 .f32 :=
  transpose S1024x1024 [1, 0] (transpose S1024x1024 [1, 0] (transpose S1024x1024 [1, 0] (Host.dotGeneral dot_S8192x1024_S8192x1024_S1024x1024_0_0_1_1_n_n none Y (extf .f32 X bitsLt_bf16_f32)) transposes_S1024x1024_S1024x1024_1_0) transposes_S1024x1024_S1024x1024_1_0) transposes_S1024x1024_S1024x1024_1_0

end Cert.OutWRefIdeal.Product

namespace Cert.OutWIdeal.Product
open Cert.OutWIdeal Cert.OutWIdeal.Gen Cert.OutWRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![t.val, 0] ∧ win0_2.index t = ![0, 0] :=
  (by decide +kernel : ∀ t : Fin grid0.N, _)

/-- The first step's payload is its own part of the sum. -/
theorem part (x0 : Vec Ideal S2048x1024 .bf16) (x1 : Vec Ideal S2048x1024 .f32) (j : S1024x1024.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x1024 .f32) (acc : Vec Ideal S1024x1024 .f32) (j : S1024x1024.Idx) :
    k0_pay3 x0 x1 acc j = acc j + ∑ k : Fin 2048, x0 (ix2 k (j 0)) * x1 (ix2 k (j 1)) := by
  pointwise [k0_pay1, k0_pay3]

/-- The reference contracts the whole axis at once. -/
theorem whole (X : FVec Ideal S8192x1024 .bf16) (Y : FVec Ideal S8192x1024 .f32) (j : S1024x1024.Idx) :
    REF X Y j = ∑ l : Fin 8192, X (ix2 l (j 0)) * Y (ix2 l (j 1)) := by
  pointwise [REF]
  exact Finset.sum_congr rfl fun _ _ => mul_comm _ _

/-- The output block is written back with the finished sum. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by have hN : t.val < 4 := lt_of_lt_of_eq t.isLt N_0; rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.OutWIdeal.Product
-- ==== Proof.QX.lean ====
/- The gradient in the rows of the queries' product: the kernel's array is the reference's. -/
module
public import proofs.«01_k».proof.Proof.Gen.QXIdeal.Value
public import proofs.«01_k».proof.Proof.Gen.QXRefIdeal.Run
public import Idealize.ShloMosaic.Lib.Pipeline.ValueKit
@[expose] public section
set_option maxRecDepth 16384
noncomputable section
open Idealize.ShloMosaic Idealize.ShloMosaic.TcCoe Idealize.SL.Sem

namespace Cert.QXRefIdeal.Product
open Cert.QXRefIdeal Cert.QXRefIdeal.Gen

/-- The reference's term. -/
abbrev REF (X : FVec Ideal S8192x1024 .bf16) (Y : FVec Ideal S1024x1024 .bf16) : FVec Ideal S8192x1024 .f32 :=
  Host.dotGeneral dot_S8192x1024_S1024x1024_S8192x1024_1_1_0_0_n_n none (extf .f32 X bitsLt_bf16_f32) (transpose S1024x1024 [1, 0] (extf .f32 (transpose S1024x1024 [1, 0] Y transposes_S1024x1024_S1024x1024_1_0) bitsLt_bf16_f32) transposes_S1024x1024_S1024x1024_1_0)

end Cert.QXRefIdeal.Product

namespace Cert.QXIdeal.Product
open Cert.QXIdeal Cert.QXIdeal.Gen Cert.QXRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.QXIdeal.Product
-- ==== Proof.QW.lean ====
/- The gradient in the matrix of the queries' product: the kernel's array is the reference's. -/
module
public import proofs.«01_k».proof.Proof.Gen.QWIdeal.Value
public import proofs.«01_k».proof.Proof.Gen.QWRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.QWRefIdeal.Product
open Cert.QWRefIdeal Cert.QWRefIdeal.Gen

/-- The reference's term. -/
abbrev REF (X : FVec Ideal S8192x1024 .bf16) (Y : FVec Ideal S8192x1024 .bf16) : FVec Ideal S1024x1024 .f32 :=
  transpose S1024x1024 [1, 0] (transpose S1024x1024 [1, 0] (transpose S1024x1024 [1, 0] (Host.dotGeneral dot_S8192x1024_S8192x1024_S1024x1024_0_0_1_1_n_n none (extf .f32 Y bitsLt_bf16_f32) (extf .f32 X bitsLt_bf16_f32)) transposes_S1024x1024_S1024x1024_1_0) transposes_S1024x1024_S1024x1024_1_0) transposes_S1024x1024_S1024x1024_1_0

end Cert.QWRefIdeal.Product

namespace Cert.QWIdeal.Product
open Cert.QWIdeal Cert.QWIdeal.Gen Cert.QWRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![t.val, 0] ∧ win0_2.index t = ![0, 0] :=
  (by decide +kernel : ∀ t : Fin grid0.N, _)

/-- The first step's payload is its own part of the sum. -/
theorem part (x0 : Vec Ideal S2048x1024 .bf16) (x1 : Vec Ideal S2048x1024 .bf16) (j : S1024x1024.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x1024 .bf16) (acc : Vec Ideal S1024x1024 .f32) (j : S1024x1024.Idx) :
    k0_pay3 x0 x1 acc j = acc j + ∑ k : Fin 2048, x0 (ix2 k (j 0)) * x1 (ix2 k (j 1)) := by
  pointwise [k0_pay1, k0_pay3]

/-- The reference contracts the whole axis at once. -/
theorem whole (X : FVec Ideal S8192x1024 .bf16) (Y : FVec Ideal S8192x1024 .bf16) (j : S1024x1024.Idx) :
    REF X Y j = ∑ l : Fin 8192, X (ix2 l (j 0)) * Y (ix2 l (j 1)) := by
  pointwise [REF]
  exact Finset.sum_congr rfl fun _ _ => mul_comm _ _

/-- The output block is written back with the finished sum. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by have hN : t.val < 4 := lt_of_lt_of_eq t.isLt N_0; rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.QWIdeal.Product
-- ==== Proof.KvX.lean ====
/- The gradient in the rows of the keys' and values' product: the kernel's array is the reference's. -/
module
public import proofs.«01_k».proof.Proof.Gen.KvXIdeal.Value
public import proofs.«01_k».proof.Proof.Gen.KvXRefIdeal.Run
public import Idealize.ShloMosaic.Lib.Pipeline.ValueKit
@[expose] public section
set_option maxRecDepth 16384
noncomputable section
open Idealize.ShloMosaic Idealize.ShloMosaic.TcCoe Idealize.SL.Sem

namespace Cert.KvXRefIdeal.Product
open Cert.KvXRefIdeal Cert.KvXRefIdeal.Gen

/-- The reference's term. -/
abbrev REF (X : FVec Ideal S512x2048 .f32) (Y : FVec Ideal S2048x1024 .bf16) : FVec Ideal S512x1024 .f32 :=
  Host.dotGeneral dot_S512x2048_S1024x2048_S512x1024_1_1_0_0_n_n none X (transpose S1024x2048 [1, 0] (extf .f32 Y bitsLt_bf16_f32) transposes_S2048x1024_S1024x2048_1_0)

end Cert.KvXRefIdeal.Product

namespace Cert.KvXIdeal.Product
open Cert.KvXIdeal Cert.KvXIdeal.Gen Cert.KvXRefIdeal.Product
open Idealize.ShloMosaic.Pipeline (Dat)

variable (m : (ℓ : Loc nD τ sig) → Buf (Elt Ideal) ℓ)

/-- The block each window shows at a point. -/
theorem idx : ∀ t : Fin cfg0.N, win0_0.index t = ![0, 0] ∧ win0_1.index t = ![0, 0] ∧ win0_2.index t = ![0, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.KvXIdeal.Product
-- ==== Proof.KvW.lean ====
/- The gradient in the matrix of the keys' and values' product: the kernel's array is the reference's. -/
module
public import proofs.«01_k».proof.Proof.Gen.KvWIdeal.Value
public import proofs.«01_k».proof.Proof.Gen.KvWRefIdeal.Run
public import Idealize.ShloMosaic.Lib.Pipeline.ValueKit
@[expose] public section
set_option maxRecDepth 16384
noncomputable section
open Idealize.ShloMosaic Idealize.ShloMosaic.TcCoe Idealize.SL.Sem

namespace Cert.KvWRefIdeal.Product
open Cert.KvWRefIdeal Cert.KvWRefIdeal.Gen

/-- The reference's term. -/
abbrev REF (X : FVec Ideal S512x2048 .f32) (Y : FVec Ideal S512x1024 .bf16) : FVec Ideal S2048x1024 .f32 :=
  transpose S2048x1024 [1, 0] (transpose S1024x2048 [1, 0] (Host.dotGeneral dot_S512x2048_S512x1024_S2048x1024_0_0_1_1_n_n none X (extf .f32 Y bitsLt_bf16_f32)) transposes_S2048x1024_S1024x2048_1_0) transposes_S1024x2048_S2048x1024_1_0

end Cert.KvWRefIdeal.Product

namespace Cert.KvWIdeal.Product
open Cert.KvWIdeal Cert.KvWIdeal.Gen Cert.KvWRefIdeal.Product
open Idealize.ShloMosaic.Pipeline (Dat)

variable (m : (ℓ : Loc nD τ sig) → Buf (Elt Ideal) ℓ)

/-- The block each window shows at a point. -/
theorem idx : ∀ t : Fin cfg0.N, win0_0.index t = ![0, t.val] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.KvWIdeal.Product
-- ==== Proof.BranchX.lean ====
/- The gradient in the rows of a branch's product: the kernel's array is the reference's. -/
module
public import proofs.«01_k».proof.Proof.Gen.BranchXIdeal.Value
public import proofs.«01_k».proof.Proof.Gen.BranchXRefIdeal.Run
public import Idealize.ShloMosaic.Lib.Pipeline.ValueKit
@[expose] public section
set_option maxRecDepth 16384
noncomputable section
open Idealize.ShloMosaic Idealize.ShloMosaic.TcCoe Idealize.SL.Sem

namespace Cert.BranchXRefIdeal.Product
open Cert.BranchXRefIdeal Cert.BranchXRefIdeal.Gen

/-- The reference's term. -/
abbrev REF (X : FVec Ideal S8192x1024 .bf16) (Y : FVec Ideal S1024x512 .bf16) : FVec Ideal S8192x512 .f32 :=
  Host.dotGeneral dot_S8192x1024_S512x1024_S8192x512_1_1_0_0_n_n none (extf .f32 X bitsLt_bf16_f32) (transpose S512x1024 [1, 0] (extf .f32 Y bitsLt_bf16_f32) transposes_S1024x512_S512x1024_1_0)

end Cert.BranchXRefIdeal.Product

namespace Cert.BranchXIdeal.Product
open Cert.BranchXIdeal Cert.BranchXIdeal.Gen Cert.BranchXRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.BranchXIdeal.Product
-- ==== Proof.BranchW0.lean ====
/- The gradient in the matrix of the product of branch 0: the kernel's array is the reference's. -/
module
public import proofs.«01_k».proof.Proof.Gen.BranchW0Ideal.Value
public import proofs.«01_k».proof.Proof.Gen.BranchW0RefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.BranchW0RefIdeal.Product
open Cert.BranchW0RefIdeal Cert.BranchW0RefIdeal.Gen

/-- The reference's term. -/
abbrev REF (X : FVec Ideal S8192x1024 .bf16) (Y : FVec Ideal S8192x1536 .bf16) : FVec Ideal S1024x512 .f32 :=
  transpose S1024x512 [1, 0] (transpose S512x1024 [1, 0] (Host.dotGeneral dot_S8192x1024_S8192x512_S1024x512_0_0_1_1_n_n none (extf .f32 X bitsLt_bf16_f32) (extf .f32 (extractStridedSlice S8192x512 ![0, 0] Y slices_S8192x1536_S8192x512_0_0) bitsLt_bf16_f32)) transposes_S1024x512_S512x1024_1_0) transposes_S512x1024_S1024x512_1_0

end Cert.BranchW0RefIdeal.Product

namespace Cert.BranchW0Ideal.Product
open Cert.BranchW0Ideal Cert.BranchW0Ideal.Gen Cert.BranchW0RefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![t.val, 0] ∧ win0_2.index t = ![0, 0] :=
  (by decide +kernel : ∀ t : Fin grid0.N, _)

/-- The first step's payload is its own part of the sum. -/
theorem part (x0 : Vec Ideal S2048x1024 .bf16) (x1 : Vec Ideal S2048x512 .bf16) (j : S1024x512.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x512 .bf16) (acc : Vec Ideal S1024x512 .f32) (j : S1024x512.Idx) :
    k0_pay3 x0 x1 acc j = acc j + ∑ k : Fin 2048, x0 (ix2 k (j 0)) * x1 (ix2 k (j 1)) := by
  pointwise [k0_pay1, k0_pay3]

/-- The output block is written back with the finished sum. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by have hN : t.val < 4 := lt_of_lt_of_eq t.isLt N_0; rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

end Cert.BranchW0Ideal.Product
-- ==== Proof.BranchW1.lean ====
/- The gradient in the matrix of the product of branch 1: the kernel's array is the reference's. -/
module
public import proofs.«01_k».proof.Proof.Gen.BranchW1Ideal.Value
public import proofs.«01_k».proof.Proof.Gen.BranchW1RefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.BranchW1RefIdeal.Product
open Cert.BranchW1RefIdeal Cert.BranchW1RefIdeal.Gen

/-- The reference's term. -/
abbrev REF (X : FVec Ideal S8192x1024 .bf16) (Y : FVec Ideal S8192x1536 .bf16) : FVec Ideal S1024x512 .f32 :=
  transpose S1024x512 [1, 0] (transpose S512x1024 [1, 0] (Host.dotGeneral dot_S8192x1024_S8192x512_S1024x512_0_0_1_1_n_n none (extf .f32 X bitsLt_bf16_f32) (extf .f32 (extractStridedSlice S8192x512 ![0, 512] Y slices_S8192x1536_S8192x512_0_512) bitsLt_bf16_f32)) transposes_S1024x512_S512x1024_1_0) transposes_S512x1024_S1024x512_1_0

end Cert.BranchW1RefIdeal.Product

namespace Cert.BranchW1Ideal.Product
open Cert.BranchW1Ideal Cert.BranchW1Ideal.Gen Cert.BranchW1RefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![t.val, 1] ∧ win0_2.index t = ![0, 0] :=
  (by decide +kernel : ∀ t : Fin grid0.N, _)

/-- The first step's payload is its own part of the sum. -/
theorem part (x0 : Vec Ideal S2048x1024 .bf16) (x1 : Vec Ideal S2048x512 .bf16) (j : S1024x512.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x512 .bf16) (acc : Vec Ideal S1024x512 .f32) (j : S1024x512.Idx) :
    k0_pay3 x0 x1 acc j = acc j + ∑ k : Fin 2048, x0 (ix2 k (j 0)) * x1 (ix2 k (j 1)) := by
  pointwise [k0_pay1, k0_pay3]

/-- The output block is written back with the finished sum. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by have hN : t.val < 4 := lt_of_lt_of_eq t.isLt N_0; rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

end Cert.BranchW1Ideal.Product
-- ==== Proof.BranchW2.lean ====
/- The gradient in the matrix of the product of branch 2: the kernel's array is the reference's. -/
module
public import proofs.«01_k».proof.Proof.Gen.BranchW2Ideal.Value
public import proofs.«01_k».proof.Proof.Gen.BranchW2RefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.BranchW2RefIdeal.Product
open Cert.BranchW2RefIdeal Cert.BranchW2RefIdeal.Gen

/-- The reference's term. -/
abbrev REF (X : FVec Ideal S8192x1024 .bf16) (Y : FVec Ideal S8192x1536 .bf16) : FVec Ideal S1024x512 .f32 :=
  transpose S1024x512 [1, 0] (transpose S512x1024 [1, 0] (Host.dotGeneral dot_S8192x1024_S8192x512_S1024x512_0_0_1_1_n_n none (extf .f32 X bitsLt_bf16_f32) (extf .f32 (extractStridedSlice S8192x512 ![0, 1024] Y slices_S8192x1536_S8192x512_0_1024) bitsLt_bf16_f32)) transposes_S1024x512_S512x1024_1_0) transposes_S512x1024_S1024x512_1_0

end Cert.BranchW2RefIdeal.Product

namespace Cert.BranchW2Ideal.Product
open Cert.BranchW2Ideal Cert.BranchW2Ideal.Gen Cert.BranchW2RefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![t.val, 2] ∧ win0_2.index t = ![0, 0] :=
  (by decide +kernel : ∀ t : Fin grid0.N, _)

/-- The first step's payload is its own part of the sum. -/
theorem part (x0 : Vec Ideal S2048x1024 .bf16) (x1 : Vec Ideal S2048x512 .bf16) (j : S1024x512.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x1024 .bf16) (x1 : Vec Ideal S2048x512 .bf16) (acc : Vec Ideal S1024x512 .f32) (j : S1024x512.Idx) :
    k0_pay3 x0 x1 acc j = acc j + ∑ k : Fin 2048, x0 (ix2 k (j 0)) * x1 (ix2 k (j 1)) := by
  pointwise [k0_pay1, k0_pay3]

/-- The output block is written back with the finished sum. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by have hN : t.val < 4 := lt_of_lt_of_eq t.isLt N_0; rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

end Cert.BranchW2Ideal.Product
-- ==== Proof.BaX.lean ====
/- The gradient in the rows of the first product, from the columns of the delta rule's gates: the kernel's array is the reference's. -/
module
public import proofs.«01_k».proof.Proof.Gen.BaXIdeal.Value
public import proofs.«01_k».proof.Proof.Gen.BaXRefIdeal.Run
public import Idealize.ShloMosaic.Lib.Pipeline.ValueKit
@[expose] public section
set_option maxRecDepth 16384
noncomputable section
open Idealize.ShloMosaic Idealize.ShloMosaic.TcCoe Idealize.SL.Sem

namespace Cert.BaXRefIdeal.Product
open Cert.BaXRefIdeal Cert.BaXRefIdeal.Gen

/-- The reference's term. -/
abbrev REF (X : FVec Ideal S8192x128 .bf16) (Y : FVec Ideal S128x1024 .bf16) : FVec Ideal S8192x1024 .f32 :=
  Host.dotGeneral dot_S8192x128_S1024x128_S8192x1024_1_1_0_0_n_n none (extf .f32 X bitsLt_bf16_f32) (transpose S1024x128 [1, 0] (extf .f32 Y bitsLt_bf16_f32) transposes_S128x1024_S1024x128_1_0)

end Cert.BaXRefIdeal.Product

namespace Cert.BaXIdeal.Product
open Cert.BaXIdeal Cert.BaXIdeal.Gen Cert.BaXRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.BaXIdeal.Product
-- ==== Proof.BaW.lean ====
/- The gradient in those columns of the first product's matrix: the kernel's array is the reference's. -/
module
public import proofs.«01_k».proof.Proof.Gen.BaWIdeal.Value
public import proofs.«01_k».proof.Proof.Gen.BaWRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.BaWRefIdeal.Product
open Cert.BaWRefIdeal Cert.BaWRefIdeal.Gen

/-- The reference's term. -/
abbrev REF (X : FVec Ideal S8192x128 .bf16) (Y : FVec Ideal S8192x1024 .bf16) : FVec Ideal S128x1024 .f32 :=
  transpose S128x1024 [1, 0] (transpose S1024x128 [1, 0] (Host.dotGeneral dot_S8192x128_S8192x1024_S128x1024_0_0_1_1_n_n none (extf .f32 X bitsLt_bf16_f32) (extf .f32 Y bitsLt_bf16_f32)) transposes_S128x1024_S1024x128_1_0) transposes_S1024x128_S128x1024_1_0

end Cert.BaWRefIdeal.Product

namespace Cert.BaWIdeal.Product
open Cert.BaWIdeal Cert.BaWIdeal.Gen Cert.BaWRefIdeal.Product
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![t.val, 0] ∧ win0_2.index t = ![0, 0] :=
  (by decide +kernel : ∀ t : Fin grid0.N, _)

/-- The first step's payload is its own part of the sum. -/
theorem part (x0 : Vec Ideal S2048x128 .bf16) (x1 : Vec Ideal S2048x1024 .bf16) (j : S128x1024.Idx) :
    k0_pay2 x0 x1 j = ∑ k : Fin 2048, x0 (ix2 k (j 0)) * x1 (ix2 k (j 1)) := by
  pointwise [k0_pay1, k0_pay2]

/-- A later step adds its part to what was there. -/
theorem add (x0 : Vec Ideal S2048x128 .bf16) (x1 : Vec Ideal S2048x1024 .bf16) (acc : Vec Ideal S128x1024 .f32) (j : S128x1024.Idx) :
    k0_pay3 x0 x1 acc j = acc j + ∑ k : Fin 2048, x0 (ix2 k (j 0)) * x1 (ix2 k (j 1)) := by
  pointwise [k0_pay1, k0_pay3]

/-- The reference contracts the whole axis at once. -/
theorem whole (X : FVec Ideal S8192x128 .bf16) (Y : FVec Ideal S8192x1024 .bf16) (j : S128x1024.Idx) :
    REF X Y j = ∑ l : Fin 8192, X (ix2 l (j 0)) * Y (ix2 l (j 1)) := by
  pointwise [REF]

/-- The output block is written back with the finished sum. -/
theorem last (c : Dev nD) (t : Fin cfg0.N) (h : t.val % 4 = 3) : (outsAt0 m c t.val t.isLt).1 = (outsAt0 m c t.val t.isLt).2 := by
  rw [outsAt0_C m c t (by omega) (by omega) h]
  frame_out

/-- The result array after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf), Pipeline.eq_sum_fin_of_reset_step_apply_of_flush (fun n h => (outsAt0 m c n h).2) 4 (fun _ => 0) _
    (fun t h j => by have hN : t.val < 4 := lt_of_lt_of_eq t.isLt N_0; rw [outsAt0_A m c t h (by omega) (by omega)]; frame_out; rw [part, zero_add])
    (fun t h j => by
      by_cases h2 : t.val % 4 = 3
      · rw [outsAt0_C m c t h (by omega) h2]; frame_out; rw [add, read_unread_whole]
      · rw [outsAt0_B m c t h (by omega) h2]; frame_out; rw [add, read_unread_whole])
    t ((flush0_2 t).mp hf) _, zero_add, whole]
  refine Fin.sum_mul_add_congr fun s k hl => ?_
  blk_point [iblk, V, idx t, idx ⟨_, Pipeline.run_point_lt_of_flush t ((flush0_2 t).mp hf) s⟩]

end Cert.BaWIdeal.Product
-- ==== Proof.FwdGate.lean ====
/- The merge of the branches by their gates: the kernel's array is the reference's. -/
module
public import proofs.«01_k».proof.Proof.Gen.FwdGateIdeal.Value
public import proofs.«01_k».proof.Proof.Gen.FwdGateRefIdeal.Run
public import Idealize.ShloMosaic.Lib.Pipeline.ValueKit
@[expose] public section
set_option maxRecDepth 16384
noncomputable section
open Idealize.ShloMosaic Idealize.ShloMosaic.TcCoe Idealize.SL.Sem

namespace Cert.FwdGateRefIdeal.Merge
open Cert.FwdGateRefIdeal Cert.FwdGateRefIdeal.Gen

/-- The reference's term. -/
abbrev REF (x0 : FVec Ideal S8192x6656 .f32) (x1 x2 x3 : FVec Ideal S8192x1024 .f32) (x4 : FVec Ideal S1x3072 .f32) : FVec Ideal S8192x1024 .bf16 :=
  truncf .bf16 (Host.reduceAdd (mulf (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (shapeCast _ (addf (extractStridedSlice S8192x3072 ![0, 3072] x0 slices_S8192x6656_S8192x3072_0_3072) (broadcastInDim S8192x3072 ![0, 1] bcast_S1x3072_S8192x3072_0_1 x4)) shapeCasts_S8192x3072_S8192x3x1024))))) ((concatenate S8192x3x1024 1 [⟨S8192x1x1024, ((broadcastInDim S8192x1x1024 ![0, 2] bcast_S8192x1024_S8192x1x1024_0_2 x1) : (⟨S8192x1x1024, .f32⟩ : BufTy).Contents (Elt Ideal))⟩, ⟨S8192x1x1024, ((broadcastInDim S8192x1x1024 ![0, 2] bcast_S8192x1024_S8192x1x1024_0_2 x2) : (⟨S8192x1x1024, .f32⟩ : BufTy).Contents (Elt Ideal))⟩, ⟨S8192x1x1024, ((broadcastInDim S8192x1x1024 ![0, 2] bcast_S8192x1024_S8192x1x1024_0_2 x3) : (⟨S8192x1x1024, .f32⟩ : BufTy).Contents (Elt Ideal))⟩] concatenates_S8192x1x1024_S8192x1x1024_S8192x1x1024_S8192x3x1024_d1 : (⟨S8192x3x1024, .f32⟩ : BufTy).Contents (Elt Ideal)))) (constant S_ .f32 0x00000000#32) reducesTo_S8192x3x1024_S8192x1024_d1 h_S_) bitsLt_bf16_f32

end Cert.FwdGateRefIdeal.Merge

namespace Cert.FwdGateIdeal.Merge
open Cert.FwdGateIdeal Cert.FwdGateIdeal.Gen Cert.FwdGateRefIdeal.Merge
open Idealize.ShloMosaic.Pipeline (Dat)

variable (m : (ℓ : Loc nD τ sig) → Buf (Elt Ideal) ℓ)

/-- The block each window shows at a point. -/
theorem idx : ∀ t : Fin cfg0.N, win0_0.index t = ![t.val, 3] ∧ win0_1.index t = ![t.val, 4] ∧ win0_2.index t = ![t.val, 5] ∧ win0_3.index t = ![t.val, 0] ∧ win0_4.index t = ![t.val, 0] ∧ win0_5.index t = ![t.val, 0] ∧ win0_6.index t = ![0, 0] ∧ win0_7.index t = ![t.val, 0] :=
  (by decide +kernel : ∀ t : Fin grid0.N, _)

/-- A row of a tile is a row of the whole. -/
theorem row (t : Fin cfg0.N) (j : (cfg0.win 0).block.Idx) : t.val * 512 + (j 0).val < 8192 := by
  have h : t.val < 16 := lt_of_lt_of_eq t.isLt N_0
  have h0 : (j 0).val < 512 := (j 0).isLt
  omega

/-- Window 0 shows its columns of the first product's rows. -/
theorem gates0 (c : Dev nD) (t : Fin cfg0.N) (j : (cfg0.win 0).block.Idx) :
    X0_0 m c t j = m (c.tc.loc main_arg0)
      (ix2 ⟨t.val * 512 + (j 0).val, row t j⟩ ⟨3072 + (j 1).val, by have : (j 1).val < 1024 := (j 1).isLt; omega⟩) := by
  unfold X0_0 Pipeline.Window.fill
  rw [dif_pos (moved0_0 t j)]
  blk_point [iblk, V, idx t]

/-- Window 1 shows its columns of the first product's rows. -/
theorem gates1 (c : Dev nD) (t : Fin cfg0.N) (j : (cfg0.win 1).block.Idx) :
    X0_1 m c t j = m (c.tc.loc main_arg0)
      (ix2 ⟨t.val * 512 + (j 0).val, row t j⟩ ⟨4096 + (j 1).val, by have : (j 1).val < 1024 := (j 1).isLt; omega⟩) := by
  unfold X0_1 Pipeline.Window.fill
  rw [dif_pos (moved0_1 t j)]
  blk_point [iblk, V, idx t]

/-- Window 2 shows its columns of the first product's rows. -/
theorem gates2 (c : Dev nD) (t : Fin cfg0.N) (j : (cfg0.win 2).block.Idx) :
    X0_2 m c t j = m (c.tc.loc main_arg0)
      (ix2 ⟨t.val * 512 + (j 0).val, row t j⟩ ⟨5120 + (j 1).val, by have : (j 1).val < 1024 := (j 1).isLt; omega⟩) := by
  unfold X0_2 Pipeline.Window.fill
  rw [dif_pos (moved0_2 t j)]
  blk_point [iblk, V, idx t]

/-- The merged rows after the run are the reference's. -/
theorem final (c : Dev nD) : (dats m 0 c).arrAt 7 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, outsAt0]; frame_out
  pointwise [k0_pay1, k0_pay2, k0_pay3, REF]
  rw [Fin.sum_univ_three]
  simp only [zero_sub, Fin.val_zero, Fin.val_one, Fin.val_two, Nat.lt_one_iff, dite_true, dite_false, one_ne_zero, OfNat.ofNat_ne_zero, Nat.sub_self, zero_mul, zero_add, one_mul, Nat.reduceMul, Nat.reduceSub, ↓reduceDIte]
  rw [gates0, gates1, gates2]
  blk_point [iblk, V, idx t]

end Cert.FwdGateIdeal.Merge
-- ==== Proof.BwdGate.lean ====
/- The gradient of the merge of the branches by their gates: the kernel's arrays are the reference's. -/
module
public import proofs.«01_k».proof.Proof.Gen.BwdGateIdeal.Value
public import proofs.«01_k».proof.Proof.Gen.BwdGateRefIdeal.Run
public import Idealize.ShloMosaic.Lib.Pipeline.ValueKit
@[expose] public section
set_option maxRecDepth 16384
noncomputable section
open Idealize.ShloMosaic Idealize.ShloMosaic.TcCoe Idealize.SL.Sem

namespace Cert.BwdGateRefIdeal.Merge
open Cert.BwdGateRefIdeal Cert.BwdGateRefIdeal.Gen

/-- The gates. -/
abbrev GATE (x0 : FVec Ideal S8192x6656 .f32) (x4 : FVec Ideal S1x3072 .f32) : FVec Ideal S8192x3x1024 .f32 :=
  Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (shapeCast _ (addf (extractStridedSlice S8192x3072 ![0, 3072] x0 slices_S8192x6656_S8192x3072_0_3072) (broadcastInDim S8192x3072 ![0, 1] bcast_S1x3072_S8192x3072_0_1 x4)) shapeCasts_S8192x3072_S8192x3x1024))))

/-- The gradient in what the gates are taken of. -/
abbrev DG (x0 : FVec Ideal S8192x6656 .f32) (x1 x2 x3 : FVec Ideal S8192x1024 .f32) (x4 : FVec Ideal S1x3072 .f32) (x5 : FVec Ideal S8192x1024 .f32) : FVec Ideal S8192x3072 .f32 :=
  shapeCast _ (mulf (mulf (broadcastInDim S8192x3x1024 ![0, 2] bcast_S8192x1024_S8192x3x1024_0_2 x5) ((concatenate S8192x3x1024 1 [⟨S8192x1x1024, ((broadcastInDim S8192x1x1024 ![0, 2] bcast_S8192x1024_S8192x1x1024_0_2 x1) : (⟨S8192x1x1024, .f32⟩ : BufTy).Contents (Elt Ideal))⟩, ⟨S8192x1x1024, ((broadcastInDim S8192x1x1024 ![0, 2] bcast_S8192x1024_S8192x1x1024_0_2 x2) : (⟨S8192x1x1024, .f32⟩ : BufTy).Contents (Elt Ideal))⟩, ⟨S8192x1x1024, ((broadcastInDim S8192x1x1024 ![0, 2] bcast_S8192x1024_S8192x1x1024_0_2 x3) : (⟨S8192x1x1024, .f32⟩ : BufTy).Contents (Elt Ideal))⟩] concatenates_S8192x1x1024_S8192x1x1024_S8192x1x1024_S8192x3x1024_d1 : (⟨S8192x3x1024, .f32⟩ : BufTy).Contents (Elt Ideal)))) (mulf (GATE x0 x4) (subf (broadcastInDim S8192x3x1024 ![] bcast_S_S8192x3x1024 (constant S_ .f32 0x3F800000#32)) (GATE x0 x4)))) shapeCasts_S8192x3x1024_S8192x3072

/-- The reference's gradient in gate 0. -/
abbrev REFG0 (x0 : FVec Ideal S8192x6656 .f32) (x1 x2 x3 : FVec Ideal S8192x1024 .f32) (x4 : FVec Ideal S1x3072 .f32) (x5 : FVec Ideal S8192x1024 .f32) : FVec Ideal S8192x1024 .bf16 :=
  truncf .bf16 (extractStridedSlice S8192x1024 ![0, 0] (DG x0 x1 x2 x3 x4 x5) slices_S8192x3072_S8192x1024_0_0) bitsLt_bf16_f32

/-- The reference's gradient in gate 1. -/
abbrev REFG1 (x0 : FVec Ideal S8192x6656 .f32) (x1 x2 x3 : FVec Ideal S8192x1024 .f32) (x4 : FVec Ideal S1x3072 .f32) (x5 : FVec Ideal S8192x1024 .f32) : FVec Ideal S8192x1024 .bf16 :=
  truncf .bf16 (extractStridedSlice S8192x1024 ![0, 1024] (DG x0 x1 x2 x3 x4 x5) slices_S8192x3072_S8192x1024_0_1024) bitsLt_bf16_f32

/-- The reference's gradient in gate 2. -/
abbrev REFG2 (x0 : FVec Ideal S8192x6656 .f32) (x1 x2 x3 : FVec Ideal S8192x1024 .f32) (x4 : FVec Ideal S1x3072 .f32) (x5 : FVec Ideal S8192x1024 .f32) : FVec Ideal S8192x1024 .bf16 :=
  truncf .bf16 (extractStridedSlice S8192x1024 ![0, 2048] (DG x0 x1 x2 x3 x4 x5) slices_S8192x3072_S8192x1024_0_2048) bitsLt_bf16_f32

/-- The reference's gradient in branch 0. -/
abbrev REFP0 (x0 : FVec Ideal S8192x6656 .f32) (x4 : FVec Ideal S1x3072 .f32) (x5 : FVec Ideal S8192x1024 .f32) : FVec Ideal S8192x1024 .bf16 :=
  truncf .bf16 (shapeCast _ (extractStridedSlice S8192x1x1024 ![0, 0, 0] (mulf (GATE x0 x4) (broadcastInDim S8192x3x1024 ![0, 2] bcast_S8192x1024_S8192x3x1024_0_2 x5)) slices_S8192x3x1024_S8192x1x1024_0_0_0) shapeCasts_S8192x1x1024_S8192x1024) bitsLt_bf16_f32

/-- The reference's gradient in branch 1. -/
abbrev REFP1 (x0 : FVec Ideal S8192x6656 .f32) (x4 : FVec Ideal S1x3072 .f32) (x5 : FVec Ideal S8192x1024 .f32) : FVec Ideal S8192x1024 .bf16 :=
  truncf .bf16 (shapeCast _ (extractStridedSlice S8192x1x1024 ![0, 1, 0] (mulf (GATE x0 x4) (broadcastInDim S8192x3x1024 ![0, 2] bcast_S8192x1024_S8192x3x1024_0_2 x5)) slices_S8192x3x1024_S8192x1x1024_0_1_0) shapeCasts_S8192x1x1024_S8192x1024) bitsLt_bf16_f32

/-- The reference's gradient in branch 2. -/
abbrev REFP2 (x0 : FVec Ideal S8192x6656 .f32) (x4 : FVec Ideal S1x3072 .f32) (x5 : FVec Ideal S8192x1024 .f32) : FVec Ideal S8192x1024 .bf16 :=
  truncf .bf16 (shapeCast _ (extractStridedSlice S8192x1x1024 ![0, 2, 0] (mulf (GATE x0 x4) (broadcastInDim S8192x3x1024 ![0, 2] bcast_S8192x1024_S8192x3x1024_0_2 x5)) slices_S8192x3x1024_S8192x1x1024_0_2_0) shapeCasts_S8192x1x1024_S8192x1024) bitsLt_bf16_f32

/-- The reference's gradient in the bias. -/
abbrev REFB (x0 : FVec Ideal S8192x6656 .f32) (x1 x2 x3 : FVec Ideal S8192x1024 .f32) (x4 : FVec Ideal S1x3072 .f32) (x5 : FVec Ideal S8192x1024 .f32) : FVec Ideal S1x3072 .f32 :=
  shapeCast _ (Host.reduceAdd (DG x0 x1 x2 x3 x4 x5) (constant S_ .f32 0x00000000#32) reducesTo_S8192x3072_S3072_d0 h_S_) shapeCasts_S3072_S1x3072

end Cert.BwdGateRefIdeal.Merge

namespace Cert.BwdGateIdeal.Merge
open Cert.BwdGateIdeal Cert.BwdGateIdeal.Gen Cert.BwdGateRefIdeal.Merge
open Idealize.ShloMosaic.Pipeline (Dat)

variable (m : (ℓ : Loc nD τ sig) → Buf (Elt Ideal) ℓ)

/-- One over one plus an exponential, times what it is below one: its slope. -/
theorem slope_eq (z : EReal) : Ideal.div 1 ((1 + Ideal.exp z) * (1 + Ideal.exp z)) * Ideal.exp z
    = Ideal.div 1 (1 + Ideal.exp z) * (1 - Ideal.div 1 (1 + Ideal.exp z)) := by
  induction z with
  | bot =>
    have h : Ideal.exp ⊥ = 0 := rfl
    have e : Ideal.div 1 1 = 1 := by unfold Ideal.div; rw [if_neg one_ne_zero, inv_one, mul_one]
    rw [h, add_zero, mul_one, e, mul_zero, one_mul]
    exact (EReal.sub_self (by decide) (by decide)).symm
  | top =>
    have h : Ideal.exp ⊤ = ⊤ := rfl
    have e : Ideal.div 1 ⊤ = 0 := by unfold Ideal.div; rw [if_neg (by decide), EReal.inv_top, mul_zero]
    have s : (1 : EReal) + ⊤ = ⊤ := rfl
    rw [h, s, EReal.top_mul_top, e, zero_mul, zero_mul]
  | coe r =>
    have h : Ideal.exp (r : EReal) = ((Real.exp r : ℝ) : EReal) := rfl
    have hp := Real.exp_pos r
    have d (x : ℝ) (hx : x ≠ 0) : Ideal.div 1 (x : EReal) = ((x⁻¹ : ℝ) : EReal) := by
      unfold Ideal.div
      rw [if_neg (by exact_mod_cast hx), one_mul, EReal.coe_inv]
    have hx : 1 + Real.exp r ≠ 0 := by positivity
    rw [h, ← EReal.coe_one, ← EReal.coe_add, ← EReal.coe_mul, EReal.coe_one, d _ hx, d _ (mul_ne_zero hx hx), ← EReal.coe_one, ← EReal.coe_sub,
      ← EReal.coe_mul, ← EReal.coe_mul]
    congr 1
    field_simp
    ring

/-- The kernel's order of the factors of a gate's gradient. -/
theorem slope (w z : EReal) : 0 - (0 - w * Ideal.div 1 ((1 + Ideal.exp (0 - z)) * (1 + Ideal.exp (0 - z)))) * Ideal.exp (0 - z)
    = w * (Ideal.div 1 (1 + Ideal.exp (-z)) * (1 - Ideal.div 1 (1 + Ideal.exp (-z)))) := by
  rw [zero_sub, zero_sub, zero_sub, EReal.neg_mul, neg_neg, mul_assoc, slope_eq]

/-- The block each window shows at a point. -/
theorem idx : ∀ t : Fin cfg0.N, win0_0.index t = ![15 - t.val, 3] ∧ win0_1.index t = ![15 - t.val, 4] ∧ win0_2.index t = ![15 - t.val, 5] ∧ win0_3.index t = ![15 - t.val, 0] ∧ win0_4.index t = ![15 - t.val, 0] ∧ win0_5.index t = ![15 - t.val, 0] ∧ win0_6.index t = ![0, 0] ∧ win0_7.index t = ![15 - t.val, 0] ∧ win0_8.index t = ![15 - t.val, 0] ∧ win0_9.index t = ![15 - t.val, 0] ∧ win0_10.index t = ![15 - t.val, 0] ∧ win0_11.index t = ![15 - t.val, 0] ∧ win0_12.index t = ![15 - t.val, 0] ∧ win0_13.index t = ![15 - t.val, 0] ∧ win0_14.index t = ![0, 0] :=
  (by decide +kernel : ∀ t : Fin grid0.N, _)

/-- A row of a tile is a row of the whole. -/
theorem row (t : Fin cfg0.N) (j : (cfg0.win 0).block.Idx) : (15 - t.val) * 512 + (j 0).val < 8192 := by
  have h0 : (j 0).val < 512 := (j 0).isLt
  omega

/-- Window 0 shows its columns of the first product's rows. -/
theorem gates0 (c : Dev nD) (t : Fin cfg0.N) (j : (cfg0.win 0).block.Idx) :
    X0_0 m c t j = m (c.tc.loc main_arg0)
      (ix2 ⟨(15 - t.val) * 512 + (j 0).val, row t j⟩ ⟨3072 + (j 1).val, by have : (j 1).val < 1024 := (j 1).isLt; omega⟩) := by
  unfold X0_0 Pipeline.Window.fill
  rw [dif_pos (moved0_0 t j)]
  blk_point [iblk, V, idx t]

/-- Window 1 shows its columns of the first product's rows. -/
theorem gates1 (c : Dev nD) (t : Fin cfg0.N) (j : (cfg0.win 1).block.Idx) :
    X0_1 m c t j = m (c.tc.loc main_arg0)
      (ix2 ⟨(15 - t.val) * 512 + (j 0).val, row t j⟩ ⟨4096 + (j 1).val, by have : (j 1).val < 1024 := (j 1).isLt; omega⟩) := by
  unfold X0_1 Pipeline.Window.fill
  rw [dif_pos (moved0_1 t j)]
  blk_point [iblk, V, idx t]

/-- Window 2 shows its columns of the first product's rows. -/
theorem gates2 (c : Dev nD) (t : Fin cfg0.N) (j : (cfg0.win 2).block.Idx) :
    X0_2 m c t j = m (c.tc.loc main_arg0)
      (ix2 ⟨(15 - t.val) * 512 + (j 0).val, row t j⟩ ⟨5120 + (j 1).val, by have : (j 1).val < 1024 := (j 1).isLt; omega⟩) := by
  unfold X0_2 Pipeline.Window.fill
  rw [dif_pos (moved0_2 t j)]
  blk_point [iblk, V, idx t]

set_option maxHeartbeats 1000000 in
/-- The gradient of window 8 after the run is the reference's. -/
theorem final8 (c : Dev nD) : (dats m 0 c).arrAt 8 cfg0.N = REFG0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  by_cases h0 : t.val % 16 = 0
  · rw [outsAt0_A m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFG0, DG, GATE]
    rw [slope, gates0]
    have e : (((View.whole main_v0_0).slice (win0_8.rect t)).emb y 1).val < 1024 := (((View.whole main_v0_0).slice (win0_8.rect t)).emb y 1).isLt
    rw [dif_pos (show ((((View.whole main_v0_0).slice (win0_8.rect t)).emb y 1).val) / 1024 < 1 by omega)]
    blk_point [iblk, V, idx t]
  · rw [outsAt0_B m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFG0, DG, GATE]
    rw [slope, gates0]
    have e : (((View.whole main_v0_0).slice (win0_8.rect t)).emb y 1).val < 1024 := (((View.whole main_v0_0).slice (win0_8.rect t)).emb y 1).isLt
    rw [dif_pos (show ((((View.whole main_v0_0).slice (win0_8.rect t)).emb y 1).val) / 1024 < 1 by omega)]
    blk_point [iblk, V, idx t]

set_option maxHeartbeats 1000000 in
/-- The gradient of window 9 after the run is the reference's. -/
theorem final9 (c : Dev nD) : (dats m 0 c).arrAt 9 cfg0.N = REFG1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  by_cases h0 : t.val % 16 = 0
  · rw [outsAt0_A m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFG1, DG, GATE]
    rw [slope, gates1]
    have e : (((View.whole main_v0_1).slice (win0_9.rect t)).emb y 1).val < 1024 := (((View.whole main_v0_1).slice (win0_9.rect t)).emb y 1).isLt
    rw [dif_neg (show ¬ (1024 + (((View.whole main_v0_1).slice (win0_9.rect t)).emb y 1).val) / 1024 < 1 by omega), dif_pos (show (1024 + (((View.whole main_v0_1).slice (win0_9.rect t)).emb y 1).val) / 1024 - 1 < 1 by omega)]
    blk_point [iblk, V, idx t]
  · rw [outsAt0_B m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFG1, DG, GATE]
    rw [slope, gates1]
    have e : (((View.whole main_v0_1).slice (win0_9.rect t)).emb y 1).val < 1024 := (((View.whole main_v0_1).slice (win0_9.rect t)).emb y 1).isLt
    rw [dif_neg (show ¬ (1024 + (((View.whole main_v0_1).slice (win0_9.rect t)).emb y 1).val) / 1024 < 1 by omega), dif_pos (show (1024 + (((View.whole main_v0_1).slice (win0_9.rect t)).emb y 1).val) / 1024 - 1 < 1 by omega)]
    blk_point [iblk, V, idx t]

set_option maxHeartbeats 1000000 in
/-- The gradient of window 10 after the run is the reference's. -/
theorem final10 (c : Dev nD) : (dats m 0 c).arrAt 10 cfg0.N = REFG2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  by_cases h0 : t.val % 16 = 0
  · rw [outsAt0_A m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFG2, DG, GATE]
    rw [slope, gates2]
    have e : (((View.whole main_v0_2).slice (win0_10.rect t)).emb y 1).val < 1024 := (((View.whole main_v0_2).slice (win0_10.rect t)).emb y 1).isLt
    rw [dif_neg (show ¬ (2048 + (((View.whole main_v0_2).slice (win0_10.rect t)).emb y 1).val) / 1024 < 1 by omega), dif_neg (show ¬ (2048 + (((View.whole main_v0_2).slice (win0_10.rect t)).emb y 1).val) / 1024 - 1 < 1 by omega)]
    blk_point [iblk, V, idx t]
  · rw [outsAt0_B m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFG2, DG, GATE]
    rw [slope, gates2]
    have e : (((View.whole main_v0_2).slice (win0_10.rect t)).emb y 1).val < 1024 := (((View.whole main_v0_2).slice (win0_10.rect t)).emb y 1).isLt
    rw [dif_neg (show ¬ (2048 + (((View.whole main_v0_2).slice (win0_10.rect t)).emb y 1).val) / 1024 < 1 by omega), dif_neg (show ¬ (2048 + (((View.whole main_v0_2).slice (win0_10.rect t)).emb y 1).val) / 1024 - 1 < 1 by omega)]
    blk_point [iblk, V, idx t]

set_option maxHeartbeats 1000000 in
/-- The gradient of window 11 after the run is the reference's. -/
theorem final11 (c : Dev nD) : (dats m 0 c).arrAt 11 cfg0.N = REFP0 (m ((c : Thread nD τ).loc main_arg0)) (m ((c : Thread nD τ).loc main_arg4)) (m ((c : Thread nD τ).loc main_arg5)) := by
  refine (dats m 0 c).arrAt_eq_of_covers 11 _ (by decide +kernel) fun t hf y => ?_
  blk_simp
  rw [after0_11]
  by_cases h0 : t.val % 16 = 0
  · rw [outsAt0_A m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFP0, DG, GATE]
    rw [zero_sub, gates0]
    blk_point [iblk, V, idx t]
  · rw [outsAt0_B m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFP0, DG, GATE]
    rw [zero_sub, gates0]
    blk_point [iblk, V, idx t]

set_option maxHeartbeats 1000000 in
/-- The gradient of window 12 after the run is the reference's. -/
theorem final12 (c : Dev nD) : (dats m 0 c).arrAt 12 cfg0.N = REFP1 (m ((c : Thread nD τ).loc main_arg0)) (m ((c : Thread nD τ).loc main_arg4)) (m ((c : Thread nD τ).loc main_arg5)) := by
  refine (dats m 0 c).arrAt_eq_of_covers 12 _ (by decide +kernel) fun t hf y => ?_
  blk_simp
  rw [after0_12]
  by_cases h0 : t.val % 16 = 0
  · rw [outsAt0_A m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFP1, DG, GATE]
    rw [zero_sub, gates1]
    blk_point [iblk, V, idx t]
  · rw [outsAt0_B m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFP1, DG, GATE]
    rw [zero_sub, gates1]
    blk_point [iblk, V, idx t]

set_option maxHeartbeats 1000000 in
/-- The gradient of window 13 after the run is the reference's. -/
theorem final13 (c : Dev nD) : (dats m 0 c).arrAt 13 cfg0.N = REFP2 (m ((c : Thread nD τ).loc main_arg0)) (m ((c : Thread nD τ).loc main_arg4)) (m ((c : Thread nD τ).loc main_arg5)) := by
  refine (dats m 0 c).arrAt_eq_of_covers 13 _ (by decide +kernel) fun t hf y => ?_
  blk_simp
  rw [after0_13]
  by_cases h0 : t.val % 16 = 0
  · rw [outsAt0_A m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFP2, DG, GATE]
    rw [zero_sub, gates2]
    blk_point [iblk, V, idx t]
  · rw [outsAt0_B m c t h0]; frame_out
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, REFP2, DG, GATE]
    rw [zero_sub, gates2]
    blk_point [iblk, V, idx t]

end Cert.BwdGateIdeal.Merge
-- ==== Proof.FwdNorm.lean ====
/- The norm: the kernel's array is the reference's. -/
module
public import proofs.«01_k».proof.Proof.Gen.FwdNormIdeal.Value
public import proofs.«01_k».proof.Proof.Gen.FwdNormRefIdeal.Run
public import Idealize.ShloMosaic.Lib.Pipeline.ValueKit
@[expose] public section
set_option maxRecDepth 16384
noncomputable section
open Idealize.ShloMosaic Idealize.ShloMosaic.TcCoe Idealize.SL.Sem

namespace Cert.FwdNormRefIdeal.Norm
open Cert.FwdNormRefIdeal Cert.FwdNormRefIdeal.Gen

/-- The reference's term. -/
abbrev REF (x0 : FVec Ideal S8192x1024 .f32) (x1 : FVec Ideal S1x1024 .f32) : FVec Ideal S8192x1024 .bf16 :=
  truncf .bf16 (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) bitsLt_bf16_f32

end Cert.FwdNormRefIdeal.Norm

namespace Cert.FwdNormIdeal.Norm
open Cert.FwdNormIdeal Cert.FwdNormIdeal.Gen Cert.FwdNormRefIdeal.Norm
open Idealize.ShloMosaic.Pipeline (Dat)

variable (m : (ℓ : Loc nD τ sig) → Buf (Elt Ideal) ℓ)

/-- The block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The normed rows after the run are the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, REF]
  blk_point [iblk, V, idx t]

end Cert.FwdNormIdeal.Norm
-- ==== Proof.Sums.lean ====
/- Sums whose blocks are met from the last to the first. -/
module
public import Idealize.ShloMosaic.Lib.Pipeline.ValueKit
@[expose] public section

namespace Cert.Sums

/-- The sum over `J` blocks of `n` indices each, the last block first, is the sum over all indices. -/
theorem sum_rev_mul_add_congr {J n L : ℕ} (hL : J * n = L) {f : Fin J → Fin n → EReal} {g : Fin L → EReal}
    (h : ∀ (s : Fin J) (k : Fin n) (hl : (J - 1 - s.val) * n + k.val < L), f s k = g ⟨(J - 1 - s.val) * n + k.val, hl⟩) :
    ∑ s, ∑ k, f s k = ∑ l, g l := by
  subst hL
  rw [← Equiv.sum_comp Fin.revPerm]
  refine Fin.sum_mul_add_congr fun s k hl => ?_
  have e : J - 1 - (Fin.revPerm s).val = s.val := by
    have := s.isLt
    simp only [Fin.revPerm_apply, Fin.val_rev]
    omega
  rw [h _ k (by rw [e]; exact hl)]
  exact congrArg g (Fin.ext (by simp only [e]))

end Cert.Sums
-- ==== Proof.BwdNorm.lean ====
/- The gradient of the norm: the kernel's arrays are the reference's. -/
module
public import proofs.«01_k».proof.Proof.Gen.BwdNormIdeal.Value
public import proofs.«01_k».proof.Proof.Gen.BwdNormRefIdeal.Run
public import Idealize.ShloMosaic.Lib.Pipeline.ValueKit
public import proofs.«01_k».proof.Proof.Sums
@[expose] public section
set_option maxRecDepth 16384
noncomputable section
open Idealize.ShloMosaic Idealize.ShloMosaic.TcCoe Idealize.SL.Sem

namespace Cert.BwdNormRefIdeal.Norm
open Cert.BwdNormRefIdeal Cert.BwdNormRefIdeal.Gen

/-- The reference's gradient in the rows. -/
abbrev REFX (x0 x1 : FVec Ideal S8192x1024 .f32) (x2 : FVec Ideal S1x1024 .f32) (x3 : FVec Ideal S8192x1024 .f32) : FVec Ideal S8192x1024 .f32 :=
  addf (addf (addf x1 (mulf (mulf x3 (broadcastInDim S8192x1024 ![0, 1] bcast_S1x1024_S8192x1024_0_1 x2)) (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x0 (broadcastInDim S8192x1024 ![0] bcast_S8192_S8192x1024_0 (Host.reduceAdd (Host.divf (mulf (shapeCast _ (Host.reduceAdd (mulf x0 (mulf x3 (broadcastInDim S8192x1024 ![0, 1] bcast_S1x1024_S8192x1024_0_1 x2))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x0 (mulf x3 (broadcastInDim S8192x1024 ![0, 1] bcast_S1x1024_S8192x1024_0_1 x2))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x0)

/-- The reference's gradient in the weight. -/
abbrev REFG (x0 x3 : FVec Ideal S8192x1024 .f32) : FVec Ideal S1x1024 .f32 :=
  shapeCast _ (Host.reduceAdd (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) x3) (constant S_ .f32 0x00000000#32) reducesTo_S8192x1024_S1024_d0 h_S_) shapeCasts_S1024_S1x1024

end Cert.BwdNormRefIdeal.Norm

namespace Cert.BwdNormIdeal.Norm
open Cert.BwdNormIdeal Cert.BwdNormIdeal.Gen Cert.BwdNormRefIdeal.Norm
open Idealize.ShloMosaic.Pipeline (Dat)

/-- The last of four terms may come first. -/
theorem last_first (a b c d : EReal) : b + c + d + a = a + b + c + d := by
  rw [add_comm (b + c + d) a, ← add_assoc, ← add_assoc]

variable (m : (ℓ : Loc nD τ sig) → Buf (Elt Ideal) ℓ)

/-- The block each window shows at a point. -/
theorem idx : ∀ t : Fin cfg0.N, win0_0.index t = ![15 - t.val, 0] ∧ win0_1.index t = ![0, 0] ∧ win0_2.index t = ![15 - t.val, 0] ∧ win0_3.index t = ![15 - t.val, 0] ∧ win0_4.index t = ![15 - t.val, 0] ∧ win0_5.index t = ![0, 0] :=
  (by decide +kernel : ∀ t : Fin grid0.N, _)

/-- The gradient in the rows after the run is the reference's. -/
theorem finalX (c : Dev nD) : (dats m 0 c).arrAt 4 cfg0.N = REFX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h0 : t.val % 16 = 0
  · rw [outsAt0_A m c t h0]; frame_out
    pointwise [k0_pay1, k0_pay4, k0_pay5, k0_pay7, k0_pay8, k0_pay9, k0_pay10, REFX]
    refine (last_first _ _ _ _).trans ?_
    blk_point [iblk, V, idx t]
  · rw [outsAt0_B m c t h0]; frame_out
    pointwise [k0_pay1, k0_pay4, k0_pay5, k0_pay7, k0_pay8, k0_pay9, k0_pay10, REFX]
    refine (last_first _ _ _ _).trans ?_
    blk_point [iblk, V, idx t]

/-- The gradient in the weight is reset to zero. -/
theorem start (j : S1x1024.Idx) : k0_pay3 (F := Ideal) j = 0 := by
  pointwise [k0_pay3]

/-- One block's part of the gradient in the weight. -/
theorem part (x0 x3 : Vec Ideal S512x1024 .f32) (acc : Vec Ideal S1x1024 .f32) (j : S1x1024.Idx) :
    k0_pay2 (k0_pay6 x0 x3) acc j = acc j + ∑ k : Fin 512, x0 (ix2 k (j 1)) * Ideal.rsqrt (Ideal.div (∑ l : Fin 1024, x0 (ix2 k l) * x0 (ix2 k l)) (Ideal.ofBits .f32 0x44800000#32) + Ideal.ofBits .f32 0x358637BD#32) * x3 (ix2 k (j 1)) := by
  pointwise [k0_pay2, k0_pay4, k0_pay5, k0_pay6]

/-- The gradient in the weight after the run is the reference's. -/
theorem finalG (c : Dev nD) : (dats m 0 c).arrAt 5 cfg0.N = REFG (m ((c : Thread nD τ).loc main_arg0)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => 0) _
    (fun t h j => by rw [outsAt0_A m c t h]; frame_out; rw [part, start])
    (fun t h j => by rw [outsAt0_B m c t h]; frame_out; rw [part])
    t ((flush0_5 t).mp hf) _, zero_add]
  pointwise [REFG]
  refine Sums.sum_rev_mul_add_congr rfl fun s k hl => ?_
  blk_point [iblk, V, idx t, idx ⟨_, Pipeline.run_point_lt_of_flush t ((flush0_5 t).mp hf) s⟩]

end Cert.BwdNormIdeal.Norm
-- ==== Proof.Attention.lean ====
/- Attention at a row: the scores of a head, their weights and what they gather. -/
module
public import Idealize.ShloMosaic.Lib.Pipeline.ValueKit
@[expose] public section
noncomputable section
open Idealize.ShloMosaic

namespace Cert.Attention

/-- What a maximum starts from. -/
abbrev LOW : EReal := Ideal.ofBits .f32 0xFF800000#32

/-- The scale of the scores. -/
abbrev SCALE : EReal := Ideal.ofBits .f32 0x3D800000#32

/-- The score of a row against a stored row, over the 256 columns from `o`. -/
def score (q : Fin 1024 → EReal) (kv : Fin 256 → Fin 2048 → EReal) (o : ℕ) (ho : o + 256 ≤ 1024) (n : Fin 256) : EReal :=
  (∑ l : Fin 256, q ⟨o + l.val, by omega⟩ * kv n ⟨o + l.val, by omega⟩) * SCALE

/-- Equal offsets give equal scores. -/
theorem score_congr (q : Fin 1024 → EReal) (kv : Fin 256 → Fin 2048 → EReal) {o o' : ℕ} (ho : o + 256 ≤ 1024) (ho' : o' + 256 ≤ 1024) (e : o = o') :
    score q kv o ho = score q kv o' ho' := by
  subst e
  rfl

/-- The largest score. -/
def top (s : Fin 256 → EReal) : EReal := Finset.fold max LOW s Finset.univ

/-- A score's exponential, the largest taken off. -/
def ex (s : Fin 256 → EReal) (n : Fin 256) : EReal := Ideal.exp (s n - top s)

/-- A score's weight. -/
def prob (s : Fin 256 → EReal) (n : Fin 256) : EReal := Ideal.div (ex s n) (∑ k, ex s k)

/-- Column `j` of the attended row. -/
def attended (q : Fin 1024 → EReal) (kv : Fin 256 → Fin 2048 → EReal) (j : Fin 1024) : EReal :=
  ∑ n, prob (score q kv (j.val / 256 * 256) (by omega)) n * kv n ⟨1024 + j.val, by omega⟩

/-- A maximum along the last of four axes, at an index. -/
theorem rowmax {n0 n1 n2 n3 : ℕ} (x : FVec Ideal ⟨4, ![n0, n1, n2, n3]⟩ .f32) (z : FVec Ideal ⟨0, ![]⟩ .f32)
    (h : Shape.ReducesTo (⟨4, ![n0, n1, n2, n3]⟩ : Shape) [3] ⟨3, ![n0, n1, n2]⟩) (hu : 0 < (⟨0, ![]⟩ : Shape).numel) (j : (⟨3, ![n0, n1, n2]⟩ : Shape).Idx) :
    Host.reduce FloatOps.maximumf x z h hu j = Finset.fold max (z (Shape.Idx.first hu)) (fun k => x (ix4 (j 0) (j 1) (j 2) k)) Finset.univ := by
  rw [Host.reduce_eq_fold, Shape.ReducesTo.fold_fiber_r4_a3]
  rfl

/-- A maximum starts no higher than it ends. -/
theorem low_le_top (s : Fin 256 → EReal) : LOW ≤ top s :=
  (Finset.le_fold_max _).mpr (Or.inl le_rfl)

end Cert.Attention
-- ==== Proof.FwdAtt.lean ====
/- The attention: the kernel's array is the reference's. -/
module
public import proofs.«01_k».proof.Proof.Gen.FwdAttIdeal.Value
public import proofs.«01_k».proof.Proof.Gen.FwdAttRefIdeal.Run
public import Idealize.ShloMosaic.Lib.Pipeline.ValueKit
public import proofs.«01_k».proof.Proof.Attention
@[expose] public section
set_option maxRecDepth 16384
noncomputable section
open Idealize.ShloMosaic Idealize.ShloMosaic.TcCoe Idealize.SL.Sem

namespace Cert.FwdAttRefIdeal.Att
open Cert.FwdAttRefIdeal Cert.FwdAttRefIdeal.Gen Cert.Attention

/-- The reference's scores. -/
def SCORES (x0 : FVec Ideal S8192x1024 .f32) (x1 : FVec Ideal S2x256x2048 .f32) : FVec Ideal S2x4x4096x256 .f32 :=
  mulf (Host.dotGeneral dot_S2x4096x4x256_S2x256x4x256_S2x4x4096x256_3_3_1_1_02_02 none (shapeCast _ x0 shapeCasts_S8192x1024_S2x4096x4x256) (shapeCast _ (extractStridedSlice S2x256x1024 ![0, 0, 0] x1 slices_S2x256x2048_S2x256x1024_0_0_0) shapeCasts_S2x256x1024_S2x256x4x256)) (broadcastInDim S2x4x4096x256 ![] bcast_S_S2x4x4096x256 (constant S_ .f32 0x3D800000#32))

/-- The reference's largest scores. -/
def MAXS (s : FVec Ideal S2x4x4096x256 .f32) : FVec Ideal S2x4x4096 .f32 :=
  Host.reduce FloatOps.maximumf s (constant S_ .f32 0xFF800000#32) reducesTo_S2x4x4096x256_S2x4x4096_d3 h_S_

/-- The reference's exponentials of scores less a bound per row. -/
def EXPSOF (s : FVec Ideal S2x4x4096x256 .f32) (M : FVec Ideal S2x4x4096 .f32) : FVec Ideal S2x4x4096x256 .f32 :=
  Host.exp (subf s (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) M))))

/-- The reference's exponentials of scores. -/
def EXPS (s : FVec Ideal S2x4x4096x256 .f32) : FVec Ideal S2x4x4096x256 .f32 :=
  EXPSOF s (MAXS s)

/-- The reference's weights. -/
def PROBS (e : FVec Ideal S2x4x4096x256 .f32) : FVec Ideal S2x4x4096x256 .f32 :=
  Host.divf e (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd e (constant S_ .f32 0x00000000#32) reducesTo_S2x4x4096x256_S2x4x4096_d3 h_S_)))

/-- The reference's attended rows. -/
def OUTS (p : FVec Ideal S2x4x4096x256 .f32) (x1 : FVec Ideal S2x256x2048 .f32) : FVec Ideal S8192x1024 .bf16 :=
  truncf .bf16 (shapeCast _ (transpose S2x4096x4x256 [0, 3, 1, 2] (Host.dotGeneral dot_S2x256x4x256_S2x4x4096x256_S2x4x256x4096_1_3_3_2_02_01 none (shapeCast _ (extractStridedSlice S2x256x1024 ![0, 0, 1024] x1 slices_S2x256x2048_S2x256x1024_0_0_1024) shapeCasts_S2x256x1024_S2x256x4x256) p) transposes_S2x4x256x4096_S2x4096x4x256_0_3_1_2) shapeCasts_S2x4096x4x256_S8192x1024) bitsLt_bf16_f32

/-- The reference's term. -/
abbrev REF (x0 : FVec Ideal S8192x1024 .f32) (x1 : FVec Ideal S2x256x2048 .f32) : FVec Ideal S8192x1024 .bf16 :=
  OUTS (PROBS (EXPS (SCORES x0 x1))) x1

/-- A score of the reference. -/
theorem scores_apply (x0 : FVec Ideal S8192x1024 .f32) (x1 : FVec Ideal S2x256x2048 .f32) (b : Fin 2) (h : Fin 4) (s : Fin 4096) (n : Fin 256) :
    SCORES x0 x1 (ix4 b h s n) = score (fun l => x0 (ix2 ⟨b.val * 4096 + s.val, by omega⟩ l)) (fun k l => x1 (ix3 b k l)) (h.val * 256) (by omega) n := by
  unfold score
  pointwise [SCORES]

/-- The largest score of the reference. -/
theorem maxs_apply (e : FVec Ideal S2x4x4096x256 .f32) (b : Fin 2) (h : Fin 4) (s : Fin 4096) :
    MAXS e (ix3 b h s) = top (fun k => e (ix4 b h s k)) := by
  rw [MAXS, rowmax]
  unfold top
  exact congrArg (fun f => Finset.fold max LOW f Finset.univ) (funext fun k => rfl)

/-- An exponential of the reference, the bounds given. -/
theorem expsof_apply (e : FVec Ideal S2x4x4096x256 .f32) (M : FVec Ideal S2x4x4096 .f32) (b : Fin 2) (h : Fin 4) (s : Fin 4096) (n : Fin 256) :
    EXPSOF e M (ix4 b h s n) = Ideal.exp (e (ix4 b h s n) - max LOW (M (ix3 b h s))) := by
  pointwise [EXPSOF]

/-- An exponential of the reference. -/
theorem exps_apply (e : FVec Ideal S2x4x4096x256 .f32) (b : Fin 2) (h : Fin 4) (s : Fin 4096) (n : Fin 256) :
    EXPS e (ix4 b h s n) = ex (fun k => e (ix4 b h s k)) n := by
  unfold EXPS ex
  rw [expsof_apply, maxs_apply, max_eq_right (low_le_top _)]

/-- A weight of the reference. -/
theorem probs_apply (e : FVec Ideal S2x4x4096x256 .f32) (b : Fin 2) (h : Fin 4) (s : Fin 4096) (n : Fin 256) :
    PROBS e (ix4 b h s n) = Ideal.div (e (ix4 b h s n)) (∑ k, e (ix4 b h s k)) := by
  pointwise [PROBS]

/-- An entry of the reference. -/
theorem outs_apply (p : FVec Ideal S2x4x4096x256 .f32) (x1 : FVec Ideal S2x256x2048 .f32) (i : S8192x1024.Idx) :
    OUTS p x1 i = ∑ n, p (ix4 ⟨(i 0).val / 4096, by have : (i 0).val < 8192 := (i 0).isLt; omega⟩ ⟨(i 1).val / 256, by have : (i 1).val < 1024 := (i 1).isLt; omega⟩ ⟨(i 0).val % 4096, by omega⟩ n)
      * x1 (ix3 ⟨(i 0).val / 4096, by have : (i 0).val < 8192 := (i 0).isLt; omega⟩ n ⟨1024 + (i 1).val, by have : (i 1).val < 1024 := (i 1).isLt; omega⟩) := by
  pointwise [OUTS]
  exact Finset.sum_congr rfl fun n _ => mul_comm _ _

/-- The reference at an index. -/
theorem REF_apply (x0 : FVec Ideal S8192x1024 .f32) (x1 : FVec Ideal S2x256x2048 .f32) (i : S8192x1024.Idx) :
    REF x0 x1 i = attended (fun l => x0 (ix2 (i 0) l)) (fun k l => x1 (ix3 ⟨(i 0).val / 4096, by have : (i 0).val < 8192 := (i 0).isLt; omega⟩ k l)) (i 1) := by
  have e : (i 0).val / 4096 * 4096 + (i 0).val % 4096 = (i 0).val := by omega
  rw [REF, outs_apply]
  simp only [probs_apply, exps_apply, scores_apply, e]
  rfl

end Cert.FwdAttRefIdeal.Att

namespace Cert.FwdAttIdeal.Att
open Cert.FwdAttIdeal Cert.FwdAttIdeal.Gen Cert.FwdAttRefIdeal.Att Cert.Attention
open Idealize.ShloMosaic.Pipeline (Dat)

variable (kv : Vec Ideal S1x256x2048 .f32) (q : Vec Ideal S512x1024 .f32)

/-- A row of the block. -/
abbrev qrow (k : Fin 512) : Fin 1024 → EReal := fun l => q (ix2 k l)

/-- The stored rows of the block. -/
abbrev rows : Fin 256 → Fin 2048 → EReal := fun k l => kv (ix3 0 k l)

/-- The stored rows, read. -/
theorem pay2_apply (k : Fin 256) (l : Fin 2048) : k0_pay2 kv (ix2 k l) = kv (ix3 0 k l) := by
  pointwise [k0_pay2]

/-- Head 2's scores. -/
theorem pay3_apply (k : Fin 512) (n : Fin 256) : k0_pay3 kv q (ix2 k n) = score (qrow q k) (rows kv) 512 (by omega) n := by
  unfold score
  pointwise [k0_pay3, k0_pay2]

/-- Head 3's scores. -/
theorem pay4_apply (k : Fin 512) (n : Fin 256) : k0_pay4 kv q (ix2 k n) = score (qrow q k) (rows kv) 768 (by omega) n := by
  unfold score
  pointwise [k0_pay4, k0_pay2]

/-- Head 0's exponentials. -/
theorem pay5_apply (k : Fin 512) (n : Fin 256) : k0_pay5 kv q (ix2 k n) = ex (score (qrow q k) (rows kv) 0 (by omega)) n := by
  unfold ex top score
  simp only [zero_add]
  pointwise [k0_pay5, k0_pay2]

/-- Head 1's exponentials. -/
theorem pay6_apply (k : Fin 512) (n : Fin 256) : k0_pay6 kv q (ix2 k n) = ex (score (qrow q k) (rows kv) 256 (by omega)) n := by
  unfold ex top score
  pointwise [k0_pay6, k0_pay2]

/-- Head 2's largest score. -/
theorem pay7_apply (k : Fin 512) : k0_pay7 kv q (ix1 k) = top (score (qrow q k) (rows kv) 512 (by omega)) := by
  unfold top
  pointwise [k0_pay7]
  simp only [pay3_apply]

/-- The kernel's block at an index. -/
theorem pay1_apply (k : Fin 512) (j : Fin 1024) :
    k0_pay1 (k0_pay2 kv) (k0_pay3 kv q) (k0_pay4 kv q) (k0_pay5 kv q) (k0_pay6 kv q) (k0_pay7 kv q) (ix2 k j)
      = attended (qrow q k) (rows kv) j := by
  pointwise [k0_pay1]
  simp only [pay2_apply]
  unfold attended prob
  by_cases h0 : j.val < 256
  · have e : j.val / 256 * 256 = 0 := by omega
    rw [score_congr _ _ _ (show 0 + 256 ≤ 1024 by omega) e]
    simp only [h0, dite_true, pay5_apply]
  · by_cases h1 : j.val - 256 < 256
    · have e : j.val / 256 * 256 = 256 := by omega
      have d : 1280 + (j.val - 256) = 1024 + j.val := by omega
      rw [score_congr _ _ _ (show 256 + 256 ≤ 1024 by omega) e]
      simp only [h0, h1, dite_true, dite_false, d, pay6_apply]
    · by_cases h2 : j.val - 256 - 256 < 256
      · have e : j.val / 256 * 256 = 512 := by omega
        have d : 1536 + (j.val - 256 - 256) = 1024 + j.val := by omega
        rw [score_congr _ _ _ (show 512 + 256 ≤ 1024 by omega) e]
        simp only [h0, h1, h2, dite_true, dite_false, d, pay3_apply, pay7_apply, ex]
      · have e : j.val / 256 * 256 = 768 := by omega
        have d : 1792 + (j.val - 256 - 256 - 256) = 1024 + j.val := by omega
        rw [score_congr _ _ _ (show 768 + 256 ≤ 1024 by omega) e]
        simp only [h0, h1, h2, dite_false, d, pay4_apply, ex, top]

variable (m : (ℓ : Loc nD τ sig) → Buf (Elt Ideal) ℓ)

/-- The block each window shows at a point. -/
theorem idx : ∀ t : Fin cfg0.N, win0_0.index t = ![t.val, 0] ∧ win0_1.index t = ![t.val / 8, 0, 0] ∧ win0_2.index t = ![t.val, 0] :=
  (by decide +kernel : ∀ t : Fin grid0.N, _)

/-- The attended rows after the run are the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  rw [REF_apply]
  blk_simp
  rw [after0_2]; frame_out
  refine (congrArg _ (eq_ix2 y)).trans ((pay1_apply _ _ _ _).trans ?_)
  congr 1
  · funext l
    change iblk m c 0 t (ix2 (y 0) l) = _
    blk_point [iblk, V, idx t]
  · funext k l
    change iblk m c 1 t (ix3 0 k l) = _
    blk_point [iblk, V, idx t]
  · apply Fin.ext
    blk_simp [idx t]

end Cert.FwdAttIdeal.Att
-- ==== Proof.BwdGateB.lean ====
/- The gradient of the gates' bias: the kernel's array is the reference's. -/
module
public import proofs.«01_k».proof.Proof.BwdGate
public import Idealize.ShloMosaic.Lib.Pipeline.ValueKit
public import proofs.«01_k».proof.Proof.Sums
@[expose] public section
set_option maxRecDepth 16384
noncomputable section
open Idealize.ShloMosaic Idealize.ShloMosaic.TcCoe Idealize.SL.Sem

namespace Cert.BwdGateIdeal.Merge
open Cert.BwdGateIdeal Cert.BwdGateIdeal.Gen Cert.BwdGateRefIdeal.Merge
open Idealize.ShloMosaic.Pipeline (Dat)

variable (m : (ℓ : Loc nD τ sig) → Buf (Elt Ideal) ℓ)

/-- The gradient in the bias is reset to zero. -/
theorem start (j : S1x3072.Idx) : k0_pay2 (F := Ideal) j = 0 := by
  pointwise [k0_pay2]

/-- One of three blocks of columns laid side by side, at a row and a column. -/
def pick (x0 x1 x2 : Vec Ideal S512x1024 .f32) (k : Fin 512) (j : Fin 3072) : EReal :=
  if h : j.val < 1024 then x0 (ix2 k ⟨j.val, h⟩)
  else if h' : j.val < 2048 then x1 (ix2 k ⟨j.val - 1024, by omega⟩)
  else x2 (ix2 k ⟨j.val - 2048, by omega⟩)

/-- One block's part of the gradient in the bias. -/
theorem part (g0 g1 g2 p0 p1 p2 d : Vec Ideal S512x1024 .f32) (b acc : Vec Ideal S1x3072 .f32) (j : S1x3072.Idx) :
    k0_pay1 (k0_pay19 p0 (k0_pay3 b g0) (k0_pay6 b g0) (k0_pay11 d) (k0_pay15 b g2 p2 d)
        (k0_pay17 p1 d (k0_pay7 b g1) (FloatOps.ofBits FTy.f32 1065353216#32))) acc j
      = acc j + ∑ k : Fin 512, pick d d d k (j 1) * pick p0 p1 p2 k (j 1)
        * (Ideal.div 1 (1 + Ideal.exp (-(pick g0 g1 g2 k (j 1) + b (ix2 0 (j 1)))))
          * (1 - Ideal.div 1 (1 + Ideal.exp (-(pick g0 g1 g2 k (j 1) + b (ix2 0 (j 1))))))) := by
  have hj : (j 1).val < 3072 := (j 1).isLt
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine congrArg (acc j + ·) ?_
  unfold pick
  by_cases h : (j 1).val < 1024
  · have h' : (j 1).val < 2048 := by omega
    simp only [h, h', dite_true, zero_add, slope]
  · by_cases h' : (j 1).val < 2048
    · have e : 1024 + ((j 1).val - 1024) = (j 1).val := by omega
      simp only [h, h', dite_true, dite_false, zero_add, add_zero, slope, e]
      rfl
    · have e : 2048 + ((j 1).val - 2048) = (j 1).val := by omega
      simp only [h, h', dite_false, add_zero, slope, e]
      rfl

/-- One block's part of the gradient in the bias, of the rows it shows. -/
def share (c : Dev nD) (t : Fin cfg0.N) (j : S1x3072.Idx) : EReal :=
  ∑ k : Fin 512, pick (iblk m c 7 t) (iblk m c 7 t) (iblk m c 7 t) k (j 1) * pick (iblk m c 3 t) (iblk m c 4 t) (iblk m c 5 t) k (j 1)
    * (Ideal.div 1 (1 + Ideal.exp (-(pick (X0_0 m c t) (X0_1 m c t) (X0_2 m c t) k (j 1) + (iblk m c 6 t : Vec Ideal S1x3072 .f32) (ix2 0 (j 1)))))
      * (1 - Ideal.div 1 (1 + Ideal.exp (-(pick (X0_0 m c t) (X0_1 m c t) (X0_2 m c t) k (j 1) + (iblk m c 6 t : Vec Ideal S1x3072 .f32) (ix2 0 (j 1)))))))

/-- The bias's gradient as point `t` leaves it. -/
def held (c : Dev nD) (n : ℕ) (h : n < cfg0.N) : Vec Ideal S1x3072 .f32 := (outsAt0 m c n h).2.2.2.2.2.2

/-- The first point holds its own part. -/
theorem held_first (c : Dev nD) (t : Fin cfg0.N) (h : t.val % 16 = 0) (j : S1x3072.Idx) :
    held m c t.val t.isLt j = 0 + share m c t j := by
  unfold held share
  rw [outsAt0_A m c t h]; frame_out; rw [part, start]

/-- A later point adds its part. -/
theorem held_next (c : Dev nD) (t : Fin cfg0.N) (h : ¬ t.val % 16 = 0) (j : S1x3072.Idx) :
    held m c t.val t.isLt j = held m c (t.val - 1) (Nat.lt_of_le_of_lt (Nat.sub_le _ _) t.isLt) j + share m c t j := by
  unfold held share
  rw [outsAt0_B m c t h]; frame_out; rw [part]

/-- After the last point all parts are held. -/
theorem held_last (c : Dev nD) (t : Fin cfg0.N) (h : t.val % 16 = 16 - 1) (j : S1x3072.Idx) :
    held m c t.val t.isLt j = ∑ s : Fin 16, share m c ⟨16 * (t.val / 16) + s.val, Pipeline.run_point_lt_of_flush t h s⟩ j :=
  (Pipeline.eq_sum_fin_of_reset_step_apply_of_flush (held m c) 16 (fun _ => 0) (share m c) (held_first m c) (held_next m c) t h j).trans
    (zero_add _)

/-- The gradient in the bias after the run is the reference's. -/
theorem finalB (c : Dev nD) : (dats m 0 c).arrAt 14 cfg0.N = REFB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  refine (held_last m c t ((flush0_14 t).mp hf) y).trans ?_
  pointwise [REFB, DG, GATE]
  have hy : (y 1).val < 3072 := (y 1).isLt
  have e : (((View.whole main_v0_6).slice (win0_14.rect t)).emb y 1).val = (y 1).val := by blk_simp [idx t]
  unfold share
  refine Sums.sum_rev_mul_add_congr rfl fun s k hl => ?_
  unfold pick
  by_cases h : (y 1).val < 1024
  · have q : (((View.whole main_v0_6).slice (win0_14.rect t)).emb y 1).val / 1024 < 1 := by omega
    simp only [h, q, dite_true, gates0]
    blk_point [iblk, V, idx t, idx ⟨_, Pipeline.run_point_lt_of_flush t ((flush0_14 t).mp hf) s⟩]
  · have q : ¬ (((View.whole main_v0_6).slice (win0_14.rect t)).emb y 1).val / 1024 < 1 := by omega
    by_cases h' : (y 1).val < 2048
    · have q' : (((View.whole main_v0_6).slice (win0_14.rect t)).emb y 1).val / 1024 - 1 < 1 := by omega
      simp only [h, h', q, q', dite_true, dite_false, gates1]
      blk_point [iblk, V, idx t, idx ⟨_, Pipeline.run_point_lt_of_flush t ((flush0_14 t).mp hf) s⟩]
    · have q' : ¬ (((View.whole main_v0_6).slice (win0_14.rect t)).emb y 1).val / 1024 - 1 < 1 := by omega
      simp only [h, h', q, q', dite_false, gates2]
      blk_point [iblk, V, idx t, idx ⟨_, Pipeline.run_point_lt_of_flush t ((flush0_14 t).mp hf) s⟩]

end Cert.BwdGateIdeal.Merge
-- ==== Proof.BwdAttRef.lean ====
/- The reference's gradients of the attention, at an index. -/
module
public import proofs.«01_k».proof.Proof.Gen.BwdAttRefIdeal.Run
public import proofs.«01_k».proof.Proof.FwdAtt
@[expose] public section
set_option maxRecDepth 16384
noncomputable section
open Idealize.ShloMosaic Idealize.ShloMosaic.TcCoe Idealize.SL.Sem

namespace Cert.Attention

/-- The gradient in a weight, of the attended row's gradient `d`, over the 256 columns from `o`. -/
def dprob (d : Fin 1024 → EReal) (kv : Fin 256 → Fin 2048 → EReal) (o : ℕ) (ho : o + 256 ≤ 1024) (n : Fin 256) : EReal :=
  ∑ l : Fin 256, d ⟨o + l.val, by omega⟩ * kv n ⟨1024 + (o + l.val), by omega⟩

/-- The gradient in a product, of the weights' gradient `d` and the exponentials `e`. -/
def gradeOf (d e : Fin 256 → EReal) (n : Fin 256) : EReal :=
  (Ideal.div (d n) (∑ k, e k) + -∑ k, d k * Ideal.div 1 ((∑ k, e k) * ∑ k, e k) * e k) * e n * SCALE

/-- The gradient in a product, over the 256 columns from `o`. -/
def gradeIn (q : Fin 1024 → EReal) (kv : Fin 256 → Fin 2048 → EReal) (d : Fin 1024 → EReal) (o : ℕ) (ho : o + 256 ≤ 1024) (n : Fin 256) : EReal :=
  gradeOf (dprob d kv o ho) (ex (score q kv o ho)) n

/-- Equal offsets give equal gradients. -/
theorem gradeIn_congr (q : Fin 1024 → EReal) (kv : Fin 256 → Fin 2048 → EReal) (d : Fin 1024 → EReal) {o o' : ℕ} (ho : o + 256 ≤ 1024) (ho' : o' + 256 ≤ 1024) (e : o = o') :
    gradeIn q kv d o ho = gradeIn q kv d o' ho' := by
  subst e
  rfl

/-- Column `j` of the gradient in a query. -/
def dquery (q : Fin 1024 → EReal) (kv : Fin 256 → Fin 2048 → EReal) (d : Fin 1024 → EReal) (j : Fin 1024) : EReal :=
  ∑ n, gradeIn q kv d (j.val / 256 * 256) (by omega) n * kv n ⟨j.val, by omega⟩

/-- One row's part of the gradient in the stored rows. -/
def dstored (q : Fin 1024 → EReal) (kv : Fin 256 → Fin 2048 → EReal) (d : Fin 1024 → EReal) (n : Fin 256) (j : Fin 2048) : EReal :=
  if h : j.val < 1024 then gradeIn q kv d (j.val / 256 * 256) (by omega) n * q ⟨j.val, h⟩
  else prob (score q kv ((j.val - 1024) / 256 * 256) (by omega)) n * d ⟨j.val - 1024, by omega⟩

end Cert.Attention

namespace Cert.BwdAttRefIdeal.Att
open Cert.BwdAttRefIdeal Cert.BwdAttRefIdeal.Gen Cert.Attention
open Cert.FwdAttRefIdeal.Att (SCORES EXPS PROBS scores_apply exps_apply probs_apply)

/-- The gradient in the weights, of the attended rows' gradient `x2`. -/
def DPS (x2 : FVec Ideal S8192x1024 .f32) (x1 : FVec Ideal S2x256x2048 .f32) : FVec Ideal S2x4x4096x256 .f32 :=
  Host.dotGeneral dot_S2x4x256x4096_S2x256x4x256_S2x4x4096x256_2_3_3_1_01_02 none (transpose S2x4x256x4096 [0, 2, 3, 1] (shapeCast _ x2 shapeCasts_S8192x1024_S2x4096x4x256) transposes_S2x4096x4x256_S2x4x256x4096_0_2_3_1) (shapeCast _ (extractStridedSlice S2x256x1024 ![0, 0, 1024] x1 slices_S2x256x2048_S2x256x1024_0_0_1024) shapeCasts_S2x256x1024_S2x256x4x256)

/-- The sums of the exponentials. -/
def TOTALS (e : FVec Ideal S2x4x4096x256 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x256_S2x4x4096_d3 h_S_)

/-- What the sums pass back, the sums `w` given. -/
def BACKS (d e : FVec Ideal S2x4x4096x256 .f32) (w : FVec Ideal S2x4x4096x1 .f32) : FVec Ideal S2x4x4096 .f32 :=
  Host.reduceAdd (Host.negf (shapeCast _ (Host.reduceAdd (mulf (mulf d (broadcastInDim S2x4x4096x256 ![0, 1, 2, 3] bcast_S2x4x4096x1_S2x4x4096x256_0_1_2_3 (Host.divf (broadcastInDim S2x4x4096x1 ![] bcast_S_S2x4x4096x1 (constant S_ .f32 0x3F800000#32)) (mulf w w)))) e) (constant S_ .f32 0x00000000#32) reducesTo_S2x4x4096x256_S2x4x4096_d3 h_S_) shapeCasts_S2x4x4096_S2x4x4096x1)) (constant S_ .f32 0x00000000#32) reducesTo_S2x4x4096x1_S2x4x4096_d3 h_S_

/-- The gradient in the scores, the sums `w` and what they pass back `r` given. -/
def SLOPESOF (d e : FVec Ideal S2x4x4096x256 .f32) (w : FVec Ideal S2x4x4096x1 .f32) (r : FVec Ideal S2x4x4096 .f32) : FVec Ideal S2x4x4096x256 .f32 :=
  mulf (mulf (addf (Host.divf d (broadcastInDim S2x4x4096x256 ![0, 1, 2, 3] bcast_S2x4x4096x1_S2x4x4096x256_0_1_2_3 w)) (broadcastInDim S2x4x4096x256 ![0, 1, 2] bcast_S2x4x4096_S2x4x4096x256_0_1_2 r)) e) (broadcastInDim S2x4x4096x256 ![] bcast_S_S2x4x4096x256 (constant S_ .f32 0x3D800000#32))

/-- The gradient in the products of queries and keys. -/
def SLOPES (d e : FVec Ideal S2x4x4096x256 .f32) : FVec Ideal S2x4x4096x256 .f32 :=
  SLOPESOF d e (TOTALS e) (BACKS d e (TOTALS e))

/-- The gradient in the queries, of the products' gradient `g`. -/
def QUERIES (g : FVec Ideal S2x4x4096x256 .f32) (x1 : FVec Ideal S2x256x2048 .f32) : FVec Ideal S8192x1024 .bf16 :=
  truncf .bf16 (shapeCast _ (transpose S2x4096x4x256 [0, 2, 1, 3] (Host.dotGeneral dot_S2x4x4096x256_S2x256x4x256_S2x4x4096x256_3_1_2_3_01_02 none g (shapeCast _ (extractStridedSlice S2x256x1024 ![0, 0, 0] x1 slices_S2x256x2048_S2x256x1024_0_0_0) shapeCasts_S2x256x1024_S2x256x4x256)) transposes_S2x4x4096x256_S2x4096x4x256_0_2_1_3) shapeCasts_S2x4096x4x256_S8192x1024) bitsLt_bf16_f32

/-- The gradient in the keys. -/
def KEYS (g : FVec Ideal S2x4x4096x256 .f32) (x0 : FVec Ideal S8192x1024 .f32) : FVec Ideal S2x256x1024 .f32 :=
  shapeCast _ (transpose S2x256x4x256 [0, 2, 1, 3] (Host.dotGeneral dot_S2x4x4096x256_S2x4096x4x256_S2x4x256x256_2_1_3_3_01_02 none g (shapeCast _ x0 shapeCasts_S8192x1024_S2x4096x4x256)) transposes_S2x4x256x256_S2x256x4x256_0_2_1_3) shapeCasts_S2x256x4x256_S2x256x1024

/-- The gradient in the values, of the weights `p`. -/
def VALUES (p : FVec Ideal S2x4x4096x256 .f32) (x2 : FVec Ideal S8192x1024 .f32) : FVec Ideal S2x256x1024 .f32 :=
  shapeCast _ (transpose S2x256x4x256 [0, 3, 1, 2] (Host.dotGeneral dot_S2x4x256x4096_S2x4x4096x256_S2x4x256x256_3_2_2_3_01_01 none (transpose S2x4x256x4096 [0, 2, 3, 1] (shapeCast _ x2 shapeCasts_S8192x1024_S2x4096x4x256) transposes_S2x4096x4x256_S2x4x256x4096_0_2_3_1) p) transposes_S2x4x256x256_S2x256x4x256_0_3_1_2) shapeCasts_S2x256x4x256_S2x256x1024

/-- The gradients in keys and values, side by side. -/
def STORED (k v : FVec Ideal S2x256x1024 .f32) : FVec Ideal S2x256x2048 .f32 :=
  concatenate S2x256x2048 2 [⟨S2x256x1024, k⟩, ⟨S2x256x1024, v⟩] concatenates_S2x256x1024_S2x256x1024_S2x256x2048_d2

/-- The reference's gradient in the queries. -/
abbrev REFQ (x0 : FVec Ideal S8192x1024 .f32) (x1 : FVec Ideal S2x256x2048 .f32) (x2 : FVec Ideal S8192x1024 .f32) : FVec Ideal S8192x1024 .bf16 :=
  QUERIES (SLOPES (DPS x2 x1) (EXPS (SCORES x0 x1))) x1

/-- The reference's gradient in the stored rows. -/
abbrev REFKV (x0 : FVec Ideal S8192x1024 .f32) (x1 : FVec Ideal S2x256x2048 .f32) (x2 : FVec Ideal S8192x1024 .f32) : FVec Ideal S2x256x2048 .f32 :=
  STORED (KEYS (SLOPES (DPS x2 x1) (EXPS (SCORES x0 x1))) x0) (VALUES (PROBS (EXPS (SCORES x0 x1))) x2)

/-- The first result of the reference. -/
theorem res_q (m : (ℓ : Loc nD τ sig) → Buf (Elt Ideal) ℓ) (c : Dev nD) :
    Value.res_main_v66 m c = REFQ (m ((c.tc : Thread nD τ).loc main_arg0)) (m ((c.tc : Thread nD τ).loc main_arg1)) (m ((c.tc : Thread nD τ).loc main_arg2)) := rfl

/-- The second result of the reference. -/
theorem res_kv (m : (ℓ : Loc nD τ sig) → Buf (Elt Ideal) ℓ) (c : Dev nD) :
    Value.res_main_v64 m c = REFKV (m ((c.tc : Thread nD τ).loc main_arg0)) (m ((c.tc : Thread nD τ).loc main_arg1)) (m ((c.tc : Thread nD τ).loc main_arg2)) := rfl

/-- The gradient in a weight. -/
theorem dps_apply (x2 : FVec Ideal S8192x1024 .f32) (x1 : FVec Ideal S2x256x2048 .f32) (b : Fin 2) (h : Fin 4) (s : Fin 4096) (n : Fin 256) :
    DPS x2 x1 (ix4 b h s n) = dprob (fun l => x2 (ix2 ⟨b.val * 4096 + s.val, by omega⟩ l)) (fun k l => x1 (ix3 b k l)) (h.val * 256) (by omega) n := by
  unfold dprob
  pointwise [DPS]

/-- A sum of exponentials. -/
theorem totals_apply (e : FVec Ideal S2x4x4096x256 .f32) (b : Fin 2) (h : Fin 4) (s : Fin 4096) :
    TOTALS e (ix4 b h s 0) = ∑ k, e (ix4 b h s k) := by
  pointwise [TOTALS]

/-- What a sum passes back. -/
theorem backs_apply (d e : FVec Ideal S2x4x4096x256 .f32) (w : FVec Ideal S2x4x4096x1 .f32) (b : Fin 2) (h : Fin 4) (s : Fin 4096) :
    BACKS d e w (ix3 b h s) = -∑ k, d (ix4 b h s k) * Ideal.div 1 (w (ix4 b h s 0) * w (ix4 b h s 0)) * e (ix4 b h s k) := by
  pointwise [BACKS]
  exact Fin.sum_univ_one _

/-- The gradient in a product, the sums given. -/
theorem slopesof_apply (d e : FVec Ideal S2x4x4096x256 .f32) (w : FVec Ideal S2x4x4096x1 .f32) (r : FVec Ideal S2x4x4096 .f32) (b : Fin 2) (h : Fin 4) (s : Fin 4096) (n : Fin 256) :
    SLOPESOF d e w r (ix4 b h s n) = (Ideal.div (d (ix4 b h s n)) (w (ix4 b h s 0)) + r (ix3 b h s)) * e (ix4 b h s n) * SCALE := by
  pointwise [SLOPESOF]

/-- The gradient in a product. -/
theorem slopes_apply (d e : FVec Ideal S2x4x4096x256 .f32) (b : Fin 2) (h : Fin 4) (s : Fin 4096) (n : Fin 256) :
    SLOPES d e (ix4 b h s n) = gradeOf (fun k => d (ix4 b h s k)) (fun k => e (ix4 b h s k)) n := by
  unfold SLOPES gradeOf
  rw [slopesof_apply, totals_apply, backs_apply, totals_apply]

/-- An entry of the gradient in the queries. -/
theorem queries_apply (g : FVec Ideal S2x4x4096x256 .f32) (x1 : FVec Ideal S2x256x2048 .f32) (i : S8192x1024.Idx) :
    QUERIES g x1 i = ∑ n, g (ix4 ⟨(i 0).val / 4096, by have : (i 0).val < 8192 := (i 0).isLt; omega⟩ ⟨(i 1).val / 256, by have : (i 1).val < 1024 := (i 1).isLt; omega⟩ ⟨(i 0).val % 4096, by omega⟩ n)
      * x1 (ix3 ⟨(i 0).val / 4096, by have : (i 0).val < 8192 := (i 0).isLt; omega⟩ n ⟨(i 1).val, by have : (i 1).val < 1024 := (i 1).isLt; omega⟩) := by
  pointwise [QUERIES]

/-- An entry of the gradient in the keys. -/
theorem keys_apply (g : FVec Ideal S2x4x4096x256 .f32) (x0 : FVec Ideal S8192x1024 .f32) (b : Fin 2) (n : Fin 256) (j : Fin 1024) :
    KEYS g x0 (ix3 b n j) = ∑ s : Fin 4096, g (ix4 b ⟨j.val / 256, by omega⟩ s n) * x0 (ix2 ⟨b.val * 4096 + s.val, by omega⟩ j) := by
  pointwise [KEYS]

/-- An entry of the gradient in the values. -/
theorem values_apply (p : FVec Ideal S2x4x4096x256 .f32) (x2 : FVec Ideal S8192x1024 .f32) (b : Fin 2) (n : Fin 256) (j : Fin 1024) :
    VALUES p x2 (ix3 b n j) = ∑ s : Fin 4096, p (ix4 b ⟨j.val / 256, by omega⟩ s n) * x2 (ix2 ⟨b.val * 4096 + s.val, by omega⟩ j) := by
  pointwise [VALUES]
  exact Finset.sum_congr rfl fun s _ => mul_comm _ _

/-- The gradients side by side, at an index. -/
theorem stored_apply (k v : FVec Ideal S2x256x1024 .f32) (b : Fin 2) (n : Fin 256) (j : Fin 2048) :
    STORED k v (ix3 b n j) = if h : j.val < 1024 then k (ix3 b n ⟨j.val, h⟩) else v (ix3 b n ⟨j.val - 1024, by omega⟩) := by
  pointwise [STORED]

/-- The reference's gradient in the queries at an index. -/
theorem refq_apply (x0 : FVec Ideal S8192x1024 .f32) (x1 : FVec Ideal S2x256x2048 .f32) (x2 : FVec Ideal S8192x1024 .f32) (i : S8192x1024.Idx) :
    REFQ x0 x1 x2 i = dquery (fun l => x0 (ix2 (i 0) l)) (fun k l => x1 (ix3 ⟨(i 0).val / 4096, by have : (i 0).val < 8192 := (i 0).isLt; omega⟩ k l)) (fun l => x2 (ix2 (i 0) l)) (i 1) := by
  have e : (i 0).val / 4096 * 4096 + (i 0).val % 4096 = (i 0).val := by omega
  rw [REFQ, queries_apply]
  simp only [slopes_apply, dps_apply, exps_apply, scores_apply, e]
  rfl

/-- The reference's gradient in the stored rows at an index. -/
theorem refkv_apply (x0 : FVec Ideal S8192x1024 .f32) (x1 : FVec Ideal S2x256x2048 .f32) (x2 : FVec Ideal S8192x1024 .f32) (b : Fin 2) (n : Fin 256) (j : Fin 2048) :
    REFKV x0 x1 x2 (ix3 b n j) = ∑ s : Fin 4096, dstored (fun l => x0 (ix2 ⟨b.val * 4096 + s.val, by omega⟩ l)) (fun k l => x1 (ix3 b k l)) (fun l => x2 (ix2 ⟨b.val * 4096 + s.val, by omega⟩ l)) n j := by
  rw [REFKV, stored_apply]
  unfold dstored
  by_cases h : j.val < 1024
  · simp only [h, dite_true, keys_apply, slopes_apply, dps_apply, exps_apply, scores_apply]
    rfl
  · simp only [h, dite_false, values_apply, probs_apply, exps_apply, scores_apply]
    rfl

end Cert.BwdAttRefIdeal.Att
-- ==== Proof.BwdAtt.lean ====
/- The attention's gradients: the kernel's arrays are the reference's. -/
module
public import proofs.«01_k».proof.Proof.Gen.BwdAttIdeal.Value
public import Idealize.ShloMosaic.Lib.Pipeline.ValueKit
public import proofs.«01_k».proof.Proof.Sums
public import proofs.«01_k».proof.Proof.BwdAttRef
@[expose] public section
set_option maxRecDepth 16384
noncomputable section
open Idealize.ShloMosaic Idealize.ShloMosaic.TcCoe Idealize.SL.Sem

namespace Cert.BwdAttIdeal.Att
open Cert.BwdAttIdeal Cert.BwdAttIdeal.Gen Cert.BwdAttRefIdeal.Att Cert.Attention
open Idealize.ShloMosaic.Pipeline (Dat)

section payloads
variable (kv : Vec Ideal S1x256x2048 .f32) (q d : Vec Ideal S512x1024 .f32)

/-- A row of a block. -/
abbrev qrow (k : Fin 512) : Fin 1024 → EReal := fun l => q (ix2 k l)

/-- The stored rows of a block. -/
abbrev rows : Fin 256 → Fin 2048 → EReal := fun k l => kv (ix3 0 k l)

/-- The stored rows, read. -/
theorem pay2_apply (k : Fin 256) (l : Fin 2048) : k0_pay2 kv (ix2 k l) = kv (ix3 0 k l) := by
  pointwise [k0_pay2]

/-- Head 0's scores. -/
theorem pay6_apply (k : Fin 512) (n : Fin 256) : k0_pay6 kv q (ix2 k n) = score (qrow q k) (rows kv) 0 (by omega) n := by
  unfold score
  simp only [zero_add]
  pointwise [k0_pay6, k0_pay5, k0_pay4, k0_pay2]

/-- Head 1's scores. -/
theorem pay9_apply (k : Fin 512) (n : Fin 256) : k0_pay9 kv q (ix2 k n) = score (qrow q k) (rows kv) 256 (by omega) n := by
  unfold score
  pointwise [k0_pay9, k0_pay8, k0_pay7, k0_pay2]

/-- Head 2's scores before their scale. -/
theorem pay12_apply (k : Fin 512) (n : Fin 256) : k0_pay12 kv q (ix2 k n) * SCALE = score (qrow q k) (rows kv) 512 (by omega) n := by
  unfold score
  pointwise [k0_pay12, k0_pay11, k0_pay10, k0_pay2]

/-- Exponentials of head 0's scores. -/
theorem pay15_apply (s : FVec Ideal S512x256 .f32) (k : Fin 512) (n : Fin 256) : k0_pay15 s (ix2 k n) = ex (fun n => s (ix2 k n)) n := by
  unfold ex top
  pointwise [k0_pay15]

/-- Exponentials of head 1's scores. -/
theorem pay16_apply (s : FVec Ideal S512x256 .f32) (k : Fin 512) (n : Fin 256) : k0_pay16 s (ix2 k n) = ex (fun n => s (ix2 k n)) n := by
  unfold ex top
  pointwise [k0_pay16]

/-- Exponentials of head 2's scores. -/
theorem pay17_apply (s : FVec Ideal S512x256 .f32) (a : Ideal .f32) (k : Fin 512) (n : Fin 256) : k0_pay17 s a (ix2 k n) = ex (fun n => s (ix2 k n) * a) n := by
  unfold ex top
  pointwise [k0_pay17]

/-- Exponentials of head 3's scores. -/
theorem pay18_apply (k : Fin 512) (n : Fin 256) : k0_pay18 (k0_pay2 kv) q (ix2 k n) = ex (score (qrow q k) (rows kv) 768 (by omega)) n := by
  unfold ex top score
  pointwise [k0_pay18, k0_pay14, k0_pay13, k0_pay2]

/-- Head 0's exponentials. -/
abbrev E0 : FVec Ideal S512x256 .f32 := k0_pay15 (k0_pay6 kv q)

/-- Head 1's exponentials. -/
abbrev E1 : FVec Ideal S512x256 .f32 := k0_pay16 (k0_pay9 kv q)

/-- Head 2's exponentials. -/
abbrev E2 : FVec Ideal S512x256 .f32 := k0_pay17 (k0_pay12 kv q) (Scalar.ofBits .f32 0x3D800000#32)

/-- Head 3's exponentials. -/
abbrev E3 : FVec Ideal S512x256 .f32 := k0_pay18 (k0_pay2 kv) q

/-- Head 0's exponentials, at an index. -/
theorem e0_apply (k : Fin 512) (n : Fin 256) : E0 kv q (ix2 k n) = ex (score (qrow q k) (rows kv) 0 (by omega)) n :=
  (pay15_apply _ k n).trans (congrArg (ex · n) (funext fun n => pay6_apply kv q k n))

/-- Head 1's exponentials, at an index. -/
theorem e1_apply (k : Fin 512) (n : Fin 256) : E1 kv q (ix2 k n) = ex (score (qrow q k) (rows kv) 256 (by omega)) n :=
  (pay16_apply _ k n).trans (congrArg (ex · n) (funext fun n => pay9_apply kv q k n))

/-- Head 2's exponentials, at an index. -/
theorem e2_apply (k : Fin 512) (n : Fin 256) : E2 kv q (ix2 k n) = ex (score (qrow q k) (rows kv) 512 (by omega)) n :=
  (pay17_apply _ _ k n).trans (congrArg (ex · n) (funext fun n => pay12_apply kv q k n))

/-- Head 3's exponentials, at an index. -/
theorem e3_apply (k : Fin 512) (n : Fin 256) : E3 kv q (ix2 k n) = ex (score (qrow q k) (rows kv) 768 (by omega)) n :=
  pay18_apply kv q k n

/-- Head 0's sums. -/
theorem pay19_apply (s : FVec Ideal S512x256 .f32) (k : Fin 512) : k0_pay19 s (ix2 k 0) = ∑ n, k0_pay15 s (ix2 k n) := by
  pointwise [k0_pay19]

/-- Head 1's sums. -/
theorem pay22_apply (s : FVec Ideal S512x256 .f32) (k : Fin 512) : k0_pay22 s (ix2 k 0) = ∑ n, k0_pay16 s (ix2 k n) := by
  pointwise [k0_pay22]

/-- Head 2's sums. -/
theorem pay25_apply (s : FVec Ideal S512x256 .f32) (a : Ideal .f32) (k : Fin 512) : k0_pay25 s a (ix2 k 0) = ∑ n, k0_pay17 s a (ix2 k n) := by
  pointwise [k0_pay25]

/-- Head 3's sums. -/
theorem pay29_apply (e : FVec Ideal S512x256 .f32) (k : Fin 512) : k0_pay29 e (ix2 k 0) = ∑ n, e (ix2 k n) := by
  pointwise [k0_pay29]

/-- Head 0's weights. -/
theorem pay20_apply (s : FVec Ideal S512x256 .f32) (k : Fin 512) (n : Fin 256) : k0_pay20 s (ix2 k n) = Ideal.div (k0_pay15 s (ix2 k n)) (k0_pay19 s (ix2 k 0)) := by
  pointwise [k0_pay20]

/-- Head 1's weights. -/
theorem pay23_apply (s : FVec Ideal S512x256 .f32) (k : Fin 512) (n : Fin 256) : k0_pay23 s (ix2 k n) = Ideal.div (k0_pay16 s (ix2 k n)) (k0_pay22 s (ix2 k 0)) := by
  pointwise [k0_pay23]

/-- Head 2's weights. -/
theorem pay26_apply (s : FVec Ideal S512x256 .f32) (a : Ideal .f32) (k : Fin 512) (n : Fin 256) : k0_pay26 s a (ix2 k n) = Ideal.div (k0_pay17 s a (ix2 k n)) (k0_pay25 s a (ix2 k 0)) := by
  pointwise [k0_pay26]

/-- Head 0's inverse squares. -/
theorem pay21_apply (s : FVec Ideal S512x256 .f32) (k : Fin 512) : k0_pay21 s (ix2 k 0) = Ideal.div 1 (k0_pay19 s (ix2 k 0) * k0_pay19 s (ix2 k 0)) := by
  pointwise [k0_pay21]

/-- Head 1's inverse squares. -/
theorem pay24_apply (s : FVec Ideal S512x256 .f32) (k : Fin 512) : k0_pay24 s (ix2 k 0) = Ideal.div 1 (k0_pay22 s (ix2 k 0) * k0_pay22 s (ix2 k 0)) := by
  pointwise [k0_pay24]

/-- Head 2's inverse squares. -/
theorem pay28_apply (s : FVec Ideal S512x256 .f32) (a : Ideal .f32) (k : Fin 512) :
    k0_pay28 (k0_pay27 s a) (Scalar.ofBits .f32 0x3F800000#32) (ix2 k 0) = Ideal.div 1 (k0_pay25 s a (ix2 k 0) * k0_pay25 s a (ix2 k 0)) := by
  pointwise [k0_pay28, k0_pay27]

/-- Head 3's inverse squares. -/
theorem pay30_apply (e : FVec Ideal S512x256 .f32) (k : Fin 512) : k0_pay30 e (ix2 k 0) = Ideal.div 1 (k0_pay29 e (ix2 k 0) * k0_pay29 e (ix2 k 0)) := by
  pointwise [k0_pay30]

/-- Head 0's gradient in the weights. -/
theorem d0_apply (k : Fin 512) (n : Fin 256) : k0_pay41 (k0_pay39 d) (k0_pay40 (k0_pay2 kv)) (ix2 k n) = dprob (qrow d k) (rows kv) 0 (by omega) n := by
  unfold dprob
  simp only [zero_add]
  pointwise [k0_pay41, k0_pay40, k0_pay39, k0_pay31, k0_pay2]

/-- Head 1's gradient in the weights. -/
theorem d1_apply (k : Fin 512) (n : Fin 256) : k0_pay37 (k0_pay2 kv) d (ix2 k n) = dprob (qrow d k) (rows kv) 256 (by omega) n := by
  have e : ∀ l : ℕ, 1280 + l = 1024 + (256 + l) := fun l => by omega
  unfold dprob
  pointwise [k0_pay37, k0_pay32, k0_pay2]
  simp only [e]

/-- Head 2's gradient in the weights. -/
theorem d2_apply (k : Fin 512) (n : Fin 256) : k0_pay36 (k0_pay2 kv) d (ix2 k n) = dprob (qrow d k) (rows kv) 512 (by omega) n := by
  have e : ∀ l : ℕ, 1536 + l = 1024 + (512 + l) := fun l => by omega
  unfold dprob
  pointwise [k0_pay36, k0_pay33, k0_pay2]
  simp only [e]

/-- Head 3's gradient in the weights. -/
theorem d3_apply (k : Fin 512) (n : Fin 256) : k0_pay35 (k0_pay2 kv) d (ix2 k n) = dprob (qrow d k) (rows kv) 768 (by omega) n := by
  have e : ∀ l : ℕ, 1792 + l = 1024 + (768 + l) := fun l => by omega
  unfold dprob
  pointwise [k0_pay35, k0_pay34, k0_pay2]
  simp only [e]

/-- Head 3's gradient in an exponential. -/
theorem pay43_apply (e : FVec Ideal S512x256 .f32) (w r : FVec Ideal S512x1 .f32) (g : FVec Ideal S512x256 .f32) (k : Fin 512) (n : Fin 256) :
    k0_pay43 e w r g (ix2 k n) = Ideal.div (g (ix2 k n)) (w (ix2 k 0)) + -∑ n, g (ix2 k n) * r (ix2 k 0) * e (ix2 k n) := by
  pointwise [k0_pay43]
  rw [Fin.sum_univ_one, zero_sub]

/-- Head 2's gradient in an exponential. -/
theorem pay44_apply (e : FVec Ideal S512x256 .f32) (w r : FVec Ideal S512x1 .f32) (g : FVec Ideal S512x256 .f32) (k : Fin 512) (n : Fin 256) :
    k0_pay44 e w r g (ix2 k n) = Ideal.div (g (ix2 k n)) (w (ix2 k 0)) + -∑ n, g (ix2 k n) * r (ix2 k 0) * e (ix2 k n) := by
  pointwise [k0_pay44]
  rw [Fin.sum_univ_one, zero_sub]

/-- Head 1's gradient in an exponential. -/
theorem pay45_apply (e : FVec Ideal S512x256 .f32) (w r : FVec Ideal S512x1 .f32) (g : FVec Ideal S512x256 .f32) (k : Fin 512) (n : Fin 256) :
    k0_pay45 e w r g (ix2 k n) = Ideal.div (g (ix2 k n)) (w (ix2 k 0)) + -∑ n, g (ix2 k n) * r (ix2 k 0) * e (ix2 k n) := by
  pointwise [k0_pay45]
  rw [Fin.sum_univ_one, zero_sub]

/-- Head 0's gradient in a score. -/
theorem pay47_apply (e : FVec Ideal S512x256 .f32) (w r : FVec Ideal S512x1 .f32) (g : FVec Ideal S512x256 .f32) (k : Fin 512) (n : Fin 256) :
    k0_pay47 e w r g (ix2 k n) = (Ideal.div (g (ix2 k n)) (w (ix2 k 0)) + -∑ n, g (ix2 k n) * r (ix2 k 0) * e (ix2 k n)) * e (ix2 k n) := by
  pointwise [k0_pay47]
  rw [Fin.sum_univ_one, zero_sub]

/-- Head 3's gradient in a product. -/
theorem pay48_apply (e g : FVec Ideal S512x256 .f32) (k : Fin 512) (n : Fin 256) : k0_pay48 e g (ix2 k n) = g (ix2 k n) * e (ix2 k n) * SCALE := by
  pointwise [k0_pay48]

/-- Head 2's gradient in a product. -/
theorem pay50_apply (e g : FVec Ideal S512x256 .f32) (k : Fin 512) (n : Fin 256) : k0_pay50 e g (ix2 k n) = g (ix2 k n) * e (ix2 k n) * SCALE := by
  pointwise [k0_pay50]

/-- Head 1's gradient in a product. -/
theorem pay53_apply (e g : FVec Ideal S512x256 .f32) (k : Fin 512) (n : Fin 256) : k0_pay53 (k0_pay46 e g) (ix2 k n) = g (ix2 k n) * e (ix2 k n) * SCALE := by
  pointwise [k0_pay53, k0_pay46]

/-- Head 0's gradient in a product. -/
theorem pay54_apply (g : FVec Ideal S512x256 .f32) (k : Fin 512) (n : Fin 256) : k0_pay54 g (ix2 k n) = g (ix2 k n) * SCALE := by
  pointwise [k0_pay54]

/-- Head 0's gradient in the scores. -/
abbrev G0 : FVec Ideal S512x256 .f32 := k0_pay47 (E0 kv q) (k0_pay19 (k0_pay6 kv q)) (k0_pay21 (k0_pay6 kv q)) (k0_pay41 (k0_pay39 d) (k0_pay40 (k0_pay2 kv)))

/-- Head 1's gradient in the exponentials. -/
abbrev G1 : FVec Ideal S512x256 .f32 := k0_pay45 (E1 kv q) (k0_pay22 (k0_pay9 kv q)) (k0_pay24 (k0_pay9 kv q)) (k0_pay37 (k0_pay2 kv) d)

/-- Head 2's gradient in the exponentials. -/
abbrev G2 : FVec Ideal S512x256 .f32 := k0_pay44 (E2 kv q) (k0_pay25 (k0_pay12 kv q) (Scalar.ofBits .f32 0x3D800000#32)) (k0_pay28 (k0_pay27 (k0_pay12 kv q) (Scalar.ofBits .f32 0x3D800000#32)) (Scalar.ofBits .f32 0x3F800000#32)) (k0_pay36 (k0_pay2 kv) d)

/-- Head 3's gradient in the exponentials. -/
abbrev G3 : FVec Ideal S512x256 .f32 := k0_pay43 (E3 kv q) (k0_pay29 (E3 kv q)) (k0_pay30 (E3 kv q)) (k0_pay35 (k0_pay2 kv) d)

/-- Head 0's gradient in a product, at an index. -/
theorem s0_apply (k : Fin 512) (n : Fin 256) : k0_pay54 (G0 kv q d) (ix2 k n) = gradeIn (qrow q k) (rows kv) (qrow d k) 0 (by omega) n := by
  unfold gradeIn gradeOf
  simp only [pay54_apply, pay47_apply, pay19_apply, pay21_apply, e0_apply, d0_apply]

/-- Head 1's gradient in a product, at an index. -/
theorem s1_apply (k : Fin 512) (n : Fin 256) : k0_pay53 (k0_pay46 (E1 kv q) (G1 kv q d)) (ix2 k n) = gradeIn (qrow q k) (rows kv) (qrow d k) 256 (by omega) n := by
  unfold gradeIn gradeOf
  simp only [pay53_apply, pay45_apply, pay22_apply, pay24_apply, e1_apply, d1_apply]

/-- Head 2's gradient in a product, at an index. -/
theorem s2_apply (k : Fin 512) (n : Fin 256) : k0_pay50 (E2 kv q) (G2 kv q d) (ix2 k n) = gradeIn (qrow q k) (rows kv) (qrow d k) 512 (by omega) n := by
  unfold gradeIn gradeOf
  simp only [pay50_apply, pay44_apply, pay25_apply, pay28_apply, e2_apply, d2_apply]

/-- Head 3's gradient in a product, at an index. -/
theorem s3_apply (k : Fin 512) (n : Fin 256) : k0_pay48 (E3 kv q) (G3 kv q d) (ix2 k n) = gradeIn (qrow q k) (rows kv) (qrow d k) 768 (by omega) n := by
  unfold gradeIn gradeOf
  simp only [pay48_apply, pay43_apply, pay29_apply, pay30_apply, e3_apply, d3_apply]

/-- Head 0's weights, at an index. -/
theorem p0_apply (k : Fin 512) (n : Fin 256) : k0_pay20 (k0_pay6 kv q) (ix2 k n) = prob (score (qrow q k) (rows kv) 0 (by omega)) n := by
  unfold prob
  simp only [pay20_apply, pay19_apply, e0_apply]

/-- Head 1's weights, at an index. -/
theorem p1_apply (k : Fin 512) (n : Fin 256) : k0_pay23 (k0_pay9 kv q) (ix2 k n) = prob (score (qrow q k) (rows kv) 256 (by omega)) n := by
  unfold prob
  simp only [pay23_apply, pay22_apply, e1_apply]

/-- Head 2's weights, at an index. -/
theorem p2_apply (k : Fin 512) (n : Fin 256) : k0_pay26 (k0_pay12 kv q) (Scalar.ofBits .f32 0x3D800000#32) (ix2 k n) = prob (score (qrow q k) (rows kv) 512 (by omega)) n := by
  unfold prob
  simp only [pay26_apply, pay25_apply, e2_apply]

/-- Head 3's weights, at an index. -/
theorem p3_apply (k : Fin 512) (n : Fin 256) : Ideal.div (E3 kv q (ix2 k n)) (k0_pay29 (E3 kv q) (ix2 k 0)) = prob (score (qrow q k) (rows kv) 768 (by omega)) n := by
  unfold prob
  simp only [pay29_apply, e3_apply]

/-- The queries' gradient of the four heads, put together. -/
theorem pay55_apply (a b : FVec Ideal S256x256 .f32) (g1 g0 : FVec Ideal S512x256 .f32) (v : FVec Ideal S512x1024 .f32) (w : FVec Ideal S512x768 .f32) (k : Fin 512) (j : Fin 1024) :
    k0_pay55 a b g1 g0 v (Scalar.ofBits .f32 0x00000000#32) w (ix2 k j)
      = v (ix2 k j) + (if h : j.val < 768 then w (ix2 k ⟨j.val, h⟩) else 0)
        + (if h : j.val < 512 then if h' : j.val < 256 then 0 else ∑ n, k0_pay53 g1 (ix2 k n) * b (ix2 n ⟨j.val - 256, by omega⟩) else 0)
        + (if h : j.val < 256 then ∑ n, k0_pay54 g0 (ix2 k n) * a (ix2 n ⟨j.val, h⟩) else 0) := by
  pointwise [k0_pay55]

/-- The queries' gradient of head 3, in its columns. -/
theorem pay49_apply (a : FVec Ideal S256x256 .f32) (e g : FVec Ideal S512x256 .f32) (k : Fin 512) (j : Fin 1024) :
    k0_pay49 a e g (ix2 k j) = if h : j.val < 768 then 0 else ∑ n, k0_pay48 e g (ix2 k n) * a (ix2 n ⟨j.val - 768, by omega⟩) := by
  pointwise [k0_pay49]

/-- The queries' gradient of head 2, in its columns. -/
theorem pay52_apply (a : FVec Ideal S256x256 .f32) (e g : FVec Ideal S512x256 .f32) (k : Fin 512) (j : Fin 768) :
    k0_pay52 a e g (ix2 k j) = if h : j.val < 512 then 0 else ∑ n, k0_pay50 e g (ix2 k n) * a (ix2 n ⟨j.val - 512, by omega⟩) := by
  pointwise [k0_pay52]

/-- Head 0's keys. -/
theorem pay5_apply (n l : Fin 256) : k0_pay5 kv (ix2 n l) = kv (ix3 0 n ⟨0 + l.val, by omega⟩) := by
  pointwise [k0_pay5, k0_pay2]

/-- Head 1's keys. -/
theorem pay8_apply (n l : Fin 256) : k0_pay8 kv (ix2 n l) = kv (ix3 0 n ⟨256 + l.val, by omega⟩) := by
  pointwise [k0_pay8, k0_pay2]

/-- Head 2's keys. -/
theorem pay11_apply (n l : Fin 256) : k0_pay11 kv (ix2 n l) = kv (ix3 0 n ⟨512 + l.val, by omega⟩) := by
  pointwise [k0_pay11, k0_pay2]

/-- Head 3's keys. -/
theorem pay14_apply (n l : Fin 256) : k0_pay14 (k0_pay2 kv) (ix2 n l) = kv (ix3 0 n ⟨768 + l.val, by omega⟩) := by
  pointwise [k0_pay14, k0_pay2]

/-- The queries' gradient of a block. -/
abbrev QUERY : FVec Ideal S512x1024 .bf16 :=
  k0_pay55 (k0_pay5 kv) (k0_pay8 kv) (k0_pay46 (E1 kv q) (G1 kv q d)) (G0 kv q d) (k0_pay49 (k0_pay14 (k0_pay2 kv)) (E3 kv q) (G3 kv q d))
    (Scalar.ofBits .f32 0x00000000#32) (k0_pay52 (k0_pay11 kv) (E2 kv q) (G2 kv q d))

/-- The queries' gradient of a block, at an index. -/
theorem query_apply (k : Fin 512) (j : Fin 1024) : QUERY kv q d (ix2 k j) = dquery (qrow q k) (rows kv) (qrow d k) j := by
  unfold QUERY
  rw [pay55_apply, pay49_apply]
  unfold dquery
  by_cases h0 : j.val < 256
  · have e : j.val / 256 * 256 = 0 := by omega
    have a : j.val < 512 := by omega
    have b : j.val < 768 := by omega
    rw [gradeIn_congr _ _ _ _ (show 0 + 256 ≤ 1024 by omega) e]
    simp only [pay52_apply, h0, a, b, dite_true, zero_add, s0_apply, pay5_apply]
  · by_cases h1 : j.val < 512
    · have e : j.val / 256 * 256 = 256 := by omega
      have b : j.val < 768 := by omega
      have x : 256 + (j.val - 256) = j.val := by omega
      rw [gradeIn_congr _ _ _ _ (show 256 + 256 ≤ 1024 by omega) e]
      simp only [pay52_apply, h0, h1, b, dite_true, dite_false, zero_add, add_zero, s1_apply, pay8_apply, x]
    · by_cases h2 : j.val < 768
      · have e : j.val / 256 * 256 = 512 := by omega
        have x : 512 + (j.val - 512) = j.val := by omega
        rw [gradeIn_congr _ _ _ _ (show 512 + 256 ≤ 1024 by omega) e]
        simp only [pay52_apply, h0, h1, h2, dite_true, dite_false, zero_add, add_zero, s2_apply, pay11_apply, x]
      · have e : j.val / 256 * 256 = 768 := by omega
        have x : 768 + (j.val - 768) = j.val := by omega
        rw [gradeIn_congr _ _ _ _ (show 768 + 256 ≤ 1024 by omega) e]
        simp only [h0, h1, h2, dite_false, add_zero, s3_apply, pay14_apply, x]

/-- The stored rows' gradient: what was there, the keys of heads 0 and 1, and the rest. -/
theorem pay56_apply (a b : FVec Ideal S512x256 .f32) (g1 g0 : FVec Ideal S512x256 .f32) (v : FVec Ideal S256x2048 .f32) (acc : Vec Ideal S1x256x2048 .f32) (n : Fin 256) (j : Fin 2048) :
    k0_pay56 a b g1 g0 v acc (ix2 n j)
      = acc (ix3 0 n j) + (v (ix2 n j) + (if h : j.val < 512 then if h' : j.val < 256 then 0 else ∑ k, k0_pay53 g1 (ix2 k n) * b (ix2 k ⟨j.val - 256, by omega⟩) else 0)
        + (if h : j.val < 256 then ∑ k, k0_pay54 g0 (ix2 k n) * a (ix2 k ⟨j.val, h⟩) else 0)) := by
  pointwise [k0_pay56]

/-- The stored rows' gradient: the keys of heads 2 and 3, and the rest. -/
theorem pay51_apply (a b e2 e3 : FVec Ideal S512x256 .f32) (v : FVec Ideal S256x2048 .f32) (g3 g2 : FVec Ideal S512x256 .f32) (n : Fin 256) (j : Fin 2048) :
    k0_pay51 a b e2 e3 v g3 g2 (ix2 n j)
      = v (ix2 n j) + (if h : j.val < 1024 then if h' : j.val < 768 then 0 else ∑ k, k0_pay48 e3 g3 (ix2 k n) * b (ix2 k ⟨j.val - 768, by omega⟩) else 0)
        + (if h : j.val < 768 then if h' : j.val < 512 then 0 else ∑ k, k0_pay50 e2 g2 (ix2 k n) * a (ix2 k ⟨j.val - 512, by omega⟩) else 0) := by
  pointwise [k0_pay51]

/-- The stored rows' gradient: the values of head 0, and the rest. -/
theorem pay42_apply (p c : FVec Ideal S512x256 .f32) (v : FVec Ideal S256x2048 .f32) (n : Fin 256) (j : Fin 2048) :
    k0_pay42 p c v (ix2 n j)
      = v (ix2 n j) + (if h : j.val < 1280 then if h' : j.val < 1024 then 0 else ∑ k, p (ix2 k n) * c (ix2 k ⟨j.val - 1024, by omega⟩) else 0) := by
  pointwise [k0_pay42]

/-- The stored rows' gradient: the values of heads 3, 2 and 1. -/
theorem pay38_apply (e p1 p2 : FVec Ideal S512x256 .f32) (n : Fin 256) (j : Fin 2048) :
    k0_pay38 d e p1 p2 (ix2 n j)
      = (if h : j.val < 1792 then 0 else ∑ k, Ideal.div (e (ix2 k n)) (k0_pay29 e (ix2 k 0)) * d (ix2 k ⟨768 + (j.val - 1792), by omega⟩))
        + (if h : j.val < 1792 then if h' : j.val < 1536 then 0 else ∑ k, p2 (ix2 k n) * d (ix2 k ⟨512 + (j.val - 1536), by omega⟩) else 0)
        + (if h : j.val < 1536 then if h' : j.val < 1280 then 0 else ∑ k, p1 (ix2 k n) * d (ix2 k ⟨256 + (j.val - 1280), by omega⟩) else 0) := by
  pointwise [k0_pay38, k0_pay34, k0_pay33, k0_pay32]

/-- Head 0's columns of the queries. -/
theorem pay4_apply (k : Fin 512) (l : Fin 256) : k0_pay4 q (ix2 k l) = q (ix2 k ⟨0 + l.val, by omega⟩) := by
  pointwise [k0_pay4]

/-- Head 1's columns of the queries. -/
theorem pay7_apply (k : Fin 512) (l : Fin 256) : k0_pay7 q (ix2 k l) = q (ix2 k ⟨256 + l.val, by omega⟩) := by
  pointwise [k0_pay7]

/-- Head 2's columns of the queries. -/
theorem pay10_apply (k : Fin 512) (l : Fin 256) : k0_pay10 q (ix2 k l) = q (ix2 k ⟨512 + l.val, by omega⟩) := by
  pointwise [k0_pay10]

/-- Head 3's columns of the queries. -/
theorem pay13_apply (k : Fin 512) (l : Fin 256) : k0_pay13 q (ix2 k l) = q (ix2 k ⟨768 + l.val, by omega⟩) := by
  pointwise [k0_pay13]

/-- Head 0's columns of the gradient. -/
theorem pay31_apply (k : Fin 512) (l : Fin 256) : k0_pay31 d (ix2 k l) = d (ix2 k ⟨0 + l.val, by omega⟩) := by
  pointwise [k0_pay31]

/-- The stored rows' gradient of a block, over what was there. -/
abbrev STORE (acc : Vec Ideal S1x256x2048 .f32) : FVec Ideal S1x256x2048 .f32 :=
  k0_pay1 (k0_pay56 (k0_pay4 q) (k0_pay7 q) (k0_pay46 (E1 kv q) (G1 kv q d)) (G0 kv q d)
    (k0_pay51 (k0_pay10 q) (k0_pay13 q) (E2 kv q) (E3 kv q)
      (k0_pay42 (k0_pay20 (k0_pay6 kv q)) (k0_pay31 d) (k0_pay38 d (E3 kv q) (k0_pay23 (k0_pay9 kv q)) (k0_pay26 (k0_pay12 kv q) (Scalar.ofBits .f32 0x3D800000#32))))
      (G3 kv q d) (G2 kv q d)) acc)

/-- The stored rows' gradient, written back. -/
theorem pay1_apply (v : FVec Ideal S256x2048 .f32) (n : Fin 256) (j : Fin 2048) : k0_pay1 v (ix3 0 n j) = v (ix2 n j) := by
  pointwise [k0_pay1]

/-- The stored rows' gradient of a block, at an index. -/
theorem store_apply (acc : Vec Ideal S1x256x2048 .f32) (n : Fin 256) (j : Fin 2048) :
    STORE kv q d acc (ix3 0 n j) = acc (ix3 0 n j) + ∑ k, dstored (qrow q k) (rows kv) (qrow d k) n j := by
  unfold STORE
  rw [pay1_apply, pay56_apply, pay51_apply, pay42_apply, pay38_apply]
  refine congrArg (acc (ix3 0 n j) + ·) ?_
  unfold dstored
  by_cases h0 : j.val < 256
  · have a256 : j.val < 256 := by omega
    have a512 : j.val < 512 := by omega
    have a768 : j.val < 768 := by omega
    have a1024 : j.val < 1024 := by omega
    have a1280 : j.val < 1280 := by omega
    have a1536 : j.val < 1536 := by omega
    have a1792 : j.val < 1792 := by omega
    have e : j.val / 256 * 256 = 0 := by omega
    simp only [a256, a512, a768, a1024, a1280, a1536, a1792, dite_true, dite_false, zero_add, add_zero, s0_apply, pay4_apply, gradeIn_congr _ _ _ _ (show 0 + 256 ≤ 1024 by omega) e]
  · by_cases h1 : j.val < 512
    · have a256 : ¬ j.val < 256 := by omega
      have a512 : j.val < 512 := by omega
      have a768 : j.val < 768 := by omega
      have a1024 : j.val < 1024 := by omega
      have a1280 : j.val < 1280 := by omega
      have a1536 : j.val < 1536 := by omega
      have a1792 : j.val < 1792 := by omega
      have e : j.val / 256 * 256 = 256 := by omega
      have x : 256 + (j.val - 256) = j.val := by omega
      simp only [a256, a512, a768, a1024, a1280, a1536, a1792, x, dite_true, dite_false, zero_add, add_zero, s1_apply, pay7_apply, gradeIn_congr _ _ _ _ (show 256 + 256 ≤ 1024 by omega) e]
    · by_cases h2 : j.val < 768
      · have a256 : ¬ j.val < 256 := by omega
        have a512 : ¬ j.val < 512 := by omega
        have a768 : j.val < 768 := by omega
        have a1024 : j.val < 1024 := by omega
        have a1280 : j.val < 1280 := by omega
        have a1536 : j.val < 1536 := by omega
        have a1792 : j.val < 1792 := by omega
        have e : j.val / 256 * 256 = 512 := by omega
        have x : 512 + (j.val - 512) = j.val := by omega
        simp only [a256, a512, a768, a1024, a1280, a1536, a1792, x, dite_true, dite_false, zero_add, add_zero, s2_apply, pay10_apply, gradeIn_congr _ _ _ _ (show 512 + 256 ≤ 1024 by omega) e]
      · by_cases h3 : j.val < 1024
        · have a256 : ¬ j.val < 256 := by omega
          have a512 : ¬ j.val < 512 := by omega
          have a768 : ¬ j.val < 768 := by omega
          have a1024 : j.val < 1024 := by omega
          have a1280 : j.val < 1280 := by omega
          have a1536 : j.val < 1536 := by omega
          have a1792 : j.val < 1792 := by omega
          have e : j.val / 256 * 256 = 768 := by omega
          have x : 768 + (j.val - 768) = j.val := by omega
          simp only [a256, a512, a768, a1024, a1280, a1536, a1792, x, dite_true, dite_false, zero_add, add_zero, s3_apply, pay13_apply, gradeIn_congr _ _ _ _ (show 768 + 256 ≤ 1024 by omega) e]
        · by_cases h4 : j.val < 1280
          · have a256 : ¬ j.val < 256 := by omega
            have a512 : ¬ j.val < 512 := by omega
            have a768 : ¬ j.val < 768 := by omega
            have a1024 : ¬ j.val < 1024 := by omega
            have a1280 : j.val < 1280 := by omega
            have a1536 : j.val < 1536 := by omega
            have a1792 : j.val < 1792 := by omega
            have e : (j.val - 1024) / 256 * 256 = 0 := by omega
            simp only [a256, a512, a768, a1024, a1280, a1536, a1792, dite_true, dite_false, zero_add, add_zero, p0_apply, pay31_apply, score_congr _ _ _ (show 0 + 256 ≤ 1024 by omega) e]
          · by_cases h5 : j.val < 1536
            · have a256 : ¬ j.val < 256 := by omega
              have a512 : ¬ j.val < 512 := by omega
              have a768 : ¬ j.val < 768 := by omega
              have a1024 : ¬ j.val < 1024 := by omega
              have a1280 : ¬ j.val < 1280 := by omega
              have a1536 : j.val < 1536 := by omega
              have a1792 : j.val < 1792 := by omega
              have e : (j.val - 1024) / 256 * 256 = 256 := by omega
              have x : 256 + (j.val - 1280) = j.val - 1024 := by omega
              simp only [a256, a512, a768, a1024, a1280, a1536, a1792, x, dite_true, dite_false, zero_add, add_zero, p1_apply, score_congr _ _ _ (show 256 + 256 ≤ 1024 by omega) e]
            · by_cases h6 : j.val < 1792
              · have a256 : ¬ j.val < 256 := by omega
                have a512 : ¬ j.val < 512 := by omega
                have a768 : ¬ j.val < 768 := by omega
                have a1024 : ¬ j.val < 1024 := by omega
                have a1280 : ¬ j.val < 1280 := by omega
                have a1536 : ¬ j.val < 1536 := by omega
                have a1792 : j.val < 1792 := by omega
                have e : (j.val - 1024) / 256 * 256 = 512 := by omega
                have x : 512 + (j.val - 1536) = j.val - 1024 := by omega
                simp only [a256, a512, a768, a1024, a1280, a1536, a1792, x, dite_true, dite_false, zero_add, add_zero, p2_apply, score_congr _ _ _ (show 512 + 256 ≤ 1024 by omega) e]
              · have a256 : ¬ j.val < 256 := by omega
                have a512 : ¬ j.val < 512 := by omega
                have a768 : ¬ j.val < 768 := by omega
                have a1024 : ¬ j.val < 1024 := by omega
                have a1280 : ¬ j.val < 1280 := by omega
                have a1536 : ¬ j.val < 1536 := by omega
                have a1792 : ¬ j.val < 1792 := by omega
                have e : (j.val - 1024) / 256 * 256 = 768 := by omega
                have x : 768 + (j.val - 1792) = j.val - 1024 := by omega
                simp only [a256, a512, a768, a1024, a1280, a1536, a1792, x, dite_true, dite_false, zero_add, add_zero, p3_apply, score_congr _ _ _ (show 768 + 256 ≤ 1024 by omega) e]

end payloads

variable (m : (ℓ : Loc nD τ sig) → Buf (Elt Ideal) ℓ)

/-- The block each window shows at a point. -/
theorem idx : ∀ t : Fin cfg0.N, win0_0.index t = ![15 - t.val, 0] ∧ win0_1.index t = ![1 - t.val / 8, 0, 0] ∧ win0_2.index t = ![15 - t.val, 0]
    ∧ win0_3.index t = ![15 - t.val, 0] ∧ win0_4.index t = ![1 - t.val / 8, 0, 0] :=
  (by decide +kernel : ∀ t : Fin grid0.N, _)

/-- The queries' gradient, as point `t` leaves it. -/
theorem left (c : Dev nD) (t : Fin cfg0.N) : (outsAt0 m c t.val t.isLt).1 = QUERY (iblk m c 1 t) (iblk m c 0 t) (iblk m c 2 t) := by
  by_cases h : t.val % 8 = 0
  · rw [outsAt0_A m c t h]; frame_out
  · rw [outsAt0_B m c t h]; frame_out

/-- The gradient in the queries after the run is the reference's. -/
theorem finalQ (c : Dev nD) : (dats m 0 c).arrAt 3 cfg0.N = REFQ (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [refq_apply]
  blk_simp
  rw [after0_3, left]
  refine (congrArg _ (eq_ix2 y)).trans ((query_apply _ _ _ _ _).trans ?_)
  congr 1
  · funext l
    change iblk m c 0 t (ix2 (y 0) l) = _
    blk_point [iblk, V, idx t]
  · funext k l
    change iblk m c 1 t (ix3 0 k l) = _
    blk_point [iblk, V, idx t]
  · funext l
    change iblk m c 2 t (ix2 (y 0) l) = _
    blk_point [iblk, V, idx t]
  · apply Fin.ext
    blk_simp [idx t]

/-- One block's part of the gradient in the stored rows. -/
def share (c : Dev nD) (t : Fin cfg0.N) (j : S1x256x2048.Idx) : EReal :=
  ∑ k : Fin 512, dstored (qrow (iblk m c 0 t) k) (rows (iblk m c 1 t)) (qrow (iblk m c 2 t) k) (j 1) (j 2)

/-- The gradient in the stored rows as point `t` leaves it. -/
def held (c : Dev nD) (n : ℕ) (h : n < cfg0.N) : Vec Ideal S1x256x2048 .f32 := (outsAt0 m c n h).2

/-- An index of a block of stored rows. -/
theorem eq_row (j : S1x256x2048.Idx) : j = ix3 0 (j 1) (j 2) := by
  have : j 0 = (0 : Fin 1) := Subsingleton.elim (α := Fin 1) _ _
  exact (eq_ix3 j).trans (congrArg (ix3 · (j 1) (j 2)) this)

/-- A block of zeros. -/
theorem zeros (j : S1x256x2048.Idx) : k0_pay3 (F := Ideal) j = 0 := by
  pointwise [k0_pay3]

/-- A block's part joins what was there. -/
theorem store_share (c : Dev nD) (t : Fin cfg0.N) (acc : Vec Ideal S1x256x2048 .f32) (j : S1x256x2048.Idx) :
    STORE (iblk m c 1 t) (iblk m c 0 t) (iblk m c 2 t) acc j = acc j + share m c t j := by
  rw [eq_row j]
  exact store_apply _ _ _ _ _ _

/-- The first point of a sequence holds its own part. -/
theorem held_first (c : Dev nD) (t : Fin cfg0.N) (h : t.val % 8 = 0) (j : S1x256x2048.Idx) :
    held m c t.val t.isLt j = 0 + share m c t j := by
  unfold held
  rw [outsAt0_A m c t h]; frame_out
  exact (store_share m c t _ j).trans (congrArg (· + share m c t j) (zeros j))

/-- A later point adds its part. -/
theorem held_next (c : Dev nD) (t : Fin cfg0.N) (h : ¬ t.val % 8 = 0) (j : S1x256x2048.Idx) :
    held m c t.val t.isLt j = held m c (t.val - 1) (Nat.lt_of_le_of_lt (Nat.sub_le _ _) t.isLt) j + share m c t j := by
  unfold held
  rw [outsAt0_B m c t h]; frame_out
  exact store_share m c t _ j

/-- After the last point of a sequence all its parts are held. -/
theorem held_last (c : Dev nD) (t : Fin cfg0.N) (h : t.val % 8 = 8 - 1) (j : S1x256x2048.Idx) :
    held m c t.val t.isLt j = ∑ s : Fin 8, share m c ⟨8 * (t.val / 8) + s.val, Pipeline.run_point_lt_of_flush t h s⟩ j :=
  (Pipeline.eq_sum_fin_of_reset_step_apply_of_flush (held m c) 8 (fun _ => 0) (share m c) (held_first m c) (held_next m c) t h j).trans
    (zero_add _)

/-- The gradient in the stored rows after the run is the reference's. -/
theorem finalKV (c : Dev nD) : (dats m 0 c).arrAt 4 cfg0.N = REFKV (m ((c : Thread nD τ).loc main_arg0)) (m ((c : Thread nD τ).loc main_arg1)) (m ((c : Thread nD τ).loc main_arg2)) := by
  refine (dats m 0 c).arrAt_eq_of_covers 4 _ (by decide +kernel) fun t hf y => ?_
  rw [eq_ix3 (((cfg0.win 4).blk t).view.emb y)]
  refine Eq.trans ?_ (refkv_apply _ _ _ _ _ _).symm
  blk_simp
  rw [after0_4]
  refine (held_last m c t ((flush0_4 t).mp hf) y).trans ?_
  unfold share
  refine Sums.sum_rev_mul_add_congr rfl fun s k hl => ?_
  congr 1
  · funext l
    change iblk m c 0 _ (ix2 k l) = _
    blk_point [iblk, V, idx t, idx ⟨_, Pipeline.run_point_lt_of_flush t ((flush0_4 t).mp hf) s⟩]
  · funext n l
    change iblk m c 1 _ (ix3 0 n l) = _
    blk_point [iblk, V, idx t, idx ⟨_, Pipeline.run_point_lt_of_flush t ((flush0_4 t).mp hf) s⟩]
  · funext l
    change iblk m c 2 _ (ix2 k l) = _
    blk_point [iblk, V, idx t, idx ⟨_, Pipeline.run_point_lt_of_flush t ((flush0_4 t).mp hf) s⟩]
  · apply Fin.ext
    blk_simp [idx t]
  · apply Fin.ext
    blk_simp [idx t]

end Cert.BwdAttIdeal.Att
-- ==== Proof.FwdMix.lean ====
/- The three branches before their products: the kernel's array is the reference's. -/
module
public import proofs.«01_k».proof.Proof.Gen.FwdMixIdeal.Value
public import proofs.«01_k».proof.Proof.Gen.FwdMixRefIdeal.Run
public import Idealize.ShloMosaic.Lib.Pipeline.ValueKit
@[expose] public section
set_option maxRecDepth 16384
noncomputable section
open Idealize.ShloMosaic Idealize.ShloMosaic.TcCoe Idealize.SL.Sem

namespace Cert.Branches

/-- The tanh of the activation, as both programs print its constants. -/
def bend (x : EReal) : EReal :=
  Ideal.tanh (Ideal.ofBits .f32 0x3F4C422A#32 * (x + Ideal.ofBits .f32 0x3D372713#32 * (x * x * x)))

/-- The activation. -/
def act (x : EReal) : EReal := Ideal.ofBits .f32 0x3F000000#32 * x * (1 + bend x)

/-- The logistic function. -/
def logit (x : EReal) : EReal := Ideal.div 1 (1 + Ideal.exp (-x))

/-- The activation with its half taken in the other order. -/
theorem act_eq (x : EReal) : x * (Ideal.ofBits .f32 0x3F000000#32 * (1 + bend x)) = act x := by
  rw [act, mul_assoc, mul_left_comm]

/-- Column `j` of a row normed by heads of 128 columns and gated. -/
def head (o b z : Fin 512 → EReal) (j : Fin 512) : EReal :=
  o j * Ideal.rsqrt (Ideal.div (∑ l : Fin 128, o ⟨j.val / 128 * 128 + l.val, by omega⟩ * o ⟨j.val / 128 * 128 + l.val, by omega⟩)
    (Ideal.ofBits .f32 0x43000000#32) + Ideal.ofBits .f32 0x358637BD#32) * b j * (z j * logit (z j))

/-- Column `j` of a row gated by its own product. -/
def glu (g : Fin 512 → EReal) (w : Fin 512 → Fin 512 → EReal) (b : Fin 512 → EReal) (j : Fin 512) : EReal :=
  g j * logit ((∑ k, g k * w k j) + b j)

/-- Column `j` of the three branches of a row side by side. -/
def side (a b c : Fin 512 → EReal) (j : Fin 1536) : EReal :=
  if h : j.val < 512 then a ⟨j.val, h⟩ else if h' : j.val < 1024 then b ⟨j.val - 512, by omega⟩ else c ⟨j.val - 1024, by omega⟩

end Cert.Branches

namespace Cert.FwdMixRefIdeal.Mix
open Cert.FwdMixRefIdeal Cert.FwdMixRefIdeal.Gen Cert.Branches

/-- The columns that gate the first branch. -/
def GATE (x0 : FVec Ideal S8192x6656 .f32) : FVec Ideal S8192x512 .f32 :=
  extractStridedSlice S8192x512 ![0, 512] x0 slices_S8192x6656_S8192x512_0_512

/-- The columns that gate the second branch. -/
def OUTER (x0 : FVec Ideal S8192x6656 .f32) : FVec Ideal S8192x512 .f32 :=
  extractStridedSlice S8192x512 ![0, 2560] x0 slices_S8192x6656_S8192x512_0_2560

/-- The third branch's rows with their input added. -/
def SKIP (x3 : FVec Ideal S8192x512 .f32) (x5 : FVec Ideal S1x512 .f32) (x0 : FVec Ideal S8192x6656 .f32) : FVec Ideal S8192x512 .f32 :=
  addf x3 (mulf (broadcastInDim S8192x512 ![0, 1] bcast_S1x512_S8192x512_0_1 x5) (extractStridedSlice S8192x512 ![0, 6144] x0 slices_S8192x6656_S8192x512_0_6144))

/-- The activation of rows. -/
def GELU (y : FVec Ideal S8192x512 .f32) : FVec Ideal S8192x512 .f32 :=
  mulf y (mulf (broadcastInDim S8192x512 ![] bcast_S_S8192x512 (constant S_ .f32 0x3F000000#32)) (addf (broadcastInDim S8192x512 ![] bcast_S_S8192x512 (constant S_ .f32 0x3F800000#32)) (Host.tanh (mulf (broadcastInDim S8192x512 ![] bcast_S_S8192x512 (constant S_ .f32 0x3F4C422A#32)) (addf y (mulf (broadcastInDim S8192x512 ![] bcast_S_S8192x512 (constant S_ .f32 0x3D372713#32)) (mulf (mulf y y) y)))))))

/-- The first branch. -/
def GATED (h g : FVec Ideal S8192x512 .f32) : FVec Ideal S8192x512 .f32 := mulf h g

/-- The second branch. -/
def HEADS (o : FVec Ideal S8192x512 .f32) (b : FVec Ideal S1x512 .f32) (z : FVec Ideal S8192x512 .f32) : FVec Ideal S8192x512 .f32 :=
  shapeCast _ (mulf (mulf (mulf (shapeCast _ o shapeCasts_S8192x512_S8192x4x128) (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf (shapeCast _ o shapeCasts_S8192x512_S8192x4x128) (shapeCast _ o shapeCasts_S8192x512_S8192x4x128)) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) (broadcastInDim S8192x4x128 ![0, 1, 2] bcast_S1x4x128_S8192x4x128_0_1_2 (broadcastInDim S1x4x128 ![1, 2] bcast_S4x128_S1x4x128_1_2 (shapeCast _ b shapeCasts_S1x512_S4x128)))) (mulf (shapeCast _ z shapeCasts_S8192x512_S8192x4x128) (Host.divf (broadcastInDim S8192x4x128 ![] bcast_S_S8192x4x128 (constant S_ .f32 0x3F800000#32)) (addf (broadcastInDim S8192x4x128 ![] bcast_S_S8192x4x128 (constant S_ .f32 0x3F800000#32)) (Host.exp (Host.negf (shapeCast _ z shapeCasts_S8192x512_S8192x4x128))))))) shapeCasts_S8192x4x128_S8192x512

/-- The third branch. -/
def GLU (g : FVec Ideal S8192x512 .f32) (x6 : FVec Ideal S512x512 .f32) (x7 : FVec Ideal S1x512 .f32) : FVec Ideal S8192x512 .f32 :=
  mulf g (Host.divf (broadcastInDim S8192x512 ![] bcast_S_S8192x512 (constant S_ .f32 0x3F800000#32)) (addf (broadcastInDim S8192x512 ![] bcast_S_S8192x512 (constant S_ .f32 0x3F800000#32)) (Host.exp (Host.negf (addf (Host.dotGeneral dot_S8192x512_S512x512_S8192x512_1_0_0_1_n_n none g x6) (broadcastInDim S8192x512 ![0, 1] bcast_S1x512_S8192x512_0_1 x7))))))

/-- The reference's term. -/
def REF (x0 : FVec Ideal S8192x6656 .f32) (x1 x2 x3 : FVec Ideal S8192x512 .f32) (x4 x5 : FVec Ideal S1x512 .f32) (x6 : FVec Ideal S512x512 .f32) (x7 : FVec Ideal S1x512 .f32) : FVec Ideal S8192x1536 .bf16 :=
  truncf .bf16 ((concatenate S8192x1536 1 [⟨S8192x512, (GATED x1 (GELU (GATE x0)) : (⟨S8192x512, .f32⟩ : BufTy).Contents (Elt Ideal))⟩, ⟨S8192x512, (HEADS x2 x4 (OUTER x0) : (⟨S8192x512, .f32⟩ : BufTy).Contents (Elt Ideal))⟩, ⟨S8192x512, (GLU (GELU (SKIP x3 x5 x0)) x6 x7 : (⟨S8192x512, .f32⟩ : BufTy).Contents (Elt Ideal))⟩] concatenates_S8192x512_S8192x512_S8192x512_S8192x1536_d1 : (⟨S8192x1536, .f32⟩ : BufTy).Contents (Elt Ideal))) bitsLt_bf16_f32

/-- The result of the reference. -/
theorem res (m : (ℓ : Loc nD τ sig) → Buf (Elt Ideal) ℓ) (c : Dev nD) :
    Value.res_main_v63 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The activation at an index. -/
theorem gelu_apply (y : FVec Ideal S8192x512 .f32) (i : Fin 8192) (j : Fin 512) : GELU y (ix2 i j) = act (y (ix2 i j)) := by
  rw [← act_eq]
  unfold bend
  pointwise [GELU]

/-- The second branch at an index. -/
theorem heads_apply (o : FVec Ideal S8192x512 .f32) (b : FVec Ideal S1x512 .f32) (z : FVec Ideal S8192x512 .f32) (i : Fin 8192) (j : Fin 512) :
    HEADS o b z (ix2 i j) = head (fun l => o (ix2 i l)) (fun l => b (ix2 0 l)) (fun l => z (ix2 i l)) j := by
  unfold head logit
  pointwise [HEADS]

/-- The third branch at an index. -/
theorem glu_apply (g : FVec Ideal S8192x512 .f32) (w : FVec Ideal S512x512 .f32) (b : FVec Ideal S1x512 .f32) (i : Fin 8192) (j : Fin 512) :
    GLU g w b (ix2 i j) = glu (fun l => g (ix2 i l)) (fun k l => w (ix2 k l)) (fun l => b (ix2 0 l)) j := by
  unfold glu logit
  pointwise [GLU]

/-- The columns that gate the first branch, at an index. -/
theorem gate_apply (x0 : FVec Ideal S8192x6656 .f32) (i : Fin 8192) (j : Fin 512) : GATE x0 (ix2 i j) = x0 (ix2 i ⟨512 + j.val, by omega⟩) := by
  pointwise [GATE]

/-- The columns that gate the second branch, at an index. -/
theorem outer_apply (x0 : FVec Ideal S8192x6656 .f32) (i : Fin 8192) (j : Fin 512) : OUTER x0 (ix2 i j) = x0 (ix2 i ⟨2560 + j.val, by omega⟩) := by
  pointwise [OUTER]

/-- The third branch's rows at an index. -/
theorem skip_apply (x3 : FVec Ideal S8192x512 .f32) (x5 : FVec Ideal S1x512 .f32) (x0 : FVec Ideal S8192x6656 .f32) (i : Fin 8192) (j : Fin 512) :
    SKIP x3 x5 x0 (ix2 i j) = x3 (ix2 i j) + x5 (ix2 0 j) * x0 (ix2 i ⟨6144 + j.val, by omega⟩) := by
  pointwise [SKIP]

/-- The reference's term at an index. -/
theorem ref_apply (x0 : FVec Ideal S8192x6656 .f32) (x1 x2 x3 : FVec Ideal S8192x512 .f32) (x4 x5 : FVec Ideal S1x512 .f32) (x6 : FVec Ideal S512x512 .f32) (x7 : FVec Ideal S1x512 .f32) (i : Fin 8192) (j : Fin 1536) :
    REF x0 x1 x2 x3 x4 x5 x6 x7 (ix2 i j) = side (fun l => x1 (ix2 i l) * act (x0 (ix2 i ⟨512 + l.val, by omega⟩)))
      (head (fun l => x2 (ix2 i l)) (fun l => x4 (ix2 0 l)) fun l => x0 (ix2 i ⟨2560 + l.val, by omega⟩))
      (glu (fun l => act (x3 (ix2 i l) + x5 (ix2 0 l) * x0 (ix2 i ⟨6144 + l.val, by omega⟩))) (fun k l => x6 (ix2 k l)) fun l => x7 (ix2 0 l)) j := by
  unfold side
  pointwise [REF, GATED]
  by_cases h : j.val < 512
  · simp only [h, dite_true, gelu_apply, gate_apply]
  · have e : j.val - 512 < 512 ↔ j.val < 1024 := by omega
    by_cases h' : j.val < 1024
    · simp only [h, h', e, dite_true, dite_false, heads_apply, outer_apply]
    · have f : j.val - 512 - 512 = j.val - 1024 := by omega
      simp only [h, h', e, f, dite_false, glu_apply, gelu_apply, skip_apply]

end Cert.FwdMixRefIdeal.Mix

namespace Cert.FwdMixIdeal.Mix
open Cert.FwdMixIdeal Cert.FwdMixIdeal.Gen Cert.FwdMixRefIdeal.Mix Cert.Branches
open Idealize.ShloMosaic.Pipeline (Dat)

section payloads
variable (ha ga o z y0 uc w : Vec Ideal S512x512 .f32) (bn cd bg : Vec Ideal S1x512 .f32)

/-- The first branch. -/
theorem pay2_apply (k j : Fin 512) : k0_pay2 ha ga (ix2 k j) = ha (ix2 k j) * act (ga (ix2 k j)) := by
  unfold act bend
  pointwise [k0_pay2]

/-- The second branch of a block. -/
abbrev HEAD : FVec Ideal S512x512 .f32 :=
  k0_pay18 (k0_pay5 o) (k0_pay6 o) (k0_pay9 bn) (k0_pay10 bn) (k0_pay13 z) (k0_pay14 z) (k0_pay15 (k0_pay3 o) (k0_pay7 bn) (k0_pay11 z))
    (k0_pay16 (k0_pay4 o) (k0_pay8 bn) (k0_pay12 z)) (k0_pay17 (k0_pay5 o))

/-- Head 0. -/
theorem pay15_apply (k : Fin 512) (l : Fin 128) :
    k0_pay15 (k0_pay3 o) (k0_pay7 bn) (k0_pay11 z) (ix2 k l) = head (fun l => o (ix2 k l)) (fun l => bn (ix2 0 l)) (fun l => z (ix2 k l)) ⟨0 + l.val, by omega⟩ := by
  have e : (0 + l.val) / 128 * 128 = 0 := by omega
  unfold head logit
  simp only [e, ← zero_sub]
  pointwise [k0_pay15, k0_pay3, k0_pay7, k0_pay11]

/-- Head 1. -/
theorem pay16_apply (k : Fin 512) (l : Fin 128) :
    k0_pay16 (k0_pay4 o) (k0_pay8 bn) (k0_pay12 z) (ix2 k l) = head (fun l => o (ix2 k l)) (fun l => bn (ix2 0 l)) (fun l => z (ix2 k l)) ⟨128 + l.val, by omega⟩ := by
  have e : (128 + l.val) / 128 * 128 = 128 := by omega
  unfold head logit
  simp only [e, ← zero_sub]
  pointwise [k0_pay16, k0_pay4, k0_pay8, k0_pay12]

/-- Heads 2 and 3, after the others. -/
theorem pay18_apply (a b : FVec Ideal S512x128 .f32) (k j : Fin 512) :
    k0_pay18 (k0_pay5 o) (k0_pay6 o) (k0_pay9 bn) (k0_pay10 bn) (k0_pay13 z) (k0_pay14 z) a b (k0_pay17 (k0_pay5 o)) (ix2 k j)
      = if h : j.val < 128 then a (ix2 k ⟨j.val, h⟩) else if h' : j.val < 256 then b (ix2 k ⟨j.val - 128, by omega⟩)
        else head (fun l => o (ix2 k l)) (fun l => bn (ix2 0 l)) (fun l => z (ix2 k l)) j := by
  unfold head logit
  simp only [← zero_sub]
  pointwise [k0_pay18, k0_pay17, k0_pay5, k0_pay6, k0_pay9, k0_pay10, k0_pay13, k0_pay14]
  by_cases h : j.val < 128
  · simp only [h, dite_true]
  · by_cases h' : j.val < 256
    · have a : j.val - 128 < 128 := by omega
      simp only [h, h', a, dite_true, dite_false]
    · have a : ¬ j.val - 128 < 128 := by omega
      by_cases h'' : j.val < 384
      · have b : j.val - 128 - 128 < 128 := by omega
        have e : 256 + (j.val - 128 - 128) = j.val := by omega
        have f : j.val / 128 * 128 = 256 := by omega
        simp only [h, h', a, b, dite_true, dite_false, e, f, Fin.eta]
      · have b : ¬ j.val - 128 - 128 < 128 := by omega
        have e : 384 + (j.val - 128 - 128 - 128) = j.val := by omega
        have f : j.val / 128 * 128 = 384 := by omega
        simp only [h, h', a, b, dite_false, e, f, Fin.eta]

/-- The second branch at an index. -/
theorem head_apply (k j : Fin 512) : HEAD o z bn (ix2 k j) = head (fun l => o (ix2 k l)) (fun l => bn (ix2 0 l)) (fun l => z (ix2 k l)) j := by
  unfold HEAD
  rw [pay18_apply]
  by_cases h : j.val < 128
  · rw [dif_pos h, pay15_apply]
    congr 1
    exact Fin.ext (Nat.zero_add _)
  · rw [dif_neg h]
    by_cases h' : j.val < 256
    · rw [dif_pos h', pay16_apply]
      congr 1
      exact Fin.ext (Nat.add_sub_cancel' (Nat.le_of_not_lt h))
    · rw [dif_neg h']

/-- The third branch's rows with their input added. -/
theorem pay19_apply (k j : Fin 512) : k0_pay19 cd y0 uc (ix2 k j) = y0 (ix2 k j) + cd (ix2 0 j) * uc (ix2 k j) := by
  pointwise [k0_pay19]

/-- The third branch, and the three side by side. -/
theorem pay1_apply (a b : FVec Ideal S512x512 .f32) (k : Fin 512) (j : Fin 1536) :
    k0_pay1 w bg a b (k0_pay19 cd y0 uc) (k0_pay20 cd y0 uc) (k0_pay21 cd y0 uc) (Scalar.ofBits .f32 0x3D372713#32) (ix2 k j)
      = side (fun l => a (ix2 k l)) (fun l => b (ix2 k l))
          (glu (fun l => act (k0_pay19 cd y0 uc (ix2 k l))) (fun k l => w (ix2 k l)) fun l => bg (ix2 0 l)) j := by
  unfold side glu logit act bend
  simp only [← zero_sub]
  pointwise [k0_pay1, k0_pay20, k0_pay21]
  have e : j.val - 512 < 512 ↔ j.val < 1024 := by omega
  have f : j.val - 512 - 512 = j.val - 1024 := by omega
  simp only [e, f]

/-- A block of the result at an index. -/
theorem block_apply (k : Fin 512) (j : Fin 1536) :
    k0_pay1 w bg (k0_pay2 ha ga) (HEAD o z bn) (k0_pay19 cd y0 uc) (k0_pay20 cd y0 uc) (k0_pay21 cd y0 uc) (Scalar.ofBits .f32 0x3D372713#32) (ix2 k j)
      = side (fun l => ha (ix2 k l) * act (ga (ix2 k l))) (head (fun l => o (ix2 k l)) (fun l => bn (ix2 0 l)) fun l => z (ix2 k l))
          (glu (fun l => act (y0 (ix2 k l) + cd (ix2 0 l) * uc (ix2 k l))) (fun k l => w (ix2 k l)) fun l => bg (ix2 0 l)) j := by
  rw [pay1_apply]
  simp only [pay2_apply, head_apply, pay19_apply]

end payloads

variable (m : (ℓ : Loc nD τ sig) → Buf (Elt Ideal) ℓ)

/-- The block each window shows at a point. -/
theorem idx : ∀ t : Fin cfg0.N, win0_0.index t = ![t.val, 0] ∧ win0_1.index t = ![t.val, 1] ∧ win0_2.index t = ![t.val, 0]
    ∧ win0_3.index t = ![t.val, 5] ∧ win0_4.index t = ![t.val, 0] ∧ win0_5.index t = ![t.val, 12] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The branches after the run are the reference's. -/
theorem final (c : Dev nD) : (dats m 0 c).arrAt 10 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  rw [eq_ix2 (((cfg0.win 10).blk t).view.emb y)]
  refine Eq.trans ?_ (ref_apply _ _ _ _ _ _ _ _ _ _).symm
  blk_simp
  rw [after0_10]; frame_out [k0_pay22]
  refine (congrArg _ (eq_ix2 y)).trans ((block_apply _ _ _ _ _ _ _ _ _ _ _ _).trans ?_)
  blk_point [iblk, V, idx t]
  refine congrArg _ ?_
  refine Fin.ext ?_
  blk_simp [idx t]

end Cert.FwdMixIdeal.Mix
-- ==== Proof.BwdMixRef.lean ====
/- The gradient of the three branches before their products: the reference's arrays at an index. -/
module
public import proofs.«01_k».proof.Proof.FwdMix
public import proofs.«01_k».proof.Proof.Gen.BwdMixRefIdeal.Run
public import Idealize.ShloMosaic.Lib.Pipeline.ValueKit
@[expose] public section
set_option maxRecDepth 16384
noncomputable section
open Idealize.ShloMosaic Idealize.ShloMosaic.TcCoe Idealize.SL.Sem

namespace Cert.Branches

/-- The logistic function's slope. -/
def tilt (x : EReal) : EReal := logit x * (1 - logit x)

/-- The gradient through the bent part of the activation. -/
def bent (x c : EReal) : EReal :=
  Ideal.ofBits .f32 0x3F4C422A#32 * (Ideal.ofBits .f32 0x3F000000#32 * (x * c) * ((1 + bend x) * (1 - bend x)))

/-- The activation's gradient at `x` of a given gradient `c`. -/
def steep (x c : EReal) : EReal :=
  c * (Ideal.ofBits .f32 0x3F000000#32 * (1 + bend x)) + bent x c
    + Ideal.ofBits .f32 0x3D372713#32 * bent x c * (Ideal.ofBits .f32 0x40400000#32 * (x * x))

/-- The mean square of the head of column `j`, and its least. -/
def level (o : Fin 512 → EReal) (j : Fin 512) : EReal :=
  Ideal.div (∑ l : Fin 128, o ⟨j.val / 128 * 128 + l.val, by omega⟩ * o ⟨j.val / 128 * 128 + l.val, by omega⟩)
    (Ideal.ofBits .f32 0x43000000#32) + Ideal.ofBits .f32 0x358637BD#32

/-- The gradient of a normed head. -/
def given (b z d : Fin 512 → EReal) (j : Fin 512) : EReal := d j * (z j * logit (z j)) * b j

/-- The gradient of the mean square of the head of column `j`. -/
def levelBack (o b z d : Fin 512 → EReal) (j : Fin 512) : EReal :=
  Ideal.div ((∑ l : Fin 128, o ⟨j.val / 128 * 128 + l.val, by omega⟩ * given b z d ⟨j.val / 128 * 128 + l.val, by omega⟩)
    * (Ideal.ofBits .f32 0xBF000000#32 * Ideal.div (Ideal.rsqrt (level o j)) (level o j))) (Ideal.ofBits .f32 0x43000000#32)

/-- The gradient of a head's rows. -/
def headBack (o b z d : Fin 512 → EReal) (j : Fin 512) : EReal :=
  given b z d j * Ideal.rsqrt (level o j) + o j * levelBack o b z d j + levelBack o b z d j * o j

/-- The gradient of a head's gate. -/
def gateBack (o b z d : Fin 512 → EReal) (j : Fin 512) : EReal :=
  o j * Ideal.rsqrt (level o j) * b j * d j * logit (z j) + z j * (o j * Ideal.rsqrt (level o j) * b j * d j) * tilt (z j)

/-- The gradient of the second branch's scale, of one row. -/
def scaleBack (o z d : Fin 512 → EReal) (j : Fin 512) : EReal :=
  o j * Ideal.rsqrt (level o j) * (d j * (z j * logit (z j)))

/-- The gradient of the third branch's product, of one row. -/
def lean (y : Fin 512 → EReal) (w : Fin 512 → Fin 512 → EReal) (b d : Fin 512 → EReal) (j : Fin 512) : EReal :=
  act (y j) * d j * tilt ((∑ k, act (y k) * w k j) + b j)

/-- The gradient of the third branch's rows. -/
def gluBack (y : Fin 512 → EReal) (w : Fin 512 → Fin 512 → EReal) (b d : Fin 512 → EReal) (j : Fin 512) : EReal :=
  steep (y j) (d j * logit ((∑ k, act (y k) * w k j) + b j) + ∑ k, lean y w b d k * w j k)

end Cert.Branches

namespace Cert.BwdMixRefIdeal.Mix
open Cert.BwdMixRefIdeal Cert.BwdMixRefIdeal.Gen Cert.Branches Idealize.ShloMosaic.StableHlo

/-- The columns that gate the first branch. -/
def GA (x0 : FVec Ideal S8192x6656 .f32) : FVec Ideal S8192x512 .f32 :=
  extractStridedSlice S8192x512 ![0, 512] x0 slices_S8192x6656_S8192x512_0_512

/-- The columns that enter the third branch. -/
def UC (x0 : FVec Ideal S8192x6656 .f32) : FVec Ideal S8192x512 .f32 :=
  extractStridedSlice S8192x512 ![0, 6144] x0 slices_S8192x6656_S8192x512_0_6144

/-- The first gate's bent columns. -/
def BENDA (x0 : FVec Ideal S8192x6656 .f32) : FVec Ideal S8192x512 .f32 :=
  Host.tanh (mulf (broadcastInDim S8192x512 ![] bcast_S_S8192x512 (constant S_ .f32 0x3F4C422A#32)) (addf (GA x0) (mulf (broadcastInDim S8192x512 ![] bcast_S_S8192x512 (constant S_ .f32 0x3D372713#32)) (mulf (mulf (GA x0) (GA x0)) (GA x0)))))

/-- Half of one and the bent columns, of the first gate. -/
def HALFA (x0 : FVec Ideal S8192x6656 .f32) : FVec Ideal S8192x512 .f32 :=
  mulf (broadcastInDim S8192x512 ![] bcast_S_S8192x512 (constant S_ .f32 0x3F000000#32)) (addf (broadcastInDim S8192x512 ![] bcast_S_S8192x512 (constant S_ .f32 0x3F800000#32)) (BENDA x0))

/-- The first gate's activation. -/
def GELUA (x0 : FVec Ideal S8192x6656 .f32) : FVec Ideal S8192x512 .f32 :=
  mulf (GA x0) (HALFA x0)

/-- The second branch's rows by heads. -/
def OH (x2 : FVec Ideal S8192x512 .f32) : FVec Ideal S8192x4x128 .f32 :=
  shapeCast _ x2 shapeCasts_S8192x512_S8192x4x128

/-- The mean square of a head and its least. -/
def LEVEL (x2 : FVec Ideal S8192x512 .f32) : FVec Ideal S8192x4x1 .f32 :=
  addf (Host.divf (broadcastInDim S8192x4x1 ![0, 1] bcast_S8192x4_S8192x4x1_0_1 (Host.reduceAdd (mulf (OH x2) (OH x2)) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32))

/-- One over the root of a head's mean square. -/
def ROOT (x2 : FVec Ideal S8192x512 .f32) : FVec Ideal S8192x4x1 .f32 :=
  Host.rsqrt (LEVEL x2)

/-- The normed heads. -/
def NORMED (x2 : FVec Ideal S8192x512 .f32) : FVec Ideal S8192x4x128 .f32 :=
  mulf (OH x2) (broadcastInDim S8192x4x128 ![0, 1, 2] bcast_S8192x4x1_S8192x4x128_0_1_2 (ROOT x2))

/-- The heads' scale. -/
def BN (x4 : FVec Ideal S1x512 .f32) : FVec Ideal S1x4x128 .f32 :=
  broadcastInDim S1x4x128 ![1, 2] bcast_S4x128_S1x4x128_1_2 (shapeCast _ x4 shapeCasts_S1x512_S4x128)

/-- The scaled heads. -/
def SCALED (x2 : FVec Ideal S8192x512 .f32) (x4 : FVec Ideal S1x512 .f32) : FVec Ideal S8192x4x128 .f32 :=
  mulf (NORMED x2) (broadcastInDim S8192x4x128 ![0, 1, 2] bcast_S1x4x128_S8192x4x128_0_1_2 (BN x4))

/-- The columns that gate the second branch, by heads. -/
def Z (x0 : FVec Ideal S8192x6656 .f32) : FVec Ideal S8192x4x128 .f32 :=
  shapeCast _ (extractStridedSlice S8192x512 ![0, 2560] x0 slices_S8192x6656_S8192x512_0_2560) shapeCasts_S8192x512_S8192x4x128

/-- Their logistic function. -/
def SIGZ (x0 : FVec Ideal S8192x6656 .f32) : FVec Ideal S8192x4x128 .f32 :=
  Host.divf (broadcastInDim S8192x4x128 ![] bcast_S_S8192x4x128 (constant S_ .f32 0x3F800000#32)) (addf (broadcastInDim S8192x4x128 ![] bcast_S_S8192x4x128 (constant S_ .f32 0x3F800000#32)) (Host.exp (Host.negf (Z x0))))

/-- The second gate's activation. -/
def SILU (x0 : FVec Ideal S8192x6656 .f32) : FVec Ideal S8192x4x128 .f32 :=
  mulf (Z x0) (SIGZ x0)

/-- The third branch's rows with their input added. -/
def SKIP (x0 : FVec Ideal S8192x6656 .f32) (x3 : FVec Ideal S8192x512 .f32) (x5 : FVec Ideal S1x512 .f32) : FVec Ideal S8192x512 .f32 :=
  addf x3 (mulf (broadcastInDim S8192x512 ![0, 1] bcast_S1x512_S8192x512_0_1 x5) (UC x0))

/-- The third branch's bent rows. -/
def BENDC (x0 : FVec Ideal S8192x6656 .f32) (x3 : FVec Ideal S8192x512 .f32) (x5 : FVec Ideal S1x512 .f32) : FVec Ideal S8192x512 .f32 :=
  Host.tanh (mulf (broadcastInDim S8192x512 ![] bcast_S_S8192x512 (constant S_ .f32 0x3F4C422A#32)) (addf (SKIP x0 x3 x5) (mulf (broadcastInDim S8192x512 ![] bcast_S_S8192x512 (constant S_ .f32 0x3D372713#32)) (mulf (mulf (SKIP x0 x3 x5) (SKIP x0 x3 x5)) (SKIP x0 x3 x5)))))

/-- Half of one and the bent rows, of the third branch. -/
def HALFC (x0 : FVec Ideal S8192x6656 .f32) (x3 : FVec Ideal S8192x512 .f32) (x5 : FVec Ideal S1x512 .f32) : FVec Ideal S8192x512 .f32 :=
  mulf (broadcastInDim S8192x512 ![] bcast_S_S8192x512 (constant S_ .f32 0x3F000000#32)) (addf (broadcastInDim S8192x512 ![] bcast_S_S8192x512 (constant S_ .f32 0x3F800000#32)) (BENDC x0 x3 x5))

/-- The third branch's activation. -/
def GELUC (x0 : FVec Ideal S8192x6656 .f32) (x3 : FVec Ideal S8192x512 .f32) (x5 : FVec Ideal S1x512 .f32) : FVec Ideal S8192x512 .f32 :=
  mulf (SKIP x0 x3 x5) (HALFC x0 x3 x5)

/-- The third branch's gate. -/
def SIGC (x0 : FVec Ideal S8192x6656 .f32) (x3 : FVec Ideal S8192x512 .f32) (x5 : FVec Ideal S1x512 .f32) (x6 : FVec Ideal S512x512 .f32) (x7 : FVec Ideal S1x512 .f32) : FVec Ideal S8192x512 .f32 :=
  Host.divf (broadcastInDim S8192x512 ![] bcast_S_S8192x512 (constant S_ .f32 0x3F800000#32)) (addf (broadcastInDim S8192x512 ![] bcast_S_S8192x512 (constant S_ .f32 0x3F800000#32)) (Host.exp (Host.negf (addf (Host.dotGeneral dot_S8192x512_S512x512_S8192x512_1_0_0_1_n_n none (GELUC x0 x3 x5) x6) (broadcastInDim S8192x512 ![0, 1] bcast_S1x512_S8192x512_0_1 x7)))))

/-- The second branch's given gradient, by heads. -/
def DB (x9 : FVec Ideal S8192x512 .f32) : FVec Ideal S8192x4x128 .f32 :=
  shapeCast _ x9 shapeCasts_S8192x512_S8192x4x128

/-- The gradient of the third branch's product. -/
def LEAN (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S8192x512 .f32 :=
  mulf (mulf (GELUC x0 x3 x5) x10) (mulf (SIGC x0 x3 x5 x6 x7) (subf (broadcastInDim S8192x512 ![] bcast_S_S8192x512 (constant S_ .f32 0x3F800000#32)) (SIGC x0 x3 x5 x6 x7)))

/-- The gradient of the third branch's activation. -/
def DGLU (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S8192x512 .f32 :=
  addf (mulf x10 (SIGC x0 x3 x5 x6 x7)) (Host.dotGeneral dot_S8192x512_S512x512_S8192x512_1_1_0_0_n_n none (LEAN x0 x3 x5 x6 x7 x10) x6)

/-- That gradient through the bent rows. -/
def BENTC (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S8192x512 .f32 :=
  mulf (broadcastInDim S8192x512 ![] bcast_S_S8192x512 (constant S_ .f32 0x3F4C422A#32)) (mulf (mulf (broadcastInDim S8192x512 ![] bcast_S_S8192x512 (constant S_ .f32 0x3F000000#32)) (mulf (SKIP x0 x3 x5) (DGLU x0 x3 x5 x6 x7 x10))) (mulf (addf (broadcastInDim S8192x512 ![] bcast_S_S8192x512 (constant S_ .f32 0x3F800000#32)) (BENDC x0 x3 x5)) (subf (broadcastInDim S8192x512 ![] bcast_S_S8192x512 (constant S_ .f32 0x3F800000#32)) (BENDC x0 x3 x5))))

/-- The gradient of the third branch's rows. -/
def DSKIP (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S8192x512 .f32 :=
  addf (addf (mulf (DGLU x0 x3 x5 x6 x7 x10) (HALFC x0 x3 x5)) (BENTC x0 x3 x5 x6 x7 x10)) (mulf (mulf (broadcastInDim S8192x512 ![] bcast_S_S8192x512 (constant S_ .f32 0x3D372713#32)) (BENTC x0 x3 x5 x6 x7 x10)) (mulf (broadcastInDim S8192x512 ![] bcast_S_S8192x512 (constant S_ .f32 0x40400000#32)) (mulf (SKIP x0 x3 x5) (SKIP x0 x3 x5))))

/-- The gradient of the second gate's activation. -/
def DSILU (x2 : FVec Ideal S8192x512 .f32) (x4 : FVec Ideal S1x512 .f32) (x9 : FVec Ideal S8192x512 .f32) : FVec Ideal S8192x4x128 .f32 :=
  mulf (SCALED x2 x4) (DB x9)

/-- The gradient of the scaled heads. -/
def DSCALED (x0 : FVec Ideal S8192x6656 .f32) (x9 : FVec Ideal S8192x512 .f32) : FVec Ideal S8192x4x128 .f32 :=
  mulf (DB x9) (SILU x0)

/-- The gradient of the normed heads. -/
def DNORMED (x0 : FVec Ideal S8192x6656 .f32) (x4 : FVec Ideal S1x512 .f32) (x9 : FVec Ideal S8192x512 .f32) : FVec Ideal S8192x4x128 .f32 :=
  mulf (DSCALED x0 x9) (broadcastInDim S8192x4x128 ![0, 1, 2] bcast_S1x4x128_S8192x4x128_0_1_2 (BN x4))

/-- The gradient of a head's mean square. -/
def DLEVEL (x0 : FVec Ideal S8192x6656 .f32) (x2 : FVec Ideal S8192x512 .f32) (x4 : FVec Ideal S1x512 .f32) (x9 : FVec Ideal S8192x512 .f32) : FVec Ideal S8192x4x128 .f32 :=
  broadcastInDim S8192x4x128 ![0, 1] bcast_S8192x4_S8192x4x128_0_1 (Host.reduceAdd (Host.divf (mulf (shapeCast _ (Host.reduceAdd (mulf (OH x2) (DNORMED x0 x4 x9)) (constant S_ .f32 0x00000000#32) reducesTo_S8192x4x128_S8192x4_d2 h_S_) shapeCasts_S8192x4_S8192x4x1) (mulf (broadcastInDim S8192x4x1 ![] bcast_S_S8192x4x1 (constant S_ .f32 0xBF000000#32)) (Host.divf (ROOT x2) (LEVEL x2)))) (broadcastInDim S8192x4x1 ![] bcast_S_S8192x4x1 (constant S_ .f32 0x43000000#32))) (constant S_ .f32 0x00000000#32) reducesTo_S8192x4x1_S8192x4_d2 h_S_)

/-- The gradient of the first gate's activation. -/
def DGELU (x1 : FVec Ideal S8192x512 .f32) (x8 : FVec Ideal S8192x512 .f32) : FVec Ideal S8192x512 .f32 :=
  mulf x1 x8

/-- That gradient through the bent columns. -/
def BENTA (x0 : FVec Ideal S8192x6656 .f32) (x1 : FVec Ideal S8192x512 .f32) (x8 : FVec Ideal S8192x512 .f32) : FVec Ideal S8192x512 .f32 :=
  mulf (broadcastInDim S8192x512 ![] bcast_S_S8192x512 (constant S_ .f32 0x3F4C422A#32)) (mulf (mulf (broadcastInDim S8192x512 ![] bcast_S_S8192x512 (constant S_ .f32 0x3F000000#32)) (mulf (GA x0) (DGELU x1 x8))) (mulf (addf (broadcastInDim S8192x512 ![] bcast_S_S8192x512 (constant S_ .f32 0x3F800000#32)) (BENDA x0)) (subf (broadcastInDim S8192x512 ![] bcast_S_S8192x512 (constant S_ .f32 0x3F800000#32)) (BENDA x0))))

/-- The gradient of the first branch's rows. -/
def REFHA (x0 : FVec Ideal S8192x6656 .f32) (x8 : FVec Ideal S8192x512 .f32) : FVec Ideal S8192x512 .f32 :=
  mulf x8 (GELUA x0)

/-- The gradient of the first branch's gate. -/
def REFGA (x0 : FVec Ideal S8192x6656 .f32) (x1 : FVec Ideal S8192x512 .f32) (x8 : FVec Ideal S8192x512 .f32) : FVec Ideal S8192x512 .bf16 :=
  truncf .bf16 (addf (addf (mulf (DGELU x1 x8) (HALFA x0)) (BENTA x0 x1 x8)) (mulf (mulf (broadcastInDim S8192x512 ![] bcast_S_S8192x512 (constant S_ .f32 0x3D372713#32)) (BENTA x0 x1 x8)) (mulf (broadcastInDim S8192x512 ![] bcast_S_S8192x512 (constant S_ .f32 0x40400000#32)) (mulf (GA x0) (GA x0))))) bitsLt_bf16_f32

/-- The gradient of the second branch's rows. -/
def REFO (x0 : FVec Ideal S8192x6656 .f32) (x2 : FVec Ideal S8192x512 .f32) (x4 : FVec Ideal S1x512 .f32) (x9 : FVec Ideal S8192x512 .f32) : FVec Ideal S8192x512 .f32 :=
  shapeCast _ (addf (addf (mulf (DNORMED x0 x4 x9) (broadcastInDim S8192x4x128 ![0, 1, 2] bcast_S8192x4x1_S8192x4x128_0_1_2 (ROOT x2))) (mulf (OH x2) (DLEVEL x0 x2 x4 x9))) (mulf (DLEVEL x0 x2 x4 x9) (OH x2))) shapeCasts_S8192x4x128_S8192x512

/-- The gradient of the second branch's gate. -/
def REFZ (x0 : FVec Ideal S8192x6656 .f32) (x2 : FVec Ideal S8192x512 .f32) (x4 : FVec Ideal S1x512 .f32) (x9 : FVec Ideal S8192x512 .f32) : FVec Ideal S8192x512 .bf16 :=
  truncf .bf16 (shapeCast _ (addf (mulf (DSILU x2 x4 x9) (SIGZ x0)) (mulf (mulf (Z x0) (DSILU x2 x4 x9)) (mulf (SIGZ x0) (subf (broadcastInDim S8192x4x128 ![] bcast_S_S8192x4x128 (constant S_ .f32 0x3F800000#32)) (SIGZ x0))))) shapeCasts_S8192x4x128_S8192x512) bitsLt_bf16_f32

/-- The gradient of the third branch's rows. -/
def REFY (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S8192x512 .bf16 :=
  truncf .bf16 (DSKIP x0 x3 x5 x6 x7 x10) bitsLt_bf16_f32

/-- The gradient of the third branch's input. -/
def REFUC (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S8192x512 .f32 :=
  mulf (broadcastInDim S8192x512 ![0, 1] bcast_S1x512_S8192x512_0_1 x5) (DSKIP x0 x3 x5 x6 x7 x10)

/-- The gradient of the heads' scale. -/
def REFBN (x0 : FVec Ideal S8192x6656 .f32) (x2 : FVec Ideal S8192x512 .f32) (x9 : FVec Ideal S8192x512 .f32) : FVec Ideal S1x512 .f32 :=
  shapeCast _ (Host.reduceAdd (shapeCast _ (Host.reduceAdd (mulf (NORMED x2) (DSCALED x0 x9)) (constant S_ .f32 0x00000000#32) reducesTo_S8192x4x128_S4x128_d0 h_S_) shapeCasts_S4x128_S1x4x128) (constant S_ .f32 0x00000000#32) reducesTo_S1x4x128_S4x128_d0 h_S_) shapeCasts_S4x128_S1x512

/-- The gradient of the input's scale. -/
def REFCD (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S1x512 .f32 :=
  shapeCast _ (Host.reduceAdd (mulf (DSKIP x0 x3 x5 x6 x7 x10) (UC x0)) (constant S_ .f32 0x00000000#32) reducesTo_S8192x512_S512_d0 h_S_) shapeCasts_S512_S1x512

/-- The gradient of the third branch's weight. -/
def REFW (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S512x512 .f32 :=
  transpose S512x512 [1, 0] (Host.dotGeneral dot_S8192x512_S8192x512_S512x512_0_0_1_1_n_n none (LEAN x0 x3 x5 x6 x7 x10) (GELUC x0 x3 x5)) transposes_S512x512_S512x512_1_0

/-- The gradient of the third branch's bias. -/
def REFBG (x0 : FVec Ideal S8192x6656 .f32) (x3 : FVec Ideal S8192x512 .f32) (x5 : FVec Ideal S1x512 .f32) (x6 : FVec Ideal S512x512 .f32) (x7 : FVec Ideal S1x512 .f32) (x10 : FVec Ideal S8192x512 .f32) : FVec Ideal S1x512 .f32 :=
  shapeCast _ (Host.reduceAdd (LEAN x0 x3 x5 x6 x7 x10) (constant S_ .f32 0x00000000#32) reducesTo_S8192x512_S512_d0 h_S_) shapeCasts_S512_S1x512

/-- The reference's result: the gradient of the first branch's rows. -/
theorem resHA (m : (ℓ : Loc nD τ sig) → Buf (Elt Ideal) ℓ) (c : Dev nD) :
    (mulf ((launchContents m c) (Proc.devRef .tc main_arg8)) (Value.res_main_v23 (launchContents m c)) : FVec Ideal S8192x512 .f32) = REFHA (m ((c.tc : Thread nD τ).loc main_arg0)) (m ((c.tc : Thread nD τ).loc main_arg8)) := rfl

/-- The reference's result: the gradient of the first branch's gate. -/
theorem resGA (m : (ℓ : Loc nD τ sig) → Buf (Elt Ideal) ℓ) (c : Dev nD) :
    (truncf .bf16 (addf (addf (mulf (Value.res_main_v137 (launchContents m c)) (Value.res_main_v22 (launchContents m c))) (Value.res_main_v145 (launchContents m c))) (mulf (mulf (broadcastInDim S8192x512 ![] bcast_S_S8192x512 (constant S_ .f32 0x3D372713#32)) (Value.res_main_v145 (launchContents m c))) (mulf (broadcastInDim S8192x512 ![] bcast_S_S8192x512 (constant S_ .f32 0x40400000#32)) (mulf (Value.res_main_v0 (launchContents m c)) (Value.res_main_v0 (launchContents m c)))))) bitsLt_bf16_f32 : FVec Ideal S8192x512 .bf16) = REFGA (m ((c.tc : Thread nD τ).loc main_arg0)) (m ((c.tc : Thread nD τ).loc main_arg1)) (m ((c.tc : Thread nD τ).loc main_arg8)) := rfl

/-- The reference's result: the gradient of the second branch's rows. -/
theorem resO (m : (ℓ : Loc nD τ sig) → Buf (Elt Ideal) ℓ) (c : Dev nD) :
    (shapeCast _ (addf (addf (mulf (Value.res_main_v119 (launchContents m c)) (broadcastInDim S8192x4x128 ![0, 1, 2] bcast_S8192x4x1_S8192x4x128_0_1_2 (Value.res_main_v34 (launchContents m c)))) (mulf (Value.res_main_v25 (launchContents m c)) (Value.res_main_v130 (launchContents m c)))) (mulf (Value.res_main_v130 (launchContents m c)) (Value.res_main_v25 (launchContents m c)))) shapeCasts_S8192x4x128_S8192x512 : FVec Ideal S8192x512 .f32) = REFO (m ((c.tc : Thread nD τ).loc main_arg0)) (m ((c.tc : Thread nD τ).loc main_arg2)) (m ((c.tc : Thread nD τ).loc main_arg4)) (m ((c.tc : Thread nD τ).loc main_arg9)) := rfl

/-- The reference's result: the gradient of the second branch's gate. -/
theorem resZ (m : (ℓ : Loc nD τ sig) → Buf (Elt Ideal) ℓ) (c : Dev nD) :
    (truncf .bf16 (shapeCast _ (addf (mulf (Value.res_main_v111 (launchContents m c)) (Value.res_main_v44_2 (launchContents m c))) (mulf (mulf (Value.res_main_v43 (launchContents m c)) (Value.res_main_v111 (launchContents m c))) (mulf (Value.res_main_v44_2 (launchContents m c)) (subf (broadcastInDim S8192x4x128 ![] bcast_S_S8192x4x128 (constant S_ .f32 0x3F800000#32)) (Value.res_main_v44_2 (launchContents m c)))))) shapeCasts_S8192x4x128_S8192x512) bitsLt_bf16_f32 : FVec Ideal S8192x512 .bf16) = REFZ (m ((c.tc : Thread nD τ).loc main_arg0)) (m ((c.tc : Thread nD τ).loc main_arg2)) (m ((c.tc : Thread nD τ).loc main_arg4)) (m ((c.tc : Thread nD τ).loc main_arg9)) := rfl

/-- The reference's result: the gradient of the third branch's rows. -/
theorem resY (m : (ℓ : Loc nD τ sig) → Buf (Elt Ideal) ℓ) (c : Dev nD) :
    (truncf .bf16 (Value.res_main_v105 (launchContents m c)) bitsLt_bf16_f32 : FVec Ideal S8192x512 .bf16) = REFY (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg10)) := rfl

/-- The reference's result: the gradient of the third branch's input. -/
theorem resUC (m : (ℓ : Loc nD τ sig) → Buf (Elt Ideal) ℓ) (c : Dev nD) :
    (mulf (broadcastInDim S8192x512 ![0, 1] bcast_S1x512_S8192x512_0_1 ((launchContents m c) (Proc.devRef .tc main_arg5))) (Value.res_main_v105 (launchContents m c)) : FVec Ideal S8192x512 .f32) = REFUC (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg10)) := rfl

/-- The reference's result: the gradient of the heads' scale. -/
theorem resBN (m : (ℓ : Loc nD τ sig) → Buf (Elt Ideal) ℓ) (c : Dev nD) :
    (shapeCast _ (Host.reduceAdd (shapeCast _ (Host.reduceAdd (mulf (Value.res_main_v39 (launchContents m c)) (Value.res_main_v112 (launchContents m c))) (constant S_ .f32 0x00000000#32) reducesTo_S8192x4x128_S4x128_d0 h_S_) shapeCasts_S4x128_S1x4x128) (constant S_ .f32 0x00000000#32) reducesTo_S1x4x128_S4x128_d0 h_S_) shapeCasts_S4x128_S1x512 : FVec Ideal S1x512 .f32) = REFBN (m ((c.tc : Thread nD τ).loc main_arg0)) (m ((c.tc : Thread nD τ).loc main_arg2)) (m ((c.tc : Thread nD τ).loc main_arg9)) := rfl

/-- The reference's result: the gradient of the input's scale. -/
theorem resCD (m : (ℓ : Loc nD τ sig) → Buf (Elt Ideal) ℓ) (c : Dev nD) :
    (shapeCast _ (Host.reduceAdd (mulf (Value.res_main_v105 (launchContents m c)) (Value.res_main_v2 (launchContents m c))) (constant S_ .f32 0x00000000#32) reducesTo_S8192x512_S512_d0 h_S_) shapeCasts_S512_S1x512 : FVec Ideal S1x512 .f32) = REFCD (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg10)) := rfl

/-- The reference's result: the gradient of the third branch's weight. -/
theorem resW (m : (ℓ : Loc nD τ sig) → Buf (Elt Ideal) ℓ) (c : Dev nD) :
    (transpose S512x512 [1, 0] (Host.dotGeneral (φ₁ := .f32) (φ₂ := .f32) dot_S8192x512_S8192x512_S512x512_0_0_1_1_n_n none (Value.res_main_v87 (launchContents m c)) (Value.res_main_v69 (launchContents m c))) transposes_S512x512_S512x512_1_0 : FVec Ideal S512x512 .f32) = REFW (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg10)) := rfl

/-- The reference's result: the gradient of the third branch's bias. -/
theorem resBG (m : (ℓ : Loc nD τ sig) → Buf (Elt Ideal) ℓ) (c : Dev nD) :
    (shapeCast _ (Host.reduceAdd (Value.res_main_v87 (launchContents m c)) (constant S_ .f32 0x00000000#32) reducesTo_S8192x512_S512_d0 h_S_) shapeCasts_S512_S1x512 : FVec Ideal S1x512 .f32) = REFBG (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg10)) := rfl

variable (x0 : FVec Ideal S8192x6656 .f32) (x1 x2 x3 : FVec Ideal S8192x512 .f32) (x4 x5 : FVec Ideal S1x512 .f32) (x6 : FVec Ideal S512x512 .f32) (x7 : FVec Ideal S1x512 .f32) (x8 x9 x10 : FVec Ideal S8192x512 .f32)

/-- The third branch's rows with their input added, of one row. -/
abbrev skipped (i : Fin 8192) (j : Fin 512) : EReal := x3 (ix2 i j) + x5 (ix2 0 j) * x0 (ix2 i ⟨6144 + j.val, by omega⟩)

/-- The gradient of the first branch's rows at an index. -/
theorem ha_apply (i : Fin 8192) (j : Fin 512) : REFHA x0 x8 (ix2 i j) = x8 (ix2 i j) * act (x0 (ix2 i ⟨512 + j.val, by omega⟩)) := by
  rw [← act_eq]
  unfold bend
  pointwise [REFHA, GELUA, HALFA, BENDA, GA]

/-- The gradient of the first branch's gate at an index. -/
theorem ga_apply (i : Fin 8192) (j : Fin 512) :
    REFGA x0 x1 x8 (ix2 i j) = steep (x0 (ix2 i ⟨512 + j.val, by omega⟩)) (x1 (ix2 i j) * x8 (ix2 i j)) := by
  unfold steep bent bend
  pointwise [REFGA, DGELU, HALFA, BENTA, BENDA, GA]

/-- The gradient of the second branch's rows at an index. -/
theorem o_apply (i : Fin 8192) (j : Fin 512) :
    REFO x0 x2 x4 x9 (ix2 i j) = headBack (fun l => x2 (ix2 i l)) (fun l => x4 (ix2 0 l)) (fun l => x0 (ix2 i ⟨2560 + l.val, by omega⟩)) (fun l => x9 (ix2 i l)) j := by
  unfold headBack levelBack given level logit
  pointwise [REFO, DNORMED, DLEVEL, DSCALED, SILU, SIGZ, Z, DB, BN, ROOT, LEVEL, OH]
  simp only [Fin.sum_univ_one]

/-- The gradient of the second branch's gate at an index. -/
theorem z_apply (i : Fin 8192) (j : Fin 512) :
    REFZ x0 x2 x4 x9 (ix2 i j) = gateBack (fun l => x2 (ix2 i l)) (fun l => x4 (ix2 0 l)) (fun l => x0 (ix2 i ⟨2560 + l.val, by omega⟩)) (fun l => x9 (ix2 i l)) j := by
  unfold gateBack tilt level logit
  pointwise [REFZ, DSILU, SCALED, NORMED, SIGZ, Z, DB, BN, ROOT, LEVEL, OH]

/-- The third branch's rows with their input added, at an index. -/
theorem skip_apply (i : Fin 8192) (j : Fin 512) : SKIP x0 x3 x5 (ix2 i j) = skipped x0 x3 x5 i j := by
  pointwise [SKIP, UC]

/-- The third branch's activation at an index. -/
theorem geluc_apply (i : Fin 8192) (j : Fin 512) : GELUC x0 x3 x5 (ix2 i j) = act (skipped x0 x3 x5 i j) := by
  rw [← act_eq, ← skip_apply]
  unfold bend
  pointwise [GELUC, HALFC, BENDC]

/-- The third branch's gate at an index. -/
theorem sigc_apply (i : Fin 8192) (j : Fin 512) :
    SIGC x0 x3 x5 x6 x7 (ix2 i j) = logit ((∑ k, act (skipped x0 x3 x5 i k) * x6 (ix2 k j)) + x7 (ix2 0 j)) := by
  unfold logit
  simp only [← geluc_apply]
  pointwise [SIGC]

/-- The gradient of the third branch's product at an index. -/
theorem lean_apply (i : Fin 8192) (j : Fin 512) :
    LEAN x0 x3 x5 x6 x7 x10 (ix2 i j) = lean (skipped x0 x3 x5 i) (fun k l => x6 (ix2 k l)) (fun l => x7 (ix2 0 l)) (fun l => x10 (ix2 i l)) j := by
  unfold lean tilt
  rw [← geluc_apply, ← sigc_apply]
  pointwise [LEAN]

/-- The gradient of the third branch's activation at an index. -/
theorem dglu_apply (i : Fin 8192) (j : Fin 512) :
    DGLU x0 x3 x5 x6 x7 x10 (ix2 i j) = x10 (ix2 i j) * SIGC x0 x3 x5 x6 x7 (ix2 i j) + ∑ k, LEAN x0 x3 x5 x6 x7 x10 (ix2 i k) * x6 (ix2 j k) := by
  pointwise [DGLU]

/-- The gradient of the third branch's rows at an index. -/
theorem dskip_apply (i : Fin 8192) (j : Fin 512) :
    DSKIP x0 x3 x5 x6 x7 x10 (ix2 i j) = gluBack (skipped x0 x3 x5 i) (fun k l => x6 (ix2 k l)) (fun l => x7 (ix2 0 l)) (fun l => x10 (ix2 i l)) j := by
  have e : DSKIP x0 x3 x5 x6 x7 x10 (ix2 i j) = steep (SKIP x0 x3 x5 (ix2 i j)) (DGLU x0 x3 x5 x6 x7 x10 (ix2 i j)) := by
    unfold steep bent bend
    pointwise [DSKIP, HALFC, BENTC, BENDC]
  rw [e, dglu_apply, sigc_apply, skip_apply]
  simp only [lean_apply]
  rfl

/-- The gradient of the third branch's input at an index. -/
theorem uc_apply (i : Fin 8192) (j : Fin 512) :
    REFUC x0 x3 x5 x6 x7 x10 (ix2 i j) = x5 (ix2 0 j) * gluBack (skipped x0 x3 x5 i) (fun k l => x6 (ix2 k l)) (fun l => x7 (ix2 0 l)) (fun l => x10 (ix2 i l)) j := by
  rw [← dskip_apply]
  pointwise [REFUC]

/-- The gradient of the third branch's rows, as returned. -/
theorem y_apply (i : Fin 8192) (j : Fin 512) :
    REFY x0 x3 x5 x6 x7 x10 (ix2 i j) = gluBack (skipped x0 x3 x5 i) (fun k l => x6 (ix2 k l)) (fun l => x7 (ix2 0 l)) (fun l => x10 (ix2 i l)) j := by
  rw [← dskip_apply]
  pointwise [REFY]

/-- The gradient of the heads' scale at an index. -/
theorem bn_apply (j : Fin 512) :
    REFBN x0 x2 x9 (ix2 0 j) = ∑ i : Fin 8192, scaleBack (fun l => x2 (ix2 i l)) (fun l => x0 (ix2 i ⟨2560 + l.val, by omega⟩)) (fun l => x9 (ix2 i l)) j := by
  unfold scaleBack level logit
  pointwise [REFBN, NORMED, DSCALED, SILU, SIGZ, Z, DB, ROOT, LEVEL, OH]
  simp only [Fin.sum_univ_one]

/-- The gradient of the input's scale at an index. -/
theorem cd_apply (j : Fin 512) :
    REFCD x0 x3 x5 x6 x7 x10 (ix2 0 j) = ∑ i : Fin 8192, gluBack (skipped x0 x3 x5 i) (fun k l => x6 (ix2 k l)) (fun l => x7 (ix2 0 l)) (fun l => x10 (ix2 i l)) j * x0 (ix2 i ⟨6144 + j.val, by omega⟩) := by
  simp only [← dskip_apply]
  pointwise [REFCD, UC]

/-- The gradient of the third branch's weight at an index. -/
theorem w_apply (k j : Fin 512) :
    REFW x0 x3 x5 x6 x7 x10 (ix2 k j) = ∑ i : Fin 8192, lean (skipped x0 x3 x5 i) (fun k l => x6 (ix2 k l)) (fun l => x7 (ix2 0 l)) (fun l => x10 (ix2 i l)) j * act (skipped x0 x3 x5 i k) := by
  simp only [← lean_apply, ← geluc_apply]
  pointwise [REFW]

/-- The gradient of the third branch's bias at an index. -/
theorem bg_apply (j : Fin 512) :
    REFBG x0 x3 x5 x6 x7 x10 (ix2 0 j) = ∑ i : Fin 8192, lean (skipped x0 x3 x5 i) (fun k l => x6 (ix2 k l)) (fun l => x7 (ix2 0 l)) (fun l => x10 (ix2 i l)) j := by
  simp only [← lean_apply]
  pointwise [REFBG]

end Cert.BwdMixRefIdeal.Mix
-- ==== Proof.BwdMixHead.lean ====
/- The gradient of the three branches before their products: the kernel's blocks at an index. -/
module
public import proofs.«01_k».proof.Proof.BwdMixRef
public import proofs.«01_k».proof.Proof.BwdGate
public import proofs.«01_k».proof.Proof.Gen.BwdMixIdeal.Value
public import proofs.«01_k».proof.Proof.Sums
public import Idealize.ShloMosaic.Lib.Pipeline.ValueKit
@[expose] public section
set_option maxRecDepth 16384
noncomputable section
open Idealize.ShloMosaic Idealize.ShloMosaic.TcCoe Idealize.SL.Sem

namespace Cert.Branches

/-- The word of three. -/
theorem three : Ideal.ofBits .f32 0x40400000#32 = 1 + 1 + 1 := by
  rw [show (1 + 1 + 1 : EReal) = ((3 : ℝ) : EReal) by norm_cast]
  simp [Ideal.ofBits, Ideal.ieee, -EReal.coe_mul]; norm_num

/-- Three times is thrice added. -/
theorem thrice (x : EReal) : Ideal.ofBits .f32 0x40400000#32 * x = x + x + x := by
  rw [three, EReal.right_distrib_of_nonneg (by norm_num) (by norm_num), EReal.right_distrib_of_nonneg (by norm_num) (by norm_num), one_mul]

/-- The activation's gradient, the cube's three factors apart. -/
theorem steep_eq (x c : EReal) :
    bent x c + x * x * (Ideal.ofBits .f32 0x3D372713#32 * bent x c) + x * (Ideal.ofBits .f32 0x3D372713#32 * bent x c * x)
      + Ideal.ofBits .f32 0x3D372713#32 * bent x c * x * x + Ideal.ofBits .f32 0x3F000000#32 * (c * (1 + bend x)) = steep x c := by
  unfold steep
  generalize bent x c = a
  generalize bend x = t
  rw [mul_left_comm _ (Ideal.ofBits .f32 0x40400000#32), thrice, mul_left_comm c]
  generalize Ideal.ofBits .f32 0x3D372713#32 * a = b
  rw [mul_comm (x * x) b, mul_comm x (b * x), mul_assoc b x x]
  generalize b * (x * x) = p
  generalize Ideal.ofBits .f32 0x3F000000#32 * (c * (1 + t)) = q
  rw [add_comm q a]
  simp only [add_assoc]
  rw [← add_assoc p p q, ← add_assoc p (p + p) q, add_comm _ q]

/-- The bent part with its half taken first. -/
theorem bent_eq (x c : EReal) :
    Ideal.ofBits .f32 0x3F4C422A#32 * (Ideal.ofBits .f32 0x3F000000#32 * x * c * ((1 + bend x) * (1 - bend x))) = bent x c := by
  unfold bent
  rw [mul_assoc (Ideal.ofBits .f32 0x3F000000#32) x c]

end Cert.Branches

namespace Cert.BwdMixIdeal.Mix
open Cert.BwdMixIdeal Cert.BwdMixIdeal.Gen Cert.Branches
open Cert.BwdGateIdeal.Merge (slope)

section payloads
variable (ha ga o z y0 uc w d1 d2 d3 : Vec Ideal S512x512 .f32) (bn cd bg : Vec Ideal S1x512 .f32)

/-- The first branch's given gradient. -/
theorem pay78_apply (k j : Fin 512) : k0_pay78 d1 d2 d3 (ix2 k j) = d1 (ix2 k j) := by
  pointwise [k0_pay78, k0_pay77]

/-- The second branch's given gradient. -/
theorem pay79_apply (k j : Fin 512) : k0_pay79 d1 d2 d3 (ix2 k j) = d2 (ix2 k j) := by
  pointwise [k0_pay79, k0_pay77]

/-- The third branch's given gradient. -/
theorem pay80_apply (k j : Fin 512) : k0_pay80 d1 d2 d3 (ix2 k j) = d3 (ix2 k j) := by
  have e : ¬ 1024 + j.val < 512 := by omega
  have e' : ¬ 1024 + j.val - 512 < 512 := by omega
  have e'' : 1024 + j.val - 512 - 512 = j.val := by omega
  pointwise [k0_pay80, k0_pay77]
  simp only [e, e', e'', dite_false, Fin.eta]

/-- The gradient of the first branch's rows. -/
theorem ha_apply (d : FVec Ideal S512x512 .f32) (k j : Fin 512) : k0_pay119 (k0_pay11 ga) d (ix2 k j) = d (ix2 k j) * act (ga (ix2 k j)) := by
  unfold act bend
  pointwise [k0_pay119, k0_pay11, k0_pay10, k0_pay8, k0_pay7, k0_pay6]

/-- The gradient of the first branch's gate. -/
theorem ga_apply (d : FVec Ideal S512x512 .f32) (k j : Fin 512) :
    k0_pay120 ha ga (k0_pay6 ga) (k0_pay7 ga) (k0_pay9 ga) (k0_pay10 ga) d (ix2 k j) = steep (ga (ix2 k j)) (ha (ix2 k j) * d (ix2 k j)) := by
  rw [← steep_eq, ← bent_eq]
  unfold bend
  pointwise [k0_pay120, k0_pay10, k0_pay9, k0_pay8, k0_pay7, k0_pay6]

/-- The third branch's rows. -/
theorem y_apply (k j : Fin 512) : k0_pay66 cd y0 uc (ix2 k j) = y0 (ix2 k j) + cd (ix2 0 j) * uc (ix2 k j) := by
  pointwise [k0_pay66]

/-- The third branch's activation. -/
theorem act_apply (k j : Fin 512) : k0_pay72 cd y0 uc (ix2 k j) = act (k0_pay66 cd y0 uc (ix2 k j)) := by
  unfold act bend
  pointwise [k0_pay72, k0_pay71, k0_pay69, k0_pay68, k0_pay67]

/-- The third branch's product. -/
abbrev fed (k j : Fin 512) : EReal := (∑ l, act (k0_pay66 cd y0 uc (ix2 k l)) * w (ix2 l j)) + bg (ix2 0 j)

/-- The third branch's exponential. -/
theorem exp_apply (k j : Fin 512) : k0_pay73 cd w bg y0 uc (ix2 k j) = Ideal.exp (0 - fed y0 uc w cd bg k j) := by
  unfold fed
  simp only [← act_apply]
  pointwise [k0_pay73]

/-- The third branch's gate. -/
theorem gate_apply (k j : Fin 512) : k0_pay75 cd w bg y0 uc (ix2 k j) = logit (fed y0 uc w cd bg k j) := by
  have e : k0_pay75 cd w bg y0 uc (ix2 k j) = Ideal.div 1 (1 + k0_pay73 cd w bg y0 uc (ix2 k j)) := by
    pointwise [k0_pay75, k0_pay74]
  rw [e, exp_apply, zero_sub]
  rfl

/-- The gradient of the third branch's product. -/
theorem lean_apply (d : FVec Ideal S512x512 .f32) (k j : Fin 512) :
    k0_pay81 (k0_pay72 cd y0 uc) (k0_pay73 cd w bg y0 uc) (k0_pay76 cd w bg y0 uc) d (ix2 k j)
      = lean (fun l => k0_pay66 cd y0 uc (ix2 k l)) (fun k l => w (ix2 k l)) (fun l => bg (ix2 0 l)) (fun l => d (ix2 k l)) j := by
  have e : k0_pay81 (k0_pay72 cd y0 uc) (k0_pay73 cd w bg y0 uc) (k0_pay76 cd w bg y0 uc) d (ix2 k j)
      = 0 - (0 - k0_pay72 cd y0 uc (ix2 k j) * d (ix2 k j) * Ideal.div 1 ((1 + k0_pay73 cd w bg y0 uc (ix2 k j)) * (1 + k0_pay73 cd w bg y0 uc (ix2 k j))))
        * k0_pay73 cd w bg y0 uc (ix2 k j) := by
    pointwise [k0_pay81, k0_pay76, k0_pay74]
  rw [e, exp_apply, slope, act_apply]
  rfl

/-- The gradient of the third branch's rows of a block. -/
abbrev BACK (d : FVec Ideal S512x512 .f32) : FVec Ideal S512x512 .f32 :=
  k0_pay84 w (k0_pay66 cd y0 uc) (k0_pay67 cd y0 uc) (k0_pay68 cd y0 uc) (k0_pay70 cd y0 uc) (k0_pay71 cd y0 uc) (k0_pay72 cd y0 uc)
    (k0_pay73 cd w bg y0 uc) (k0_pay75 cd w bg y0 uc) (k0_pay76 cd w bg y0 uc) d

/-- The gradient of the third branch's rows at an index. -/
theorem back_apply (d : FVec Ideal S512x512 .f32) (k j : Fin 512) :
    BACK y0 uc w cd bg d (ix2 k j)
      = gluBack (fun l => k0_pay66 cd y0 uc (ix2 k l)) (fun k l => w (ix2 k l)) (fun l => bg (ix2 0 l)) (fun l => d (ix2 k l)) j := by
  have e : BACK y0 uc w cd bg d (ix2 k j) = steep (k0_pay66 cd y0 uc (ix2 k j)) (d (ix2 k j) * k0_pay75 cd w bg y0 uc (ix2 k j)
      + ∑ l, k0_pay81 (k0_pay72 cd y0 uc) (k0_pay73 cd w bg y0 uc) (k0_pay76 cd w bg y0 uc) d (ix2 k l) * w (ix2 j l)) := by
    rw [← steep_eq, ← bent_eq]
    unfold bend
    pointwise [k0_pay84, k0_pay71, k0_pay70, k0_pay69, k0_pay68, k0_pay67]
  rw [e, gate_apply]
  simp only [lean_apply]
  rfl

/-- The gradient of the third branch's input. -/
theorem uc_apply (d : FVec Ideal S512x512 .f32) (k j : Fin 512) :
    k0_pay85 cd w (k0_pay66 cd y0 uc) (k0_pay67 cd y0 uc) (k0_pay68 cd y0 uc) (k0_pay70 cd y0 uc) (k0_pay71 cd y0 uc) (k0_pay72 cd y0 uc)
      (k0_pay73 cd w bg y0 uc) (k0_pay75 cd w bg y0 uc) (k0_pay76 cd w bg y0 uc) d (ix2 k j) = cd (ix2 0 j) * BACK y0 uc w cd bg d (ix2 k j) := by
  pointwise [k0_pay85]

/-- One block's part of the gradient of the input's scale. -/
theorem cd_part (d : FVec Ideal S512x512 .f32) (acc : Vec Ideal S1x512 .f32) (j : S1x512.Idx) :
    k0_pay124 (k0_pay86 w uc (k0_pay66 cd y0 uc) (k0_pay67 cd y0 uc) (k0_pay68 cd y0 uc) (k0_pay70 cd y0 uc) (k0_pay71 cd y0 uc) (k0_pay72 cd y0 uc)
      (k0_pay73 cd w bg y0 uc) (k0_pay75 cd w bg y0 uc) (k0_pay76 cd w bg y0 uc) d) acc j
      = acc j + ∑ k : Fin 512, BACK y0 uc w cd bg d (ix2 k (j 1)) * uc (ix2 k (j 1)) := by
  pointwise [k0_pay124, k0_pay86]

/-- One block's part of the gradient of the third branch's weight. -/
theorem w_part (a b e d : FVec Ideal S512x512 .f32) (acc : Vec Ideal S512x512 .f32) (j : S512x512.Idx) :
    k0_pay125 (k0_pay83 a b e d) acc j = acc j + ∑ k : Fin 512, a (ix2 k (j 0)) * k0_pay81 a b e d (ix2 k (j 1)) := by
  pointwise [k0_pay125, k0_pay83]

/-- One block's part of the gradient of the third branch's bias. -/
theorem bg_part (a b e d : FVec Ideal S512x512 .f32) (acc : Vec Ideal S1x512 .f32) (j : S1x512.Idx) :
    k0_pay1 (k0_pay82 a b e d) acc j = acc j + ∑ k : Fin 512, k0_pay81 a b e d (ix2 k (j 1)) := by
  pointwise [k0_pay1, k0_pay82]

/-- Four heads side by side at an index. -/
theorem stack_eq {a3 a2 a1 a0 : FVec Ideal S512x128 .f32} {f : Fin 512 → EReal} {k : Fin 512} (j : Fin 512)
    (h0 : ∀ l : Fin 128, a0 (ix2 k l) = f ⟨0 + l.val, by omega⟩) (h1 : ∀ l : Fin 128, a1 (ix2 k l) = f ⟨128 + l.val, by omega⟩)
    (h2 : ∀ l : Fin 128, a2 (ix2 k l) = f ⟨256 + l.val, by omega⟩) (h3 : ∀ l : Fin 128, a3 (ix2 k l) = f ⟨384 + l.val, by omega⟩) :
    k0_pay118 a3 a2 a1 a0 (ix2 k j) = f j := by
  pointwise [k0_pay118]
  by_cases g : j.val < 128
  · have g' : j.val < 256 := by omega
    have g'' : j.val < 384 := by omega
    simp only [g, g', g'', dite_true, dite_false, zero_add, add_zero, h0, Fin.eta]
  · by_cases g' : j.val < 256
    · have g'' : j.val < 384 := by omega
      have e : 128 + (j.val - 128) = j.val := by omega
      simp only [g, g', g'', dite_true, dite_false, zero_add, add_zero, h1, e, Fin.eta]
    · by_cases g'' : j.val < 384
      · have e : 256 + (j.val - 256) = j.val := by omega
        simp only [g, g', g'', dite_true, dite_false, zero_add, add_zero, h2, e, Fin.eta]
      · have e : 384 + (j.val - 384) = j.val := by omega
        simp only [g, g', g'', dite_true, dite_false, zero_add, add_zero, h3, e, Fin.eta]

/-- Four heads of rows side by side at an index, the first's gradient still in its parts. -/
theorem stack_gate {e a b a3 a2 a1 : FVec Ideal S512x128 .f32} {f : Fin 512 → EReal} {k : Fin 512} (j : Fin 512)
    (h0 : ∀ l : Fin 128, a (ix2 k l) + (0 - (0 - b (ix2 k l)) * e (ix2 k l)) = f ⟨0 + l.val, by omega⟩)
    (h1 : ∀ l : Fin 128, a1 (ix2 k l) = f ⟨128 + l.val, by omega⟩)
    (h2 : ∀ l : Fin 128, a2 (ix2 k l) = f ⟨256 + l.val, by omega⟩) (h3 : ∀ l : Fin 128, a3 (ix2 k l) = f ⟨384 + l.val, by omega⟩) :
    k0_pay121 (k0_pay114 e a3 a2 a1 a b) (ix2 k j) = f j := by
  pointwise [k0_pay121, k0_pay114]
  by_cases g : j.val < 128
  · have g' : j.val < 256 := by omega
    have g'' : j.val < 384 := by omega
    simp only [g, g', g'', dite_true, dite_false, zero_add, add_zero, h0, Fin.eta]
  · by_cases g' : j.val < 256
    · have g'' : j.val < 384 := by omega
      have e : 128 + (j.val - 128) = j.val := by omega
      simp only [g, g', g'', dite_true, dite_false, zero_add, add_zero, h1, e, Fin.eta]
    · by_cases g'' : j.val < 384
      · have e : 256 + (j.val - 256) = j.val := by omega
        simp only [g, g', g'', dite_true, dite_false, zero_add, add_zero, h2, e, Fin.eta]
      · have e : 384 + (j.val - 384) = j.val := by omega
        simp only [g, g', g'', dite_true, dite_false, zero_add, add_zero, h3, e, Fin.eta]

/-- Four heads' scales side by side at an index. -/
theorem stack_row {a3 a2 a1 a0 : FVec Ideal S1x128 .f32} {f : Fin 512 → EReal} (j : Fin 512)
    (h0 : ∀ l : Fin 128, a0 (ix2 0 l) = f ⟨0 + l.val, by omega⟩) (h1 : ∀ l : Fin 128, a1 (ix2 0 l) = f ⟨128 + l.val, by omega⟩)
    (h2 : ∀ l : Fin 128, a2 (ix2 0 l) = f ⟨256 + l.val, by omega⟩) (h3 : ∀ l : Fin 128, a3 (ix2 0 l) = f ⟨384 + l.val, by omega⟩) :
    k0_pay117 a1 a0 (k0_pay115 a3) (FloatOps.ofBits FTy.f32 0x00000000#32) (k0_pay116 a2) (ix2 0 j) = f j := by
  pointwise [k0_pay117, k0_pay116, k0_pay115]
  by_cases g : j.val < 128
  · have g' : j.val < 256 := by omega
    have g'' : j.val < 384 := by omega
    simp only [g, g', g'', dite_true, dite_false, zero_add, add_zero, h0, Fin.eta]
  · by_cases g' : j.val < 256
    · have g'' : j.val < 384 := by omega
      have e : 128 + (j.val - 128) = j.val := by omega
      simp only [g, g', g'', dite_true, dite_false, zero_add, add_zero, h1, e, Fin.eta]
    · by_cases g'' : j.val < 384
      · have e : 256 + (j.val - 256) = j.val := by omega
        simp only [g, g', g'', dite_true, dite_false, zero_add, add_zero, h2, e, Fin.eta]
      · have e : 384 + (j.val - 384) = j.val := by omega
        simp only [g, g', g'', dite_true, dite_false, zero_add, add_zero, h3, e, Fin.eta]

variable (d : FVec Ideal S512x512 .f32)

/-- The gradient of the first head's rows. -/
theorem o0_apply (k : Fin 512) (l : Fin 128) :
    k0_pay113 (k0_pay12 o) (k0_pay16 bn) (k0_pay26 (k0_pay24 o)) (k0_pay27 (k0_pay24 o)) (k0_pay109 (k0_pay34 (k0_pay20 z)) (k0_pay87 d)) (ix2 k l)
      = headBack (fun l => o (ix2 k l)) (fun l => bn (ix2 0 l)) (fun l => z (ix2 k l)) (fun l => d (ix2 k l)) ⟨0 + l.val, by omega⟩ := by
  have e : (0 + l.val) / 128 * 128 = 0 := by omega
  unfold headBack levelBack given level logit
  simp only [e, ← zero_sub]
  pointwise [k0_pay113, k0_pay109, k0_pay87, k0_pay34, k0_pay32, k0_pay31, k0_pay30, k0_pay27, k0_pay26, k0_pay25, k0_pay24, k0_pay20, k0_pay16, k0_pay12]
  simp only [Fin.sum_univ_one]

/-- The gradient of the second head's rows. -/
theorem o1_apply (k : Fin 512) (l : Fin 128) :
    k0_pay107 (k0_pay13 o) (k0_pay17 bn) (k0_pay36 (k0_pay13 o)) (k0_pay37 (k0_pay13 o)) (k0_pay44 (k0_pay21 z) (k0_pay42 (k0_pay21 z))) (k0_pay88 d) (ix2 k l)
      = headBack (fun l => o (ix2 k l)) (fun l => bn (ix2 0 l)) (fun l => z (ix2 k l)) (fun l => d (ix2 k l)) ⟨128 + l.val, by omega⟩ := by
  have e : (128 + l.val) / 128 * 128 = 128 := by omega
  unfold headBack levelBack given level logit
  simp only [e, ← zero_sub]
  pointwise [k0_pay107, k0_pay104, k0_pay88, k0_pay44, k0_pay42, k0_pay41, k0_pay40, k0_pay37, k0_pay36, k0_pay35, k0_pay21, k0_pay17, k0_pay13]
  simp only [Fin.sum_univ_one]

/-- The gradient of the third head's rows. -/
theorem o2_apply (k : Fin 512) (l : Fin 128) :
    k0_pay103 (k0_pay14 o) (k0_pay46 (k0_pay14 o)) (k0_pay47 (k0_pay14 o)) (k0_pay101 (k0_pay18 bn) (k0_pay54 (k0_pay22 z)) (k0_pay89 d)) (k0_pay102 (k0_pay14 o) (k0_pay18 bn) (k0_pay54 (k0_pay22 z)) (k0_pay89 d)) (ix2 k l)
      = headBack (fun l => o (ix2 k l)) (fun l => bn (ix2 0 l)) (fun l => z (ix2 k l)) (fun l => d (ix2 k l)) ⟨256 + l.val, by omega⟩ := by
  have e : (256 + l.val) / 128 * 128 = 256 := by omega
  unfold headBack levelBack given level logit
  simp only [e, ← zero_sub]
  pointwise [k0_pay103, k0_pay102, k0_pay101, k0_pay98, k0_pay89, k0_pay54, k0_pay52, k0_pay51, k0_pay50, k0_pay47, k0_pay46, k0_pay45, k0_pay22, k0_pay18, k0_pay14]
  simp only [Fin.sum_univ_one]

/-- The gradient of the fourth head's rows. -/
theorem o3_apply (k : Fin 512) (l : Fin 128) :
    k0_pay97 (k0_pay15 o) (k0_pay19 bn) (k0_pay56 (k0_pay15 o)) (k0_pay57 (k0_pay15 o)) (k0_pay92 (k0_pay65 (k0_pay23 z) (k0_pay60 (k0_pay23 z)) k0_pay61) d) (ix2 k l)
      = headBack (fun l => o (ix2 k l)) (fun l => bn (ix2 0 l)) (fun l => z (ix2 k l)) (fun l => d (ix2 k l)) ⟨384 + l.val, by omega⟩ := by
  have e : (384 + l.val) / 128 * 128 = 384 := by omega
  unfold headBack levelBack given level logit
  simp only [e, ← zero_sub]
  pointwise [k0_pay97, k0_pay92, k0_pay90, k0_pay65, k0_pay63, k0_pay62, k0_pay61, k0_pay60, k0_pay57, k0_pay56, k0_pay55, k0_pay23, k0_pay19, k0_pay15]
  simp only [Fin.sum_univ_one]

/-- The gradient of the second head's gate. -/
theorem z1_apply (k : Fin 512) (l : Fin 128) :
    k0_pay105 (k0_pay21 z) (k0_pay39 (k0_pay13 o) (k0_pay17 bn)) (k0_pay40 (k0_pay21 z)) (k0_pay42 (k0_pay21 z)) (k0_pay43 (k0_pay21 z)) (k0_pay88 d) (ix2 k l)
      = gateBack (fun l => o (ix2 k l)) (fun l => bn (ix2 0 l)) (fun l => z (ix2 k l)) (fun l => d (ix2 k l)) ⟨128 + l.val, by omega⟩ := by
  have e : (128 + l.val) / 128 * 128 = 128 := by omega
  unfold gateBack tilt level logit
  simp only [e]
  pointwise [k0_pay105, k0_pay88, k0_pay43, k0_pay42, k0_pay41, k0_pay40, k0_pay39, k0_pay38, k0_pay36, k0_pay35, k0_pay21, k0_pay17, k0_pay13]
  rw [slope, zero_sub]

/-- The gradient of the third head's gate. -/
theorem z2_apply (k : Fin 512) (l : Fin 128) :
    k0_pay99 (k0_pay22 z) (k0_pay49 (k0_pay14 o) (k0_pay18 bn)) (k0_pay50 (k0_pay22 z)) (k0_pay52 (k0_pay22 z)) (k0_pay53 (k0_pay22 z)) (k0_pay89 d) (ix2 k l)
      = gateBack (fun l => o (ix2 k l)) (fun l => bn (ix2 0 l)) (fun l => z (ix2 k l)) (fun l => d (ix2 k l)) ⟨256 + l.val, by omega⟩ := by
  have e : (256 + l.val) / 128 * 128 = 256 := by omega
  unfold gateBack tilt level logit
  simp only [e]
  pointwise [k0_pay99, k0_pay89, k0_pay53, k0_pay52, k0_pay51, k0_pay50, k0_pay49, k0_pay48, k0_pay46, k0_pay45, k0_pay22, k0_pay18, k0_pay14]
  rw [slope, zero_sub]

/-- The gradient of the fourth head's gate. -/
theorem z3_apply (k : Fin 512) (l : Fin 128) :
    k0_pay95 (k0_pay60 (k0_pay23 z)) (k0_pay93 (k0_pay59 (k0_pay15 o) (k0_pay19 bn)) (k0_pay63 (k0_pay60 (k0_pay23 z)) k0_pay61) d) (k0_pay94 (k0_pay23 z) (k0_pay59 (k0_pay15 o) (k0_pay19 bn)) (k0_pay64 (k0_pay60 (k0_pay23 z)) k0_pay61) d) (ix2 k l)
      = gateBack (fun l => o (ix2 k l)) (fun l => bn (ix2 0 l)) (fun l => z (ix2 k l)) (fun l => d (ix2 k l)) ⟨384 + l.val, by omega⟩ := by
  have e : (384 + l.val) / 128 * 128 = 384 := by omega
  unfold gateBack tilt level logit
  simp only [e]
  pointwise [k0_pay95, k0_pay94, k0_pay93, k0_pay91, k0_pay90, k0_pay64, k0_pay63, k0_pay62, k0_pay61, k0_pay60, k0_pay59, k0_pay58, k0_pay56, k0_pay55, k0_pay23, k0_pay19, k0_pay15]
  rw [slope, zero_sub]

/-- The gradient of the first head's gate. -/
theorem z0_apply (k : Fin 512) (l : Fin 128) :
    k0_pay110 (k0_pay29 (k0_pay12 o) (k0_pay16 bn) (k0_pay24 o)) (k0_pay32 (k0_pay20 z)) (k0_pay87 d) (ix2 k l)
      + (0 - (0 - k0_pay111 (k0_pay20 z) (k0_pay29 (k0_pay12 o) (k0_pay16 bn) (k0_pay24 o)) (k0_pay33 (k0_pay20 z)) (k0_pay87 d) (ix2 k l)) * k0_pay30 (k0_pay20 z) (ix2 k l))
      = gateBack (fun l => o (ix2 k l)) (fun l => bn (ix2 0 l)) (fun l => z (ix2 k l)) (fun l => d (ix2 k l)) ⟨0 + l.val, by omega⟩ := by
  have e : (0 + l.val) / 128 * 128 = 0 := by omega
  unfold gateBack tilt level logit
  simp only [e]
  pointwise [k0_pay111, k0_pay110, k0_pay108, k0_pay87, k0_pay33, k0_pay32, k0_pay31, k0_pay30, k0_pay29, k0_pay28, k0_pay26, k0_pay25, k0_pay24, k0_pay20, k0_pay16, k0_pay12]
  rw [slope, zero_sub]

/-- The gradient of the first head's scale. -/
theorem b0_apply (l : Fin 128) :
    k0_pay112 (k0_pay28 (k0_pay12 o) (k0_pay24 o)) (k0_pay109 (k0_pay34 (k0_pay20 z)) (k0_pay87 d)) (ix2 0 l)
      = ∑ k : Fin 512, scaleBack (fun l => o (ix2 k l)) (fun l => z (ix2 k l)) (fun l => d (ix2 k l)) ⟨0 + l.val, by omega⟩ := by
  have e : (0 + l.val) / 128 * 128 = 0 := by omega
  unfold scaleBack level logit
  simp only [e, ← zero_sub]
  pointwise [k0_pay112, k0_pay109, k0_pay87, k0_pay34, k0_pay32, k0_pay31, k0_pay30, k0_pay28, k0_pay26, k0_pay25, k0_pay24, k0_pay20, k0_pay12]

/-- The gradient of the second head's scale. -/
theorem b1_apply (l : Fin 128) :
    k0_pay106 (k0_pay38 (k0_pay13 o)) (k0_pay44 (k0_pay21 z) (k0_pay42 (k0_pay21 z))) (k0_pay88 d) (ix2 0 l)
      = ∑ k : Fin 512, scaleBack (fun l => o (ix2 k l)) (fun l => z (ix2 k l)) (fun l => d (ix2 k l)) ⟨128 + l.val, by omega⟩ := by
  have e : (128 + l.val) / 128 * 128 = 128 := by omega
  unfold scaleBack level logit
  simp only [e, ← zero_sub]
  pointwise [k0_pay106, k0_pay104, k0_pay88, k0_pay44, k0_pay42, k0_pay41, k0_pay40, k0_pay38, k0_pay36, k0_pay35, k0_pay21, k0_pay13]

/-- The gradient of the third head's scale. -/
theorem b2_apply (l : Fin 128) :
    k0_pay100 (k0_pay48 (k0_pay14 o)) (k0_pay54 (k0_pay22 z)) (k0_pay89 d) (ix2 0 l)
      = ∑ k : Fin 512, scaleBack (fun l => o (ix2 k l)) (fun l => z (ix2 k l)) (fun l => d (ix2 k l)) ⟨256 + l.val, by omega⟩ := by
  have e : (256 + l.val) / 128 * 128 = 256 := by omega
  unfold scaleBack level logit
  simp only [e, ← zero_sub]
  pointwise [k0_pay100, k0_pay98, k0_pay89, k0_pay54, k0_pay52, k0_pay51, k0_pay50, k0_pay48, k0_pay46, k0_pay45, k0_pay22, k0_pay14]

/-- The gradient of the fourth head's scale. -/
theorem b3_apply (l : Fin 128) :
    k0_pay96 (k0_pay58 (k0_pay15 o)) (k0_pay92 (k0_pay65 (k0_pay23 z) (k0_pay60 (k0_pay23 z)) k0_pay61) d) (ix2 0 l)
      = ∑ k : Fin 512, scaleBack (fun l => o (ix2 k l)) (fun l => z (ix2 k l)) (fun l => d (ix2 k l)) ⟨384 + l.val, by omega⟩ := by
  have e : (384 + l.val) / 128 * 128 = 384 := by omega
  unfold scaleBack level logit
  simp only [e, ← zero_sub]
  pointwise [k0_pay96, k0_pay92, k0_pay90, k0_pay65, k0_pay63, k0_pay62, k0_pay61, k0_pay60, k0_pay58, k0_pay56, k0_pay55, k0_pay23, k0_pay15]

/-- The gradient of the second branch's rows at an index. -/
theorem o_apply (k j : Fin 512) :
    k0_pay118 (k0_pay97 (k0_pay15 o) (k0_pay19 bn) (k0_pay56 (k0_pay15 o)) (k0_pay57 (k0_pay15 o)) (k0_pay92 (k0_pay65 (k0_pay23 z) (k0_pay60 (k0_pay23 z)) k0_pay61) d)) (k0_pay103 (k0_pay14 o) (k0_pay46 (k0_pay14 o)) (k0_pay47 (k0_pay14 o)) (k0_pay101 (k0_pay18 bn) (k0_pay54 (k0_pay22 z)) (k0_pay89 d)) (k0_pay102 (k0_pay14 o) (k0_pay18 bn) (k0_pay54 (k0_pay22 z)) (k0_pay89 d))) (k0_pay107 (k0_pay13 o) (k0_pay17 bn) (k0_pay36 (k0_pay13 o)) (k0_pay37 (k0_pay13 o)) (k0_pay44 (k0_pay21 z) (k0_pay42 (k0_pay21 z))) (k0_pay88 d)) (k0_pay113 (k0_pay12 o) (k0_pay16 bn) (k0_pay26 (k0_pay24 o)) (k0_pay27 (k0_pay24 o)) (k0_pay109 (k0_pay34 (k0_pay20 z)) (k0_pay87 d))) (ix2 k j)
      = headBack (fun l => o (ix2 k l)) (fun l => bn (ix2 0 l)) (fun l => z (ix2 k l)) (fun l => d (ix2 k l)) j :=
  stack_eq j (o0_apply o z bn d k) (o1_apply o z bn d k) (o2_apply o z bn d k) (o3_apply o z bn d k)

/-- The gradient of the second branch's gate at an index. -/
theorem z_apply (k j : Fin 512) :
    k0_pay121 (k0_pay114 (k0_pay30 (k0_pay20 z)) (k0_pay95 (k0_pay60 (k0_pay23 z)) (k0_pay93 (k0_pay59 (k0_pay15 o) (k0_pay19 bn)) (k0_pay63 (k0_pay60 (k0_pay23 z)) k0_pay61) d) (k0_pay94 (k0_pay23 z) (k0_pay59 (k0_pay15 o) (k0_pay19 bn)) (k0_pay64 (k0_pay60 (k0_pay23 z)) k0_pay61) d)) (k0_pay99 (k0_pay22 z) (k0_pay49 (k0_pay14 o) (k0_pay18 bn)) (k0_pay50 (k0_pay22 z)) (k0_pay52 (k0_pay22 z)) (k0_pay53 (k0_pay22 z)) (k0_pay89 d)) (k0_pay105 (k0_pay21 z) (k0_pay39 (k0_pay13 o) (k0_pay17 bn)) (k0_pay40 (k0_pay21 z)) (k0_pay42 (k0_pay21 z)) (k0_pay43 (k0_pay21 z)) (k0_pay88 d)) (k0_pay110 (k0_pay29 (k0_pay12 o) (k0_pay16 bn) (k0_pay24 o)) (k0_pay32 (k0_pay20 z)) (k0_pay87 d)) (k0_pay111 (k0_pay20 z) (k0_pay29 (k0_pay12 o) (k0_pay16 bn) (k0_pay24 o)) (k0_pay33 (k0_pay20 z)) (k0_pay87 d))) (ix2 k j)
      = gateBack (fun l => o (ix2 k l)) (fun l => bn (ix2 0 l)) (fun l => z (ix2 k l)) (fun l => d (ix2 k l)) j :=
  stack_gate j (z0_apply o z bn d k) (z1_apply o z bn d k) (z2_apply o z bn d k) (z3_apply o z bn d k)

/-- One block's part of the gradient of the heads' scale. -/
theorem bn_part (acc : Vec Ideal S1x512 .f32) (j : S1x512.Idx) :
    k0_pay123 (k0_pay117 (k0_pay106 (k0_pay38 (k0_pay13 o)) (k0_pay44 (k0_pay21 z) (k0_pay42 (k0_pay21 z))) (k0_pay88 d)) (k0_pay112 (k0_pay28 (k0_pay12 o) (k0_pay24 o)) (k0_pay109 (k0_pay34 (k0_pay20 z)) (k0_pay87 d))) (k0_pay115 (k0_pay96 (k0_pay58 (k0_pay15 o)) (k0_pay92 (k0_pay65 (k0_pay23 z) (k0_pay60 (k0_pay23 z)) k0_pay61) d))) (FloatOps.ofBits FTy.f32 0x00000000#32) (k0_pay116 (k0_pay100 (k0_pay48 (k0_pay14 o)) (k0_pay54 (k0_pay22 z)) (k0_pay89 d)))) acc j
      = acc j + ∑ k : Fin 512, scaleBack (fun l => o (ix2 k l)) (fun l => z (ix2 k l)) (fun l => d (ix2 k l)) (j 1) := by
  have e : j = ix2 (0 : Fin 1) (j 1) := (eq_ix2 j).trans (congrArg (fun i => ix2 i (j 1)) (Subsingleton.elim (α := Fin 1) (j 0) 0))
  have s := (congrArg _ e).trans (stack_row (f := fun j => ∑ k : Fin 512, scaleBack (fun l => o (ix2 k l)) (fun l => z (ix2 k l)) (fun l => d (ix2 k l)) j) (j 1) (b0_apply o z d) (b1_apply o z d) (b2_apply o z d) (b3_apply o z d))
  refine Eq.trans ?_ (congrArg (acc j + ·) s)
  pointwise [k0_pay123]

/-- The gradient of the third branch's rows, as returned. -/
theorem ret_apply (d : FVec Ideal S512x512 .f32) (k j : Fin 512) : k0_pay122 d (ix2 k j) = d (ix2 k j) := by
  pointwise [k0_pay122]

/-- The first branch's rows' gradient from the given one. -/
theorem ha_whole (k j : Fin 512) :
    k0_pay119 (k0_pay11 ga) (k0_pay78 d1 d2 d3) (ix2 k j)
      = d1 (ix2 k j) * act (ga (ix2 k j)) := by
  rw [ha_apply, pay78_apply]

/-- The first branch's gate's gradient from the given one. -/
theorem ga_whole (k j : Fin 512) :
    k0_pay120 ha ga (k0_pay6 ga) (k0_pay7 ga) (k0_pay9 ga) (k0_pay10 ga) (k0_pay78 d1 d2 d3) (ix2 k j)
      = steep (ga (ix2 k j)) (ha (ix2 k j) * d1 (ix2 k j)) := by
  rw [ga_apply, pay78_apply]

/-- The second branch's rows' gradient from the given one. -/
theorem o_whole (k j : Fin 512) :
    k0_pay118 (k0_pay97 (k0_pay15 o) (k0_pay19 bn) (k0_pay56 (k0_pay15 o)) (k0_pay57 (k0_pay15 o)) (k0_pay92 (k0_pay65 (k0_pay23 z) (k0_pay60 (k0_pay23 z)) k0_pay61) (k0_pay79 d1 d2 d3))) (k0_pay103 (k0_pay14 o) (k0_pay46 (k0_pay14 o)) (k0_pay47 (k0_pay14 o)) (k0_pay101 (k0_pay18 bn) (k0_pay54 (k0_pay22 z)) (k0_pay89 (k0_pay79 d1 d2 d3))) (k0_pay102 (k0_pay14 o) (k0_pay18 bn) (k0_pay54 (k0_pay22 z)) (k0_pay89 (k0_pay79 d1 d2 d3)))) (k0_pay107 (k0_pay13 o) (k0_pay17 bn) (k0_pay36 (k0_pay13 o)) (k0_pay37 (k0_pay13 o)) (k0_pay44 (k0_pay21 z) (k0_pay42 (k0_pay21 z))) (k0_pay88 (k0_pay79 d1 d2 d3))) (k0_pay113 (k0_pay12 o) (k0_pay16 bn) (k0_pay26 (k0_pay24 o)) (k0_pay27 (k0_pay24 o)) (k0_pay109 (k0_pay34 (k0_pay20 z)) (k0_pay87 (k0_pay79 d1 d2 d3)))) (ix2 k j)
      = headBack (fun l => o (ix2 k l)) (fun l => bn (ix2 0 l)) (fun l => z (ix2 k l)) (fun l => d2 (ix2 k l)) j := by
  rw [o_apply]
  simp only [pay79_apply]

/-- The second branch's gate's gradient from the given one. -/
theorem z_whole (k j : Fin 512) :
    k0_pay121 (k0_pay114 (k0_pay30 (k0_pay20 z)) (k0_pay95 (k0_pay60 (k0_pay23 z)) (k0_pay93 (k0_pay59 (k0_pay15 o) (k0_pay19 bn)) (k0_pay63 (k0_pay60 (k0_pay23 z)) k0_pay61) (k0_pay79 d1 d2 d3)) (k0_pay94 (k0_pay23 z) (k0_pay59 (k0_pay15 o) (k0_pay19 bn)) (k0_pay64 (k0_pay60 (k0_pay23 z)) k0_pay61) (k0_pay79 d1 d2 d3))) (k0_pay99 (k0_pay22 z) (k0_pay49 (k0_pay14 o) (k0_pay18 bn)) (k0_pay50 (k0_pay22 z)) (k0_pay52 (k0_pay22 z)) (k0_pay53 (k0_pay22 z)) (k0_pay89 (k0_pay79 d1 d2 d3))) (k0_pay105 (k0_pay21 z) (k0_pay39 (k0_pay13 o) (k0_pay17 bn)) (k0_pay40 (k0_pay21 z)) (k0_pay42 (k0_pay21 z)) (k0_pay43 (k0_pay21 z)) (k0_pay88 (k0_pay79 d1 d2 d3))) (k0_pay110 (k0_pay29 (k0_pay12 o) (k0_pay16 bn) (k0_pay24 o)) (k0_pay32 (k0_pay20 z)) (k0_pay87 (k0_pay79 d1 d2 d3))) (k0_pay111 (k0_pay20 z) (k0_pay29 (k0_pay12 o) (k0_pay16 bn) (k0_pay24 o)) (k0_pay33 (k0_pay20 z)) (k0_pay87 (k0_pay79 d1 d2 d3)))) (ix2 k j)
      = gateBack (fun l => o (ix2 k l)) (fun l => bn (ix2 0 l)) (fun l => z (ix2 k l)) (fun l => d2 (ix2 k l)) j := by
  rw [z_apply]
  simp only [pay79_apply]

/-- The third branch's sum's gradient from the given one. -/
theorem back_whole (k j : Fin 512) :
    BACK y0 uc w cd bg (k0_pay80 d1 d2 d3) (ix2 k j)
      = gluBack (fun l => y0 (ix2 k l) + cd (ix2 0 l) * uc (ix2 k l)) (fun k l => w (ix2 k l)) (fun l => bg (ix2 0 l)) (fun l => d3 (ix2 k l)) j := by
  rw [back_apply]
  simp only [y_apply, pay80_apply]

/-- The third branch's product's gradient from the given one. -/
theorem lean_whole (k j : Fin 512) :
    k0_pay81 (k0_pay72 cd y0 uc) (k0_pay73 cd w bg y0 uc) (k0_pay76 cd w bg y0 uc) (k0_pay80 d1 d2 d3) (ix2 k j)
      = lean (fun l => y0 (ix2 k l) + cd (ix2 0 l) * uc (ix2 k l)) (fun k l => w (ix2 k l)) (fun l => bg (ix2 0 l)) (fun l => d3 (ix2 k l)) j := by
  rw [lean_apply]
  simp only [y_apply, pay80_apply]

/-- The third branch's activation from its rows. -/
theorem act_whole (k j : Fin 512) :
    k0_pay72 cd y0 uc (ix2 k j)
      = act (y0 (ix2 k j) + cd (ix2 0 j) * uc (ix2 k j)) := by
  rw [act_apply, y_apply]

/-- The third branch's rows' gradient from the given one. -/
theorem y_whole (k j : Fin 512) :
    k0_pay122 (BACK y0 uc w cd bg (k0_pay80 d1 d2 d3)) (ix2 k j)
      = gluBack (fun l => y0 (ix2 k l) + cd (ix2 0 l) * uc (ix2 k l)) (fun k l => w (ix2 k l)) (fun l => bg (ix2 0 l)) (fun l => d3 (ix2 k l)) j := by
  rw [ret_apply, back_apply]
  simp only [y_apply, pay80_apply]

/-- The third branch's input's gradient from the given one. -/
theorem uc_whole (k j : Fin 512) :
    k0_pay85 cd w (k0_pay66 cd y0 uc) (k0_pay67 cd y0 uc) (k0_pay68 cd y0 uc) (k0_pay70 cd y0 uc) (k0_pay71 cd y0 uc) (k0_pay72 cd y0 uc) (k0_pay73 cd w bg y0 uc) (k0_pay75 cd w bg y0 uc) (k0_pay76 cd w bg y0 uc) (k0_pay80 d1 d2 d3) (ix2 k j)
      = cd (ix2 0 j) * gluBack (fun l => y0 (ix2 k l) + cd (ix2 0 l) * uc (ix2 k l)) (fun k l => w (ix2 k l)) (fun l => bg (ix2 0 l)) (fun l => d3 (ix2 k l)) j := by
  rw [uc_apply, back_apply]
  simp only [y_apply, pay80_apply]

/-- One block's part of the heads' scale's gradient from the given one. -/
theorem bn_whole (acc : Vec Ideal S1x512 .f32) (j : S1x512.Idx) :
    k0_pay123 (k0_pay117 (k0_pay106 (k0_pay38 (k0_pay13 o)) (k0_pay44 (k0_pay21 z) (k0_pay42 (k0_pay21 z))) (k0_pay88 (k0_pay79 d1 d2 d3))) (k0_pay112 (k0_pay28 (k0_pay12 o) (k0_pay24 o)) (k0_pay109 (k0_pay34 (k0_pay20 z)) (k0_pay87 (k0_pay79 d1 d2 d3)))) (k0_pay115 (k0_pay96 (k0_pay58 (k0_pay15 o)) (k0_pay92 (k0_pay65 (k0_pay23 z) (k0_pay60 (k0_pay23 z)) k0_pay61) (k0_pay79 d1 d2 d3)))) (FloatOps.ofBits FTy.f32 0x00000000#32) (k0_pay116 (k0_pay100 (k0_pay48 (k0_pay14 o)) (k0_pay54 (k0_pay22 z)) (k0_pay89 (k0_pay79 d1 d2 d3))))) acc j
      = acc j + ∑ k : Fin 512, scaleBack (fun l => o (ix2 k l)) (fun l => z (ix2 k l)) (fun l => d2 (ix2 k l)) (j 1) := by
  rw [bn_part]
  simp only [pay79_apply]

/-- One block's part of the input's scale's gradient from the given one. -/
theorem cd_whole (acc : Vec Ideal S1x512 .f32) (j : S1x512.Idx) :
    k0_pay124 (k0_pay86 w uc (k0_pay66 cd y0 uc) (k0_pay67 cd y0 uc) (k0_pay68 cd y0 uc) (k0_pay70 cd y0 uc) (k0_pay71 cd y0 uc) (k0_pay72 cd y0 uc) (k0_pay73 cd w bg y0 uc) (k0_pay75 cd w bg y0 uc) (k0_pay76 cd w bg y0 uc) (k0_pay80 d1 d2 d3)) acc j
      = acc j + ∑ k : Fin 512, gluBack (fun l => y0 (ix2 k l) + cd (ix2 0 l) * uc (ix2 k l)) (fun k l => w (ix2 k l)) (fun l => bg (ix2 0 l)) (fun l => d3 (ix2 k l)) (j 1) * uc (ix2 k (j 1)) := by
  rw [cd_part]
  exact congrArg (acc j + ·) (Finset.sum_congr rfl fun k _ => congrArg (· * uc (ix2 k (j 1))) (back_whole y0 uc w d1 d2 d3 cd bg k (j 1)))

/-- One block's part of the weight's gradient from the given one. -/
theorem w_whole (acc : Vec Ideal S512x512 .f32) (j : S512x512.Idx) :
    k0_pay125 (k0_pay83 (k0_pay72 cd y0 uc) (k0_pay73 cd w bg y0 uc) (k0_pay76 cd w bg y0 uc) (k0_pay80 d1 d2 d3)) acc j
      = acc j + ∑ k : Fin 512, lean (fun l => y0 (ix2 k l) + cd (ix2 0 l) * uc (ix2 k l)) (fun k l => w (ix2 k l)) (fun l => bg (ix2 0 l)) (fun l => d3 (ix2 k l)) (j 1) * act (y0 (ix2 k (j 0)) + cd (ix2 0 (j 0)) * uc (ix2 k (j 0))) := by
  rw [w_part]
  exact congrArg (acc j + ·) (Finset.sum_congr rfl fun k _ => (mul_comm _ _).trans
    (congr (congrArg HMul.hMul (lean_whole y0 uc w d1 d2 d3 cd bg k (j 1))) (act_whole y0 uc cd k (j 0))))

/-- One block's part of the bias's gradient from the given one. -/
theorem bg_whole (acc : Vec Ideal S1x512 .f32) (j : S1x512.Idx) :
    k0_pay1 (k0_pay82 (k0_pay72 cd y0 uc) (k0_pay73 cd w bg y0 uc) (k0_pay76 cd w bg y0 uc) (k0_pay80 d1 d2 d3)) acc j
      = acc j + ∑ k : Fin 512, lean (fun l => y0 (ix2 k l) + cd (ix2 0 l) * uc (ix2 k l)) (fun k l => w (ix2 k l)) (fun l => bg (ix2 0 l)) (fun l => d3 (ix2 k l)) (j 1) := by
  rw [bg_part]
  exact congrArg (acc j + ·) (Finset.sum_congr rfl fun k _ => lean_whole y0 uc w d1 d2 d3 cd bg k (j 1))

end payloads

/-- The grid's windows: rows from the last block to the first, the parameters and their gradients whole. -/
theorem idx : ∀ t : Fin cfg0.N, win0_0.index t = ![15 - t.val, 0] ∧ win0_1.index t = ![15 - t.val, 1] ∧ win0_2.index t = ![15 - t.val, 0]
    ∧ win0_3.index t = ![15 - t.val, 5] ∧ win0_4.index t = ![15 - t.val, 0] ∧ win0_5.index t = ![15 - t.val, 12] ∧ win0_6.index t = ![0, 0]
    ∧ win0_7.index t = ![0, 0] ∧ win0_8.index t = ![0, 0] ∧ win0_9.index t = ![0, 0] ∧ win0_10.index t = ![15 - t.val, 0]
    ∧ win0_11.index t = ![15 - t.val, 0] ∧ win0_12.index t = ![15 - t.val, 0] ∧ win0_13.index t = ![15 - t.val, 0] ∧ win0_14.index t = ![15 - t.val, 0]
    ∧ win0_15.index t = ![15 - t.val, 0] ∧ win0_16.index t = ![15 - t.val, 0] ∧ win0_17.index t = ![15 - t.val, 0] ∧ win0_18.index t = ![15 - t.val, 0]
    ∧ win0_19.index t = ![0, 0] ∧ win0_20.index t = ![0, 0] ∧ win0_21.index t = ![0, 0] ∧ win0_22.index t = ![0, 0] :=
  (by decide +kernel : ∀ t : Fin grid0.N, _)

variable (m : (ℓ : Loc nD τ sig) → Buf (Elt Ideal) ℓ)

/-- A row's index is its column's. -/
theorem row_eq (y : S1x512.Idx) : y = ix2 (0 : Fin 1) (y 1) :=
  (eq_ix2 y).trans (congrArg (fun i => ix2 i (y 1)) (Subsingleton.elim (α := Fin 1) (y 0) 0))

/-- The start of the heads' scale's gradient. -/
theorem start_bn (j : S1x512.Idx) : k0_pay2 (F := Ideal) j = 0 := by pointwise [k0_pay2]

/-- The start of the input's scale's gradient. -/
theorem start_cd (j : S1x512.Idx) : k0_pay3 (F := Ideal) j = 0 := by pointwise [k0_pay3]

/-- The start of the weight's gradient. -/
theorem start_w (j : S512x512.Idx) : k0_pay4 (F := Ideal) j = 0 := by pointwise [k0_pay4]

/-- The start of the bias's gradient. -/
theorem start_bg (j : S1x512.Idx) : k0_pay5 (F := Ideal) j = 0 := by pointwise [k0_pay5]

/-- The gradient of the first branch's rows after the run is the reference's. -/
theorem finalHA (c : Dev nD) : (dats m 0 c).arrAt 13 cfg0.N = Cert.BwdMixRefIdeal.Mix.REFHA (m ((c : Thread nD τ).loc main_arg0)) (m ((c : Thread nD τ).loc main_arg8)) := by
  refine (dats m 0 c).arrAt_eq_of_covers 13 _ (by decide +kernel) fun t hf y => ?_
  rw [eq_ix2 (((cfg0.win 13).blk t).view.emb y)]
  refine Eq.trans ?_ (Cert.BwdMixRefIdeal.Mix.ha_apply _ _ _ _).symm
  blk_simp
  rw [after0_13]
  by_cases h0 : t.val % 16 = 0
  · rw [outsAt0_A m c t h0 h0 h0 h0]; frame_out
    refine (congrArg _ (eq_ix2 y)).trans ((ha_whole _ _ _ _ _ _).trans ?_)
    blk_point [iblk, V, idx t]
  · rw [outsAt0_B m c t h0 h0 h0 h0]; frame_out
    refine (congrArg _ (eq_ix2 y)).trans ((ha_whole _ _ _ _ _ _).trans ?_)
    blk_point [iblk, V, idx t]

/-- The gradient of the first branch's gate after the run is the reference's. -/
theorem finalGA (c : Dev nD) : (dats m 0 c).arrAt 14 cfg0.N = Cert.BwdMixRefIdeal.Mix.REFGA (m ((c : Thread nD τ).loc main_arg0)) (m ((c : Thread nD τ).loc main_arg1)) (m ((c : Thread nD τ).loc main_arg8)) := by
  refine (dats m 0 c).arrAt_eq_of_covers 14 _ (by decide +kernel) fun t hf y => ?_
  rw [eq_ix2 (((cfg0.win 14).blk t).view.emb y)]
  refine Eq.trans ?_ (Cert.BwdMixRefIdeal.Mix.ga_apply _ _ _ _ _).symm
  blk_simp
  rw [after0_14]
  by_cases h0 : t.val % 16 = 0
  · rw [outsAt0_A m c t h0 h0 h0 h0]; frame_out
    refine (congrArg _ (eq_ix2 y)).trans ((ga_whole _ _ _ _ _ _ _).trans ?_)
    blk_point [iblk, V, idx t]
  · rw [outsAt0_B m c t h0 h0 h0 h0]; frame_out
    refine (congrArg _ (eq_ix2 y)).trans ((ga_whole _ _ _ _ _ _ _).trans ?_)
    blk_point [iblk, V, idx t]

/-- The gradient of the second branch's rows after the run is the reference's. -/
theorem finalO (c : Dev nD) : (dats m 0 c).arrAt 15 cfg0.N = Cert.BwdMixRefIdeal.Mix.REFO (m ((c : Thread nD τ).loc main_arg0)) (m ((c : Thread nD τ).loc main_arg2)) (m ((c : Thread nD τ).loc main_arg4)) (m ((c : Thread nD τ).loc main_arg9)) := by
  refine (dats m 0 c).arrAt_eq_of_covers 15 _ (by decide +kernel) fun t hf y => ?_
  rw [eq_ix2 (((cfg0.win 15).blk t).view.emb y)]
  refine Eq.trans ?_ (Cert.BwdMixRefIdeal.Mix.o_apply _ _ _ _ _ _).symm
  blk_simp
  rw [after0_15]
  by_cases h0 : t.val % 16 = 0
  · rw [outsAt0_A m c t h0 h0 h0 h0]; frame_out
    refine (congrArg _ (eq_ix2 y)).trans ((o_whole _ _ _ _ _ _ _ _).trans ?_)
    blk_point [iblk, V, idx t]
  · rw [outsAt0_B m c t h0 h0 h0 h0]; frame_out
    refine (congrArg _ (eq_ix2 y)).trans ((o_whole _ _ _ _ _ _ _ _).trans ?_)
    blk_point [iblk, V, idx t]

/-- The gradient of the second branch's gate after the run is the reference's. -/
theorem finalZ (c : Dev nD) : (dats m 0 c).arrAt 16 cfg0.N = Cert.BwdMixRefIdeal.Mix.REFZ (m ((c : Thread nD τ).loc main_arg0)) (m ((c : Thread nD τ).loc main_arg2)) (m ((c : Thread nD τ).loc main_arg4)) (m ((c : Thread nD τ).loc main_arg9)) := by
  refine (dats m 0 c).arrAt_eq_of_covers 16 _ (by decide +kernel) fun t hf y => ?_
  rw [eq_ix2 (((cfg0.win 16).blk t).view.emb y)]
  refine Eq.trans ?_ (Cert.BwdMixRefIdeal.Mix.z_apply _ _ _ _ _ _).symm
  blk_simp
  rw [after0_16]
  by_cases h0 : t.val % 16 = 0
  · rw [outsAt0_A m c t h0 h0 h0 h0]; frame_out
    refine (congrArg _ (eq_ix2 y)).trans ((z_whole _ _ _ _ _ _ _ _).trans ?_)
    blk_point [iblk, V, idx t]
  · rw [outsAt0_B m c t h0 h0 h0 h0]; frame_out
    refine (congrArg _ (eq_ix2 y)).trans ((z_whole _ _ _ _ _ _ _ _).trans ?_)
    blk_point [iblk, V, idx t]

/-- The gradient of the heads' scale after the run is the reference's. -/
theorem finalBN (c : Dev nD) : (dats m 0 c).arrAt 19 cfg0.N = Cert.BwdMixRefIdeal.Mix.REFBN (m ((c : Thread nD τ).loc main_arg0)) (m ((c : Thread nD τ).loc main_arg2)) (m ((c : Thread nD τ).loc main_arg9)) := by
  refine (dats m 0 c).arrAt_eq_of_covers 19 _ (by decide +kernel) fun t hf y => ?_
  rw [row_eq (((cfg0.win 19).blk t).view.emb y)]
  refine Eq.trans ?_ (Cert.BwdMixRefIdeal.Mix.bn_apply _ _ _ _).symm
  blk_simp
  rw [after0_19, Pipeline.eq_sum_fin_of_reset_step_apply_of_flush (fun n h => (outsAt0 m c n h).2.2.2.2.2.2.1) 16 (fun _ => 0) _
    (fun t h j => by rw [outsAt0_A m c t h h h h]; frame_out; rw [bn_whole, start_bn])
    (fun t h j => by rw [outsAt0_B m c t h h h h]; frame_out; rw [bn_whole])
    t ((flush0_19 t).mp hf) _, zero_add]
  refine Sums.sum_rev_mul_add_congr rfl fun s k hl => ?_
  blk_point [iblk, V, idx t, idx ⟨_, Pipeline.run_point_lt_of_flush t ((flush0_19 t).mp hf) s⟩]

end Cert.BwdMixIdeal.Mix
-- ==== Proof.BwdMix.lean ====
/- The gradient of the three branches before their products: the third branch's gradients after the run. -/
module
public import proofs.«01_k».proof.Proof.BwdMixHead
@[expose] public section
set_option maxRecDepth 16384
noncomputable section
open Idealize.ShloMosaic Idealize.ShloMosaic.TcCoe Idealize.SL.Sem

namespace Cert.BwdMixIdeal.Mix
open Cert.BwdMixIdeal Cert.BwdMixIdeal.Gen Cert.Branches

variable (m : (ℓ : Loc nD τ sig) → Buf (Elt Ideal) ℓ)

/-- The gradient of the third branch's rows is a function of its values. -/
theorem gluBack_congr {p q r b d p' q' r' b' d' : Fin 512 → EReal} {w w' : Fin 512 → Fin 512 → EReal} {j j' : Fin 512}
    (hp : ∀ l, p l = p' l) (hq : ∀ l, q l = q' l) (hr : ∀ l, r l = r' l) (hw : ∀ k l, w k l = w' k l) (hb : ∀ l, b l = b' l)
    (hd : ∀ l, d l = d' l) (hj : j = j') :
    gluBack (fun l => p l + q l * r l) w b d j = gluBack (fun l => p' l + q' l * r' l) w' b' d' j' := by
  obtain rfl := funext hp
  obtain rfl := funext hq
  obtain rfl := funext hr
  obtain rfl := funext fun k => funext (hw k)
  obtain rfl := funext hb
  obtain rfl := funext hd
  rw [hj]

/-- The gradient of the third branch's product is a function of its values. -/
theorem lean_congr {p q r b d p' q' r' b' d' : Fin 512 → EReal} {w w' : Fin 512 → Fin 512 → EReal} {j j' : Fin 512}
    (hp : ∀ l, p l = p' l) (hq : ∀ l, q l = q' l) (hr : ∀ l, r l = r' l) (hw : ∀ k l, w k l = w' k l) (hb : ∀ l, b l = b' l)
    (hd : ∀ l, d l = d' l) (hj : j = j') :
    lean (fun l => p l + q l * r l) w b d j = lean (fun l => p' l + q' l * r' l) w' b' d' j' := by
  obtain rfl := funext hp
  obtain rfl := funext hq
  obtain rfl := funext hr
  obtain rfl := funext fun k => funext (hw k)
  obtain rfl := funext hb
  obtain rfl := funext hd
  rw [hj]

/-- The gradient of the third branch's rows after the run is the reference's. -/
theorem finalY (c : Dev nD) : (dats m 0 c).arrAt 17 cfg0.N = Cert.BwdMixRefIdeal.Mix.REFY (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg10)) := by
  refine (dats m 0 c).arrAt_eq_of_covers 17 _ (by decide +kernel) fun t hf y => ?_
  rw [eq_ix2 (((cfg0.win 17).blk t).view.emb y)]
  refine Eq.trans ?_ (Cert.BwdMixRefIdeal.Mix.y_apply _ _ _ _ _ _ _ _).symm
  blk_simp
  rw [after0_17]
  by_cases h0 : t.val % 16 = 0
  · rw [outsAt0_A m c t h0 h0 h0 h0]; frame_out
    refine (congrArg _ (eq_ix2 y)).trans ((y_whole _ _ _ _ _ _ _ _ _ _).trans ?_)
    refine gluBack_congr (fun l => ?_) (fun l => ?_) (fun l => ?_) (fun k l => ?_) (fun l => ?_) (fun l => ?_) (Fin.ext ?_)
    · blk_point [iblk, V, idx t]
    · blk_point [iblk, V, idx t]
    · blk_point [iblk, V, idx t]
    · blk_point [iblk, V, idx t]
    · blk_point [iblk, V, idx t]
    · blk_point [iblk, V, idx t]
    · blk_simp [idx t]
  · rw [outsAt0_B m c t h0 h0 h0 h0]; frame_out
    refine (congrArg _ (eq_ix2 y)).trans ((y_whole _ _ _ _ _ _ _ _ _ _).trans ?_)
    refine gluBack_congr (fun l => ?_) (fun l => ?_) (fun l => ?_) (fun k l => ?_) (fun l => ?_) (fun l => ?_) (Fin.ext ?_)
    · blk_point [iblk, V, idx t]
    · blk_point [iblk, V, idx t]
    · blk_point [iblk, V, idx t]
    · blk_point [iblk, V, idx t]
    · blk_point [iblk, V, idx t]
    · blk_point [iblk, V, idx t]
    · blk_simp [idx t]

/-- The gradient of the third branch's input after the run is the reference's. -/
theorem finalUC (c : Dev nD) : (dats m 0 c).arrAt 18 cfg0.N = Cert.BwdMixRefIdeal.Mix.REFUC (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg10)) := by
  refine (dats m 0 c).arrAt_eq_of_covers 18 _ (by decide +kernel) fun t hf y => ?_
  rw [eq_ix2 (((cfg0.win 18).blk t).view.emb y)]
  refine Eq.trans ?_ (Cert.BwdMixRefIdeal.Mix.uc_apply _ _ _ _ _ _ _ _).symm
  blk_simp
  rw [after0_18]
  by_cases h0 : t.val % 16 = 0
  · rw [outsAt0_A m c t h0 h0 h0 h0]; frame_out
    refine (congrArg _ (eq_ix2 y)).trans ((uc_whole _ _ _ _ _ _ _ _ _ _).trans ?_)
    refine congr (congrArg HMul.hMul ?_) ?_
    · blk_point [iblk, V, idx t]
    refine gluBack_congr (fun l => ?_) (fun l => ?_) (fun l => ?_) (fun k l => ?_) (fun l => ?_) (fun l => ?_) (Fin.ext ?_)
    · blk_point [iblk, V, idx t]
    · blk_point [iblk, V, idx t]
    · blk_point [iblk, V, idx t]
    · blk_point [iblk, V, idx t]
    · blk_point [iblk, V, idx t]
    · blk_point [iblk, V, idx t]
    · blk_simp [idx t]
  · rw [outsAt0_B m c t h0 h0 h0 h0]; frame_out
    refine (congrArg _ (eq_ix2 y)).trans ((uc_whole _ _ _ _ _ _ _ _ _ _).trans ?_)
    refine congr (congrArg HMul.hMul ?_) ?_
    · blk_point [iblk, V, idx t]
    refine gluBack_congr (fun l => ?_) (fun l => ?_) (fun l => ?_) (fun k l => ?_) (fun l => ?_) (fun l => ?_) (Fin.ext ?_)
    · blk_point [iblk, V, idx t]
    · blk_point [iblk, V, idx t]
    · blk_point [iblk, V, idx t]
    · blk_point [iblk, V, idx t]
    · blk_point [iblk, V, idx t]
    · blk_point [iblk, V, idx t]
    · blk_simp [idx t]

/-- The gradient of the input's scale after the run is the reference's. -/
theorem finalCD (c : Dev nD) : (dats m 0 c).arrAt 20 cfg0.N = Cert.BwdMixRefIdeal.Mix.REFCD (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg10)) := by
  refine (dats m 0 c).arrAt_eq_of_covers 20 _ (by decide +kernel) fun t hf y => ?_
  rw [row_eq (((cfg0.win 20).blk t).view.emb y)]
  refine Eq.trans ?_ (Cert.BwdMixRefIdeal.Mix.cd_apply _ _ _ _ _ _ _).symm
  blk_simp
  rw [after0_20, Pipeline.eq_sum_fin_of_reset_step_apply_of_flush (fun n h => (outsAt0 m c n h).2.2.2.2.2.2.2.1) 16 (fun _ => 0) _
    (fun t h j => by rw [outsAt0_A m c t h h h h]; frame_out; rw [cd_whole, start_cd])
    (fun t h j => by rw [outsAt0_B m c t h h h h]; frame_out; rw [cd_whole])
    t ((flush0_20 t).mp hf) _, zero_add]
  refine Sums.sum_rev_mul_add_congr rfl fun s k hl => ?_
  refine congr (congrArg HMul.hMul ?_) ?_
  · refine gluBack_congr (fun l => ?_) (fun l => ?_) (fun l => ?_) (fun k l => ?_) (fun l => ?_) (fun l => ?_) (Fin.ext ?_)
    · blk_point [iblk, V, idx t, idx ⟨_, Pipeline.run_point_lt_of_flush t ((flush0_20 t).mp hf) s⟩]
    · blk_point [iblk, V, idx t, idx ⟨_, Pipeline.run_point_lt_of_flush t ((flush0_20 t).mp hf) s⟩]
    · blk_point [iblk, V, idx t, idx ⟨_, Pipeline.run_point_lt_of_flush t ((flush0_20 t).mp hf) s⟩]
    · blk_point [iblk, V, idx t, idx ⟨_, Pipeline.run_point_lt_of_flush t ((flush0_20 t).mp hf) s⟩]
    · blk_point [iblk, V, idx t, idx ⟨_, Pipeline.run_point_lt_of_flush t ((flush0_20 t).mp hf) s⟩]
    · blk_point [iblk, V, idx t, idx ⟨_, Pipeline.run_point_lt_of_flush t ((flush0_20 t).mp hf) s⟩]
    · blk_simp [idx t]
  · blk_point [iblk, V, idx t, idx ⟨_, Pipeline.run_point_lt_of_flush t ((flush0_20 t).mp hf) s⟩]

/-- The gradient of the third branch's weight after the run is the reference's. -/
theorem finalW (c : Dev nD) : (dats m 0 c).arrAt 21 cfg0.N = Cert.BwdMixRefIdeal.Mix.REFW (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg10)) := by
  refine (dats m 0 c).arrAt_eq_of_covers 21 _ (by decide +kernel) fun t hf y => ?_
  rw [eq_ix2 (((cfg0.win 21).blk t).view.emb y)]
  refine Eq.trans ?_ (Cert.BwdMixRefIdeal.Mix.w_apply _ _ _ _ _ _ _ _).symm
  blk_simp
  rw [after0_21, Pipeline.eq_sum_fin_of_reset_step_apply_of_flush (fun n h => (outsAt0 m c n h).2.2.2.2.2.2.2.2.1) 16 (fun _ => 0) _
    (fun t h j => by rw [outsAt0_A m c t h h h h]; frame_out; rw [w_whole, start_w])
    (fun t h j => by rw [outsAt0_B m c t h h h h]; frame_out; rw [w_whole])
    t ((flush0_21 t).mp hf) _, zero_add]
  refine Sums.sum_rev_mul_add_congr rfl fun s k hl => ?_
  refine congr (congrArg HMul.hMul ?_) ?_
  · refine lean_congr (fun l => ?_) (fun l => ?_) (fun l => ?_) (fun k l => ?_) (fun l => ?_) (fun l => ?_) (Fin.ext ?_)
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]
    · blk_simp [idx t]
  · refine congrArg act (congr (congrArg HAdd.hAdd ?_) (congr (congrArg HMul.hMul ?_) ?_))
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]
    · blk_point [iblk, V, idx t, idx ⟨_, Pipeline.run_point_lt_of_flush t ((flush0_21 t).mp hf) s⟩]

/-- The gradient of the third branch's bias after the run is the reference's. -/
theorem finalBG (c : Dev nD) : (dats m 0 c).arrAt 22 cfg0.N = Cert.BwdMixRefIdeal.Mix.REFBG (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg10)) := by
  refine (dats m 0 c).arrAt_eq_of_covers 22 _ (by decide +kernel) fun t hf y => ?_
  rw [row_eq (((cfg0.win 22).blk t).view.emb y)]
  refine Eq.trans ?_ (Cert.BwdMixRefIdeal.Mix.bg_apply _ _ _ _ _ _ _).symm
  blk_simp
  rw [after0_22, Pipeline.eq_sum_fin_of_reset_step_apply_of_flush (fun n h => (outsAt0 m c n h).2.2.2.2.2.2.2.2.2) 16 (fun _ => 0) _
    (fun t h j => by rw [outsAt0_A m c t h h h h]; frame_out; rw [bg_whole, start_bg])
    (fun t h j => by rw [outsAt0_B m c t h h h h]; frame_out; rw [bg_whole])
    t ((flush0_22 t).mp hf) _, zero_add]
  refine Sums.sum_rev_mul_add_congr rfl fun s k hl => ?_
  refine lean_congr (fun l => ?_) (fun l => ?_) (fun l => ?_) (fun k l => ?_) (fun l => ?_) (fun l => ?_) (Fin.ext ?_)
  · blk_point [iblk, V, idx t, idx ⟨_, Pipeline.run_point_lt_of_flush t ((flush0_22 t).mp hf) s⟩]
  · blk_point [iblk, V, idx t, idx ⟨_, Pipeline.run_point_lt_of_flush t ((flush0_22 t).mp hf) s⟩]
  · blk_point [iblk, V, idx t, idx ⟨_, Pipeline.run_point_lt_of_flush t ((flush0_22 t).mp hf) s⟩]
  · blk_point [iblk, V, idx t, idx ⟨_, Pipeline.run_point_lt_of_flush t ((flush0_22 t).mp hf) s⟩]
  · blk_point [iblk, V, idx t, idx ⟨_, Pipeline.run_point_lt_of_flush t ((flush0_22 t).mp hf) s⟩]
  · blk_point [iblk, V, idx t, idx ⟨_, Pipeline.run_point_lt_of_flush t ((flush0_22 t).mp hf) s⟩]
  · blk_simp [idx t]

end Cert.BwdMixIdeal.Mix
-- ==== Proof.Scan.lean ====
module
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Claim
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The row number of each element of an eight-row block. -/
abbrev rowIx : IVec S8x512 32 := iota .tc S8x512 32 [0] iota_S8x512_d0_w32

/-- The eight rows trip `k` of the loop works on. -/
abbrev rows (X : Vec F S512x512 .f32) (k : Fin k0_t1_loop.trips) : Vec F S8x512 .f32 :=
  View.ld X (Rect.unit (s := S512x512) (k0_off1 k) S8x512.size (k0_off1_inb k))

/-- What one trip stores: eight rows, of the carried rows `s` and its own rows `A`, `B`. -/
def hb (s : Vec F S8x512 .f32 × Vec F S8x512 .f32) (A B : Vec F S8x512 .f32) : Vec F S8x512 .f32 :=
  k0_pay3 s.1 (k0_pay12 rowIx s.2 A B) (k0_pay13 rowIx s.2 A) (k0_pay14 rowIx) (k0_pay15 rowIx s.2 A B) k0_pay16

/-- What one trip hands to the next. -/
def nxt (s : Vec F S8x512 .f32 × Vec F S8x512 .f32) (A B : Vec F S8x512 .f32) : Vec F S8x512 .f32 × Vec F S8x512 .f32 :=
  (k0_pay4 s.1 (k0_pay12 rowIx s.2 A B) (k0_pay13 rowIx s.2 A) (k0_pay14 rowIx) (k0_pay15 rowIx s.2 A B) k0_pay16, k0_pay7 A)

/-- What is carried before trip `k`. -/
def carry (X Y : Vec F S512x512 .f32) (init : Vec F S8x512 .f32 × Vec F S8x512 .f32) : ℕ → Vec F S8x512 .f32 × Vec F S8x512 .f32
  | 0 => init
  | k + 1 => if h : k < k0_t1_loop.trips then nxt (carry X Y init k) (rows X ⟨k, h⟩) (rows Y ⟨k, h⟩) else carry X Y init k

theorem off1 (k : Fin k0_t1_loop.trips) : k0_off1 k = ![8 * (63 - k.val), 0] :=
  (by decide +kernel : ∀ k : Fin k0_t1_loop.trips, k0_off1 k = ![8 * (63 - k.val), 0]) k

/-- The trip that stores row `y 0`. -/
def tripOf (y : S512x512.Idx) : Fin k0_t1_loop.trips := ⟨63 - (y 0).val / 8, Nat.lt_of_le_of_lt (Nat.sub_le _ _) (by decide)⟩

/-- Where row `y 0` lies among the eight rows of its trip. -/
def inTrip (y : S512x512.Idx) : S8x512.Idx
  | ⟨0, _⟩ => ⟨(y 0).val % 8, Nat.mod_lt _ (by decide)⟩
  | ⟨1, _⟩ => ⟨(y 1).val, (y 1).isLt⟩

/-- The whole block the loop leaves. -/
def outB (X Y : Vec F S512x512 .f32) (init : Vec F S8x512 .f32 × Vec F S8x512 .f32) : Vec F S512x512 .f32 := fun y =>
  hb (carry X Y init (tripOf y).val) (rows X (tripOf y)) (rows Y (tripOf y)) (inTrip y)

theorem st_eq (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole) (x0 x1 : Vec F S512x512 .f32) (init : Vec F S8x512 .f32 × Vec F S8x512 .f32) :
    ∀ k, k ≤ 64 → (st_k0_t1 (F := F) 𝒱 c bd i arg2 harg2 arg3 harg3 arg4 harg4 arg5 harg5 arg6 harg6 rowIx (harg2.unread x0) (harg3.unread x1) init k).1 = carry x0 x1 init k
      ∧ (∀ p ∈ (st_k0_t1 (F := F) 𝒱 c bd i arg2 harg2 arg3 harg3 arg4 harg4 arg5 harg5 arg6 harg6 rowIx (harg2.unread x0) (harg3.unread x1) init k).2, ∀ x, p.2 x = outB x0 x1 init (p.1.emb x))
      ∧ ∀ y : S512x512.Idx, 64 - k ≤ (y 0).val / 8 → ∃ p ∈ (st_k0_t1 (F := F) 𝒱 c bd i arg2 harg2 arg3 harg3 arg4 harg4 arg5 harg5 arg6 harg6 rowIx (harg2.unread x0) (harg3.unread x1) init k).2, y ∈ p.1.set := by
  intro k
  induction k with
  | zero =>
    refine fun _ => ⟨rfl, fun p hp => absurd hp List.not_mem_nil, fun y hy => ?_⟩
    have : (y 0).val < 512 := (y 0).isLt
    omega
  | succ k ih =>
    intro hk
    obtain ⟨h1, h2, h3⟩ := ih (Nat.le_of_succ_le hk)
    have hkt : k < k0_t1_loop.trips := Nat.lt_of_lt_of_eq hk (by decide)
    have e2 : (arg2.view.readAt (Elt F) (Rect.unit (s := S512x512) (k0_off1 ⟨k, hkt⟩) S8x512.size (k0_off1_inb ⟨k, hkt⟩)).toLoadRect (harg2.unread x0)) = rows x0 ⟨k, hkt⟩ := by
      rw [View.readAt_eq_ld, harg2.read_unread]
    have e3 : (arg3.view.readAt (Elt F) (Rect.unit (s := S512x512) (k0_off1 ⟨k, hkt⟩) S8x512.size (k0_off1_inb ⟨k, hkt⟩)).toLoadRect (harg3.unread x1)) = rows x1 ⟨k, hkt⟩ := by
      rw [View.readAt_eq_ld, harg3.read_unread]
    have hR : ∀ acc, tripR_k0_t1 (F := F) 𝒱 c bd i arg2 harg2 arg3 harg3 arg4 harg4 arg5 harg5 arg6 harg6 rowIx (harg2.unread x0) (harg3.unread x1) ⟨k, hkt⟩ acc = nxt acc (rows x0 ⟨k, hkt⟩) (rows x1 ⟨k, hkt⟩) := by
      intro acc
      rw [← e2, ← e3]
      unfold tripR_k0_t1 trip_k0_t1
      rfl
    have hL : ∀ acc, tripL_k0_t1 (F := F) 𝒱 c bd i arg2 harg2 arg3 harg3 arg4 harg4 arg5 harg5 arg6 harg6 rowIx (harg2.unread x0) (harg3.unread x1) ⟨k, hkt⟩ acc = [⟨Rect.unit (s := S512x512) (k0_off1 ⟨k, hkt⟩) S8x512.size (k0_off1_inb ⟨k, hkt⟩), hb acc (rows x0 ⟨k, hkt⟩) (rows x1 ⟨k, hkt⟩)⟩] := by
      intro acc
      rw [← e2, ← e3]
      unfold tripL_k0_t1 trip_k0_t1
      rfl
    rw [st_k0_t1_succ (F := F) 𝒱 c bd i arg2 harg2 arg3 harg3 arg4 harg4 arg5 harg5 arg6 harg6 rowIx (harg2.unread x0) (harg3.unread x1) init ⟨k, hkt⟩]
    dsimp only
    rw [hR, hL, h1]
    refine ⟨?_, fun p hp => ?_, fun y hy => ?_⟩
    · rw [carry, dif_pos hkt]
    · rcases List.mem_append.mp hp with hp | hp
      · obtain rfl := List.mem_singleton.mp hp
        intro x
        dsimp only
        have hx : (x 0).val < 8 := (x 0).isLt
        have ev : (((Rect.unit (s := S512x512) (k0_off1 ⟨k, hkt⟩) S8x512.size (k0_off1_inb ⟨k, hkt⟩)).emb x) 0).val = 8 * (63 - k) + (x 0).val := by
          show (k0_off1 ⟨k, hkt⟩) 0 + 1 * (x 0).val = _
          have e : k0_off1 ⟨k, hkt⟩ 0 = 8 * (63 - k) := by rw [off1]; rfl
          omega
        have ev1 : (((Rect.unit (s := S512x512) (k0_off1 ⟨k, hkt⟩) S8x512.size (k0_off1_inb ⟨k, hkt⟩)).emb x) 1).val = (x 1).val := by
          show (k0_off1 ⟨k, hkt⟩) 1 + 1 * (x 1).val = _
          have e : k0_off1 ⟨k, hkt⟩ 1 = 0 := by rw [off1]; rfl
          omega
        unfold outB
        have et : tripOf ((Rect.unit (s := S512x512) (k0_off1 ⟨k, hkt⟩) S8x512.size (k0_off1_inb ⟨k, hkt⟩)).emb x) = ⟨k, hkt⟩ := by
          apply Fin.ext; unfold tripOf; dsimp only; rw [ev]; omega
        rw [et]
        congr 1
        funext a
        apply Fin.ext
        fin_cases a
        · show (x 0).val = _ % 8
          rw [ev]; omega
        · exact ev1.symm
      · exact h2 p hp
    · by_cases hy' : 64 - k ≤ (y 0).val / 8
      · obtain ⟨p, hp, h⟩ := h3 y hy'
        exact ⟨p, List.mem_append_right _ hp, h⟩
      · refine ⟨_, List.mem_append_left _ (List.mem_singleton.mpr rfl), ?_⟩
        dsimp only
        rw [Rect.mem_set_unit, off1]
        have : (y 1).val < 512 := (y 1).isLt
        intro a
        fin_cases a
        · constructor
          · show 8 * (63 - k) ≤ (y 0).val; omega
          · show (y 0).val < 8 * (63 - k) + 8; omega
        · constructor
          · exact Nat.zero_le _
          · show (y 1).val < 0 + 512; omega

/-- The condition under which the body clears what it carries. -/
abbrev cond0 (i : grid0.Coords) : Prop := (Scalar.cmpi .ne (Scalar.extui (Scalar.cmpi .eq (BitVec.ofNat 32 (i 1).val) 0#32)) 0#32) = 1#1

/-- What the two scratches hold when the loop is entered: zeros at a sequence's first block, else what they held. -/
def init0 (b : Bool) (s : Vec F S8x512 .f32 × Vec F S8x512 .f32) : Vec F S8x512 .f32 × Vec F S8x512 .f32 :=
  if b then (k0_pay1, k0_pay2) else s

theorem trips64 : Scf.trips k0_t1_loop.lb k0_t1_loop.ub k0_t1_loop.st = 64 := by decide

section Close
variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole) (x0 x1 : Vec F S512x512 .f32) (init init' : Vec F S8x512 .f32 × Vec F S8x512 .f32) (h : init = init')
include h

/-- The written block, read back. -/
theorem close_out (f : arg4.view.ty.Contents (Elt F)) :
    arg4.view.read (Elt F) (arg4.view.writes (Elt F) f (st_k0_t1 (F := F) Variants.none c none i arg2 harg2 arg3 harg3 arg4 harg4 arg5 harg5 arg6 harg6 rowIx (harg2.unread x0) (harg3.unread x1) init (Scf.trips k0_t1_loop.lb k0_t1_loop.ub k0_t1_loop.st)).2) = outB x0 x1 init' := by
  subst h
  obtain ⟨-, h2, h3⟩ := st_eq (F := F) Variants.none c none i arg2 harg2 arg3 harg3 arg4 harg4 arg5 harg5 arg6 harg6 x0 x1 init 64 (Nat.le_refl _)
  rw [trips64]
  funext y
  exact View.read_writes_apply_of_pieces _ _ _ _ h2 y (h3 y (by omega))

/-- The carried rows of the sum, read back. -/
theorem close_h (f : arg5.view.ty.Contents (Elt F)) (L) (inb : ∀ a, (![0, 0] : Fin 2 → ℕ) a + S8x512.size a ≤ S8x512.size a) :
    arg5.view.read (Elt F) (arg5.view.writes (Elt F) f (⟨Rect.unit (s := S8x512) ![0, 0] S8x512.size inb, k0_pay5 (st_k0_t1 (F := F) Variants.none c none i arg2 harg2 arg3 harg3 arg4 harg4 arg5 harg5 arg6 harg6 rowIx (harg2.unread x0) (harg3.unread x1) init (Scf.trips k0_t1_loop.lb k0_t1_loop.ub k0_t1_loop.st)).1.1⟩ :: L)) = k0_pay5 (carry x0 x1 init' 64).1 := by
  subst h
  refine (View.read_writes_full arg5.view f inb _ L).trans ?_
  rw [trips64, (st_eq (F := F) Variants.none c none i arg2 harg2 arg3 harg3 arg4 harg4 arg5 harg5 arg6 harg6 x0 x1 init 64 (Nat.le_refl _)).1]

/-- The carried rows of the decay, read back. -/
theorem close_a (f : arg6.view.ty.Contents (Elt F)) (L) (inb : ∀ a, (![0, 0] : Fin 2 → ℕ) a + S8x512.size a ≤ S8x512.size a) :
    arg6.view.read (Elt F) (arg6.view.writes (Elt F) f (⟨Rect.unit (s := S8x512) ![0, 0] S8x512.size inb, k0_pay6 (st_k0_t1 (F := F) Variants.none c none i arg2 harg2 arg3 harg3 arg4 harg4 arg5 harg5 arg6 harg6 rowIx (harg2.unread x0) (harg3.unread x1) init (Scf.trips k0_t1_loop.lb k0_t1_loop.ub k0_t1_loop.st)).1.2⟩ :: L)) = k0_pay6 (carry x0 x1 init' 64).2 := by
  subst h
  refine (View.read_writes_full arg6.view f inb _ L).trans ?_
  rw [trips64, (st_eq (F := F) Variants.none c none i arg2 harg2 arg3 harg3 arg4 harg4 arg5 harg5 arg6 harg6 x0 x1 init 64 (Nat.le_refl _)).1]

end Close

set_option maxHeartbeats 1000000 in
/-- One run of the body: from the two blocks and what is carried to the stored block and what is carried on. -/
theorem run_body (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S8x512 .f32) (harg6 : arg6.IsWhole)
    (x0 x1 : Vec F S512x512 .f32) (s : Vec F S8x512 .f32 × Vec F S8x512 .f32) (b : Bool) (hc : cond0 i ↔ b = true) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s.1 ∗ owns (c : Thread nD τ) arg6 fullShare s.2
            ∗ (iprop(owns (c : Thread nD τ) arg2 fullShare x0 ∗ owns (c : Thread nD τ) arg3 fullShare x1 ∗ owns (c : Thread nD τ) arg4 fullShare (outB x0 x1 (init0 b s)) ∗ owns (c : Thread nD τ) arg5 fullShare (k0_pay5 (carry x0 x1 (init0 b s) 64).1) ∗ owns (c : Thread nD τ) arg6 fullShare (k0_pay6 (carry x0 x1 (init0 b s) 64).2)) -∗ K ⟨⟩))
          ⊢ wp frame (wpE (defs₀ (F := F)) Variants.none c none) E (cc0_b_rglru_scan i arg2 harg2 arg3 harg3 arg4 harg4 arg5 harg5 arg6 harg6) K := by
  simp only [cc0_b_rglru_scan_eq_skeleton]; unfold cc0_b_rglru_scan_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1; obtain rfl := harg5.eq_unread hfs0; obtain rfl := harg6.eq_unread hfs1
  cases b with
  | true =>
    have hc0 : cond0 i := hc.mpr rfl
    sl_exec (disch := first | sl_exact hc0)
    sl_step
    have hin : ((run_body.sl.v4 c arg5, run_body.sl.v5 c arg6) : Vec F S8x512 .f32 × Vec F S8x512 .f32) = init0 true s := by
      have e4 : (run_body.sl.v4 c arg5 : Vec F S8x512 .f32) = k0_pay1 := by
        unfold run_body.sl.v4 run_body.sl.HS0_1
        exact View.readCov_full _ _ _ _ _
      have e5 : (run_body.sl.v5 c arg6 : Vec F S8x512 .f32) = k0_pay2 := by
        unfold run_body.sl.v5 run_body.sl.HS1_1
        exact View.readCov_full _ _ _ _ _
      rw [e4, e5]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      exact close_out c i arg2 harg2 arg3 harg3 arg4 harg4 arg5 harg5 arg6 harg6 x0 x1 _ _ hin _
    isplitl [HS0]
    · iexists _; isplitr; swap; · iexact HS0
      ipureintro
      exact close_h c i arg2 harg2 arg3 harg3 arg4 harg4 arg5 harg5 arg6 harg6 x0 x1 _ _ hin _ _ _
    iexists _; isplitr; swap; · iexact HS1
    ipureintro
    exact close_a c i arg2 harg2 arg3 harg3 arg4 harg4 arg5 harg5 arg6 harg6 x0 x1 _ _ hin _ _ _
  | false =>
    have hc0 : ¬cond0 i := fun h => absurd (hc.mp h) (by decide)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      exact close_out c i arg2 harg2 arg3 harg3 arg4 harg4 arg5 harg5 arg6 harg6 x0 x1 _ _ (Prod.ext ((View.readAt_full _ _ _).trans (harg5.read_unread _)) ((View.readAt_full _ _ _).trans (harg6.read_unread _))) _
    isplitl [HS0]
    · iexists _; isplitr; swap; · iexact HS0
      ipureintro
      exact close_h c i arg2 harg2 arg3 harg3 arg4 harg4 arg5 harg5 arg6 harg6 x0 x1 _ _ (Prod.ext ((View.readAt_full _ _ _).trans (harg5.read_unread _)) ((View.readAt_full _ _ _).trans (harg6.read_unread _))) _ _ _
    iexists _; isplitr; swap; · iexact HS1
    ipureintro
    exact close_a c i arg2 harg2 arg3 harg3 arg4 harg4 arg5 harg5 arg6 harg6 x0 x1 _ _ (Prod.ext ((View.readAt_full _ _ _).trans (harg5.read_unread _)) ((View.readAt_full _ _ _).trans (harg6.read_unread _))) _ _ _

/-! ## The proof data -/

variable (m : (ℓ : Loc nD τ sig) → Buf (Elt F) ℓ) (ρ : Dev nD → PrngReg)

/-- The body clears what it carries at the points ≡ 0 (mod 8). -/
theorem hcond0 : ∀ t : Fin cfg0.N, cond0 (grid0.coords t) ↔ decide (t.val % 8 = 0) = true :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    rw [decide_eq_true_iff]
    simp only [cond0, e0, e1]
    word_cmp
   : ∀ t : Fin grid0.N, cond0 (grid0.coords t) ↔ decide (t.val % 8 = 0) = true)

/-- The two input blocks of a point. -/
abbrev blkA (c : Dev nD) (n : ℕ) (h : n < cfg0.N) : Vec F S512x512 .f32 := iblk m c 0 ⟨n, h⟩
abbrev blkB (c : Dev nD) (n : ℕ) (h : n < cfg0.N) : Vec F S512x512 .f32 := iblk m c 1 ⟨n, h⟩

/-- What a point leaves in the scratches, of what its loop starts from. -/
def left (X Y : Vec F S512x512 .f32) (init : Vec F S8x512 .f32 × Vec F S8x512 .f32) : Vec F S8x512 .f32 × Vec F S8x512 .f32 :=
  (k0_pay5 (carry X Y init 64).1, k0_pay6 (carry X Y init 64).2)

/-- What the loop of point `n` starts from, -/
def start (c : Dev nD) : (n : ℕ) → n < cfg0.N → Vec F S8x512 .f32 × Vec F S8x512 .f32
  | 0, _ => (k0_pay1, k0_pay2)
  | n + 1, h => init0 (decide ((n + 1) % 8 = 0)) (left (blkA m c n (Nat.lt_of_succ_lt h)) (blkB m c n (Nat.lt_of_succ_lt h)) (start c n (Nat.lt_of_succ_lt h)))

/-- what it leaves in the scratches, -/
def scr (c : Dev nD) (n : ℕ) (h : n < cfg0.N) : Vec F S8x512 .f32 × Vec F S8x512 .f32 :=
  left (blkA m c n h) (blkB m c n h) (start m c n h)

/-- and the block it writes. -/
def outAt (c : Dev nD) (t : Fin cfg0.N) : Vec F S512x512 .f32 :=
  outB (iblk m c 0 t) (iblk m c 1 t) (start m c t.val t.isLt)

abbrev ms0_0 (t : Fin cfg0.N) : Memref sig .tc .vmem S512x512 .f32 := win0_0.stage (cfg0.slots t 0)
abbrev ms0_1 (t : Fin cfg0.N) : Memref sig .tc .vmem S512x512 .f32 := win0_1.stage (cfg0.slots t 1)
abbrev ms0_2 (t : Fin cfg0.N) : Memref sig .tc .vmem S512x512 .f32 := win0_2.stage (cfg0.slots t 2)
abbrev scM0_0 : Memref sig .tc .vmem S8x512 .f32 := Memref.whole cc0_scratch0
abbrev scM0_1 : Memref sig .tc .vmem S8x512 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The scratches between points: at anything before the first, then at what the point before left. -/
def PhiS (c : Dev nD) : (n : ℕ) → n ≤ cfg0.N → sProp 𝕄
  | 0, _ => Pipeline.ΦA spec0 c
  | n + 1, hn => iprop(iprop(owns (c : Thread nD τ) scM0_0 fullShare (scr m c n hn).1 ∗ owns (c : Thread nD τ) scM0_1 fullShare (scr m c n hn).2) ∗ (∃ r, prngReg c r))

/-- The proof data: inputs at their blocks, the output at its computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Before any point the scratches hold some pair from which the point's start follows. -/
theorem PhiS_open (c : Dev nD) (t : Fin cfg0.N) :
    PhiS m c t.val (Nat.le_of_lt t.isLt) ⊢ iprop(∃ s : Vec F S8x512 .f32 × Vec F S8x512 .f32, ⌜init0 (decide (t.val % 8 = 0)) s = start m c t.val t.isLt⌝
      ∗ iprop(owns (c : Thread nD τ) scM0_0 fullShare s.1 ∗ owns (c : Thread nD τ) scM0_1 fullShare s.2) ∗ (∃ r, prngReg c r)) := by
  obtain ⟨n, hn⟩ := t
  cases n with
  | zero =>
    show Pipeline.ΦA spec0 c ⊢ _
    rw [PhiA0_eq]
    iintro ⟨⟨⟨%d0, H0⟩, ⟨%d1, H1⟩⟩, Hg⟩
    iexists (d0, d1)
    isplitr
    · ipureintro; rfl
    isplitl [H0 H1]
    · isplitl [H0]; · iexact H0
      iexact H1
    iexact Hg
  | succ n =>
    show iprop(iprop(owns (c : Thread nD τ) scM0_0 fullShare (scr m c n (Nat.lt_of_succ_lt hn)).1 ∗ owns (c : Thread nD τ) scM0_1 fullShare (scr m c n (Nat.lt_of_succ_lt hn)).2) ∗ (∃ r, prngReg c r)) ⊢ _
    iintro ⟨H, Hg⟩
    iexists (scr m c n (Nat.lt_of_succ_lt hn))
    isplitr
    · ipureintro; rfl
    isplitl [H]; · iexact H
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, PhiS_castSucc]
  rw [show (dats m 0 c).Φ t.succ = iprop(iprop(owns (c : Thread nD τ) scM0_0 fullShare (scr m c t.val t.isLt).1 ∗ owns (c : Thread nD τ) scM0_1 fullShare (scr m c t.val t.isLt).2) ∗ (∃ r, prngReg c r)) from rfl]
  unfold outAt scr left
  iintro ⟨HP, Ho, ⟨%d0, H0⟩, ⟨%d1, H1⟩, ⟨%d2, H2⟩⟩
  ihave HP := (PhiS_open m c t) $$ HP
  icases HP with ⟨%s, %hs, ⟨HS0, HS1⟩, Hg⟩
  rw [← hs]
  iapply (run_body c (grid0.coords t) _ _ _ _ _ _ _ _ _ _ (iblk m c 0 t) (iblk m c 1 t) s (decide (t.val % 8 = 0)) (hcond0 t) Set.univ _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (15 + 1) (Nat.le_of_eq N_0.symm) from rfl, PhiS, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every final state has each array at what the data say, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run read at the arrays: the result array holds what its blocks make of it, and the arguments are as launched. -/
theorem run_value : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.1 c).1 2, (h.2.1 c).1, (h.2.1 c).2⟩)
    (θ_run_and (run_quiescent m ρ) (frame m ρ))

end Cert.KernelIdeal.Gen
end
-- ==== Proof.Spec.lean ====
module
public import Idealize.ShloMosaic.Lib.Pipeline.ValueKit
@[expose] public section
noncomputable section
namespace Cert.Spec

/-- Entry `q` of step `p` of sequence `b`, of an array of two sequences of 4096 steps; zero past the sequence's end. -/
def ent (A : Fin 8192 → Fin 512 → ℝ) (b p : ℕ) (q : Fin 512) : ℝ :=
  if h : p < 4096 ∧ b < 2 then A ⟨4096 * b + p, by omega⟩ q else 0

/-- The gradient with respect to what the recurrence adds, counted `d` steps from the sequence's end: the recurrence run
    backwards, from zero. -/
def lamD (A C : Fin 8192 → Fin 512 → ℝ) (b : ℕ) (q : Fin 512) : ℕ → ℝ
  | 0 => 0
  | d + 1 => ent C b (4095 - d) q + ent A b (4096 - d) q * lamD A C b q d

/-- The same at step `p`. -/
def lam (A C : Fin 8192 → Fin 512 → ℝ) (b p : ℕ) (q : Fin 512) : ℝ := lamD A C b q (4096 - p)

theorem lam_step (A C : Fin 8192 → Fin 512 → ℝ) (b p : ℕ) (q : Fin 512) (hp : p < 4096) :
    lam A C b p q = ent C b p q + ent A b (p + 1) q * lam A C b (p + 1) q := by
  unfold lam
  rw [show 4096 - p = (4095 - p) + 1 by omega, lamD, show 4095 - (4095 - p) = p by omega,
    show 4096 - (4095 - p) = p + 1 by omega, show 4096 - (p + 1) = 4095 - p by omega]

theorem lam_end (A C : Fin 8192 → Fin 512 → ℝ) (b : ℕ) (q : Fin 512) : lam A C b 4096 q = 0 := rfl

theorem ent_end (A : Fin 8192 → Fin 512 → ℝ) (b : ℕ) (q : Fin 512) : ent A b 4096 q = 0 := by
  unfold ent; rw [dif_neg (by omega)]

/-- The whole gradient, row by row. -/
def grad (A C : Fin 8192 → Fin 512 → ℝ) (r : Fin 8192) (q : Fin 512) : ℝ := lam A C (r.val / 4096) (r.val % 4096) q

end Cert.Spec
end
-- ==== Proof.ScanValue.lean ====
module
public import proofs.«01_k».proof.Proof.Scan
public import proofs.«01_k».proof.Proof.Spec
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic

/-- One trip over the reals: eight steps of the recurrence, run downwards. -/
theorem hb_real (s : Vec Ideal S8x512 .f32 × Vec Ideal S8x512 .f32) (A B : Vec Ideal S8x512 .f32) (a b l : ℕ → Fin 512 → ℝ)
    (h1 : s.1 = fun j => ((l 8 (j 1) : ℝ) : EReal)) (h2 : s.2 = fun j => ((a 8 (j 1) : ℝ) : EReal))
    (hA : A = fun j => ((a (j 0).val (j 1) : ℝ) : EReal)) (hB : B = fun j => ((b (j 0).val (j 1) : ℝ) : EReal))
    (hl : ∀ r < 8, ∀ q, l r q = b r q + a (r + 1) q * l (r + 1) q) (r : Fin 8) (q : Fin 512) :
    hb s A B (ix2 r q) = ((l r.val q : ℝ) : EReal) := by
  unfold hb
  rw [h1, h2, hA, hB]
  have e0 := hl 0 (by decide) q
  have e1 := hl 1 (by decide) q
  have e2 := hl 2 (by decide) q
  have e3 := hl 3 (by decide) q
  have e4 := hl 4 (by decide) q
  have e5 := hl 5 (by decide) q
  have e6 := hl 6 (by decide) q
  have e7 := hl 7 (by decide) q
  simp only [Nat.reduceAdd] at e0 e1 e2 e3 e4 e5 e6 e7
  rw [e7] at e6
  rw [e6] at e5
  rw [e5] at e4
  rw [e4] at e3
  rw [e3] at e2
  rw [e2] at e1
  rw [e1] at e0
  fin_cases r <;> pointwise [k0_pay3, k0_pay12, k0_pay13, k0_pay14, k0_pay15, k0_pay16, k0_pay8, k0_pay9, k0_pay10, k0_pay11] <;>
    simp only [Scalar.select, show ∀ x y : BitVec 32, IntOp.cmpi .slt x y = BitVec.ofBool (x.slt y) from fun _ _ => rfl, show ∀ x y : BitVec 32, IntOp.cmpi .eq x y = BitVec.ofBool (x == y) from fun _ _ => rfl] <;> simp
  all_goals first | rw [e0] | rw [e1] | rw [e2] | rw [e3] | rw [e4] | rw [e5] | rw [e6] | rw [e7]
  all_goals simp only [← EReal.coe_mul, ← EReal.coe_add]
  all_goals exact congrArg _ (by ring)

/-- The carried rows and the stored block over the reals. -/
theorem nxt_real (s : Vec Ideal S8x512 .f32 × Vec Ideal S8x512 .f32) (A B : Vec Ideal S8x512 .f32) (a b l : ℕ → Fin 512 → ℝ)
    (h1 : s.1 = fun j => ((l 8 (j 1) : ℝ) : EReal)) (h2 : s.2 = fun j => ((a 8 (j 1) : ℝ) : EReal))
    (hA : A = fun j => ((a (j 0).val (j 1) : ℝ) : EReal)) (hB : B = fun j => ((b (j 0).val (j 1) : ℝ) : EReal))
    (hl : ∀ r < 8, ∀ q, l r q = b r q + a (r + 1) q * l (r + 1) q) :
    nxt s A B = (fun j => ((l 0 (j 1) : ℝ) : EReal), fun j => ((a 0 (j 1) : ℝ) : EReal)) := by
  unfold nxt
  refine Prod.ext ?_ ?_
  · funext j
    dsimp only
    rw [show k0_pay4 s.1 (k0_pay12 rowIx s.2 A B) (k0_pay13 rowIx s.2 A) (k0_pay14 rowIx) (k0_pay15 rowIx s.2 A B) k0_pay16 j = hb s A B (ix2 0 (j 1)) from by pointwise [k0_pay4, hb]]
    exact hb_real s A B a b l h1 h2 hA hB hl 0 (j 1)
  · funext j
    dsimp only
    rw [hA]
    pointwise [k0_pay7]

theorem rows_real (X : Vec Ideal S512x512 .f32) (a : ℕ → Fin 512 → ℝ) (hX : X = fun j => ((a (j 0).val (j 1) : ℝ) : EReal))
    (k : ℕ) (h : k < k0_t1_loop.trips) :
    rows X ⟨k, h⟩ = fun j => ((a (504 - 8 * k + (j 0).val) (j 1) : ℝ) : EReal) := by
  have hk : k < 64 := Nat.lt_of_lt_of_eq h (by decide)
  subst hX
  funext j
  have e0 : k0_off1 ⟨k, h⟩ 0 + 1 * (j 0).val = 504 - 8 * k + (j 0).val := by
    have e : k0_off1 ⟨k, h⟩ 0 = 8 * (63 - k) := by rw [off1]; rfl
    omega
  have e1 : k0_off1 ⟨k, h⟩ 1 + 1 * (j 1).val = (j 1).val := by
    have e : k0_off1 ⟨k, h⟩ 1 = 0 := by rw [off1]; rfl
    omega
  show ((a (k0_off1 ⟨k, h⟩ 0 + 1 * (j 0).val) ⟨k0_off1 ⟨k, h⟩ 1 + 1 * (j 1).val, _⟩ : ℝ) : EReal) = _
  congr 2
  exact Fin.ext e1

section Block
variable (X Y : Vec Ideal S512x512 .f32) (init : Vec Ideal S8x512 .f32 × Vec Ideal S8x512 .f32) (a b l : ℕ → Fin 512 → ℝ)
  (hX : X = fun j => ((a (j 0).val (j 1) : ℝ) : EReal)) (hY : Y = fun j => ((b (j 0).val (j 1) : ℝ) : EReal))
  (hi : init = (fun j => ((l 512 (j 1) : ℝ) : EReal), fun j => ((a 512 (j 1) : ℝ) : EReal)))
  (hl : ∀ r < 512, ∀ q, l r q = b r q + a (r + 1) q * l (r + 1) q)
include hX hY hi hl

theorem carry_real : ∀ k, k ≤ 64 → carry X Y init k = (fun j => ((l (512 - 8 * k) (j 1) : ℝ) : EReal), fun j => ((a (512 - 8 * k) (j 1) : ℝ) : EReal)) := by
  intro k
  induction k with
  | zero => intro _; exact hi
  | succ k ih =>
    intro hk
    have hkt : k < k0_t1_loop.trips := Nat.lt_of_lt_of_eq hk (by decide)
    rw [carry, dif_pos hkt, ih (by omega)]
    have := nxt_real (fun j => ((l (512 - 8 * k) (j 1) : ℝ) : EReal), fun j => ((a (512 - 8 * k) (j 1) : ℝ) : EReal)) (rows X ⟨k, hkt⟩) (rows Y ⟨k, hkt⟩)
      (fun r => a (504 - 8 * k + r)) (fun r => b (504 - 8 * k + r)) (fun r => l (504 - 8 * k + r))
      (by rw [show 504 - 8 * k + 8 = 512 - 8 * k by omega]) (by rw [show 504 - 8 * k + 8 = 512 - 8 * k by omega]) (rows_real X a hX k hkt) (rows_real Y b hY k hkt)
      (fun r hr q => hl _ (by omega) q)
    rw [this, Nat.add_zero, show 512 - 8 * (k + 1) = 504 - 8 * k by omega]

theorem outB_real : outB X Y init = fun y => ((l (y 0).val (y 1) : ℝ) : EReal) := by
  funext y
  have hy : (y 0).val < 512 := (y 0).isLt
  have hkt : 63 - (y 0).val / 8 < k0_t1_loop.trips := Nat.lt_of_le_of_lt (Nat.sub_le _ _) (by decide)
  unfold outB
  rw [show tripOf y = ⟨63 - (y 0).val / 8, hkt⟩ from rfl]
  dsimp only
  rw [carry_real X Y init a b l hX hY hi hl _ (by omega)]
  have := hb_real (fun j => ((l (512 - 8 * (63 - (y 0).val / 8)) (j 1) : ℝ) : EReal), fun j => ((a (512 - 8 * (63 - (y 0).val / 8)) (j 1) : ℝ) : EReal)) (rows X ⟨63 - (y 0).val / 8, hkt⟩) (rows Y ⟨63 - (y 0).val / 8, hkt⟩)
      (fun r => a (504 - 8 * (63 - (y 0).val / 8) + r)) (fun r => b (504 - 8 * (63 - (y 0).val / 8) + r)) (fun r => l (504 - 8 * (63 - (y 0).val / 8) + r))
      (by rw [show 504 - 8 * (63 - (y 0).val / 8) + 8 = 512 - 8 * (63 - (y 0).val / 8) by omega]) (by rw [show 504 - 8 * (63 - (y 0).val / 8) + 8 = 512 - 8 * (63 - (y 0).val / 8) by omega]) (rows_real X a hX _ hkt) (rows_real Y b hY _ hkt)
      (fun r hr q => hl _ (by omega) q) ⟨(y 0).val % 8, Nat.mod_lt _ (by decide)⟩ (y 1)
  dsimp only at this
  rw [show 504 - 8 * (63 - (y 0).val / 8) + (y 0).val % 8 = (y 0).val by omega] at this
  rw [← this]
  congr 1
  funext i
  fin_cases i <;> rfl

theorem left_real : left X Y init = (fun j => ((l 0 (j 1) : ℝ) : EReal), fun j => ((a 0 (j 1) : ℝ) : EReal)) := by
  unfold left
  rw [carry_real X Y init a b l hX hY hi hl 64 (Nat.le_refl _)]
  refine Prod.ext ?_ ?_ <;> funext j <;> pointwise [k0_pay5, k0_pay6]

end Block

section Call
open Cert.Spec
variable (m : (ℓ : Loc nD τ sig) → Buf (Elt Ideal) ℓ) (c : Dev nD) (A C : Fin 8192 → Fin 512 → ℝ)
  (hA : m ((c.tc : Thread nD τ).loc main_arg0) = fun j => ((A (j 0) (j 1) : ℝ) : EReal))
  (hC : m ((c.tc : Thread nD τ).loc main_arg1) = fun j => ((C (j 0) (j 1) : ℝ) : EReal))

/-- Where each window's block lies. -/
theorem idx : ∀ t : Fin cfg0.N, win0_0.index t = ![t.val / 8 * 8 + 7 - t.val % 8, 0] ∧ win0_1.index t = ![t.val / 8 * 8 + 7 - t.val % 8, 0] ∧ win0_2.index t = ![t.val / 8 * 8 + 7 - t.val % 8, 0] :=
  (by decide +kernel : ∀ t : Fin grid0.N, _)

include hA in
theorem blkA_real (t : Fin cfg0.N) : iblk m c 0 t = fun j => ((ent A (t.val / 8) (512 * (7 - t.val % 8) + (j 0).val) (j 1) : ℝ) : EReal) := by
  funext j
  have ht : t.val < 16 := Nat.lt_of_lt_of_eq t.isLt N_0
  have hj : (j 0).val < 512 := (j 0).isLt
  have e : iblk m c 0 t j = m ((c.tc : Thread nD τ).loc main_arg0) (ix2 ⟨4096 * (t.val / 8) + (512 * (7 - t.val % 8) + (j 0).val), by omega⟩ (j 1)) := by
    blk_point [iblk, V, idx t]
  rw [e, hA]
  unfold ent
  rw [dif_pos (by omega)]
  rfl

include hC in
theorem blkB_real (t : Fin cfg0.N) : iblk m c 1 t = fun j => ((ent C (t.val / 8) (512 * (7 - t.val % 8) + (j 0).val) (j 1) : ℝ) : EReal) := by
  funext j
  have ht : t.val < 16 := Nat.lt_of_lt_of_eq t.isLt N_0
  have hj : (j 0).val < 512 := (j 0).isLt
  have e : iblk m c 1 t j = m ((c.tc : Thread nD τ).loc main_arg1) (ix2 ⟨4096 * (t.val / 8) + (512 * (7 - t.val % 8) + (j 0).val), by omega⟩ (j 1)) := by
    blk_point [iblk, V, idx t]
  rw [e, hC]
  unfold ent
  rw [dif_pos (by omega)]
  rfl

/-- One point's three facts, of what its loop starts from. -/
theorem step_ent (b n : ℕ) (r : ℕ) (hr : r < 512) (q : Fin 512) :
    lam A C b (512 * (7 - n % 8) + r) q = ent C b (512 * (7 - n % 8) + r) q + ent A b (512 * (7 - n % 8) + (r + 1)) q * lam A C b (512 * (7 - n % 8) + (r + 1)) q :=
  lam_step A C b _ q (by omega)

include hA hC

/-- What each point's loop starts from: the recurrence's value and the decay one step past the point's block. -/
theorem start_real : ∀ n (h : n < cfg0.N), start m c n h =
    (fun j => ((lam A C (n / 8) (512 * (7 - n % 8) + 512) (j 1) : ℝ) : EReal), fun j => ((ent A (n / 8) (512 * (7 - n % 8) + 512) (j 1) : ℝ) : EReal)) := by
  have hz : ∀ b, ((k0_pay1 (F := Ideal), k0_pay2 (F := Ideal)) : Vec Ideal S8x512 .f32 × Vec Ideal S8x512 .f32) =
      (fun j => ((lam A C b 4096 (j 1) : ℝ) : EReal), fun j => ((ent A b 4096 (j 1) : ℝ) : EReal)) := by
    intro b
    refine Prod.ext (funext fun j => Eq.trans ?_ (congrArg Real.toEReal (lam_end A C b (j 1)).symm)) (funext fun j => Eq.trans ?_ (congrArg Real.toEReal (ent_end A b (j 1)).symm))
    · pointwise [k0_pay1]; simp
    · pointwise [k0_pay2]; simp
  intro n
  induction n with
  | zero => intro h; exact hz 0
  | succ n ih =>
    intro h
    rw [start, left_real _ _ _ (fun r => ent A (n / 8) (512 * (7 - n % 8) + r)) (fun r => ent C (n / 8) (512 * (7 - n % 8) + r)) (fun r => lam A C (n / 8) (512 * (7 - n % 8) + r))
      (blkA_real m c A hA ⟨n, Nat.lt_of_succ_lt h⟩) (blkB_real m c C hC ⟨n, Nat.lt_of_succ_lt h⟩) (ih _) (step_ent A C (n / 8) n)]
    by_cases h8 : (n + 1) % 8 = 0
    · rw [h8, init0, if_pos (by decide)]
      exact hz _
    · rw [init0, if_neg (by simpa using h8), show (n + 1) / 8 = n / 8 by omega, show 512 * (7 - (n + 1) % 8) + 512 = 512 * (7 - n % 8) + 0 by omega]

theorem outAt_real (t : Fin cfg0.N) : outAt m c t = fun j => ((lam A C (t.val / 8) (512 * (7 - t.val % 8) + (j 0).val) (j 1) : ℝ) : EReal) :=
  outB_real _ _ _ (fun r => ent A (t.val / 8) (512 * (7 - t.val % 8) + r)) (fun r => ent C (t.val / 8) (512 * (7 - t.val % 8) + r)) (fun r => lam A C (t.val / 8) (512 * (7 - t.val % 8) + r))
    (blkA_real m c A hA t) (blkB_real m c C hC t) (start_real m c A C hA hC t.val t.isLt) (step_ent A C (t.val / 8) t.val)

/-- The result array holds the gradient. -/
theorem final : (dats m 0 c).arrAt 2 cfg0.N = fun j : S8192x512.Idx => ((grad A C (j 0) (j 1) : ℝ) : EReal) := by
  refine (dats m 0 c).arrAt_eq_of_covers 2 _ (by decide +kernel) fun t hf y => ?_
  rw [after0_2, outAt_real m c A C hA hC]
  have ht : t.val < 16 := Nat.lt_of_lt_of_eq t.isLt N_0
  have hy : (y 0).val < 512 := (y 0).isLt
  have e : ∀ X : S8192x512.Idx → EReal, X ((win0_2.blk t).view.emb y) = X (ix2 ⟨4096 * (t.val / 8) + (512 * (7 - t.val % 8) + (y 0).val), by omega⟩ (y 1)) := by
    intro X
    blk_point [idx t]
  refine Eq.trans ?_ (e (fun j => ((grad A C (j 0) (j 1) : ℝ) : EReal))).symm
  show ((lam A C (t.val / 8) (512 * (7 - t.val % 8) + (y 0).val) (y 1) : ℝ) : EReal) = ((grad A C ⟨4096 * (t.val / 8) + (512 * (7 - t.val % 8) + (y 0).val), by omega⟩ (y 1) : ℝ) : EReal)
  unfold grad
  dsimp only
  rw [show (4096 * (t.val / 8) + (512 * (7 - t.val % 8) + (y 0).val)) / 4096 = t.val / 8 by omega, show (4096 * (t.val / 8) + (512 * (7 - t.val % 8) + (y 0).val)) % 4096 = 512 * (7 - t.val % 8) + (y 0).val by omega]

end Call
end Cert.KernelIdeal.Gen
end
-- ==== Proof.ScanRef.lean ====
module
public import proofs.«01_k».proof.Proof.Spec
public import proofs.«01_k».proof.Proof.Gen.ReferenceIdeal.Run
public import Idealize.ShloMosaic.Lib.Pipeline.ValueKit
public import Idealize.ShloMosaic.Lib.DynamicIndex
@[expose] public section
set_option maxRecDepth 16384
noncomputable section
namespace Cert.ReferenceIdeal.Scan
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.Spec

/-- Where trip `n` reads and writes. -/
theorem pos (n : ℕ) (hn : n < 4096) : ((4096#32 - BitVec.ofNat 32 n) - 1#32).toInt = ((4095 - n : ℕ) : ℤ) := by
  rw [← toInt_ofNat_of_lt (k := 4095 - n) (by omega)]
  congr 1
  apply BitVec.eq_of_toNat_eq
  simp only [BitVec.toNat_sub, BitVec.toNat_ofNat]
  omega

/-- An array by sequence and step, seen by step and sequence. -/
theorem steps_first (X : S8192x512.Idx → EReal) (p : Fin 4096) (b : Fin 2) (q : Fin 512) :
    (transpose S4096x2x512 [1, 0, 2] (shapeCast S2x4096x512 X shapeCasts_S8192x512_S2x4096x512) transposes_S2x4096x512_S4096x2x512_1_0_2) (ix3 p b q)
      = X (ix2 ⟨4096 * b.val + p.val, by omega⟩ q) := by
  pointwise
  exact congrArg (fun k => X (ix2 k q)) (Fin.ext (congrArg (fun k => k + p.val) (Nat.mul_comm _ _)))

theorem steps_real (X : S8192x512.Idx → EReal) (B : Fin 8192 → Fin 512 → ℝ) (hX : X = fun j => ((B (j 0) (j 1) : ℝ) : EReal)) (p : Fin 4096) (b : Fin 2) (q : Fin 512) :
    (transpose S4096x2x512 [1, 0, 2] (shapeCast S2x4096x512 X shapeCasts_S8192x512_S2x4096x512) transposes_S2x4096x512_S4096x2x512_1_0_2) (ix3 p b q)
      = ((ent B b.val p.val q : ℝ) : EReal) := by
  rw [steps_first, hX, ent, dif_pos ⟨p.isLt, b.isLt⟩]
  rfl

/-- What the loop's buffers hold before trip `n`, over the reals: the two arrays by step, sequence and channel, what is
    handed from step to step, and the steps written so far. -/
structure Holds (A C : Fin 8192 → Fin 512 → ℝ) (V : Valuation τ sig (Elt Ideal)) (n : ℕ) : Prop where
  ct : ∀ (p : Fin 4096) (b : Fin 2) (q : Fin 512), (V (Proc.devRef .tc main_v7_0) : S4096x2x512.Idx → EReal) (ix3 p b q) = ((ent C b.val p.val q : ℝ) : EReal)
  decay : ∀ (p : Fin 4096) (b : Fin 2) (q : Fin 512), (V (Proc.devRef .tc main_v7_1) : S4096x2x512.Idx → EReal) (ix3 p b q) = ((ent A b.val p.val q : ℝ) : EReal)
  num : V (Proc.devRef .tc main_v7_2) = constantI S_ 32 (BitVec.ofNat 32 n)
  carried : ∀ (b : Fin 2) (q : Fin 512), (V (Proc.devRef .tc main_v7_3) : S2x512.Idx → EReal) (ix2 b q) = ((ent A b.val (4096 - n) q * lam A C b.val (4096 - n) q : ℝ) : EReal)
  done : ∀ (p : Fin 4096) (b : Fin 2) (q : Fin 512), 4096 - n ≤ p.val →
    (V (Proc.devRef .tc main_v7_4) : S4096x2x512.Idx → EReal) (ix3 p b q) = ((lam A C b.val p.val q : ℝ) : EReal)

variable {A C : Fin 8192 → Fin 512 → ℝ} {V : Valuation τ sig (Elt Ideal)} {n : ℕ} (h : Holds A C V n) (hn : n < 4096)
include h hn

theorem start_eq (a : Fin 3) : (fun k => (((![res_main_while0b_v11 V, constantI S_ 32 0#32, constantI S_ 32 0#32] : Fin 3 → (⟨S_, .i32⟩ : BufTy).Contents (Elt Ideal))) k (Shape.Idx.first h_S_)).toInt) a = ((![4095 - n, 0, 0] : Fin 3 → ℕ) a : ℤ) := by
  fin_cases a
  · show (res_main_while0b_v11 V (Shape.Idx.first h_S_)).toInt = _
    unfold res_main_while0b_v11
    rw [h.num]
    exact pos n hn
  · rfl
  · rfl

omit h in
theorem step_fits : S4096x2x512.Slices ![4095 - n, 0, 0] S1x2x512 := ⟨rfl, by intro a; fin_cases a <;> simp <;> omega⟩

omit h in
/-- One step's rows of an array of all steps. -/
theorem slice_real (X : S4096x2x512.Idx → EReal) (B : Fin 8192 → Fin 512 → ℝ) (hX : ∀ (p : Fin 4096) (b : Fin 2) (q : Fin 512), X (ix3 p b q) = ((ent B b.val p.val q : ℝ) : EReal))
    (st : Fin 3 → ℤ) (hst : ∀ a, st a = ((![4095 - n, 0, 0] : Fin 3 → ℕ) a : ℤ)) (b : Fin 2) (q : Fin 512) :
    (shapeCast S2x512 (Host.dynamicSlice S1x2x512 X st sliceFits_S4096x2x512_S1x2x512) shapeCasts_S1x2x512_S2x512) (ix2 b q) = ((ent B b.val (4095 - n) q : ℝ) : EReal) := by
  rw [Host.dynamicSlice_eq_extractStridedSlice S1x2x512 X st ![4095 - n, 0, 0] sliceFits_S4096x2x512_S1x2x512 (step_fits hn) hst]
  rw [show (shapeCast S2x512 (extractStridedSlice S1x2x512 ![4095 - n, 0, 0] X (step_fits hn)) shapeCasts_S1x2x512_S2x512) (ix2 b q) = X (ix3 ⟨4095 - n, by omega⟩ b q) from by pointwise, hX]

omit h in
/-- One step's rows written into an array of all steps. -/
theorem update_real {α : Type} (X : S4096x2x512.Idx → α) (U : S1x2x512.Idx → α)
    (st : Fin 3 → ℤ) (hst : ∀ a, st a = ((![4095 - n, 0, 0] : Fin 3 → ℕ) a : ℤ)) (p : Fin 4096) (b : Fin 2) (q : Fin 512) :
    Host.dynamicUpdateSlice X U st updateFits_S4096x2x512_S1x2x512 (ix3 p b q) = if p.val = 4095 - n then U (ix3 0 b q) else X (ix3 p b q) := by
  rw [Host.dynamicUpdateSlice_eq_updateSlice X U st _ ![4095 - n, 0, 0] (fun a => by
      rw [hst a]; have := (step_fits hn).2 a; omega) (step_fits hn)]
  unfold updateSlice
  have hb : b.val < 2 := b.isLt
  have hq : q.val < 512 := q.isLt
  by_cases hp : p.val = 4095 - n
  · rw [if_pos hp, dif_pos]
    · congr 1
      funext a
      apply Fin.ext
      fin_cases a
      · show p.val - (4095 - n) = 0; omega
      · show b.val - 0 = b.val; omega
      · show q.val - 0 = q.val; omega
    · intro a
      fin_cases a
      · show 4095 - n ≤ p.val ∧ p.val < 4095 - n + 1; omega
      · show 0 ≤ b.val ∧ b.val < 0 + 2; omega
      · show 0 ≤ q.val ∧ q.val < 0 + 512; omega
  · rw [if_neg hp, dif_neg]
    intro hc
    have := hc 0
    have : 4095 - n ≤ p.val ∧ p.val < 4095 - n + 1 := this
    omega

theorem lam_real (b : Fin 2) (q : Fin 512) : (res_main_while0b_v14 V : S2x512.Idx → EReal) (ix2 b q) = ((lam A C b.val (4095 - n) q : ℝ) : EReal) := by
  unfold res_main_while0b_v14
  refine (congrArg₂ (fun x y : EReal => x + y) (h.carried b q) (slice_real hn _ C h.ct _ (start_eq h hn) b q)).trans ?_
  rw [lam_step A C b.val (4095 - n) q (by omega), show 4095 - n + 1 = 4096 - n by omega, ← EReal.coe_add]
  exact congrArg _ (add_comm _ _)

theorem holds_step : Holds A C (STEP V) (n + 1) where
  ct := by rw [STEP_main_v7_0 V]; exact h.ct
  decay := by rw [STEP_main_v7_1 V]; exact h.decay
  num := (STEP_main_v7_2 V).trans <| by
    unfold step_main_v7_2
    rw [h.num]
    funext i
    show BitVec.ofNat 32 n + 1#32 = BitVec.ofNat 32 (n + 1)
    simp only [BitVec.ofNat_add]
  carried := fun b q => (congrFun (STEP_main_v7_3 V) _).trans <| by
    unfold step_main_v7_3
    refine (congrArg₂ (fun x y : EReal => x * y) (slice_real hn _ A h.decay _ (start_eq h hn) b q) (lam_real h hn b q)).trans ?_
    rw [show 4096 - (n + 1) = 4095 - n by omega, ← EReal.coe_mul]
  done := fun p b q hp => (congrFun (STEP_main_v7_4 V) _).trans <| by
    unfold step_main_v7_4
    have e := update_real hn (V (Proc.devRef .tc main_v7_4) : S4096x2x512.Idx → EReal) (broadcastInDim S1x2x512 ![1, 2] bcast_S2x512_S1x2x512_1_2 (res_main_while0b_v14 V : S2x512.Idx → EReal)) _ (start_eq h hn) p b q
    rw [id]
    refine Eq.trans e ?_
    by_cases hpe : p.val = 4095 - n
    · rw [if_pos hpe, hpe, ← lam_real h hn b q]
      pointwise
    · rw [if_neg hpe]
      exact h.done p b q (by omega)

omit h hn
variable (m : (ℓ : Loc nD τ sig) → Buf (Elt Ideal) ℓ) (c : Dev nD)
  (hA : m ((c.tc : Thread nD τ).loc main_arg0) = fun j => ((A (j 0) (j 1) : ℝ) : EReal))
  (hC : m ((c.tc : Thread nD τ).loc main_arg1) = fun j => ((C (j 0) (j 1) : ℝ) : EReal))
include hA hC

set_option maxRecDepth 65536 in
theorem holds_entry : Holds A C (entryContents preI m c) 0 := by
  constructor <;> (simp only [entryContents, afterL_cons, afterL_nil]; after_reads_simp)
  · exact steps_real _ C hC
  · exact steps_real _ A hA
  · rfl
  · intro b q
    rw [Nat.sub_zero, ent_end, zero_mul, id]
    exact Ideal.ofBits_zero_f32.trans EReal.coe_zero.symm
  · intro p b q hp
    exact absurd p.isLt (by omega)

theorem holds_all : ∀ k, k ≤ 4096 → Holds A C (STEP^[k] (entryContents preI m c)) k
  | 0, _ => holds_entry m c hA hC
  | k + 1, hk => by
    rw [Function.iterate_succ_apply']
    exact holds_step (holds_all k (Nat.le_of_succ_le hk)) hk

/-- The reference's result. -/
theorem result : out_main_v9 (STEP^[4096] (entryContents preI m c)) = fun j : S8192x512.Idx => ((grad A C (j 0) (j 1) : ℝ) : EReal) := by
  have h := holds_all m c hA hC 4096 (Nat.le_refl _)
  funext j
  unfold out_main_v9
  have hj : (j 0).val < 8192 := (j 0).isLt
  refine Eq.trans ?_ (h.done ⟨(j 0).val % 4096, by omega⟩ ⟨(j 0).val / 4096, by omega⟩ (j 1) (by omega))
  pointwise

end Cert.ReferenceIdeal.Scan
end
-- ==== Proof.Finite.lean ====
module
public import proofs.«01_k».proof.Pre_finite
public import proofs.«01_k».proof.Proof.Gen.Pre_finite
public import Idealize.ShloMosaic.Lib.ReduceAll
public import Idealize.ShloMosaic.Lib.Pipeline.ValueKit
@[expose] public section
noncomputable section
namespace Cert.Finite
open Idealize.ShloMosaic Cert.Pre_finite Cert.Pre_finite.Gen

/-- A number whose absolute value is below `+∞` is a real. -/
theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  unfold Ideal.cmp at h
  refine EReal.coe_toReal ?_ ?_ <;> rintro rfl <;> simp at h

/-- An array all of whose entries have an absolute value below `+∞` is an array of reals. -/
theorem all_real (X : FVec Ideal S8192x512 .f32)
    (h : Host.reduce IntOp.andi (cmpf .olt (Host.absf X) (broadcastInDim S8192x512 ![] Facts.bcast_S_S8192x512 (constant S_ .f32 0x7F800000#32))) (constantI S_ 1 1#1) Facts.reducesTo_S8192x512_S_d0_1 Facts.h_S_ (Shape.Idx.first Facts.h_S_) = 1#1) :
    X = fun j => ((((X (ix2 (j 0) (j 1)) : EReal).toReal : ℝ)) : EReal) := by
  funext j
  have : Subsingleton S_.Idx := ⟨fun a b => funext fun i => i.elim0⟩
  have e := Host.reduce_andi_all _ _ _ _ _ h j
  have hj : ix2 (j 0) (j 1) = j := by funext a; fin_cases a <;> rfl
  exact (real_of_lt (X j) e).symm.trans (congrArg (fun i => ((EReal.toReal (X i) : ℝ) : EReal)) hj.symm)

/-- Where the precondition holds both arrays are arrays of reals. -/
theorem both_real (X Y : FVec Ideal S8192x512 .f32) (h : fn (F := Ideal) X Y = fun _ => 1#1) :
    (∃ A : Fin 8192 → Fin 512 → ℝ, X = fun j => ((A (j 0) (j 1) : ℝ) : EReal)) ∧ (∃ C : Fin 8192 → Fin 512 → ℝ, Y = fun j => ((C (j 0) (j 1) : ℝ) : EReal)) := by
  have h0 := congrFun h (Shape.Idx.first Facts.h_S_)
  have h1 := IntOp.andi_eq_one.mp h0
  exact ⟨⟨fun p q => (X (ix2 p q) : EReal).toReal, all_real X h1.1⟩, ⟨fun p q => (Y (ix2 p q) : EReal).toReal, all_real Y h1.2⟩⟩

end Cert.Finite
end
-- ==== Proof.SameText.lean ====
/- The kernel and its idealization are the same text: their body tables are equal, so a run of one is a run of the other. -/
module
public import proofs.«01_k».proof.Defs
public import proofs.«01_k».proof.Proof.Gen.Kernel
public import proofs.«01_k».proof.Proof.Gen.KernelIdeal
@[expose] public section
noncomputable section
namespace Cert.SameText
open Idealize.ShloMosaic Idealize.ShloMosaic.TcCoe
set_option maxRecDepth 16384

variable {F : FTy → Type} [FloatOps F]

/-- The two programs' scan bodies are one function. -/
theorem scan_body : @Cert.Kernel.cc0_b_rglru_scan F _ _ = @Cert.KernelIdeal.cc0_b_rglru_scan F _ _ := by
  unfold Cert.Kernel.cc0_b_rglru_scan Cert.KernelIdeal.cc0_b_rglru_scan
  rfl

/-- The two programs' tables of kernel bodies are equal. -/
theorem scan_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    dsimp only
    exact congrFun (congrFun (congrFun (congrFun (congrFun (congrFun (congrFun (congrFun (congrFun (congrFun (congrFun
      scan_body _) _) _) _) _) _) _) _) _) _) _
  | ⟨_ + 1, h⟩, _ => exact absurd h (Nat.not_lt.2 (Nat.le_add_left _ _))

/-- The two programs' whole tables are equal. -/
theorem scan_defs : Cert.Kernel.defs (F := F) = Cert.KernelIdeal.defs (F := F) := congrArg (Pipeline.defs _) scan_bodies

end Cert.SameText
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.InXIdeal.Value
public import proofs.«01_k».proof.Proof.Gen.InXRefIdeal.Run
public import proofs.«01_k».proof.Proof.Gen.InWIdeal.Value
public import proofs.«01_k».proof.Proof.Gen.InWRefIdeal.Run
public import proofs.«01_k».proof.Proof.Gen.UpXIdeal.Value
public import proofs.«01_k».proof.Proof.Gen.UpXRefIdeal.Run
public import proofs.«01_k».proof.Proof.Gen.UpWIdeal.Value
public import proofs.«01_k».proof.Proof.Gen.UpWRefIdeal.Run
public import proofs.«01_k».proof.Proof.Gen.DownXIdeal.Value
public import proofs.«01_k».proof.Proof.Gen.DownXRefIdeal.Run
public import proofs.«01_k».proof.Proof.Gen.DownWIdeal.Value
public import proofs.«01_k».proof.Proof.Gen.DownWRefIdeal.Run
public import proofs.«01_k».proof.Proof.Gen.InX.Frame
public import proofs.«01_k».proof.Proof.InX
public import proofs.«01_k».proof.Proof.Gen.InW.Frame
public import proofs.«01_k».proof.Proof.InW
public import proofs.«01_k».proof.Proof.Gen.UpX.Frame
public import proofs.«01_k».proof.Proof.UpX
public import proofs.«01_k».proof.Proof.Gen.UpW.Frame
public import proofs.«01_k».proof.Proof.UpW
public import proofs.«01_k».proof.Proof.Gen.DownX.Frame
public import proofs.«01_k».proof.Proof.DownX
public import proofs.«01_k».proof.Proof.Gen.DownW.Frame
public import proofs.«01_k».proof.Proof.DownW
public import proofs.«01_k».proof.Proof.Gen.FwdInIdeal.Value
public import proofs.«01_k».proof.Proof.Gen.FwdInRefIdeal.Run
public import proofs.«01_k».proof.Proof.Gen.FwdIn.Frame
public import proofs.«01_k».proof.Proof.Gen.FwdBaIdeal.Value
public import proofs.«01_k».proof.Proof.Gen.FwdBaRefIdeal.Run
public import proofs.«01_k».proof.Proof.Gen.FwdBa.Frame
public import proofs.«01_k».proof.Proof.Gen.FwdBranch0Ideal.Value
public import proofs.«01_k».proof.Proof.Gen.FwdBranch0RefIdeal.Run
public import proofs.«01_k».proof.Proof.Gen.FwdBranch0.Frame
public import proofs.«01_k».proof.Proof.Gen.FwdBranch1Ideal.Value
public import proofs.«01_k».proof.Proof.Gen.FwdBranch1RefIdeal.Run
public import proofs.«01_k».proof.Proof.Gen.FwdBranch1.Frame
public import proofs.«01_k».proof.Proof.Gen.FwdBranch2Ideal.Value
public import proofs.«01_k».proof.Proof.Gen.FwdBranch2RefIdeal.Run
public import proofs.«01_k».proof.Proof.Gen.FwdBranch2.Frame
public import proofs.«01_k».proof.Proof.Gen.FwdOutIdeal.Value
public import proofs.«01_k».proof.Proof.Gen.FwdOutRefIdeal.Run
public import proofs.«01_k».proof.Proof.Gen.FwdOut.Frame
public import proofs.«01_k».proof.Proof.Gen.FwdQIdeal.Value
public import proofs.«01_k».proof.Proof.Gen.FwdQRefIdeal.Run
public import proofs.«01_k».proof.Proof.Gen.FwdQ.Frame
public import proofs.«01_k».proof.Proof.Gen.FwdKvIdeal.Value
public import proofs.«01_k».proof.Proof.Gen.FwdKvRefIdeal.Run
public import proofs.«01_k».proof.Proof.Gen.FwdKv.Frame
public import proofs.«01_k».proof.Proof.Gen.FwdUpIdeal.Value
public import proofs.«01_k».proof.Proof.Gen.FwdUpRefIdeal.Run
public import proofs.«01_k».proof.Proof.Gen.FwdUp.Frame
public import proofs.«01_k».proof.Proof.Gen.FwdDownIdeal.Value
public import proofs.«01_k».proof.Proof.Gen.FwdDownRefIdeal.Run
public import proofs.«01_k».proof.Proof.Gen.FwdDown.Frame
public import proofs.«01_k».proof.Proof.Gen.OutXIdeal.Value
public import proofs.«01_k».proof.Proof.Gen.OutXRefIdeal.Run
public import proofs.«01_k».proof.Proof.Gen.OutX.Frame
public import proofs.«01_k».proof.Proof.Gen.OutWIdeal.Value
public import proofs.«01_k».proof.Proof.Gen.OutWRefIdeal.Run
public import proofs.«01_k».proof.Proof.Gen.OutW.Frame
public import proofs.«01_k».proof.Proof.Gen.QXIdeal.Value
public import proofs.«01_k».proof.Proof.Gen.QXRefIdeal.Run
public import proofs.«01_k».proof.Proof.Gen.QX.Frame
public import proofs.«01_k».proof.Proof.Gen.QWIdeal.Value
public import proofs.«01_k».proof.Proof.Gen.QWRefIdeal.Run
public import proofs.«01_k».proof.Proof.Gen.QW.Frame
public import proofs.«01_k».proof.Proof.Gen.KvXIdeal.Value
public import proofs.«01_k».proof.Proof.Gen.KvXRefIdeal.Run
public import proofs.«01_k».proof.Proof.Gen.KvX.Frame
public import proofs.«01_k».proof.Proof.Gen.KvWIdeal.Value
public import proofs.«01_k».proof.Proof.Gen.KvWRefIdeal.Run
public import proofs.«01_k».proof.Proof.Gen.KvW.Frame
public import proofs.«01_k».proof.Proof.Gen.BranchXIdeal.Value
public import proofs.«01_k».proof.Proof.Gen.BranchXRefIdeal.Run
public import proofs.«01_k».proof.Proof.Gen.BranchX.Frame
public import proofs.«01_k».proof.Proof.Gen.BranchW0Ideal.Value
public import proofs.«01_k».proof.Proof.Gen.BranchW0RefIdeal.Run
public import proofs.«01_k».proof.Proof.Gen.BranchW0.Frame
public import proofs.«01_k».proof.Proof.Gen.BranchW1Ideal.Value
public import proofs.«01_k».proof.Proof.Gen.BranchW1RefIdeal.Run
public import proofs.«01_k».proof.Proof.Gen.BranchW1.Frame
public import proofs.«01_k».proof.Proof.Gen.BranchW2Ideal.Value
public import proofs.«01_k».proof.Proof.Gen.BranchW2RefIdeal.Run
public import proofs.«01_k».proof.Proof.Gen.BranchW2.Frame
public import proofs.«01_k».proof.Proof.Gen.BaXIdeal.Value
public import proofs.«01_k».proof.Proof.Gen.BaXRefIdeal.Run
public import proofs.«01_k».proof.Proof.Gen.BaX.Frame
public import proofs.«01_k».proof.Proof.Gen.BaWIdeal.Value
public import proofs.«01_k».proof.Proof.Gen.BaWRefIdeal.Run
public import proofs.«01_k».proof.Proof.Gen.BaW.Frame
public import proofs.«01_k».proof.Proof.FwdIn
public import proofs.«01_k».proof.Proof.FwdBa
public import proofs.«01_k».proof.Proof.FwdBranch0
public import proofs.«01_k».proof.Proof.FwdBranch1
public import proofs.«01_k».proof.Proof.FwdBranch2
public import proofs.«01_k».proof.Proof.FwdOut
public import proofs.«01_k».proof.Proof.FwdQ
public import proofs.«01_k».proof.Proof.FwdKv
public import proofs.«01_k».proof.Proof.FwdUp
public import proofs.«01_k».proof.Proof.FwdDown
public import proofs.«01_k».proof.Proof.OutX
public import proofs.«01_k».proof.Proof.OutW
public import proofs.«01_k».proof.Proof.QX
public import proofs.«01_k».proof.Proof.QW
public import proofs.«01_k».proof.Proof.KvX
public import proofs.«01_k».proof.Proof.KvW
public import proofs.«01_k».proof.Proof.BranchX
public import proofs.«01_k».proof.Proof.BranchW0
public import proofs.«01_k».proof.Proof.BranchW1
public import proofs.«01_k».proof.Proof.BranchW2
public import proofs.«01_k».proof.Proof.BaX
public import proofs.«01_k».proof.Proof.BaW
public import proofs.«01_k».proof.Proof.Gen.FwdGateIdeal.Value
public import proofs.«01_k».proof.Proof.Gen.FwdGateRefIdeal.Run
public import proofs.«01_k».proof.Proof.Gen.FwdGate.Frame
public import proofs.«01_k».proof.Proof.Gen.FwdGateIdeal.Frame
public import proofs.«01_k».proof.Proof.Gen.BwdGateIdeal.Value
public import proofs.«01_k».proof.Proof.Gen.BwdGateRefIdeal.Run
public import proofs.«01_k».proof.Proof.Gen.BwdGate.Frame
public import proofs.«01_k».proof.Proof.Gen.BwdGateIdeal.Frame
public import proofs.«01_k».proof.Proof.Gen.FwdNormIdeal.Value
public import proofs.«01_k».proof.Proof.Gen.FwdNormRefIdeal.Run
public import proofs.«01_k».proof.Proof.Gen.FwdNorm.Frame
public import proofs.«01_k».proof.Proof.Gen.FwdNormIdeal.Frame
public import proofs.«01_k».proof.Proof.Gen.BwdNormIdeal.Value
public import proofs.«01_k».proof.Proof.Gen.BwdNormRefIdeal.Run
public import proofs.«01_k».proof.Proof.Gen.BwdNorm.Frame
public import proofs.«01_k».proof.Proof.Gen.BwdNormIdeal.Frame
public import proofs.«01_k».proof.Proof.Gen.FwdAttIdeal.Value
public import proofs.«01_k».proof.Proof.Gen.FwdAttRefIdeal.Run
public import proofs.«01_k».proof.Proof.Gen.FwdAtt.Frame
public import proofs.«01_k».proof.Proof.Gen.FwdAttIdeal.Frame
public import proofs.«01_k».proof.Proof.FwdGate
public import proofs.«01_k».proof.Proof.BwdGate
public import proofs.«01_k».proof.Proof.FwdNorm
public import proofs.«01_k».proof.Proof.BwdNorm
public import proofs.«01_k».proof.Proof.FwdAtt
public import proofs.«01_k».proof.Proof.BwdGateB
public import proofs.«01_k».proof.Proof.Gen.BwdAttIdeal.Value
public import proofs.«01_k».proof.Proof.Gen.BwdAttRefIdeal.Run
public import proofs.«01_k».proof.Proof.Gen.BwdAtt.Frame
public import proofs.«01_k».proof.Proof.Gen.BwdAttIdeal.Frame
public import proofs.«01_k».proof.Proof.BwdAtt
public import proofs.«01_k».proof.Proof.Gen.FwdMixIdeal.Value
public import proofs.«01_k».proof.Proof.Gen.FwdMixRefIdeal.Run
public import proofs.«01_k».proof.Proof.Gen.FwdMix.Frame
public import proofs.«01_k».proof.Proof.Gen.FwdMixIdeal.Frame
public import proofs.«01_k».proof.Proof.Gen.BwdMixIdeal.Value
public import proofs.«01_k».proof.Proof.Gen.BwdMixRefIdeal.Run
public import proofs.«01_k».proof.Proof.Gen.BwdMix.Frame
public import proofs.«01_k».proof.Proof.Gen.BwdMixIdeal.Frame
public import proofs.«01_k».proof.Proof.FwdMix
public import proofs.«01_k».proof.Proof.BwdMix
public import proofs.«01_k».proof.Proof.ScanValue
public import proofs.«01_k».proof.Proof.ScanRef
public import proofs.«01_k».proof.Proof.Finite
public import proofs.«01_k».proof.Proof.SameText
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-! ## The frames -/

/-- The kernel's frame: the run is over any float values, and the two programs have the same text. -/
theorem frame_Kernel : Cert.quiescent_Kernel := fun m ρ _ => by
  rw [Cert.SameText.scan_defs]
  exact Cert.KernelIdeal.Gen.frame (F := Bits) m ρ
/-- The ideal kernel's frame. -/
theorem frame_KernelIdeal : Cert.quiescent_KernelIdeal := fun m ρ _ => Cert.KernelIdeal.Gen.frame m ρ
/-- The reference's frame. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The value of the recurrence's gradient -/

/-- Kernel and reference leave the same gradient, where the arguments are finite. -/
theorem value_scan : Cert.algebraic_KernelIdeal_ReferenceIdeal_pre_finite := fun m g m' g' hpre hagree =>
  ⟨fun c => (Cert.KernelIdeal.Gen.dats m 0 c).arrAt 2 Cert.KernelIdeal.cfg0.N,
    Cert.KernelIdeal.Gen.run_value m g,
    (θ_run Cert.ReferenceIdeal.defs _ _).mono (fun r h c => by
      obtain ⟨⟨A, hA⟩, ⟨C, hC⟩⟩ := Cert.Finite.both_real _ _ (hpre c)
      refine ⟨(h c).1.trans ?_, (h c).2⟩
      exact (Cert.ReferenceIdeal.Scan.result m' c ((hagree c).1.trans hA) ((hagree c).2.trans hC)).trans
        (Cert.KernelIdeal.Gen.final m c A C hA hC).symm)
      (Cert.ReferenceIdeal.Value.run m' g')⟩

/-! ## The products -/

theorem frame_InX : Cert.quiescent_InX := fun m ρ _ => Cert.InX.Gen.frame (F := Bits) m ρ
theorem frame_InXIdeal : Cert.quiescent_InXIdeal := fun m ρ _ => Cert.InXIdeal.Gen.frame m ρ
theorem frame_InXRefIdeal : Cert.quiescent_InXRefIdeal := fun m ρ _ =>
  (θ_run Cert.InXRefIdeal.defs _ _).mono (fun r h => ⟨fun c => (h c).2, sem_eq_zero_of_no_sems (by decide) r.2⟩) (Cert.InXRefIdeal.Value.run m ρ)
/-- The gradient in the first product's rows. -/
theorem value_InX : Cert.algebraic_InXIdeal_InXRefIdeal := fun m g m' g' _ hagree =>
  ⟨_, Cert.InXIdeal.Value.run_blocks m g, (θ_run Cert.InXRefIdeal.defs _ _).mono
    (fun r h c => ⟨(h c).1.trans (by rw [(hagree c).1, (hagree c).2.1, (hagree c).2.2]; exact (Cert.InXIdeal.Product.final m c).symm), (h c).2⟩) (Cert.InXRefIdeal.Value.run m' g')⟩

theorem frame_InW : Cert.quiescent_InW := fun m ρ _ => Cert.InW.Gen.frame (F := Bits) m ρ
theorem frame_InWIdeal : Cert.quiescent_InWIdeal := fun m ρ _ => Cert.InWIdeal.Gen.frame m ρ
theorem frame_InWRefIdeal : Cert.quiescent_InWRefIdeal := fun m ρ _ =>
  (θ_run Cert.InWRefIdeal.defs _ _).mono (fun r h => ⟨fun c => (h c).2, sem_eq_zero_of_no_sems (by decide) r.2⟩) (Cert.InWRefIdeal.Value.run m ρ)
/-- The gradient in the first product's matrix. -/
theorem value_InW : Cert.algebraic_InWIdeal_InWRefIdeal := fun m g m' g' _ hagree =>
  ⟨_, Cert.InWIdeal.Value.run_blocks m g, (θ_run Cert.InWRefIdeal.defs _ _).mono
    (fun r h c => ⟨(h c).1.trans (by rw [(hagree c).1, (hagree c).2]; exact (Cert.InWIdeal.Product.final m c).symm), (h c).2⟩) (Cert.InWRefIdeal.Value.run m' g')⟩

theorem frame_UpX : Cert.quiescent_UpX := fun m ρ _ => Cert.UpX.Gen.frame (F := Bits) m ρ
theorem frame_UpXIdeal : Cert.quiescent_UpXIdeal := fun m ρ _ => Cert.UpXIdeal.Gen.frame m ρ
theorem frame_UpXRefIdeal : Cert.quiescent_UpXRefIdeal := fun m ρ _ =>
  (θ_run Cert.UpXRefIdeal.defs _ _).mono (fun r h => ⟨fun c => (h c).2, sem_eq_zero_of_no_sems (by decide) r.2⟩) (Cert.UpXRefIdeal.Value.run m ρ)
/-- The gradient in the widening product's rows. -/
theorem value_UpX : Cert.algebraic_UpXIdeal_UpXRefIdeal := fun m g m' g' _ hagree =>
  ⟨_, Cert.UpXIdeal.Value.run_blocks m g, (θ_run Cert.UpXRefIdeal.defs _ _).mono
    (fun r h c => ⟨(h c).1.trans (by rw [(hagree c).1, (hagree c).2]; exact (Cert.UpXIdeal.Product.final m c).symm), (h c).2⟩) (Cert.UpXRefIdeal.Value.run m' g')⟩

theorem frame_UpW : Cert.quiescent_UpW := fun m ρ _ => Cert.UpW.Gen.frame (F := Bits) m ρ
theorem frame_UpWIdeal : Cert.quiescent_UpWIdeal := fun m ρ _ => Cert.UpWIdeal.Gen.frame m ρ
theorem frame_UpWRefIdeal : Cert.quiescent_UpWRefIdeal := fun m ρ _ =>
  (θ_run Cert.UpWRefIdeal.defs _ _).mono (fun r h => ⟨fun c => (h c).2, sem_eq_zero_of_no_sems (by decide) r.2⟩) (Cert.UpWRefIdeal.Value.run m ρ)
/-- The gradient in the widening product's matrix. -/
theorem value_UpW : Cert.algebraic_UpWIdeal_UpWRefIdeal := fun m g m' g' _ hagree =>
  ⟨_, Cert.UpWIdeal.Value.run_blocks m g, (θ_run Cert.UpWRefIdeal.defs _ _).mono
    (fun r h c => ⟨(h c).1.trans (by rw [(hagree c).1, (hagree c).2]; exact (Cert.UpWIdeal.Product.final m c).symm), (h c).2⟩) (Cert.UpWRefIdeal.Value.run m' g')⟩

theorem frame_DownX : Cert.quiescent_DownX := fun m ρ _ => Cert.DownX.Gen.frame (F := Bits) m ρ
theorem frame_DownXIdeal : Cert.quiescent_DownXIdeal := fun m ρ _ => Cert.DownXIdeal.Gen.frame m ρ
theorem frame_DownXRefIdeal : Cert.quiescent_DownXRefIdeal := fun m ρ _ =>
  (θ_run Cert.DownXRefIdeal.defs _ _).mono (fun r h => ⟨fun c => (h c).2, sem_eq_zero_of_no_sems (by decide) r.2⟩) (Cert.DownXRefIdeal.Value.run m ρ)
/-- The gradient in the narrowing product's rows. -/
theorem value_DownX : Cert.algebraic_DownXIdeal_DownXRefIdeal := fun m g m' g' _ hagree =>
  ⟨_, Cert.DownXIdeal.Value.run_blocks m g, (θ_run Cert.DownXRefIdeal.defs _ _).mono
    (fun r h c => ⟨(h c).1.trans (by rw [(hagree c).1, (hagree c).2]; exact (Cert.DownXIdeal.Product.final m c).symm), (h c).2⟩) (Cert.DownXRefIdeal.Value.run m' g')⟩

theorem frame_DownW : Cert.quiescent_DownW := fun m ρ _ => Cert.DownW.Gen.frame (F := Bits) m ρ
theorem frame_DownWIdeal : Cert.quiescent_DownWIdeal := fun m ρ _ => Cert.DownWIdeal.Gen.frame m ρ
theorem frame_DownWRefIdeal : Cert.quiescent_DownWRefIdeal := fun m ρ _ =>
  (θ_run Cert.DownWRefIdeal.defs _ _).mono (fun r h => ⟨fun c => (h c).2, sem_eq_zero_of_no_sems (by decide) r.2⟩) (Cert.DownWRefIdeal.Value.run m ρ)
/-- The gradient in the narrowing product's matrix. -/
theorem value_DownW : Cert.algebraic_DownWIdeal_DownWRefIdeal := fun m g m' g' _ hagree =>
  ⟨_, Cert.DownWIdeal.Value.run_blocks m g, (θ_run Cert.DownWRefIdeal.defs _ _).mono
    (fun r h c => ⟨(h c).1.trans (by rw [(hagree c).1, (hagree c).2]; exact (Cert.DownWIdeal.Product.final m c).symm), (h c).2⟩) (Cert.DownWRefIdeal.Value.run m' g')⟩

theorem frame_FwdIn : Cert.quiescent_FwdIn := fun m ρ _ => Cert.FwdIn.Gen.frame (F := Bits) m ρ
theorem frame_FwdInIdeal : Cert.quiescent_FwdInIdeal := fun m ρ _ => Cert.FwdInIdeal.Gen.frame m ρ
theorem frame_FwdInRefIdeal : Cert.quiescent_FwdInRefIdeal := fun m ρ _ =>
  (θ_run Cert.FwdInRefIdeal.defs _ _).mono (fun r h => ⟨fun c => (h c).2, sem_eq_zero_of_no_sems (by decide) r.2⟩) (Cert.FwdInRefIdeal.Value.run m ρ)
/-- The first product. -/
theorem value_FwdIn : Cert.algebraic_FwdInIdeal_FwdInRefIdeal := fun m g m' g' _ hagree =>
  ⟨_, Cert.FwdInIdeal.Value.run_blocks m g, (θ_run Cert.FwdInRefIdeal.defs _ _).mono
    (fun r h c => ⟨(h c).1.trans (by rw [(hagree c).1, (hagree c).2]; exact (Cert.FwdInIdeal.Product.final m c).symm), (h c).2⟩) (Cert.FwdInRefIdeal.Value.run m' g')⟩

theorem frame_FwdBa : Cert.quiescent_FwdBa := fun m ρ _ => Cert.FwdBa.Gen.frame (F := Bits) m ρ
theorem frame_FwdBaIdeal : Cert.quiescent_FwdBaIdeal := fun m ρ _ => Cert.FwdBaIdeal.Gen.frame m ρ
theorem frame_FwdBaRefIdeal : Cert.quiescent_FwdBaRefIdeal := fun m ρ _ =>
  (θ_run Cert.FwdBaRefIdeal.defs _ _).mono (fun r h => ⟨fun c => (h c).2, sem_eq_zero_of_no_sems (by decide) r.2⟩) (Cert.FwdBaRefIdeal.Value.run m ρ)
/-- The first product, its columns of the two gates of the delta rule. -/
theorem value_FwdBa : Cert.algebraic_FwdBaIdeal_FwdBaRefIdeal := fun m g m' g' _ hagree =>
  ⟨_, Cert.FwdBaIdeal.Value.run_blocks m g, (θ_run Cert.FwdBaRefIdeal.defs _ _).mono
    (fun r h c => ⟨(h c).1.trans (by rw [(hagree c).1, (hagree c).2]; exact (Cert.FwdBaIdeal.Product.final m c).symm), (h c).2⟩) (Cert.FwdBaRefIdeal.Value.run m' g')⟩

theorem frame_FwdBranch0 : Cert.quiescent_FwdBranch0 := fun m ρ _ => Cert.FwdBranch0.Gen.frame (F := Bits) m ρ
theorem frame_FwdBranch0Ideal : Cert.quiescent_FwdBranch0Ideal := fun m ρ _ => Cert.FwdBranch0Ideal.Gen.frame m ρ
theorem frame_FwdBranch0RefIdeal : Cert.quiescent_FwdBranch0RefIdeal := fun m ρ _ =>
  (θ_run Cert.FwdBranch0RefIdeal.defs _ _).mono (fun r h => ⟨fun c => (h c).2, sem_eq_zero_of_no_sems (by decide) r.2⟩) (Cert.FwdBranch0RefIdeal.Value.run m ρ)
/-- The product of branch 0. -/
theorem value_FwdBranch0 : Cert.algebraic_FwdBranch0Ideal_FwdBranch0RefIdeal := fun m g m' g' _ hagree =>
  ⟨_, Cert.FwdBranch0Ideal.Value.run_blocks m g, (θ_run Cert.FwdBranch0RefIdeal.defs _ _).mono
    (fun r h c => ⟨(h c).1.trans (by rw [(hagree c).1, (hagree c).2]; exact (Cert.FwdBranch0Ideal.Product.final m c).symm), (h c).2⟩) (Cert.FwdBranch0RefIdeal.Value.run m' g')⟩

theorem frame_FwdBranch1 : Cert.quiescent_FwdBranch1 := fun m ρ _ => Cert.FwdBranch1.Gen.frame (F := Bits) m ρ
theorem frame_FwdBranch1Ideal : Cert.quiescent_FwdBranch1Ideal := fun m ρ _ => Cert.FwdBranch1Ideal.Gen.frame m ρ
theorem frame_FwdBranch1RefIdeal : Cert.quiescent_FwdBranch1RefIdeal := fun m ρ _ =>
  (θ_run Cert.FwdBranch1RefIdeal.defs _ _).mono (fun r h => ⟨fun c => (h c).2, sem_eq_zero_of_no_sems (by decide) r.2⟩) (Cert.FwdBranch1RefIdeal.Value.run m ρ)
/-- The product of branch 1. -/
theorem value_FwdBranch1 : Cert.algebraic_FwdBranch1Ideal_FwdBranch1RefIdeal := fun m g m' g' _ hagree =>
  ⟨_, Cert.FwdBranch1Ideal.Value.run_blocks m g, (θ_run Cert.FwdBranch1RefIdeal.defs _ _).mono
    (fun r h c => ⟨(h c).1.trans (by rw [(hagree c).1, (hagree c).2]; exact (Cert.FwdBranch1Ideal.Product.final m c).symm), (h c).2⟩) (Cert.FwdBranch1RefIdeal.Value.run m' g')⟩

theorem frame_FwdBranch2 : Cert.quiescent_FwdBranch2 := fun m ρ _ => Cert.FwdBranch2.Gen.frame (F := Bits) m ρ
theorem frame_FwdBranch2Ideal : Cert.quiescent_FwdBranch2Ideal := fun m ρ _ => Cert.FwdBranch2Ideal.Gen.frame m ρ
theorem frame_FwdBranch2RefIdeal : Cert.quiescent_FwdBranch2RefIdeal := fun m ρ _ =>
  (θ_run Cert.FwdBranch2RefIdeal.defs _ _).mono (fun r h => ⟨fun c => (h c).2, sem_eq_zero_of_no_sems (by decide) r.2⟩) (Cert.FwdBranch2RefIdeal.Value.run m ρ)
/-- The product of branch 2. -/
theorem value_FwdBranch2 : Cert.algebraic_FwdBranch2Ideal_FwdBranch2RefIdeal := fun m g m' g' _ hagree =>
  ⟨_, Cert.FwdBranch2Ideal.Value.run_blocks m g, (θ_run Cert.FwdBranch2RefIdeal.defs _ _).mono
    (fun r h c => ⟨(h c).1.trans (by rw [(hagree c).1, (hagree c).2]; exact (Cert.FwdBranch2Ideal.Product.final m c).symm), (h c).2⟩) (Cert.FwdBranch2RefIdeal.Value.run m' g')⟩

theorem frame_FwdOut : Cert.quiescent_FwdOut := fun m ρ _ => Cert.FwdOut.Gen.frame (F := Bits) m ρ
theorem frame_FwdOutIdeal : Cert.quiescent_FwdOutIdeal := fun m ρ _ => Cert.FwdOutIdeal.Gen.frame m ρ
theorem frame_FwdOutRefIdeal : Cert.quiescent_FwdOutRefIdeal := fun m ρ _ =>
  (θ_run Cert.FwdOutRefIdeal.defs _ _).mono (fun r h => ⟨fun c => (h c).2, sem_eq_zero_of_no_sems (by decide) r.2⟩) (Cert.FwdOutRefIdeal.Value.run m ρ)
/-- The output product, of the mixer and of the attention, with what came past it. -/
theorem value_FwdOut : Cert.algebraic_FwdOutIdeal_FwdOutRefIdeal := fun m g m' g' _ hagree =>
  ⟨_, Cert.FwdOutIdeal.Value.run_blocks m g, (θ_run Cert.FwdOutRefIdeal.defs _ _).mono
    (fun r h c => ⟨(h c).1.trans (by rw [(hagree c).1, (hagree c).2.1, (hagree c).2.2]; exact (Cert.FwdOutIdeal.Product.final m c).symm), (h c).2⟩) (Cert.FwdOutRefIdeal.Value.run m' g')⟩

theorem frame_FwdQ : Cert.quiescent_FwdQ := fun m ρ _ => Cert.FwdQ.Gen.frame (F := Bits) m ρ
theorem frame_FwdQIdeal : Cert.quiescent_FwdQIdeal := fun m ρ _ => Cert.FwdQIdeal.Gen.frame m ρ
theorem frame_FwdQRefIdeal : Cert.quiescent_FwdQRefIdeal := fun m ρ _ =>
  (θ_run Cert.FwdQRefIdeal.defs _ _).mono (fun r h => ⟨fun c => (h c).2, sem_eq_zero_of_no_sems (by decide) r.2⟩) (Cert.FwdQRefIdeal.Value.run m ρ)
/-- The product that makes the queries. -/
theorem value_FwdQ : Cert.algebraic_FwdQIdeal_FwdQRefIdeal := fun m g m' g' _ hagree =>
  ⟨_, Cert.FwdQIdeal.Value.run_blocks m g, (θ_run Cert.FwdQRefIdeal.defs _ _).mono
    (fun r h c => ⟨(h c).1.trans (by rw [(hagree c).1, (hagree c).2]; exact (Cert.FwdQIdeal.Product.final m c).symm), (h c).2⟩) (Cert.FwdQRefIdeal.Value.run m' g')⟩

theorem frame_FwdKv : Cert.quiescent_FwdKv := fun m ρ _ => Cert.FwdKv.Gen.frame (F := Bits) m ρ
theorem frame_FwdKvIdeal : Cert.quiescent_FwdKvIdeal := fun m ρ _ => Cert.FwdKvIdeal.Gen.frame m ρ
theorem frame_FwdKvRefIdeal : Cert.quiescent_FwdKvRefIdeal := fun m ρ _ =>
  (θ_run Cert.FwdKvRefIdeal.defs _ _).mono (fun r h => ⟨fun c => (h c).2, sem_eq_zero_of_no_sems (by decide) r.2⟩) (Cert.FwdKvRefIdeal.Value.run m ρ)
/-- The product that makes the keys and values. -/
theorem value_FwdKv : Cert.algebraic_FwdKvIdeal_FwdKvRefIdeal := fun m g m' g' _ hagree =>
  ⟨_, Cert.FwdKvIdeal.Value.run_blocks m g, (θ_run Cert.FwdKvRefIdeal.defs _ _).mono
    (fun r h c => ⟨(h c).1.trans (by rw [(hagree c).1, (hagree c).2]; exact (Cert.FwdKvIdeal.Product.final m c).symm), (h c).2⟩) (Cert.FwdKvRefIdeal.Value.run m' g')⟩

theorem frame_FwdUp : Cert.quiescent_FwdUp := fun m ρ _ => Cert.FwdUp.Gen.frame (F := Bits) m ρ
theorem frame_FwdUpIdeal : Cert.quiescent_FwdUpIdeal := fun m ρ _ => Cert.FwdUpIdeal.Gen.frame m ρ
theorem frame_FwdUpRefIdeal : Cert.quiescent_FwdUpRefIdeal := fun m ρ _ =>
  (θ_run Cert.FwdUpRefIdeal.defs _ _).mono (fun r h => ⟨fun c => (h c).2, sem_eq_zero_of_no_sems (by decide) r.2⟩) (Cert.FwdUpRefIdeal.Value.run m ρ)
/-- The widening product. -/
theorem value_FwdUp : Cert.algebraic_FwdUpIdeal_FwdUpRefIdeal := fun m g m' g' _ hagree =>
  ⟨_, Cert.FwdUpIdeal.Value.run_blocks m g, (θ_run Cert.FwdUpRefIdeal.defs _ _).mono
    (fun r h c => ⟨(h c).1.trans (by rw [(hagree c).1, (hagree c).2]; exact (Cert.FwdUpIdeal.Product.final m c).symm), (h c).2⟩) (Cert.FwdUpRefIdeal.Value.run m' g')⟩

theorem frame_FwdDown : Cert.quiescent_FwdDown := fun m ρ _ => Cert.FwdDown.Gen.frame (F := Bits) m ρ
theorem frame_FwdDownIdeal : Cert.quiescent_FwdDownIdeal := fun m ρ _ => Cert.FwdDownIdeal.Gen.frame m ρ
theorem frame_FwdDownRefIdeal : Cert.quiescent_FwdDownRefIdeal := fun m ρ _ =>
  (θ_run Cert.FwdDownRefIdeal.defs _ _).mono (fun r h => ⟨fun c => (h c).2, sem_eq_zero_of_no_sems (by decide) r.2⟩) (Cert.FwdDownRefIdeal.Value.run m ρ)
/-- The narrowing product, with what came past it. -/
theorem value_FwdDown : Cert.algebraic_FwdDownIdeal_FwdDownRefIdeal := fun m g m' g' _ hagree =>
  ⟨_, Cert.FwdDownIdeal.Value.run_blocks m g, (θ_run Cert.FwdDownRefIdeal.defs _ _).mono
    (fun r h c => ⟨(h c).1.trans (by rw [(hagree c).1, (hagree c).2.1, (hagree c).2.2]; exact (Cert.FwdDownIdeal.Product.final m c).symm), (h c).2⟩) (Cert.FwdDownRefIdeal.Value.run m' g')⟩

theorem frame_OutX : Cert.quiescent_OutX := fun m ρ _ => Cert.OutX.Gen.frame (F := Bits) m ρ
theorem frame_OutXIdeal : Cert.quiescent_OutXIdeal := fun m ρ _ => Cert.OutXIdeal.Gen.frame m ρ
theorem frame_OutXRefIdeal : Cert.quiescent_OutXRefIdeal := fun m ρ _ =>
  (θ_run Cert.OutXRefIdeal.defs _ _).mono (fun r h => ⟨fun c => (h c).2, sem_eq_zero_of_no_sems (by decide) r.2⟩) (Cert.OutXRefIdeal.Value.run m ρ)
/-- The gradient in the rows of an output product, of the mixer and of the attention. -/
theorem value_OutX : Cert.algebraic_OutXIdeal_OutXRefIdeal := fun m g m' g' _ hagree =>
  ⟨_, Cert.OutXIdeal.Value.run_blocks m g, (θ_run Cert.OutXRefIdeal.defs _ _).mono
    (fun r h c => ⟨(h c).1.trans (by rw [(hagree c).1, (hagree c).2]; exact (Cert.OutXIdeal.Product.final m c).symm), (h c).2⟩) (Cert.OutXRefIdeal.Value.run m' g')⟩

theorem frame_OutW : Cert.quiescent_OutW := fun m ρ _ => Cert.OutW.Gen.frame (F := Bits) m ρ
theorem frame_OutWIdeal : Cert.quiescent_OutWIdeal := fun m ρ _ => Cert.OutWIdeal.Gen.frame m ρ
theorem frame_OutWRefIdeal : Cert.quiescent_OutWRefIdeal := fun m ρ _ =>
  (θ_run Cert.OutWRefIdeal.defs _ _).mono (fun r h => ⟨fun c => (h c).2, sem_eq_zero_of_no_sems (by decide) r.2⟩) (Cert.OutWRefIdeal.Value.run m ρ)
/-- The gradient in the matrix of an output product, of the mixer and of the attention. -/
theorem value_OutW : Cert.algebraic_OutWIdeal_OutWRefIdeal := fun m g m' g' _ hagree =>
  ⟨_, Cert.OutWIdeal.Value.run_blocks m g, (θ_run Cert.OutWRefIdeal.defs _ _).mono
    (fun r h c => ⟨(h c).1.trans (by rw [(hagree c).1, (hagree c).2]; exact (Cert.OutWIdeal.Product.final m c).symm), (h c).2⟩) (Cert.OutWRefIdeal.Value.run m' g')⟩

theorem frame_QX : Cert.quiescent_QX := fun m ρ _ => Cert.QX.Gen.frame (F := Bits) m ρ
theorem frame_QXIdeal : Cert.quiescent_QXIdeal := fun m ρ _ => Cert.QXIdeal.Gen.frame m ρ
theorem frame_QXRefIdeal : Cert.quiescent_QXRefIdeal := fun m ρ _ =>
  (θ_run Cert.QXRefIdeal.defs _ _).mono (fun r h => ⟨fun c => (h c).2, sem_eq_zero_of_no_sems (by decide) r.2⟩) (Cert.QXRefIdeal.Value.run m ρ)
/-- The gradient in the rows of the queries' product. -/
theorem value_QX : Cert.algebraic_QXIdeal_QXRefIdeal := fun m g m' g' _ hagree =>
  ⟨_, Cert.QXIdeal.Value.run_blocks m g, (θ_run Cert.QXRefIdeal.defs _ _).mono
    (fun r h c => ⟨(h c).1.trans (by rw [(hagree c).1, (hagree c).2]; exact (Cert.QXIdeal.Product.final m c).symm), (h c).2⟩) (Cert.QXRefIdeal.Value.run m' g')⟩

theorem frame_QW : Cert.quiescent_QW := fun m ρ _ => Cert.QW.Gen.frame (F := Bits) m ρ
theorem frame_QWIdeal : Cert.quiescent_QWIdeal := fun m ρ _ => Cert.QWIdeal.Gen.frame m ρ
theorem frame_QWRefIdeal : Cert.quiescent_QWRefIdeal := fun m ρ _ =>
  (θ_run Cert.QWRefIdeal.defs _ _).mono (fun r h => ⟨fun c => (h c).2, sem_eq_zero_of_no_sems (by decide) r.2⟩) (Cert.QWRefIdeal.Value.run m ρ)
/-- The gradient in the matrix of the queries' product. -/
theorem value_QW : Cert.algebraic_QWIdeal_QWRefIdeal := fun m g m' g' _ hagree =>
  ⟨_, Cert.QWIdeal.Value.run_blocks m g, (θ_run Cert.QWRefIdeal.defs _ _).mono
    (fun r h c => ⟨(h c).1.trans (by rw [(hagree c).1, (hagree c).2]; exact (Cert.QWIdeal.Product.final m c).symm), (h c).2⟩) (Cert.QWRefIdeal.Value.run m' g')⟩

theorem frame_KvX : Cert.quiescent_KvX := fun m ρ _ => Cert.KvX.Gen.frame (F := Bits) m ρ
theorem frame_KvXIdeal : Cert.quiescent_KvXIdeal := fun m ρ _ => Cert.KvXIdeal.Gen.frame m ρ
theorem frame_KvXRefIdeal : Cert.quiescent_KvXRefIdeal := fun m ρ _ =>
  (θ_run Cert.KvXRefIdeal.defs _ _).mono (fun r h => ⟨fun c => (h c).2, sem_eq_zero_of_no_sems (by decide) r.2⟩) (Cert.KvXRefIdeal.Value.run m ρ)
/-- The gradient in the rows of the keys' and values' product. -/
theorem value_KvX : Cert.algebraic_KvXIdeal_KvXRefIdeal := fun m g m' g' _ hagree =>
  ⟨_, Cert.KvXIdeal.Value.run_blocks m g, (θ_run Cert.KvXRefIdeal.defs _ _).mono
    (fun r h c => ⟨(h c).1.trans (by rw [(hagree c).1, (hagree c).2]; exact (Cert.KvXIdeal.Product.final m c).symm), (h c).2⟩) (Cert.KvXRefIdeal.Value.run m' g')⟩

theorem frame_KvW : Cert.quiescent_KvW := fun m ρ _ => Cert.KvW.Gen.frame (F := Bits) m ρ
theorem frame_KvWIdeal : Cert.quiescent_KvWIdeal := fun m ρ _ => Cert.KvWIdeal.Gen.frame m ρ
theorem frame_KvWRefIdeal : Cert.quiescent_KvWRefIdeal := fun m ρ _ =>
  (θ_run Cert.KvWRefIdeal.defs _ _).mono (fun r h => ⟨fun c => (h c).2, sem_eq_zero_of_no_sems (by decide) r.2⟩) (Cert.KvWRefIdeal.Value.run m ρ)
/-- The gradient in the matrix of the keys' and values' product. -/
theorem value_KvW : Cert.algebraic_KvWIdeal_KvWRefIdeal := fun m g m' g' _ hagree =>
  ⟨_, Cert.KvWIdeal.Value.run_blocks m g, (θ_run Cert.KvWRefIdeal.defs _ _).mono
    (fun r h c => ⟨(h c).1.trans (by rw [(hagree c).1, (hagree c).2]; exact (Cert.KvWIdeal.Product.final m c).symm), (h c).2⟩) (Cert.KvWRefIdeal.Value.run m' g')⟩

theorem frame_BranchX : Cert.quiescent_BranchX := fun m ρ _ => Cert.BranchX.Gen.frame (F := Bits) m ρ
theorem frame_BranchXIdeal : Cert.quiescent_BranchXIdeal := fun m ρ _ => Cert.BranchXIdeal.Gen.frame m ρ
theorem frame_BranchXRefIdeal : Cert.quiescent_BranchXRefIdeal := fun m ρ _ =>
  (θ_run Cert.BranchXRefIdeal.defs _ _).mono (fun r h => ⟨fun c => (h c).2, sem_eq_zero_of_no_sems (by decide) r.2⟩) (Cert.BranchXRefIdeal.Value.run m ρ)
/-- The gradient in the rows of a branch's product. -/
theorem value_BranchX : Cert.algebraic_BranchXIdeal_BranchXRefIdeal := fun m g m' g' _ hagree =>
  ⟨_, Cert.BranchXIdeal.Value.run_blocks m g, (θ_run Cert.BranchXRefIdeal.defs _ _).mono
    (fun r h c => ⟨(h c).1.trans (by rw [(hagree c).1, (hagree c).2]; exact (Cert.BranchXIdeal.Product.final m c).symm), (h c).2⟩) (Cert.BranchXRefIdeal.Value.run m' g')⟩

theorem frame_BranchW0 : Cert.quiescent_BranchW0 := fun m ρ _ => Cert.BranchW0.Gen.frame (F := Bits) m ρ
theorem frame_BranchW0Ideal : Cert.quiescent_BranchW0Ideal := fun m ρ _ => Cert.BranchW0Ideal.Gen.frame m ρ
theorem frame_BranchW0RefIdeal : Cert.quiescent_BranchW0RefIdeal := fun m ρ _ =>
  (θ_run Cert.BranchW0RefIdeal.defs _ _).mono (fun r h => ⟨fun c => (h c).2, sem_eq_zero_of_no_sems (by decide) r.2⟩) (Cert.BranchW0RefIdeal.Value.run m ρ)
/-- The gradient in the matrix of the product of branch 0. -/
theorem value_BranchW0 : Cert.algebraic_BranchW0Ideal_BranchW0RefIdeal := fun m g m' g' _ hagree =>
  ⟨_, Cert.BranchW0Ideal.Value.run_blocks m g, (θ_run Cert.BranchW0RefIdeal.defs _ _).mono
    (fun r h c => ⟨(h c).1.trans (by rw [(hagree c).1, (hagree c).2]; exact (Cert.BranchW0Ideal.Product.final m c).symm), (h c).2⟩) (Cert.BranchW0RefIdeal.Value.run m' g')⟩

theorem frame_BranchW1 : Cert.quiescent_BranchW1 := fun m ρ _ => Cert.BranchW1.Gen.frame (F := Bits) m ρ
theorem frame_BranchW1Ideal : Cert.quiescent_BranchW1Ideal := fun m ρ _ => Cert.BranchW1Ideal.Gen.frame m ρ
theorem frame_BranchW1RefIdeal : Cert.quiescent_BranchW1RefIdeal := fun m ρ _ =>
  (θ_run Cert.BranchW1RefIdeal.defs _ _).mono (fun r h => ⟨fun c => (h c).2, sem_eq_zero_of_no_sems (by decide) r.2⟩) (Cert.BranchW1RefIdeal.Value.run m ρ)
/-- The gradient in the matrix of the product of branch 1. -/
theorem value_BranchW1 : Cert.algebraic_BranchW1Ideal_BranchW1RefIdeal := fun m g m' g' _ hagree =>
  ⟨_, Cert.BranchW1Ideal.Value.run_blocks m g, (θ_run Cert.BranchW1RefIdeal.defs _ _).mono
    (fun r h c => ⟨(h c).1.trans (by rw [(hagree c).1, (hagree c).2]; exact (Cert.BranchW1Ideal.Product.final m c).symm), (h c).2⟩) (Cert.BranchW1RefIdeal.Value.run m' g')⟩

theorem frame_BranchW2 : Cert.quiescent_BranchW2 := fun m ρ _ => Cert.BranchW2.Gen.frame (F := Bits) m ρ
theorem frame_BranchW2Ideal : Cert.quiescent_BranchW2Ideal := fun m ρ _ => Cert.BranchW2Ideal.Gen.frame m ρ
theorem frame_BranchW2RefIdeal : Cert.quiescent_BranchW2RefIdeal := fun m ρ _ =>
  (θ_run Cert.BranchW2RefIdeal.defs _ _).mono (fun r h => ⟨fun c => (h c).2, sem_eq_zero_of_no_sems (by decide) r.2⟩) (Cert.BranchW2RefIdeal.Value.run m ρ)
/-- The gradient in the matrix of the product of branch 2. -/
theorem value_BranchW2 : Cert.algebraic_BranchW2Ideal_BranchW2RefIdeal := fun m g m' g' _ hagree =>
  ⟨_, Cert.BranchW2Ideal.Value.run_blocks m g, (θ_run Cert.BranchW2RefIdeal.defs _ _).mono
    (fun r h c => ⟨(h c).1.trans (by rw [(hagree c).1, (hagree c).2]; exact (Cert.BranchW2Ideal.Product.final m c).symm), (h c).2⟩) (Cert.BranchW2RefIdeal.Value.run m' g')⟩

theorem frame_BaX : Cert.quiescent_BaX := fun m ρ _ => Cert.BaX.Gen.frame (F := Bits) m ρ
theorem frame_BaXIdeal : Cert.quiescent_BaXIdeal := fun m ρ _ => Cert.BaXIdeal.Gen.frame m ρ
theorem frame_BaXRefIdeal : Cert.quiescent_BaXRefIdeal := fun m ρ _ =>
  (θ_run Cert.BaXRefIdeal.defs _ _).mono (fun r h => ⟨fun c => (h c).2, sem_eq_zero_of_no_sems (by decide) r.2⟩) (Cert.BaXRefIdeal.Value.run m ρ)
/-- The gradient in the rows of the first product, from the columns of the delta rule's gates. -/
theorem value_BaX : Cert.algebraic_BaXIdeal_BaXRefIdeal := fun m g m' g' _ hagree =>
  ⟨_, Cert.BaXIdeal.Value.run_blocks m g, (θ_run Cert.BaXRefIdeal.defs _ _).mono
    (fun r h c => ⟨(h c).1.trans (by rw [(hagree c).1, (hagree c).2]; exact (Cert.BaXIdeal.Product.final m c).symm), (h c).2⟩) (Cert.BaXRefIdeal.Value.run m' g')⟩

theorem frame_BaW : Cert.quiescent_BaW := fun m ρ _ => Cert.BaW.Gen.frame (F := Bits) m ρ
theorem frame_BaWIdeal : Cert.quiescent_BaWIdeal := fun m ρ _ => Cert.BaWIdeal.Gen.frame m ρ
theorem frame_BaWRefIdeal : Cert.quiescent_BaWRefIdeal := fun m ρ _ =>
  (θ_run Cert.BaWRefIdeal.defs _ _).mono (fun r h => ⟨fun c => (h c).2, sem_eq_zero_of_no_sems (by decide) r.2⟩) (Cert.BaWRefIdeal.Value.run m ρ)
/-- The gradient in those columns of the first product's matrix. -/
theorem value_BaW : Cert.algebraic_BaWIdeal_BaWRefIdeal := fun m g m' g' _ hagree =>
  ⟨_, Cert.BaWIdeal.Value.run_blocks m g, (θ_run Cert.BaWRefIdeal.defs _ _).mono
    (fun r h c => ⟨(h c).1.trans (by rw [(hagree c).1, (hagree c).2]; exact (Cert.BaWIdeal.Product.final m c).symm), (h c).2⟩) (Cert.BaWRefIdeal.Value.run m' g')⟩

/-! ## The stages between the products -/

theorem frame_FwdGate : Cert.quiescent_FwdGate := fun m ρ _ => Cert.FwdGate.Gen.frame (F := Bits) m ρ
theorem frame_FwdGateIdeal : Cert.quiescent_FwdGateIdeal := fun m ρ _ => Cert.FwdGateIdeal.Gen.frame m ρ
theorem frame_FwdGateRefIdeal : Cert.quiescent_FwdGateRefIdeal := fun m ρ _ =>
  (θ_run Cert.FwdGateRefIdeal.defs _ _).mono (fun r h => ⟨fun c => (h c).2, sem_eq_zero_of_no_sems (by decide) r.2⟩) (Cert.FwdGateRefIdeal.Value.run m ρ)
/-- The branches merged by their gates. -/
theorem value_FwdGate : Cert.algebraic_FwdGateIdeal_FwdGateRefIdeal := fun m g m' g' _ hagree =>
  ⟨_, Cert.FwdGateIdeal.Value.run_blocks m g, (θ_run Cert.FwdGateRefIdeal.defs _ _).mono
    (fun r h c => ⟨(h c).1.trans (by rw [(hagree c).1, (hagree c).2.1, (hagree c).2.2.1, (hagree c).2.2.2.1, (hagree c).2.2.2.2]; exact (Cert.FwdGateIdeal.Merge.final m c).symm),
      (h c).2⟩) (Cert.FwdGateRefIdeal.Value.run m' g')⟩

theorem frame_BwdGate : Cert.quiescent_BwdGate := fun m ρ _ => Cert.BwdGate.Gen.frame (F := Bits) m ρ
theorem frame_BwdGateIdeal : Cert.quiescent_BwdGateIdeal := fun m ρ _ => Cert.BwdGateIdeal.Gen.frame m ρ
theorem frame_BwdGateRefIdeal : Cert.quiescent_BwdGateRefIdeal := fun m ρ _ =>
  (θ_run Cert.BwdGateRefIdeal.defs _ _).mono (fun r h => ⟨fun c => (h c).2.2.2.2.2.2.2, sem_eq_zero_of_no_sems (by decide) r.2⟩) (Cert.BwdGateRefIdeal.Value.run m ρ)
/-- The gradients of the gates, the branches and the gates' bias. -/
theorem value_BwdGate : Cert.algebraic_BwdGateIdeal_BwdGateRefIdeal := fun m g m' g' _ hagree =>
  ⟨_, _, _, _, _, _, _, Cert.BwdGateIdeal.Value.run_blocks m g, (θ_run Cert.BwdGateRefIdeal.defs _ _).mono
    (fun r h c => ⟨(h c).1.trans (by rw [(hagree c).1, (hagree c).2.1, (hagree c).2.2.1, (hagree c).2.2.2.1, (hagree c).2.2.2.2.1, (hagree c).2.2.2.2.2]; exact (Cert.BwdGateIdeal.Merge.final8 m c).symm),
      (h c).2.1.trans (by rw [(hagree c).1, (hagree c).2.1, (hagree c).2.2.1, (hagree c).2.2.2.1, (hagree c).2.2.2.2.1, (hagree c).2.2.2.2.2]; exact (Cert.BwdGateIdeal.Merge.final9 m c).symm),
      (h c).2.2.1.trans (by rw [(hagree c).1, (hagree c).2.1, (hagree c).2.2.1, (hagree c).2.2.2.1, (hagree c).2.2.2.2.1, (hagree c).2.2.2.2.2]; exact (Cert.BwdGateIdeal.Merge.final10 m c).symm),
      (h c).2.2.2.1.trans (by rw [(hagree c).1, (hagree c).2.2.2.2.1, (hagree c).2.2.2.2.2]; exact (Cert.BwdGateIdeal.Merge.final11 m c).symm),
      (h c).2.2.2.2.1.trans (by rw [(hagree c).1, (hagree c).2.2.2.2.1, (hagree c).2.2.2.2.2]; exact (Cert.BwdGateIdeal.Merge.final12 m c).symm),
      (h c).2.2.2.2.2.1.trans (by rw [(hagree c).1, (hagree c).2.2.2.2.1, (hagree c).2.2.2.2.2]; exact (Cert.BwdGateIdeal.Merge.final13 m c).symm),
      (h c).2.2.2.2.2.2.1.trans (by rw [(hagree c).1, (hagree c).2.1, (hagree c).2.2.1, (hagree c).2.2.2.1, (hagree c).2.2.2.2.1, (hagree c).2.2.2.2.2]; exact (Cert.BwdGateIdeal.Merge.finalB m c).symm),
      (h c).2.2.2.2.2.2.2⟩) (Cert.BwdGateRefIdeal.Value.run m' g')⟩

theorem frame_FwdNorm : Cert.quiescent_FwdNorm := fun m ρ _ => Cert.FwdNorm.Gen.frame (F := Bits) m ρ
theorem frame_FwdNormIdeal : Cert.quiescent_FwdNormIdeal := fun m ρ _ => Cert.FwdNormIdeal.Gen.frame m ρ
theorem frame_FwdNormRefIdeal : Cert.quiescent_FwdNormRefIdeal := fun m ρ _ =>
  (θ_run Cert.FwdNormRefIdeal.defs _ _).mono (fun r h => ⟨fun c => (h c).2, sem_eq_zero_of_no_sems (by decide) r.2⟩) (Cert.FwdNormRefIdeal.Value.run m ρ)
/-- The normed rows. -/
theorem value_FwdNorm : Cert.algebraic_FwdNormIdeal_FwdNormRefIdeal := fun m g m' g' _ hagree =>
  ⟨_, Cert.FwdNormIdeal.Value.run_blocks m g, (θ_run Cert.FwdNormRefIdeal.defs _ _).mono
    (fun r h c => ⟨(h c).1.trans (by rw [(hagree c).1, (hagree c).2]; exact (Cert.FwdNormIdeal.Norm.final m c).symm),
      (h c).2⟩) (Cert.FwdNormRefIdeal.Value.run m' g')⟩

theorem frame_BwdNorm : Cert.quiescent_BwdNorm := fun m ρ _ => Cert.BwdNorm.Gen.frame (F := Bits) m ρ
theorem frame_BwdNormIdeal : Cert.quiescent_BwdNormIdeal := fun m ρ _ => Cert.BwdNormIdeal.Gen.frame m ρ
theorem frame_BwdNormRefIdeal : Cert.quiescent_BwdNormRefIdeal := fun m ρ _ =>
  (θ_run Cert.BwdNormRefIdeal.defs _ _).mono (fun r h => ⟨fun c => (h c).2.2, sem_eq_zero_of_no_sems (by decide) r.2⟩) (Cert.BwdNormRefIdeal.Value.run m ρ)
/-- The gradients of a norm's rows, the residual's added, and of its scale. -/
theorem value_BwdNorm : Cert.algebraic_BwdNormIdeal_BwdNormRefIdeal := fun m g m' g' _ hagree =>
  ⟨_, _, Cert.BwdNormIdeal.Value.run_blocks m g, (θ_run Cert.BwdNormRefIdeal.defs _ _).mono
    (fun r h c => ⟨(h c).1.trans (by rw [(hagree c).1, (hagree c).2.1, (hagree c).2.2.1, (hagree c).2.2.2]; exact (Cert.BwdNormIdeal.Norm.finalX m c).symm),
      (h c).2.1.trans (by rw [(hagree c).1, (hagree c).2.2.2]; exact (Cert.BwdNormIdeal.Norm.finalG m c).symm),
      (h c).2.2⟩) (Cert.BwdNormRefIdeal.Value.run m' g')⟩

theorem frame_FwdAtt : Cert.quiescent_FwdAtt := fun m ρ _ => Cert.FwdAtt.Gen.frame (F := Bits) m ρ
theorem frame_FwdAttIdeal : Cert.quiescent_FwdAttIdeal := fun m ρ _ => Cert.FwdAttIdeal.Gen.frame m ρ
theorem frame_FwdAttRefIdeal : Cert.quiescent_FwdAttRefIdeal := fun m ρ _ =>
  (θ_run Cert.FwdAttRefIdeal.defs _ _).mono (fun r h => ⟨fun c => (h c).2, sem_eq_zero_of_no_sems (by decide) r.2⟩) (Cert.FwdAttRefIdeal.Value.run m ρ)
/-- The attended rows. -/
theorem value_FwdAtt : Cert.algebraic_FwdAttIdeal_FwdAttRefIdeal := fun m g m' g' _ hagree =>
  ⟨_, Cert.FwdAttIdeal.Value.run_blocks m g, (θ_run Cert.FwdAttRefIdeal.defs _ _).mono
    (fun r h c => ⟨(h c).1.trans (by rw [(hagree c).1, (hagree c).2]; exact (Cert.FwdAttIdeal.Att.final m c).symm),
      (h c).2⟩) (Cert.FwdAttRefIdeal.Value.run m' g')⟩

theorem frame_BwdAtt : Cert.quiescent_BwdAtt := fun m ρ _ => Cert.BwdAtt.Gen.frame (F := Bits) m ρ
theorem frame_BwdAttIdeal : Cert.quiescent_BwdAttIdeal := fun m ρ _ => Cert.BwdAttIdeal.Gen.frame m ρ
theorem frame_BwdAttRefIdeal : Cert.quiescent_BwdAttRefIdeal := fun m ρ _ =>
  (θ_run Cert.BwdAttRefIdeal.defs _ _).mono (fun r h => ⟨fun c => (h c).2.2, sem_eq_zero_of_no_sems (by decide) r.2⟩) (Cert.BwdAttRefIdeal.Value.run m ρ)
/-- The gradients of the attention's queries and stored rows. -/
theorem value_BwdAtt : Cert.algebraic_BwdAttIdeal_BwdAttRefIdeal := fun m g m' g' _ hagree =>
  ⟨_, _, Cert.BwdAttIdeal.Value.run_blocks m g, (θ_run Cert.BwdAttRefIdeal.defs _ _).mono
    (fun r h c => ⟨(h c).1.trans (by rw [Cert.BwdAttRefIdeal.Att.res_q, (hagree c).1, (hagree c).2.1, (hagree c).2.2]; exact (Cert.BwdAttIdeal.Att.finalQ m c).symm),
      (h c).2.1.trans (by rw [Cert.BwdAttRefIdeal.Att.res_kv, (hagree c).1, (hagree c).2.1, (hagree c).2.2]; exact (Cert.BwdAttIdeal.Att.finalKV m c).symm),
      (h c).2.2⟩) (Cert.BwdAttRefIdeal.Value.run m' g')⟩

theorem frame_FwdMix : Cert.quiescent_FwdMix := fun m ρ _ => Cert.FwdMix.Gen.frame (F := Bits) m ρ
theorem frame_FwdMixIdeal : Cert.quiescent_FwdMixIdeal := fun m ρ _ => Cert.FwdMixIdeal.Gen.frame m ρ
theorem frame_FwdMixRefIdeal : Cert.quiescent_FwdMixRefIdeal := fun m ρ _ =>
  (θ_run Cert.FwdMixRefIdeal.defs _ _).mono (fun r h => ⟨fun c => (h c).2, sem_eq_zero_of_no_sems (by decide) r.2⟩) (Cert.FwdMixRefIdeal.Value.run m ρ)
/-- The three branches before their products. -/
theorem value_FwdMix : Cert.algebraic_FwdMixIdeal_FwdMixRefIdeal := fun m g m' g' _ hagree =>
  ⟨_, Cert.FwdMixIdeal.Value.run_blocks m g, (θ_run Cert.FwdMixRefIdeal.defs _ _).mono
    (fun r h c => ⟨(h c).1.trans (by rw [Cert.FwdMixRefIdeal.Mix.res, (hagree c).1, (hagree c).2.1, (hagree c).2.2.1, (hagree c).2.2.2.1, (hagree c).2.2.2.2.1, (hagree c).2.2.2.2.2.1, (hagree c).2.2.2.2.2.2.1, (hagree c).2.2.2.2.2.2.2]; exact (Cert.FwdMixIdeal.Mix.final m c).symm),
      (h c).2⟩) (Cert.FwdMixRefIdeal.Value.run m' g')⟩

theorem frame_BwdMix : Cert.quiescent_BwdMix := fun m ρ _ => Cert.BwdMix.Gen.frame (F := Bits) m ρ
theorem frame_BwdMixIdeal : Cert.quiescent_BwdMixIdeal := fun m ρ _ => Cert.BwdMixIdeal.Gen.frame m ρ
theorem frame_BwdMixRefIdeal : Cert.quiescent_BwdMixRefIdeal := fun m ρ _ =>
  (θ_run Cert.BwdMixRefIdeal.defs _ _).mono (fun r h => ⟨fun c => (h c).2.2.2.2.2.2.2.2.2.2, sem_eq_zero_of_no_sems (by decide) r.2⟩) (Cert.BwdMixRefIdeal.Value.run m ρ)
/-- The gradients of the three branches before their products. -/
theorem value_BwdMix : Cert.algebraic_BwdMixIdeal_BwdMixRefIdeal := fun m g m' g' _ hagree =>
  ⟨_, _, _, _, _, _, _, _, _, _, Cert.BwdMixIdeal.Value.run_blocks m g, (θ_run Cert.BwdMixRefIdeal.defs _ _).mono
    (fun r h c => ⟨(h c).1.trans ((Cert.BwdMixRefIdeal.Mix.resHA m' c).trans (by rw [(hagree c).1, (hagree c).2.2.2.2.2.2.2.2.1]; exact (Cert.BwdMixIdeal.Mix.finalHA m c).symm)),
      (h c).2.1.trans ((Cert.BwdMixRefIdeal.Mix.resGA m' c).trans (by rw [(hagree c).1, (hagree c).2.1, (hagree c).2.2.2.2.2.2.2.2.1]; exact (Cert.BwdMixIdeal.Mix.finalGA m c).symm)),
      (h c).2.2.1.trans ((Cert.BwdMixRefIdeal.Mix.resO m' c).trans (by rw [(hagree c).1, (hagree c).2.2.1, (hagree c).2.2.2.2.1, (hagree c).2.2.2.2.2.2.2.2.2.1]; exact (Cert.BwdMixIdeal.Mix.finalO m c).symm)),
      (h c).2.2.2.1.trans ((Cert.BwdMixRefIdeal.Mix.resZ m' c).trans (by rw [(hagree c).1, (hagree c).2.2.1, (hagree c).2.2.2.2.1, (hagree c).2.2.2.2.2.2.2.2.2.1]; exact (Cert.BwdMixIdeal.Mix.finalZ m c).symm)),
      (h c).2.2.2.2.1.trans ((Cert.BwdMixRefIdeal.Mix.resY m' c).trans (by rw [(hagree c).1, (hagree c).2.2.2.1, (hagree c).2.2.2.2.2.1, (hagree c).2.2.2.2.2.2.1, (hagree c).2.2.2.2.2.2.2.1, (hagree c).2.2.2.2.2.2.2.2.2.2]; exact (Cert.BwdMixIdeal.Mix.finalY m c).symm)),
      (h c).2.2.2.2.2.1.trans ((Cert.BwdMixRefIdeal.Mix.resUC m' c).trans (by rw [(hagree c).1, (hagree c).2.2.2.1, (hagree c).2.2.2.2.2.1, (hagree c).2.2.2.2.2.2.1, (hagree c).2.2.2.2.2.2.2.1, (hagree c).2.2.2.2.2.2.2.2.2.2]; exact (Cert.BwdMixIdeal.Mix.finalUC m c).symm)),
      (h c).2.2.2.2.2.2.1.trans ((Cert.BwdMixRefIdeal.Mix.resBN m' c).trans (by rw [(hagree c).1, (hagree c).2.2.1, (hagree c).2.2.2.2.2.2.2.2.2.1]; exact (Cert.BwdMixIdeal.Mix.finalBN m c).symm)),
      (h c).2.2.2.2.2.2.2.1.trans ((Cert.BwdMixRefIdeal.Mix.resCD m' c).trans (by rw [(hagree c).1, (hagree c).2.2.2.1, (hagree c).2.2.2.2.2.1, (hagree c).2.2.2.2.2.2.1, (hagree c).2.2.2.2.2.2.2.1, (hagree c).2.2.2.2.2.2.2.2.2.2]; exact (Cert.BwdMixIdeal.Mix.finalCD m c).symm)),
      (h c).2.2.2.2.2.2.2.2.1.trans ((Cert.BwdMixRefIdeal.Mix.resW m' c).trans (by rw [(hagree c).1, (hagree c).2.2.2.1, (hagree c).2.2.2.2.2.1, (hagree c).2.2.2.2.2.2.1, (hagree c).2.2.2.2.2.2.2.1, (hagree c).2.2.2.2.2.2.2.2.2.2]; exact (Cert.BwdMixIdeal.Mix.finalW m c).symm)),
      (h c).2.2.2.2.2.2.2.2.2.1.trans ((Cert.BwdMixRefIdeal.Mix.resBG m' c).trans (by rw [(hagree c).1, (hagree c).2.2.2.1, (hagree c).2.2.2.2.2.1, (hagree c).2.2.2.2.2.2.1, (hagree c).2.2.2.2.2.2.2.1, (hagree c).2.2.2.2.2.2.2.2.2.2]; exact (Cert.BwdMixIdeal.Mix.finalBG m c).symm)),
      (h c).2.2.2.2.2.2.2.2.2.2⟩) (Cert.BwdMixRefIdeal.Value.run m' g')⟩

theorem claim : Cert.Claim := ⟨Cert.Kernel.Gen.facts, Cert.KernelIdeal.Gen.facts, Cert.ReferenceIdeal.Gen.facts, Cert.InX.Gen.facts, Cert.InXIdeal.Gen.facts, Cert.InXRefIdeal.Gen.facts, Cert.InW.Gen.facts, Cert.InWIdeal.Gen.facts, Cert.InWRefIdeal.Gen.facts, Cert.UpX.Gen.facts, Cert.UpXIdeal.Gen.facts, Cert.UpXRefIdeal.Gen.facts, Cert.UpW.Gen.facts, Cert.UpWIdeal.Gen.facts, Cert.UpWRefIdeal.Gen.facts, Cert.DownX.Gen.facts, Cert.DownXIdeal.Gen.facts, Cert.DownXRefIdeal.Gen.facts, Cert.DownW.Gen.facts, Cert.DownWIdeal.Gen.facts, Cert.DownWRefIdeal.Gen.facts, Cert.FwdIn.Gen.facts, Cert.FwdInIdeal.Gen.facts, Cert.FwdInRefIdeal.Gen.facts, Cert.FwdBa.Gen.facts, Cert.FwdBaIdeal.Gen.facts, Cert.FwdBaRefIdeal.Gen.facts, Cert.FwdBranch0.Gen.facts, Cert.FwdBranch0Ideal.Gen.facts, Cert.FwdBranch0RefIdeal.Gen.facts, Cert.FwdBranch1.Gen.facts, Cert.FwdBranch1Ideal.Gen.facts, Cert.FwdBranch1RefIdeal.Gen.facts, Cert.FwdBranch2.Gen.facts, Cert.FwdBranch2Ideal.Gen.facts, Cert.FwdBranch2RefIdeal.Gen.facts, Cert.FwdOut.Gen.facts, Cert.FwdOutIdeal.Gen.facts, Cert.FwdOutRefIdeal.Gen.facts, Cert.FwdQ.Gen.facts, Cert.FwdQIdeal.Gen.facts, Cert.FwdQRefIdeal.Gen.facts, Cert.FwdKv.Gen.facts, Cert.FwdKvIdeal.Gen.facts, Cert.FwdKvRefIdeal.Gen.facts, Cert.FwdUp.Gen.facts, Cert.FwdUpIdeal.Gen.facts, Cert.FwdUpRefIdeal.Gen.facts, Cert.FwdDown.Gen.facts, Cert.FwdDownIdeal.Gen.facts, Cert.FwdDownRefIdeal.Gen.facts, Cert.OutX.Gen.facts, Cert.OutXIdeal.Gen.facts, Cert.OutXRefIdeal.Gen.facts, Cert.OutW.Gen.facts, Cert.OutWIdeal.Gen.facts, Cert.OutWRefIdeal.Gen.facts, Cert.QX.Gen.facts, Cert.QXIdeal.Gen.facts, Cert.QXRefIdeal.Gen.facts, Cert.QW.Gen.facts, Cert.QWIdeal.Gen.facts, Cert.QWRefIdeal.Gen.facts, Cert.KvX.Gen.facts, Cert.KvXIdeal.Gen.facts, Cert.KvXRefIdeal.Gen.facts, Cert.KvW.Gen.facts, Cert.KvWIdeal.Gen.facts, Cert.KvWRefIdeal.Gen.facts, Cert.BranchX.Gen.facts, Cert.BranchXIdeal.Gen.facts, Cert.BranchXRefIdeal.Gen.facts, Cert.BranchW0.Gen.facts, Cert.BranchW0Ideal.Gen.facts, Cert.BranchW0RefIdeal.Gen.facts, Cert.BranchW1.Gen.facts, Cert.BranchW1Ideal.Gen.facts, Cert.BranchW1RefIdeal.Gen.facts, Cert.BranchW2.Gen.facts, Cert.BranchW2Ideal.Gen.facts, Cert.BranchW2RefIdeal.Gen.facts, Cert.BaX.Gen.facts, Cert.BaXIdeal.Gen.facts, Cert.BaXRefIdeal.Gen.facts, Cert.BaW.Gen.facts, Cert.BaWIdeal.Gen.facts, Cert.BaWRefIdeal.Gen.facts, Cert.FwdGate.Gen.facts, Cert.FwdGateIdeal.Gen.facts, Cert.FwdGateRefIdeal.Gen.facts, Cert.BwdGate.Gen.facts, Cert.BwdGateIdeal.Gen.facts, Cert.BwdGateRefIdeal.Gen.facts, Cert.FwdNorm.Gen.facts, Cert.FwdNormIdeal.Gen.facts, Cert.FwdNormRefIdeal.Gen.facts, Cert.BwdNorm.Gen.facts, Cert.BwdNormIdeal.Gen.facts, Cert.BwdNormRefIdeal.Gen.facts, Cert.FwdAtt.Gen.facts, Cert.FwdAttIdeal.Gen.facts, Cert.FwdAttRefIdeal.Gen.facts, Cert.BwdAtt.Gen.facts, Cert.BwdAttIdeal.Gen.facts, Cert.BwdAttRefIdeal.Gen.facts, Cert.FwdMix.Gen.facts, Cert.FwdMixIdeal.Gen.facts, Cert.FwdMixRefIdeal.Gen.facts, Cert.BwdMix.Gen.facts, Cert.BwdMixIdeal.Gen.facts, Cert.BwdMixRefIdeal.Gen.facts, Cert.Pre_finite.Gen.facts,
  frame_Kernel,
  frame_KernelIdeal,
  fun m ρ _ => frame_KernelIdeal m ρ trivial,
  frame_ReferenceIdeal,
  fun m ρ _ => frame_ReferenceIdeal m ρ trivial,
  frame_InX,
  frame_InXIdeal,
  frame_InXRefIdeal,
  frame_InW,
  frame_InWIdeal,
  frame_InWRefIdeal,
  frame_UpX,
  frame_UpXIdeal,
  frame_UpXRefIdeal,
  frame_UpW,
  frame_UpWIdeal,
  frame_UpWRefIdeal,
  frame_DownX,
  frame_DownXIdeal,
  frame_DownXRefIdeal,
  frame_DownW,
  frame_DownWIdeal,
  frame_DownWRefIdeal,
  frame_FwdIn,
  frame_FwdInIdeal,
  frame_FwdInRefIdeal,
  frame_FwdBa,
  frame_FwdBaIdeal,
  frame_FwdBaRefIdeal,
  frame_FwdBranch0,
  frame_FwdBranch0Ideal,
  frame_FwdBranch0RefIdeal,
  frame_FwdBranch1,
  frame_FwdBranch1Ideal,
  frame_FwdBranch1RefIdeal,
  frame_FwdBranch2,
  frame_FwdBranch2Ideal,
  frame_FwdBranch2RefIdeal,
  frame_FwdOut,
  frame_FwdOutIdeal,
  frame_FwdOutRefIdeal,
  frame_FwdQ,
  frame_FwdQIdeal,
  frame_FwdQRefIdeal,
  frame_FwdKv,
  frame_FwdKvIdeal,
  frame_FwdKvRefIdeal,
  frame_FwdUp,
  frame_FwdUpIdeal,
  frame_FwdUpRefIdeal,
  frame_FwdDown,
  frame_FwdDownIdeal,
  frame_FwdDownRefIdeal,
  frame_OutX,
  frame_OutXIdeal,
  frame_OutXRefIdeal,
  frame_OutW,
  frame_OutWIdeal,
  frame_OutWRefIdeal,
  frame_QX,
  frame_QXIdeal,
  frame_QXRefIdeal,
  frame_QW,
  frame_QWIdeal,
  frame_QWRefIdeal,
  frame_KvX,
  frame_KvXIdeal,
  frame_KvXRefIdeal,
  frame_KvW,
  frame_KvWIdeal,
  frame_KvWRefIdeal,
  frame_BranchX,
  frame_BranchXIdeal,
  frame_BranchXRefIdeal,
  frame_BranchW0,
  frame_BranchW0Ideal,
  frame_BranchW0RefIdeal,
  frame_BranchW1,
  frame_BranchW1Ideal,
  frame_BranchW1RefIdeal,
  frame_BranchW2,
  frame_BranchW2Ideal,
  frame_BranchW2RefIdeal,
  frame_BaX,
  frame_BaXIdeal,
  frame_BaXRefIdeal,
  frame_BaW,
  frame_BaWIdeal,
  frame_BaWRefIdeal,
  frame_FwdGate,
  frame_FwdGateIdeal,
  frame_FwdGateRefIdeal,
  frame_BwdGate,
  frame_BwdGateIdeal,
  frame_BwdGateRefIdeal,
  frame_FwdNorm,
  frame_FwdNormIdeal,
  frame_FwdNormRefIdeal,
  frame_BwdNorm,
  frame_BwdNormIdeal,
  frame_BwdNormRefIdeal,
  frame_FwdAtt,
  frame_FwdAttIdeal,
  frame_FwdAttRefIdeal,
  frame_BwdAtt,
  frame_BwdAttIdeal,
  frame_BwdAttRefIdeal,
  frame_FwdMix,
  frame_FwdMixIdeal,
  frame_FwdMixRefIdeal,
  frame_BwdMix,
  frame_BwdMixIdeal,
  frame_BwdMixRefIdeal,
  trivial,
  value_scan,
  trivial,
  value_InX,
  trivial,
  value_InW,
  trivial,
  value_UpX,
  trivial,
  value_UpW,
  trivial,
  value_DownX,
  trivial,
  value_DownW,
  trivial,
  value_FwdIn,
  trivial,
  value_FwdBa,
  trivial,
  value_FwdBranch0,
  trivial,
  value_FwdBranch1,
  trivial,
  value_FwdBranch2,
  trivial,
  value_FwdOut,
  trivial,
  value_FwdQ,
  trivial,
  value_FwdKv,
  trivial,
  value_FwdUp,
  trivial,
  value_FwdDown,
  trivial,
  value_OutX,
  trivial,
  value_OutW,
  trivial,
  value_QX,
  trivial,
  value_QW,
  trivial,
  value_KvX,
  trivial,
  value_KvW,
  trivial,
  value_BranchX,
  trivial,
  value_BranchW0,
  trivial,
  value_BranchW1,
  trivial,
  value_BranchW2,
  trivial,
  value_BaX,
  trivial,
  value_BaW,
  trivial,
  value_FwdGate,
  trivial,
  value_BwdGate,
  trivial,
  value_FwdNorm,
  trivial,
  value_BwdNorm,
  trivial,
  value_FwdAtt,
  trivial,
  value_BwdAtt,
  trivial,
  value_FwdMix,
  trivial,
  value_BwdMix⟩

end Cert.Proof

end
